-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_RefSampleIdeal (m : (ℓ : Loc Cert.RefSampleIdeal.nD Cert.RefSampleIdeal.τ Cert.RefSampleIdeal.sig) → Buf (Elt Ideal) ℓ) : Prop :=
  True

def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_RefMemIdeal (m : (ℓ : Loc Cert.RefMemIdeal.nD Cert.RefMemIdeal.τ Cert.RefMemIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_RefQueryIdeal (m : (ℓ : Loc Cert.RefQueryIdeal.nD Cert.RefQueryIdeal.τ Cert.RefQueryIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_MemOut (m : (ℓ : Loc Cert.MemOut.nD Cert.MemOut.τ Cert.MemOut.sig) → Buf (Elt Bits) ℓ) : Prop :=
  True

def Pre_MemOutIdeal (m : (ℓ : Loc Cert.MemOutIdeal.nD Cert.MemOutIdeal.τ Cert.MemOutIdeal.sig) → Buf (Elt Ideal) ℓ) : Prop :=
  True

def Pre_RefMemOutIdeal (m : (ℓ : Loc Cert.RefMemOutIdeal.nD Cert.RefMemOutIdeal.τ Cert.RefMemOutIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_values [hPre_finite_values : Cert.Pre_finite_values.Facts] (m : (ℓ : Loc Cert.DiffIdeal.nD Cert.DiffIdeal.τ Cert.DiffIdeal.sig) → Buf (Elt Ideal) ℓ) : Prop :=
  ∀ c : Dev Cert.DiffIdeal.nD,
    (Cert.Pre_finite_values.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5))) = (fun _ => 1#1)

def Pre_RefDiffIdeal (m : (ℓ : Loc Cert.RefDiffIdeal.nD Cert.RefDiffIdeal.τ Cert.RefDiffIdeal.sig) → Buf (Elt Ideal) ℓ) : Prop :=
  True

def Pre_RefDiffIdeal_finite_values [hPre_finite_values : Cert.Pre_finite_values.Facts] (m : (ℓ : Loc Cert.RefDiffIdeal.nD Cert.RefDiffIdeal.τ Cert.RefDiffIdeal.sig) → Buf (Elt Ideal) ℓ) : Prop :=
  ∀ c : Dev Cert.RefDiffIdeal.nD,
    (Cert.Pre_finite_values.fn (F := Ideal) (m ((c.tc : Thread Cert.RefDiffIdeal.nD Cert.RefDiffIdeal.τ).loc Cert.RefDiffIdeal.main_arg0)) (m ((c.tc : Thread Cert.RefDiffIdeal.nD Cert.RefDiffIdeal.τ).loc Cert.RefDiffIdeal.main_arg1)) (m ((c.tc : Thread Cert.RefDiffIdeal.nD Cert.RefDiffIdeal.τ).loc Cert.RefDiffIdeal.main_arg2)) (m ((c.tc : Thread Cert.RefDiffIdeal.nD Cert.RefDiffIdeal.τ).loc Cert.RefDiffIdeal.main_arg3)) (m ((c.tc : Thread Cert.RefDiffIdeal.nD Cert.RefDiffIdeal.τ).loc Cert.RefDiffIdeal.main_arg4)) (m ((c.tc : Thread Cert.RefDiffIdeal.nD Cert.RefDiffIdeal.τ).loc Cert.RefDiffIdeal.main_arg5))) = (fun _ => 1#1)

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_RefCrossIdeal (m : (ℓ : Loc Cert.RefCrossIdeal.nD Cert.RefCrossIdeal.τ Cert.RefCrossIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1)
      ∧ r.2.mem ((c.tc : Thread Cert.RefProjIdeal.nD Cert.RefProjIdeal.τ).loc Cert.RefProjIdeal.main_arg2) = m ((c.tc : Thread Cert.RefProjIdeal.nD Cert.RefProjIdeal.τ).loc Cert.RefProjIdeal.main_arg2)
      ∧ r.2.mem ((c.tc : Thread Cert.RefProjIdeal.nD Cert.RefProjIdeal.τ).loc Cert.RefProjIdeal.main_arg3) = m ((c.tc : Thread Cert.RefProjIdeal.nD Cert.RefProjIdeal.τ).loc Cert.RefProjIdeal.main_arg3))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ r.2.sem = fun _ => 0)

def quiescent_RefSampleIdeal [hRefSampleIdeal : Cert.RefSampleIdeal.Facts] : Prop :=
  ∀ (m : (ℓ : Loc Cert.RefSampleIdeal.nD Cert.RefSampleIdeal.τ Cert.RefSampleIdeal.sig) → Buf (Elt Ideal) ℓ) (g : Dev Cert.RefSampleIdeal.nD → PrngReg), Pre_RefSampleIdeal m →
    θ_run (Cert.RefSampleIdeal.defs (F := Ideal)) (onTc (τ := Cert.RefSampleIdeal.τ) (Cert.RefSampleIdeal.main (F := Ideal))) ⟨m, fun _ => 0, g⟩ (fun r => (∀ c : Dev Cert.RefSampleIdeal.nD,
      r.2.mem ((c.tc : Thread Cert.RefSampleIdeal.nD Cert.RefSampleIdeal.τ).loc Cert.RefSampleIdeal.main_arg0) = m ((c.tc : Thread Cert.RefSampleIdeal.nD Cert.RefSampleIdeal.τ).loc Cert.RefSampleIdeal.main_arg0)
      ∧ r.2.mem ((c.tc : Thread Cert.RefSampleIdeal.nD Cert.RefSampleIdeal.τ).loc Cert.RefSampleIdeal.main_arg1) = m ((c.tc : Thread Cert.RefSampleIdeal.nD Cert.RefSampleIdeal.τ).loc Cert.RefSampleIdeal.main_arg1)
      ∧ r.2.mem ((c.tc : Thread Cert.RefSampleIdeal.nD Cert.RefSampleIdeal.τ).loc Cert.RefSampleIdeal.main_arg2) = m ((c.tc : Thread Cert.RefSampleIdeal.nD Cert.RefSampleIdeal.τ).loc Cert.RefSampleIdeal.main_arg2)
      ∧ r.2.mem ((c.tc : Thread Cert.RefSampleIdeal.nD Cert.RefSampleIdeal.τ).loc Cert.RefSampleIdeal.main_arg3) = m ((c.tc : Thread Cert.RefSampleIdeal.nD Cert.RefSampleIdeal.τ).loc Cert.RefSampleIdeal.main_arg3))
      ∧ r.2.sem = fun _ => 0)

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1))
      ∧ r.2.sem = fun _ => 0)

def quiescent_RefMemIdeal [hRefMemIdeal : Cert.RefMemIdeal.Facts] : Prop :=
  ∀ (m : (ℓ : Loc Cert.RefMemIdeal.nD Cert.RefMemIdeal.τ Cert.RefMemIdeal.sig) → Buf (Elt Ideal) ℓ) (g : Dev Cert.RefMemIdeal.nD → PrngReg), Pre_RefMemIdeal m →
    θ_run (Cert.RefMemIdeal.defs (F := Ideal)) (onTc (τ := Cert.RefMemIdeal.τ) (Cert.RefMemIdeal.main (F := Ideal))) ⟨m, fun _ => 0, g⟩ (fun r => (∀ c : Dev Cert.RefMemIdeal.nD,
      r.2.mem ((c.tc : Thread Cert.RefMemIdeal.nD Cert.RefMemIdeal.τ).loc Cert.RefMemIdeal.main_arg0) = m ((c.tc : Thread Cert.RefMemIdeal.nD Cert.RefMemIdeal.τ).loc Cert.RefMemIdeal.main_arg0)
      ∧ r.2.mem ((c.tc : Thread Cert.RefMemIdeal.nD Cert.RefMemIdeal.τ).loc Cert.RefMemIdeal.main_arg1) = m ((c.tc : Thread Cert.RefMemIdeal.nD Cert.RefMemIdeal.τ).loc Cert.RefMemIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_RefQueryIdeal [hRefQueryIdeal : Cert.RefQueryIdeal.Facts] : Prop :=
  ∀ (m : (ℓ : Loc Cert.RefQueryIdeal.nD Cert.RefQueryIdeal.τ Cert.RefQueryIdeal.sig) → Buf (Elt Ideal) ℓ) (g : Dev Cert.RefQueryIdeal.nD → PrngReg), Pre_RefQueryIdeal m →
    θ_run (Cert.RefQueryIdeal.defs (F := Ideal)) (onTc (τ := Cert.RefQueryIdeal.τ) (Cert.RefQueryIdeal.main (F := Ideal))) ⟨m, fun _ => 0, g⟩ (fun r => (∀ c : Dev Cert.RefQueryIdeal.nD,
      r.2.mem ((c.tc : Thread Cert.RefQueryIdeal.nD Cert.RefQueryIdeal.τ).loc Cert.RefQueryIdeal.main_arg0) = m ((c.tc : Thread Cert.RefQueryIdeal.nD Cert.RefQueryIdeal.τ).loc Cert.RefQueryIdeal.main_arg0)
      ∧ r.2.mem ((c.tc : Thread Cert.RefQueryIdeal.nD Cert.RefQueryIdeal.τ).loc Cert.RefQueryIdeal.main_arg1) = m ((c.tc : Thread Cert.RefQueryIdeal.nD Cert.RefQueryIdeal.τ).loc Cert.RefQueryIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4))
      ∧ r.2.sem = fun _ => 0)

def quiescent_MemOut [hMemOut : Cert.MemOut.Facts] : Prop :=
  ∀ (m : (ℓ : Loc Cert.MemOut.nD Cert.MemOut.τ Cert.MemOut.sig) → Buf (Elt Bits) ℓ) (g : Dev Cert.MemOut.nD → PrngReg), Pre_MemOut m →
    θ_run (Cert.MemOut.defs (F := Bits)) (onTc (τ := Cert.MemOut.τ) (Cert.MemOut.main (F := Bits))) ⟨m, fun _ => 0, g⟩ (fun r => (∀ c : Dev Cert.MemOut.nD,
      r.2.mem ((c.tc : Thread Cert.MemOut.nD Cert.MemOut.τ).loc Cert.MemOut.main_arg0) = m ((c.tc : Thread Cert.MemOut.nD Cert.MemOut.τ).loc Cert.MemOut.main_arg0)
      ∧ r.2.mem ((c.tc : Thread Cert.MemOut.nD Cert.MemOut.τ).loc Cert.MemOut.main_arg1) = m ((c.tc : Thread Cert.MemOut.nD Cert.MemOut.τ).loc Cert.MemOut.main_arg1)
      ∧ r.2.mem ((c.tc : Thread Cert.MemOut.nD Cert.MemOut.τ).loc Cert.MemOut.main_arg2) = m ((c.tc : Thread Cert.MemOut.nD Cert.MemOut.τ).loc Cert.MemOut.main_arg2)
      ∧ r.2.mem ((c.tc : Thread Cert.MemOut.nD Cert.MemOut.τ).loc Cert.MemOut.main_arg3) = m ((c.tc : Thread Cert.MemOut.nD Cert.MemOut.τ).loc Cert.MemOut.main_arg3))
      ∧ r.2.sem = fun _ => 0)

def quiescent_MemOutIdeal [hMemOutIdeal : Cert.MemOutIdeal.Facts] : Prop :=
  ∀ (m : (ℓ : Loc Cert.MemOutIdeal.nD Cert.MemOutIdeal.τ Cert.MemOutIdeal.sig) → Buf (Elt Ideal) ℓ) (g : Dev Cert.MemOutIdeal.nD → PrngReg), Pre_MemOutIdeal m →
    θ_run (Cert.MemOutIdeal.defs (F := Ideal)) (onTc (τ := Cert.MemOutIdeal.τ) (Cert.MemOutIdeal.main (F := Ideal))) ⟨m, fun _ => 0, g⟩ (fun r => (∀ c : Dev Cert.MemOutIdeal.nD,
      r.2.mem ((c.tc : Thread Cert.MemOutIdeal.nD Cert.MemOutIdeal.τ).loc Cert.MemOutIdeal.main_arg0) = m ((c.tc : Thread Cert.MemOutIdeal.nD Cert.MemOutIdeal.τ).loc Cert.MemOutIdeal.main_arg0)
      ∧ r.2.mem ((c.tc : Thread Cert.MemOutIdeal.nD Cert.MemOutIdeal.τ).loc Cert.MemOutIdeal.main_arg1) = m ((c.tc : Thread Cert.MemOutIdeal.nD Cert.MemOutIdeal.τ).loc Cert.MemOutIdeal.main_arg1)
      ∧ r.2.mem ((c.tc : Thread Cert.MemOutIdeal.nD Cert.MemOutIdeal.τ).loc Cert.MemOutIdeal.main_arg2) = m ((c.tc : Thread Cert.MemOutIdeal.nD Cert.MemOutIdeal.τ).loc Cert.MemOutIdeal.main_arg2)
      ∧ r.2.mem ((c.tc : Thread Cert.MemOutIdeal.nD Cert.MemOutIdeal.τ).loc Cert.MemOutIdeal.main_arg3) = m ((c.tc : Thread Cert.MemOutIdeal.nD Cert.MemOutIdeal.τ).loc Cert.MemOutIdeal.main_arg3))
      ∧ r.2.sem = fun _ => 0)

def quiescent_RefMemOutIdeal [hRefMemOutIdeal : Cert.RefMemOutIdeal.Facts] : Prop :=
  ∀ (m : (ℓ : Loc Cert.RefMemOutIdeal.nD Cert.RefMemOutIdeal.τ Cert.RefMemOutIdeal.sig) → Buf (Elt Ideal) ℓ) (g : Dev Cert.RefMemOutIdeal.nD → PrngReg), Pre_RefMemOutIdeal m →
    θ_run (Cert.RefMemOutIdeal.defs (F := Ideal)) (onTc (τ := Cert.RefMemOutIdeal.τ) (Cert.RefMemOutIdeal.main (F := Ideal))) ⟨m, fun _ => 0, g⟩ (fun r => (∀ c : Dev Cert.RefMemOutIdeal.nD,
      r.2.mem ((c.tc : Thread Cert.RefMemOutIdeal.nD Cert.RefMemOutIdeal.τ).loc Cert.RefMemOutIdeal.main_arg0) = m ((c.tc : Thread Cert.RefMemOutIdeal.nD Cert.RefMemOutIdeal.τ).loc Cert.RefMemOutIdeal.main_arg0)
      ∧ r.2.mem ((c.tc : Thread Cert.RefMemOutIdeal.nD Cert.RefMemOutIdeal.τ).loc Cert.RefMemOutIdeal.main_arg1) = m ((c.tc : Thread Cert.RefMemOutIdeal.nD Cert.RefMemOutIdeal.τ).loc Cert.RefMemOutIdeal.main_arg1)
      ∧ r.2.mem ((c.tc : Thread Cert.RefMemOutIdeal.nD Cert.RefMemOutIdeal.τ).loc Cert.RefMemOutIdeal.main_arg2) = m ((c.tc : Thread Cert.RefMemOutIdeal.nD Cert.RefMemOutIdeal.τ).loc Cert.RefMemOutIdeal.main_arg2)
      ∧ r.2.mem ((c.tc : Thread Cert.RefMemOutIdeal.nD Cert.RefMemOutIdeal.τ).loc Cert.RefMemOutIdeal.main_arg3) = m ((c.tc : Thread Cert.RefMemOutIdeal.nD Cert.RefMemOutIdeal.τ).loc Cert.RefMemOutIdeal.main_arg3))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffIdeal_pre_finite_values [hDiffIdeal : Cert.DiffIdeal.Facts] [hPre_finite_values : Cert.Pre_finite_values.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_values m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_RefDiffIdeal [hRefDiffIdeal : Cert.RefDiffIdeal.Facts] : Prop :=
  ∀ (m : (ℓ : Loc Cert.RefDiffIdeal.nD Cert.RefDiffIdeal.τ Cert.RefDiffIdeal.sig) → Buf (Elt Ideal) ℓ) (g : Dev Cert.RefDiffIdeal.nD → PrngReg), Pre_RefDiffIdeal m →
    θ_run (Cert.RefDiffIdeal.defs (F := Ideal)) (onTc (τ := Cert.RefDiffIdeal.τ) (Cert.RefDiffIdeal.main (F := Ideal))) ⟨m, fun _ => 0, g⟩ (fun r => (∀ c : Dev Cert.RefDiffIdeal.nD,
      r.2.mem ((c.tc : Thread Cert.RefDiffIdeal.nD Cert.RefDiffIdeal.τ).loc Cert.RefDiffIdeal.main_arg0) = m ((c.tc : Thread Cert.RefDiffIdeal.nD Cert.RefDiffIdeal.τ).loc Cert.RefDiffIdeal.main_arg0)
      ∧ r.2.mem ((c.tc : Thread Cert.RefDiffIdeal.nD Cert.RefDiffIdeal.τ).loc Cert.RefDiffIdeal.main_arg1) = m ((c.tc : Thread Cert.RefDiffIdeal.nD Cert.RefDiffIdeal.τ).loc Cert.RefDiffIdeal.main_arg1)
      ∧ r.2.mem ((c.tc : Thread Cert.RefDiffIdeal.nD Cert.RefDiffIdeal.τ).loc Cert.RefDiffIdeal.main_arg2) = m ((c.tc : Thread Cert.RefDiffIdeal.nD Cert.RefDiffIdeal.τ).loc Cert.RefDiffIdeal.main_arg2)
      ∧ r.2.mem ((c.tc : Thread Cert.RefDiffIdeal.nD Cert.RefDiffIdeal.τ).loc Cert.RefDiffIdeal.main_arg3) = m ((c.tc : Thread Cert.RefDiffIdeal.nD Cert.RefDiffIdeal.τ).loc Cert.RefDiffIdeal.main_arg3)
      ∧ r.2.mem ((c.tc : Thread Cert.RefDiffIdeal.nD Cert.RefDiffIdeal.τ).loc Cert.RefDiffIdeal.main_arg4) = m ((c.tc : Thread Cert.RefDiffIdeal.nD Cert.RefDiffIdeal.τ).loc Cert.RefDiffIdeal.main_arg4)
      ∧ r.2.mem ((c.tc : Thread Cert.RefDiffIdeal.nD Cert.RefDiffIdeal.τ).loc Cert.RefDiffIdeal.main_arg5) = m ((c.tc : Thread Cert.RefDiffIdeal.nD Cert.RefDiffIdeal.τ).loc Cert.RefDiffIdeal.main_arg5))
      ∧ r.2.sem = fun _ => 0)

def quiescent_RefDiffIdeal_pre_finite_values [hRefDiffIdeal : Cert.RefDiffIdeal.Facts] [hPre_finite_values : Cert.Pre_finite_values.Facts] : Prop :=
  ∀ (m : (ℓ : Loc Cert.RefDiffIdeal.nD Cert.RefDiffIdeal.τ Cert.RefDiffIdeal.sig) → Buf (Elt Ideal) ℓ) (g : Dev Cert.RefDiffIdeal.nD → PrngReg), Pre_RefDiffIdeal_finite_values m →
    θ_run (Cert.RefDiffIdeal.defs (F := Ideal)) (onTc (τ := Cert.RefDiffIdeal.τ) (Cert.RefDiffIdeal.main (F := Ideal))) ⟨m, fun _ => 0, g⟩ (fun r => (∀ c : Dev Cert.RefDiffIdeal.nD,
      r.2.mem ((c.tc : Thread Cert.RefDiffIdeal.nD Cert.RefDiffIdeal.τ).loc Cert.RefDiffIdeal.main_arg0) = m ((c.tc : Thread Cert.RefDiffIdeal.nD Cert.RefDiffIdeal.τ).loc Cert.RefDiffIdeal.main_arg0)
      ∧ r.2.mem ((c.tc : Thread Cert.RefDiffIdeal.nD Cert.RefDiffIdeal.τ).loc Cert.RefDiffIdeal.main_arg1) = m ((c.tc : Thread Cert.RefDiffIdeal.nD Cert.RefDiffIdeal.τ).loc Cert.RefDiffIdeal.main_arg1)
      ∧ r.2.mem ((c.tc : Thread Cert.RefDiffIdeal.nD Cert.RefDiffIdeal.τ).loc Cert.RefDiffIdeal.main_arg2) = m ((c.tc : Thread Cert.RefDiffIdeal.nD Cert.RefDiffIdeal.τ).loc Cert.RefDiffIdeal.main_arg2)
      ∧ r.2.mem ((c.tc : Thread Cert.RefDiffIdeal.nD Cert.RefDiffIdeal.τ).loc Cert.RefDiffIdeal.main_arg3) = m ((c.tc : Thread Cert.RefDiffIdeal.nD Cert.RefDiffIdeal.τ).loc Cert.RefDiffIdeal.main_arg3)
      ∧ r.2.mem ((c.tc : Thread Cert.RefDiffIdeal.nD Cert.RefDiffIdeal.τ).loc Cert.RefDiffIdeal.main_arg4) = m ((c.tc : Thread Cert.RefDiffIdeal.nD Cert.RefDiffIdeal.τ).loc Cert.RefDiffIdeal.main_arg4)
      ∧ r.2.mem ((c.tc : Thread Cert.RefDiffIdeal.nD Cert.RefDiffIdeal.τ).loc Cert.RefDiffIdeal.main_arg5) = m ((c.tc : Thread Cert.RefDiffIdeal.nD Cert.RefDiffIdeal.τ).loc Cert.RefDiffIdeal.main_arg5))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ r.2.sem = fun _ => 0)

def quiescent_RefCrossIdeal [hRefCrossIdeal : Cert.RefCrossIdeal.Facts] : Prop :=
  ∀ (m : (ℓ : Loc Cert.RefCrossIdeal.nD Cert.RefCrossIdeal.τ Cert.RefCrossIdeal.sig) → Buf (Elt Ideal) ℓ) (g : Dev Cert.RefCrossIdeal.nD → PrngReg), Pre_RefCrossIdeal m →
    θ_run (Cert.RefCrossIdeal.defs (F := Ideal)) (onTc (τ := Cert.RefCrossIdeal.τ) (Cert.RefCrossIdeal.main (F := Ideal))) ⟨m, fun _ => 0, g⟩ (fun r => (∀ c : Dev Cert.RefCrossIdeal.nD,
      r.2.mem ((c.tc : Thread Cert.RefCrossIdeal.nD Cert.RefCrossIdeal.τ).loc Cert.RefCrossIdeal.main_arg0) = m ((c.tc : Thread Cert.RefCrossIdeal.nD Cert.RefCrossIdeal.τ).loc Cert.RefCrossIdeal.main_arg0)
      ∧ r.2.mem ((c.tc : Thread Cert.RefCrossIdeal.nD Cert.RefCrossIdeal.τ).loc Cert.RefCrossIdeal.main_arg1) = m ((c.tc : Thread Cert.RefCrossIdeal.nD Cert.RefCrossIdeal.τ).loc Cert.RefCrossIdeal.main_arg1)
      ∧ r.2.mem ((c.tc : Thread Cert.RefCrossIdeal.nD Cert.RefCrossIdeal.τ).loc Cert.RefCrossIdeal.main_arg2) = m ((c.tc : Thread Cert.RefCrossIdeal.nD Cert.RefCrossIdeal.τ).loc Cert.RefCrossIdeal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)
      ∧ m' ((c.tc : Thread Cert.RefProjIdeal.nD Cert.RefProjIdeal.τ).loc Cert.RefProjIdeal.main_arg2) = m ((c.tc : Thread Cert.ProjIdeal.nD Cert.ProjIdeal.τ).loc Cert.ProjIdeal.main_arg2)
      ∧ m' ((c.tc : Thread Cert.RefProjIdeal.nD Cert.RefProjIdeal.τ).loc Cert.RefProjIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v15_0)) (v1 : (c : Dev Cert.ProjIdeal.nD) → Buf (Elt Ideal) ((c.tc : Thread Cert.ProjIdeal.nD Cert.ProjIdeal.τ).loc Cert.ProjIdeal.main_v15_1)) (v2 : (c : Dev Cert.ProjIdeal.nD) → Buf (Elt Ideal) ((c.tc : Thread Cert.ProjIdeal.nD Cert.ProjIdeal.τ).loc Cert.ProjIdeal.main_v15_2)) (v3 : (c : Dev Cert.ProjIdeal.nD) → Buf (Elt Ideal) ((c.tc : Thread Cert.ProjIdeal.nD Cert.ProjIdeal.τ).loc Cert.ProjIdeal.main_v15_3)) (v4 : (c : Dev Cert.ProjIdeal.nD) → Buf (Elt Ideal) ((c.tc : Thread Cert.ProjIdeal.nD Cert.ProjIdeal.τ).loc Cert.ProjIdeal.main_v15_4)) (v5 : (c : Dev Cert.ProjIdeal.nD) → Buf (Elt Ideal) ((c.tc : Thread Cert.ProjIdeal.nD Cert.ProjIdeal.τ).loc Cert.ProjIdeal.main_v15_5)) (v6 : (c : Dev Cert.ProjIdeal.nD) → Buf (Elt Ideal) ((c.tc : Thread Cert.ProjIdeal.nD Cert.ProjIdeal.τ).loc Cert.ProjIdeal.main_v16)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v15_0) = v0 c
          ∧ r.2.mem ((c.tc : Thread Cert.ProjIdeal.nD Cert.ProjIdeal.τ).loc Cert.ProjIdeal.main_v15_1) = v1 c
          ∧ r.2.mem ((c.tc : Thread Cert.ProjIdeal.nD Cert.ProjIdeal.τ).loc Cert.ProjIdeal.main_v15_2) = v2 c
          ∧ r.2.mem ((c.tc : Thread Cert.ProjIdeal.nD Cert.ProjIdeal.τ).loc Cert.ProjIdeal.main_v15_3) = v3 c
          ∧ r.2.mem ((c.tc : Thread Cert.ProjIdeal.nD Cert.ProjIdeal.τ).loc Cert.ProjIdeal.main_v15_4) = v4 c
          ∧ r.2.mem ((c.tc : Thread Cert.ProjIdeal.nD Cert.ProjIdeal.τ).loc Cert.ProjIdeal.main_v15_5) = v5 c
          ∧ r.2.mem ((c.tc : Thread Cert.ProjIdeal.nD Cert.ProjIdeal.τ).loc Cert.ProjIdeal.main_v16) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v17) = v0 c
          ∧ r.2.mem ((c.tc : Thread Cert.RefProjIdeal.nD Cert.RefProjIdeal.τ).loc Cert.RefProjIdeal.main_v19) = v1 c
          ∧ r.2.mem ((c.tc : Thread Cert.RefProjIdeal.nD Cert.RefProjIdeal.τ).loc Cert.RefProjIdeal.main_v21) = v2 c
          ∧ r.2.mem ((c.tc : Thread Cert.RefProjIdeal.nD Cert.RefProjIdeal.τ).loc Cert.RefProjIdeal.main_v23) = v3 c
          ∧ r.2.mem ((c.tc : Thread Cert.RefProjIdeal.nD Cert.RefProjIdeal.τ).loc Cert.RefProjIdeal.main_v25) = v4 c
          ∧ r.2.mem ((c.tc : Thread Cert.RefProjIdeal.nD Cert.RefProjIdeal.τ).loc Cert.RefProjIdeal.main_v27) = v5 c
          ∧ r.2.mem ((c.tc : Thread Cert.RefProjIdeal.nD Cert.RefProjIdeal.τ).loc Cert.RefProjIdeal.main_v34) = v6 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1)
          ∧ r.2.mem ((c.tc : Thread Cert.RefProjIdeal.nD Cert.RefProjIdeal.τ).loc Cert.RefProjIdeal.main_arg2) = m' ((c.tc : Thread Cert.RefProjIdeal.nD Cert.RefProjIdeal.τ).loc Cert.RefProjIdeal.main_arg2)
          ∧ r.2.mem ((c.tc : Thread Cert.RefProjIdeal.nD Cert.RefProjIdeal.τ).loc Cert.RefProjIdeal.main_arg3) = m' ((c.tc : Thread Cert.RefProjIdeal.nD Cert.RefProjIdeal.τ).loc Cert.RefProjIdeal.main_arg3))

def preserves_Sample_SampleIdeal : Prop :=
  True

def algebraic_SampleIdeal_RefSampleIdeal [hSampleIdeal : Cert.SampleIdeal.Facts] [hRefSampleIdeal : Cert.RefSampleIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.RefSampleIdeal.nD Cert.RefSampleIdeal.τ Cert.RefSampleIdeal.sig) → Buf (Elt Ideal) ℓ) (g' : Dev Cert.RefSampleIdeal.nD → PrngReg), Pre_SampleIdeal m →
    (∀ c : Dev Cert.SampleIdeal.nD,
      m' ((c.tc : Thread Cert.RefSampleIdeal.nD Cert.RefSampleIdeal.τ).loc Cert.RefSampleIdeal.main_arg0) = m ((c.tc : Thread Cert.SampleIdeal.nD Cert.SampleIdeal.τ).loc Cert.SampleIdeal.main_arg0)
      ∧ m' ((c.tc : Thread Cert.RefSampleIdeal.nD Cert.RefSampleIdeal.τ).loc Cert.RefSampleIdeal.main_arg1) = m ((c.tc : Thread Cert.SampleIdeal.nD Cert.SampleIdeal.τ).loc Cert.SampleIdeal.main_arg1)
      ∧ m' ((c.tc : Thread Cert.RefSampleIdeal.nD Cert.RefSampleIdeal.τ).loc Cert.RefSampleIdeal.main_arg2) = m ((c.tc : Thread Cert.SampleIdeal.nD Cert.SampleIdeal.τ).loc Cert.SampleIdeal.main_arg2)
      ∧ m' ((c.tc : Thread Cert.RefSampleIdeal.nD Cert.RefSampleIdeal.τ).loc Cert.RefSampleIdeal.main_arg3) = m ((c.tc : Thread Cert.SampleIdeal.nD Cert.SampleIdeal.τ).loc Cert.SampleIdeal.main_arg3)) →
    ∃ (v0 : (c : Dev Cert.SampleIdeal.nD) → Buf (Elt Ideal) ((c.tc : Thread Cert.SampleIdeal.nD Cert.SampleIdeal.τ).loc Cert.SampleIdeal.main_v15_0)) (v1 : (c : Dev Cert.SampleIdeal.nD) → Buf (Elt Ideal) ((c.tc : Thread Cert.SampleIdeal.nD Cert.SampleIdeal.τ).loc Cert.SampleIdeal.main_v15_1)) (v2 : (c : Dev Cert.SampleIdeal.nD) → Buf (Elt Ideal) ((c.tc : Thread Cert.SampleIdeal.nD Cert.SampleIdeal.τ).loc Cert.SampleIdeal.main_v15_2)) (v3 : (c : Dev Cert.SampleIdeal.nD) → Buf (Elt Ideal) ((c.tc : Thread Cert.SampleIdeal.nD Cert.SampleIdeal.τ).loc Cert.SampleIdeal.main_v15_3)) (v4 : (c : Dev Cert.SampleIdeal.nD) → Buf (Elt Ideal) ((c.tc : Thread Cert.SampleIdeal.nD Cert.SampleIdeal.τ).loc Cert.SampleIdeal.main_v15_4)) (v5 : (c : Dev Cert.SampleIdeal.nD) → Buf (Elt Ideal) ((c.tc : Thread Cert.SampleIdeal.nD Cert.SampleIdeal.τ).loc Cert.SampleIdeal.main_v15_5)) (v6 : (c : Dev Cert.SampleIdeal.nD) → Buf (Elt Ideal) ((c.tc : Thread Cert.SampleIdeal.nD Cert.SampleIdeal.τ).loc Cert.SampleIdeal.main_v16)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v15_0) = v0 c
          ∧ r.2.mem ((c.tc : Thread Cert.SampleIdeal.nD Cert.SampleIdeal.τ).loc Cert.SampleIdeal.main_v15_1) = v1 c
          ∧ r.2.mem ((c.tc : Thread Cert.SampleIdeal.nD Cert.SampleIdeal.τ).loc Cert.SampleIdeal.main_v15_2) = v2 c
          ∧ r.2.mem ((c.tc : Thread Cert.SampleIdeal.nD Cert.SampleIdeal.τ).loc Cert.SampleIdeal.main_v15_3) = v3 c
          ∧ r.2.mem ((c.tc : Thread Cert.SampleIdeal.nD Cert.SampleIdeal.τ).loc Cert.SampleIdeal.main_v15_4) = v4 c
          ∧ r.2.mem ((c.tc : Thread Cert.SampleIdeal.nD Cert.SampleIdeal.τ).loc Cert.SampleIdeal.main_v15_5) = v5 c
          ∧ r.2.mem ((c.tc : Thread Cert.SampleIdeal.nD Cert.SampleIdeal.τ).loc Cert.SampleIdeal.main_v16) = v6 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ θ_run (Cert.RefSampleIdeal.defs (F := Ideal)) (onTc (τ := Cert.RefSampleIdeal.τ) (Cert.RefSampleIdeal.main (F := Ideal))) ⟨m', fun _ => 0, g'⟩ (fun r => ∀ c : Dev Cert.RefSampleIdeal.nD,
          r.2.mem ((c.tc : Thread Cert.RefSampleIdeal.nD Cert.RefSampleIdeal.τ).loc Cert.RefSampleIdeal.main_v17) = v0 c
          ∧ r.2.mem ((c.tc : Thread Cert.RefSampleIdeal.nD Cert.RefSampleIdeal.τ).loc Cert.RefSampleIdeal.main_v19) = v1 c
          ∧ r.2.mem ((c.tc : Thread Cert.RefSampleIdeal.nD Cert.RefSampleIdeal.τ).loc Cert.RefSampleIdeal.main_v21) = v2 c
          ∧ r.2.mem ((c.tc : Thread Cert.RefSampleIdeal.nD Cert.RefSampleIdeal.τ).loc Cert.RefSampleIdeal.main_v23) = v3 c
          ∧ r.2.mem ((c.tc : Thread Cert.RefSampleIdeal.nD Cert.RefSampleIdeal.τ).loc Cert.RefSampleIdeal.main_v25) = v4 c
          ∧ r.2.mem ((c.tc : Thread Cert.RefSampleIdeal.nD Cert.RefSampleIdeal.τ).loc Cert.RefSampleIdeal.main_v27) = v5 c
          ∧ r.2.mem ((c.tc : Thread Cert.RefSampleIdeal.nD Cert.RefSampleIdeal.τ).loc Cert.RefSampleIdeal.main_v34) = v6 c
          ∧ r.2.mem ((c.tc : Thread Cert.RefSampleIdeal.nD Cert.RefSampleIdeal.τ).loc Cert.RefSampleIdeal.main_arg0) = m' ((c.tc : Thread Cert.RefSampleIdeal.nD Cert.RefSampleIdeal.τ).loc Cert.RefSampleIdeal.main_arg0)
          ∧ r.2.mem ((c.tc : Thread Cert.RefSampleIdeal.nD Cert.RefSampleIdeal.τ).loc Cert.RefSampleIdeal.main_arg1) = m' ((c.tc : Thread Cert.RefSampleIdeal.nD Cert.RefSampleIdeal.τ).loc Cert.RefSampleIdeal.main_arg1)
          ∧ r.2.mem ((c.tc : Thread Cert.RefSampleIdeal.nD Cert.RefSampleIdeal.τ).loc Cert.RefSampleIdeal.main_arg2) = m' ((c.tc : Thread Cert.RefSampleIdeal.nD Cert.RefSampleIdeal.τ).loc Cert.RefSampleIdeal.main_arg2)
          ∧ r.2.mem ((c.tc : Thread Cert.RefSampleIdeal.nD Cert.RefSampleIdeal.τ).loc Cert.RefSampleIdeal.main_arg3) = m' ((c.tc : Thread Cert.RefSampleIdeal.nD Cert.RefSampleIdeal.τ).loc Cert.RefSampleIdeal.main_arg3))

def preserves_Mem_MemIdeal : Prop :=
  True

def algebraic_MemIdeal_RefMemIdeal [hMemIdeal : Cert.MemIdeal.Facts] [hRefMemIdeal : Cert.RefMemIdeal.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.RefMemIdeal.nD Cert.RefMemIdeal.τ Cert.RefMemIdeal.sig) → Buf (Elt Ideal) ℓ) (g' : Dev Cert.RefMemIdeal.nD → PrngReg), Pre_MemIdeal m →
    (∀ c : Dev Cert.MemIdeal.nD,
      m' ((c.tc : Thread Cert.RefMemIdeal.nD Cert.RefMemIdeal.τ).loc Cert.RefMemIdeal.main_arg0) = m ((c.tc : Thread Cert.MemIdeal.nD Cert.MemIdeal.τ).loc Cert.MemIdeal.main_arg0)
      ∧ m' ((c.tc : Thread Cert.RefMemIdeal.nD Cert.RefMemIdeal.τ).loc Cert.RefMemIdeal.main_arg1) = m ((c.tc : Thread Cert.MemIdeal.nD Cert.MemIdeal.τ).loc Cert.MemIdeal.main_arg1)) →
    ∃ (v0 : (c : Dev Cert.MemIdeal.nD) → Buf (Elt Ideal) ((c.tc : Thread Cert.MemIdeal.nD Cert.MemIdeal.τ).loc Cert.MemIdeal.main_v3)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v3) = v0 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1))
      ∧ θ_run (Cert.RefMemIdeal.defs (F := Ideal)) (onTc (τ := Cert.RefMemIdeal.τ) (Cert.RefMemIdeal.main (F := Ideal))) ⟨m', fun _ => 0, g'⟩ (fun r => ∀ c : Dev Cert.RefMemIdeal.nD,
          r.2.mem ((c.tc : Thread Cert.RefMemIdeal.nD Cert.RefMemIdeal.τ).loc Cert.RefMemIdeal.main_v2) = v0 c
          ∧ r.2.mem ((c.tc : Thread Cert.RefMemIdeal.nD Cert.RefMemIdeal.τ).loc Cert.RefMemIdeal.main_arg0) = m' ((c.tc : Thread Cert.RefMemIdeal.nD Cert.RefMemIdeal.τ).loc Cert.RefMemIdeal.main_arg0)
          ∧ r.2.mem ((c.tc : Thread Cert.RefMemIdeal.nD Cert.RefMemIdeal.τ).loc Cert.RefMemIdeal.main_arg1) = m' ((c.tc : Thread Cert.RefMemIdeal.nD Cert.RefMemIdeal.τ).loc Cert.RefMemIdeal.main_arg1))

def preserves_Query_QueryIdeal : Prop :=
  True

def algebraic_QueryIdeal_RefQueryIdeal [hQueryIdeal : Cert.QueryIdeal.Facts] [hRefQueryIdeal : Cert.RefQueryIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.RefQueryIdeal.nD Cert.RefQueryIdeal.τ Cert.RefQueryIdeal.sig) → Buf (Elt Ideal) ℓ) (g' : Dev Cert.RefQueryIdeal.nD → PrngReg), Pre_QueryIdeal m →
    (∀ c : Dev Cert.QueryIdeal.nD,
      m' ((c.tc : Thread Cert.RefQueryIdeal.nD Cert.RefQueryIdeal.τ).loc Cert.RefQueryIdeal.main_arg0) = m ((c.tc : Thread Cert.QueryIdeal.nD Cert.QueryIdeal.τ).loc Cert.QueryIdeal.main_arg0)
      ∧ m' ((c.tc : Thread Cert.RefQueryIdeal.nD Cert.RefQueryIdeal.τ).loc Cert.RefQueryIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v3)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v3) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.RefQueryIdeal.defs (F := Ideal)) (onTc (τ := Cert.RefQueryIdeal.τ) (Cert.RefQueryIdeal.main (F := Ideal))) ⟨m', fun _ => 0, g'⟩ (fun r => ∀ c : Dev Cert.RefQueryIdeal.nD,
          r.2.mem ((c.tc : Thread Cert.RefQueryIdeal.nD Cert.RefQueryIdeal.τ).loc Cert.RefQueryIdeal.main_v1) = v0 c
          ∧ r.2.mem ((c.tc : Thread Cert.RefQueryIdeal.nD Cert.RefQueryIdeal.τ).loc Cert.RefQueryIdeal.main_arg0) = m' ((c.tc : Thread Cert.RefQueryIdeal.nD Cert.RefQueryIdeal.τ).loc Cert.RefQueryIdeal.main_arg0)
          ∧ r.2.mem ((c.tc : Thread Cert.RefQueryIdeal.nD Cert.RefQueryIdeal.τ).loc Cert.RefQueryIdeal.main_arg1) = m' ((c.tc : Thread Cert.RefQueryIdeal.nD Cert.RefQueryIdeal.τ).loc Cert.RefQueryIdeal.main_arg1))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v9_0)) (v1 : (c : Dev Cert.MergeIdeal.nD) → Buf (Elt Ideal) ((c.tc : Thread Cert.MergeIdeal.nD Cert.MergeIdeal.τ).loc Cert.MergeIdeal.main_v9_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9_0) = v0 c
          ∧ r.2.mem ((c.tc : Thread Cert.MergeIdeal.nD Cert.MergeIdeal.τ).loc Cert.MergeIdeal.main_v9_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v4) = v0 c
          ∧ r.2.mem ((c.tc : Thread Cert.RefMergeIdeal.nD Cert.RefMergeIdeal.τ).loc Cert.RefMergeIdeal.main_v19) = v1 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4))

def preserves_MemOut_MemOutIdeal : Prop :=
  True

def algebraic_MemOutIdeal_RefMemOutIdeal [hMemOutIdeal : Cert.MemOutIdeal.Facts] [hRefMemOutIdeal : Cert.RefMemOutIdeal.Facts] : Prop :=
  ∀ (m : (ℓ : Loc Cert.MemOutIdeal.nD Cert.MemOutIdeal.τ Cert.MemOutIdeal.sig) → Buf (Elt Ideal) ℓ) (g : Dev Cert.MemOutIdeal.nD → PrngReg)
    (m' : (ℓ : Loc Cert.RefMemOutIdeal.nD Cert.RefMemOutIdeal.τ Cert.RefMemOutIdeal.sig) → Buf (Elt Ideal) ℓ) (g' : Dev Cert.RefMemOutIdeal.nD → PrngReg), Pre_MemOutIdeal m →
    (∀ c : Dev Cert.MemOutIdeal.nD,
      m' ((c.tc : Thread Cert.RefMemOutIdeal.nD Cert.RefMemOutIdeal.τ).loc Cert.RefMemOutIdeal.main_arg0) = m ((c.tc : Thread Cert.MemOutIdeal.nD Cert.MemOutIdeal.τ).loc Cert.MemOutIdeal.main_arg0)
      ∧ m' ((c.tc : Thread Cert.RefMemOutIdeal.nD Cert.RefMemOutIdeal.τ).loc Cert.RefMemOutIdeal.main_arg1) = m ((c.tc : Thread Cert.MemOutIdeal.nD Cert.MemOutIdeal.τ).loc Cert.MemOutIdeal.main_arg1)
      ∧ m' ((c.tc : Thread Cert.RefMemOutIdeal.nD Cert.RefMemOutIdeal.τ).loc Cert.RefMemOutIdeal.main_arg2) = m ((c.tc : Thread Cert.MemOutIdeal.nD Cert.MemOutIdeal.τ).loc Cert.MemOutIdeal.main_arg2)
      ∧ m' ((c.tc : Thread Cert.RefMemOutIdeal.nD Cert.RefMemOutIdeal.τ).loc Cert.RefMemOutIdeal.main_arg3) = m ((c.tc : Thread Cert.MemOutIdeal.nD Cert.MemOutIdeal.τ).loc Cert.MemOutIdeal.main_arg3)) →
    ∃ (v0 : (c : Dev Cert.MemOutIdeal.nD) → Buf (Elt Ideal) ((c.tc : Thread Cert.MemOutIdeal.nD Cert.MemOutIdeal.τ).loc Cert.MemOutIdeal.main_v4_0)) (v1 : (c : Dev Cert.MemOutIdeal.nD) → Buf (Elt Ideal) ((c.tc : Thread Cert.MemOutIdeal.nD Cert.MemOutIdeal.τ).loc Cert.MemOutIdeal.main_v4_1)),
      θ_run (Cert.MemOutIdeal.defs (F := Ideal)) (onTc (τ := Cert.MemOutIdeal.τ) (Cert.MemOutIdeal.main (F := Ideal))) ⟨m, fun _ => 0, g⟩ (fun r => ∀ c : Dev Cert.MemOutIdeal.nD,
          r.2.mem ((c.tc : Thread Cert.MemOutIdeal.nD Cert.MemOutIdeal.τ).loc Cert.MemOutIdeal.main_v4_0) = v0 c
          ∧ r.2.mem ((c.tc : Thread Cert.MemOutIdeal.nD Cert.MemOutIdeal.τ).loc Cert.MemOutIdeal.main_v4_1) = v1 c
          ∧ r.2.mem ((c.tc : Thread Cert.MemOutIdeal.nD Cert.MemOutIdeal.τ).loc Cert.MemOutIdeal.main_arg0) = m ((c.tc : Thread Cert.MemOutIdeal.nD Cert.MemOutIdeal.τ).loc Cert.MemOutIdeal.main_arg0)
          ∧ r.2.mem ((c.tc : Thread Cert.MemOutIdeal.nD Cert.MemOutIdeal.τ).loc Cert.MemOutIdeal.main_arg1) = m ((c.tc : Thread Cert.MemOutIdeal.nD Cert.MemOutIdeal.τ).loc Cert.MemOutIdeal.main_arg1)
          ∧ r.2.mem ((c.tc : Thread Cert.MemOutIdeal.nD Cert.MemOutIdeal.τ).loc Cert.MemOutIdeal.main_arg2) = m ((c.tc : Thread Cert.MemOutIdeal.nD Cert.MemOutIdeal.τ).loc Cert.MemOutIdeal.main_arg2)
          ∧ r.2.mem ((c.tc : Thread Cert.MemOutIdeal.nD Cert.MemOutIdeal.τ).loc Cert.MemOutIdeal.main_arg3) = m ((c.tc : Thread Cert.MemOutIdeal.nD Cert.MemOutIdeal.τ).loc Cert.MemOutIdeal.main_arg3))
      ∧ θ_run (Cert.RefMemOutIdeal.defs (F := Ideal)) (onTc (τ := Cert.RefMemOutIdeal.τ) (Cert.RefMemOutIdeal.main (F := Ideal))) ⟨m', fun _ => 0, g'⟩ (fun r => ∀ c : Dev Cert.RefMemOutIdeal.nD,
          r.2.mem ((c.tc : Thread Cert.RefMemOutIdeal.nD Cert.RefMemOutIdeal.τ).loc Cert.RefMemOutIdeal.main_v2) = v0 c
          ∧ r.2.mem ((c.tc : Thread Cert.RefMemOutIdeal.nD Cert.RefMemOutIdeal.τ).loc Cert.RefMemOutIdeal.main_v17) = v1 c
          ∧ r.2.mem ((c.tc : Thread Cert.RefMemOutIdeal.nD Cert.RefMemOutIdeal.τ).loc Cert.RefMemOutIdeal.main_arg0) = m' ((c.tc : Thread Cert.RefMemOutIdeal.nD Cert.RefMemOutIdeal.τ).loc Cert.RefMemOutIdeal.main_arg0)
          ∧ r.2.mem ((c.tc : Thread Cert.RefMemOutIdeal.nD Cert.RefMemOutIdeal.τ).loc Cert.RefMemOutIdeal.main_arg1) = m' ((c.tc : Thread Cert.RefMemOutIdeal.nD Cert.RefMemOutIdeal.τ).loc Cert.RefMemOutIdeal.main_arg1)
          ∧ r.2.mem ((c.tc : Thread Cert.RefMemOutIdeal.nD Cert.RefMemOutIdeal.τ).loc Cert.RefMemOutIdeal.main_arg2) = m' ((c.tc : Thread Cert.RefMemOutIdeal.nD Cert.RefMemOutIdeal.τ).loc Cert.RefMemOutIdeal.main_arg2)
          ∧ r.2.mem ((c.tc : Thread Cert.RefMemOutIdeal.nD Cert.RefMemOutIdeal.τ).loc Cert.RefMemOutIdeal.main_arg3) = m' ((c.tc : Thread Cert.RefMemOutIdeal.nD Cert.RefMemOutIdeal.τ).loc Cert.RefMemOutIdeal.main_arg3))

def preserves_Diff_DiffIdeal : Prop :=
  True

def algebraic_DiffIdeal_RefDiffIdeal_pre_finite_values [hDiffIdeal : Cert.DiffIdeal.Facts] [hRefDiffIdeal : Cert.RefDiffIdeal.Facts] [hPre_finite_values : Cert.Pre_finite_values.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.RefDiffIdeal.nD Cert.RefDiffIdeal.τ Cert.RefDiffIdeal.sig) → Buf (Elt Ideal) ℓ) (g' : Dev Cert.RefDiffIdeal.nD → PrngReg), Pre_DiffIdeal_finite_values m →
    (∀ c : Dev Cert.DiffIdeal.nD,
      m' ((c.tc : Thread Cert.RefDiffIdeal.nD Cert.RefDiffIdeal.τ).loc Cert.RefDiffIdeal.main_arg0) = m ((c.tc : Thread Cert.DiffIdeal.nD Cert.DiffIdeal.τ).loc Cert.DiffIdeal.main_arg0)
      ∧ m' ((c.tc : Thread Cert.RefDiffIdeal.nD Cert.RefDiffIdeal.τ).loc Cert.RefDiffIdeal.main_arg1) = m ((c.tc : Thread Cert.DiffIdeal.nD Cert.DiffIdeal.τ).loc Cert.DiffIdeal.main_arg1)
      ∧ m' ((c.tc : Thread Cert.RefDiffIdeal.nD Cert.RefDiffIdeal.τ).loc Cert.RefDiffIdeal.main_arg2) = m ((c.tc : Thread Cert.DiffIdeal.nD Cert.DiffIdeal.τ).loc Cert.DiffIdeal.main_arg2)
      ∧ m' ((c.tc : Thread Cert.RefDiffIdeal.nD Cert.RefDiffIdeal.τ).loc Cert.RefDiffIdeal.main_arg3) = m ((c.tc : Thread Cert.DiffIdeal.nD Cert.DiffIdeal.τ).loc Cert.DiffIdeal.main_arg3)
      ∧ m' ((c.tc : Thread Cert.RefDiffIdeal.nD Cert.RefDiffIdeal.τ).loc Cert.RefDiffIdeal.main_arg4) = m ((c.tc : Thread Cert.DiffIdeal.nD Cert.DiffIdeal.τ).loc Cert.DiffIdeal.main_arg4)
      ∧ m' ((c.tc : Thread Cert.RefDiffIdeal.nD Cert.RefDiffIdeal.τ).loc Cert.RefDiffIdeal.main_arg5) = m ((c.tc : Thread Cert.DiffIdeal.nD Cert.DiffIdeal.τ).loc Cert.DiffIdeal.main_arg5)) →
    ∃ (v0 : (c : Dev Cert.DiffIdeal.nD) → Buf (Elt Ideal) ((c.tc : Thread Cert.DiffIdeal.nD Cert.DiffIdeal.τ).loc Cert.DiffIdeal.main_v1)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v1) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ θ_run (Cert.RefDiffIdeal.defs (F := Ideal)) (onTc (τ := Cert.RefDiffIdeal.τ) (Cert.RefDiffIdeal.main (F := Ideal))) ⟨m', fun _ => 0, g'⟩ (fun r => ∀ c : Dev Cert.RefDiffIdeal.nD,
          r.2.mem ((c.tc : Thread Cert.RefDiffIdeal.nD Cert.RefDiffIdeal.τ).loc Cert.RefDiffIdeal.main_v77) = v0 c
          ∧ r.2.mem ((c.tc : Thread Cert.RefDiffIdeal.nD Cert.RefDiffIdeal.τ).loc Cert.RefDiffIdeal.main_arg0) = m' ((c.tc : Thread Cert.RefDiffIdeal.nD Cert.RefDiffIdeal.τ).loc Cert.RefDiffIdeal.main_arg0)
          ∧ r.2.mem ((c.tc : Thread Cert.RefDiffIdeal.nD Cert.RefDiffIdeal.τ).loc Cert.RefDiffIdeal.main_arg1) = m' ((c.tc : Thread Cert.RefDiffIdeal.nD Cert.RefDiffIdeal.τ).loc Cert.RefDiffIdeal.main_arg1)
          ∧ r.2.mem ((c.tc : Thread Cert.RefDiffIdeal.nD Cert.RefDiffIdeal.τ).loc Cert.RefDiffIdeal.main_arg2) = m' ((c.tc : Thread Cert.RefDiffIdeal.nD Cert.RefDiffIdeal.τ).loc Cert.RefDiffIdeal.main_arg2)
          ∧ r.2.mem ((c.tc : Thread Cert.RefDiffIdeal.nD Cert.RefDiffIdeal.τ).loc Cert.RefDiffIdeal.main_arg3) = m' ((c.tc : Thread Cert.RefDiffIdeal.nD Cert.RefDiffIdeal.τ).loc Cert.RefDiffIdeal.main_arg3)
          ∧ r.2.mem ((c.tc : Thread Cert.RefDiffIdeal.nD Cert.RefDiffIdeal.τ).loc Cert.RefDiffIdeal.main_arg4) = m' ((c.tc : Thread Cert.RefDiffIdeal.nD Cert.RefDiffIdeal.τ).loc Cert.RefDiffIdeal.main_arg4)
          ∧ r.2.mem ((c.tc : Thread Cert.RefDiffIdeal.nD Cert.RefDiffIdeal.τ).loc Cert.RefDiffIdeal.main_arg5) = m' ((c.tc : Thread Cert.RefDiffIdeal.nD Cert.RefDiffIdeal.τ).loc Cert.RefDiffIdeal.main_arg5))

def preserves_Cross_CrossIdeal : Prop :=
  True

def algebraic_CrossIdeal_RefCrossIdeal [hCrossIdeal : Cert.CrossIdeal.Facts] [hRefCrossIdeal : Cert.RefCrossIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.RefCrossIdeal.nD Cert.RefCrossIdeal.τ Cert.RefCrossIdeal.sig) → Buf (Elt Ideal) ℓ) (g' : Dev Cert.RefCrossIdeal.nD → PrngReg), Pre_CrossIdeal m →
    (∀ c : Dev Cert.CrossIdeal.nD,
      m' ((c.tc : Thread Cert.RefCrossIdeal.nD Cert.RefCrossIdeal.τ).loc Cert.RefCrossIdeal.main_arg0) = m ((c.tc : Thread Cert.CrossIdeal.nD Cert.CrossIdeal.τ).loc Cert.CrossIdeal.main_arg0)
      ∧ m' ((c.tc : Thread Cert.RefCrossIdeal.nD Cert.RefCrossIdeal.τ).loc Cert.RefCrossIdeal.main_arg1) = m ((c.tc : Thread Cert.CrossIdeal.nD Cert.CrossIdeal.τ).loc Cert.CrossIdeal.main_arg1)
      ∧ m' ((c.tc : Thread Cert.RefCrossIdeal.nD Cert.RefCrossIdeal.τ).loc Cert.RefCrossIdeal.main_arg2) = m ((c.tc : Thread Cert.CrossIdeal.nD Cert.CrossIdeal.τ).loc Cert.CrossIdeal.main_arg2)) →
    ∃ (v0 : (c : Dev Cert.CrossIdeal.nD) → Buf (Elt Ideal) ((c.tc : Thread Cert.CrossIdeal.nD Cert.CrossIdeal.τ).loc Cert.CrossIdeal.main_v0)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v0) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ θ_run (Cert.RefCrossIdeal.defs (F := Ideal)) (onTc (τ := Cert.RefCrossIdeal.τ) (Cert.RefCrossIdeal.main (F := Ideal))) ⟨m', fun _ => 0, g'⟩ (fun r => ∀ c : Dev Cert.RefCrossIdeal.nD,
          r.2.mem ((c.tc : Thread Cert.RefCrossIdeal.nD Cert.RefCrossIdeal.τ).loc Cert.RefCrossIdeal.main_v19) = v0 c
          ∧ r.2.mem ((c.tc : Thread Cert.RefCrossIdeal.nD Cert.RefCrossIdeal.τ).loc Cert.RefCrossIdeal.main_arg0) = m' ((c.tc : Thread Cert.RefCrossIdeal.nD Cert.RefCrossIdeal.τ).loc Cert.RefCrossIdeal.main_arg0)
          ∧ r.2.mem ((c.tc : Thread Cert.RefCrossIdeal.nD Cert.RefCrossIdeal.τ).loc Cert.RefCrossIdeal.main_arg1) = m' ((c.tc : Thread Cert.RefCrossIdeal.nD Cert.RefCrossIdeal.τ).loc Cert.RefCrossIdeal.main_arg1)
          ∧ r.2.mem ((c.tc : Thread Cert.RefCrossIdeal.nD Cert.RefCrossIdeal.τ).loc Cert.RefCrossIdeal.main_arg2) = m' ((c.tc : Thread Cert.RefCrossIdeal.nD Cert.RefCrossIdeal.τ).loc Cert.RefCrossIdeal.main_arg2))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hRefProjIdeal : Cert.RefProjIdeal.Facts) (hSample : Cert.Sample.Facts) (hSampleIdeal : Cert.SampleIdeal.Facts) (hRefSampleIdeal : Cert.RefSampleIdeal.Facts) (hMem : Cert.Mem.Facts) (hMemIdeal : Cert.MemIdeal.Facts) (hRefMemIdeal : Cert.RefMemIdeal.Facts) (hQuery : Cert.Query.Facts) (hQueryIdeal : Cert.QueryIdeal.Facts) (hRefQueryIdeal : Cert.RefQueryIdeal.Facts) (hMerge : Cert.Merge.Facts) (hMergeIdeal : Cert.MergeIdeal.Facts) (hRefMergeIdeal : Cert.RefMergeIdeal.Facts) (hMemOut : Cert.MemOut.Facts) (hMemOutIdeal : Cert.MemOutIdeal.Facts) (hRefMemOutIdeal : Cert.RefMemOutIdeal.Facts) (hDiff : Cert.Diff.Facts) (hDiffIdeal : Cert.DiffIdeal.Facts) (hRefDiffIdeal : Cert.RefDiffIdeal.Facts) (hCross : Cert.Cross.Facts) (hCrossIdeal : Cert.CrossIdeal.Facts) (hRefCrossIdeal : Cert.RefCrossIdeal.Facts) (hPre_finite_scores : Cert.Pre_finite_scores.Facts) (hPre_finite_values : Cert.Pre_finite_values.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Proj (hProj := hProj)
    ∧ quiescent_ProjIdeal (hProjIdeal := hProjIdeal)
    ∧ quiescent_RefProjIdeal (hRefProjIdeal := hRefProjIdeal)
    ∧ quiescent_Sample (hSample := hSample)
    ∧ quiescent_SampleIdeal (hSampleIdeal := hSampleIdeal)
    ∧ quiescent_RefSampleIdeal (hRefSampleIdeal := hRefSampleIdeal)
    ∧ quiescent_Mem (hMem := hMem)
    ∧ quiescent_MemIdeal (hMemIdeal := hMemIdeal)
    ∧ quiescent_RefMemIdeal (hRefMemIdeal := hRefMemIdeal)
    ∧ quiescent_Query (hQuery := hQuery)
    ∧ quiescent_QueryIdeal (hQueryIdeal := hQueryIdeal)
    ∧ quiescent_RefQueryIdeal (hRefQueryIdeal := hRefQueryIdeal)
    ∧ quiescent_Merge (hMerge := hMerge)
    ∧ quiescent_MergeIdeal (hMergeIdeal := hMergeIdeal)
    ∧ quiescent_RefMergeIdeal (hRefMergeIdeal := hRefMergeIdeal)
    ∧ quiescent_MemOut (hMemOut := hMemOut)
    ∧ quiescent_MemOutIdeal (hMemOutIdeal := hMemOutIdeal)
    ∧ quiescent_RefMemOutIdeal (hRefMemOutIdeal := hRefMemOutIdeal)
    ∧ quiescent_Diff (hDiff := hDiff)
    ∧ quiescent_DiffIdeal (hDiffIdeal := hDiffIdeal)
    ∧ quiescent_DiffIdeal_pre_finite_values (hDiffIdeal := hDiffIdeal) (hPre_finite_values := hPre_finite_values)
    ∧ quiescent_RefDiffIdeal (hRefDiffIdeal := hRefDiffIdeal)
    ∧ quiescent_RefDiffIdeal_pre_finite_values (hRefDiffIdeal := hRefDiffIdeal) (hPre_finite_values := hPre_finite_values)
    ∧ quiescent_Cross (hCross := hCross)
    ∧ quiescent_CrossIdeal (hCrossIdeal := hCrossIdeal)
    ∧ quiescent_RefCrossIdeal (hRefCrossIdeal := hRefCrossIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Proj_ProjIdeal
    ∧ algebraic_ProjIdeal_RefProjIdeal (hProjIdeal := hProjIdeal) (hRefProjIdeal := hRefProjIdeal)
    ∧ preserves_Sample_SampleIdeal
    ∧ algebraic_SampleIdeal_RefSampleIdeal (hSampleIdeal := hSampleIdeal) (hRefSampleIdeal := hRefSampleIdeal)
    ∧ preserves_Mem_MemIdeal
    ∧ algebraic_MemIdeal_RefMemIdeal (hMemIdeal := hMemIdeal) (hRefMemIdeal := hRefMemIdeal)
    ∧ preserves_Query_QueryIdeal
    ∧ algebraic_QueryIdeal_RefQueryIdeal (hQueryIdeal := hQueryIdeal) (hRefQueryIdeal := hRefQueryIdeal)
    ∧ preserves_Merge_MergeIdeal
    ∧ algebraic_MergeIdeal_RefMergeIdeal (hMergeIdeal := hMergeIdeal) (hRefMergeIdeal := hRefMergeIdeal)
    ∧ preserves_MemOut_MemOutIdeal
    ∧ algebraic_MemOutIdeal_RefMemOutIdeal (hMemOutIdeal := hMemOutIdeal) (hRefMemOutIdeal := hRefMemOutIdeal)
    ∧ preserves_Diff_DiffIdeal
    ∧ algebraic_DiffIdeal_RefDiffIdeal_pre_finite_values (hDiffIdeal := hDiffIdeal) (hRefDiffIdeal := hRefDiffIdeal) (hPre_finite_values := hPre_finite_values)
    ∧ preserves_Cross_CrossIdeal
    ∧ algebraic_CrossIdeal_RefCrossIdeal (hCrossIdeal := hCrossIdeal) (hRefCrossIdeal := hRefCrossIdeal)
-- ==== Pre_finite_scores.lean ====
abbrev S8192x1024 : Shape := ⟨2, ![8192, 1024]⟩
abbrev S4x8x2048 : Shape := ⟨3, ![4, 8, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x8x2048 : S_.BroadcastsInDim S4x8x2048 (![] : Fin 0 → Fin S4x8x2048.rank)
  reducesTo_S4x8x2048_S_d0_1_2 : S4x8x2048.ReducesTo [0, 1, 2] S_

variable [Facts]

def fn {F : FTy → Type} [FloatOps F] (main_arg0 : FVec F S8192x1024 .f32) (main_arg1 : FVec F S8192x1024 .f32) (main_arg2 : FVec F S8192x1024 .f32) (main_arg3 : FVec F S4x8x2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S4x8x2048 .f32 := Host.absf main_arg3
  let main_cst_2 : FVec F S_ .f32 := constant S_ .f32 0x7F800000#32
  let main_v10 : FVec F S4x8x2048 .f32 := broadcastInDim S4x8x2048 ![] bcast_S_S4x8x2048 main_cst_2
  let main_v11 : IVec S4x8x2048 1 := cmpf .olt main_v9 main_v10
  let main_c_3 : IVec S_ 1 := constantI S_ 1 1#1
  let main_v12 : IVec S_ 1 := (fun x v => Host.reduce IntOp.andi x v reducesTo_S4x8x2048_S_d0_1_2 h_S_) main_v11 main_c_3
  let main_v13 : IVec S_ 1 := andi main_v8 main_v12
  main_v13
-- ==== Pre_finite_values.lean ====
abbrev S8192x1024 : Shape := ⟨2, ![8192, 1024]⟩
abbrev S4 : Shape := ⟨1, ![4]⟩
abbrev S4x128 : Shape := ⟨2, ![4, 128]⟩
abbrev S4x256 : Shape := ⟨2, ![4, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_

variable [Facts]

def fn {F : FTy → Type} [FloatOps F] (main_arg0 : FVec F S8192x1024 .f32) (main_arg1 : FVec F S8192x1024 .f32) (main_arg2 : FVec F S8192x1024 .f32) (main_arg3 : FVec F S4 .f32) (main_arg4 : FVec F S4x128 .f32) (main_arg5 : FVec F S4x256 .f32) : IVec S_ 1 :=
  let main_v0 : FVec F S8192x1024 .f32 := Host.absf main_arg2
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4x128 .f32 := Host.absf main_arg4
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  main_v8
-- ==== Kernel.lean ====
abbrev S8192x1024 : Shape := ⟨2, ![8192, 1024]⟩
abbrev S4x8x2048 : Shape := ⟨3, ![4, 8, 2048]⟩
abbrev S4x8x1x2048 : Shape := ⟨4, ![4, 8, 1, 2048]⟩
abbrev S256x1024 : Shape := ⟨2, ![256, 1024]⟩
abbrev S2048x1024 : Shape := ⟨2, ![2048, 1024]⟩
abbrev S1x8x1x2048 : Shape := ⟨4, ![1, 8, 1, 2048]⟩
abbrev S256x128 : Shape := ⟨2, ![256, 128]⟩
abbrev S256x256 : Shape := ⟨2, ![256, 256]⟩
abbrev S1x1x1x256 : Shape := ⟨4, ![1, 1, 1, 256]⟩
abbrev S1x256 : Shape := ⟨2, ![1, 256]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x8x2048, .f32⟩
  | .hbm, ⟨4, _⟩ => ⟨S4x8x1x2048, .f32⟩
  | .hbm, ⟨5, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S2048x1024, .f32⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | .local _ .vmem, ⟨6, _⟩ => ⟨S1x8x1x2048, .f32⟩
  | .local _ .vmem, ⟨7, _⟩ => ⟨S1x8x1x2048, .f32⟩
  | .local _ .vmem, ⟨8, _⟩ => ⟨S256x1024, .f32⟩
  | .local _ .vmem, ⟨9, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 8], ![false, false, false]⟩

def k0_mult1 (i : grid0.Coords) : BitVec 32 :=
  let arg2 : BitVec 32 := BitVec.ofNat 32 (i 2).val
  let c256_i32 : BitVec 32 := 256#32
  let v35 : BitVec 32 := Scalar.muli arg2 c256_i32
  v35
def k0_off1 (i : grid0.Coords) : Fin 4 → Nat :=
  let c0_15 : Index := 0#32
  let c0_16 : Index := 0#32
  let c0_17 : Index := 0#32
  let arg2 : BitVec 32 := BitVec.ofNat 32 (i 2).val
  let c256_i32 : BitVec 32 := 256#32
  let v35 : BitVec 32 := Scalar.muli arg2 c256_i32
  let v36 : BitVec 32 := v35
  let v37 : Index := Scalar.indexCast v36
  ![0, 0, 0, v37.toNat]
def k0_off2 (i : grid0.Coords) : Fin 4 → Nat :=
  let c0_20 : Index := 0#32
  let c1 : Index := 1#32
  let c0_21 : Index := 0#32
  let arg2 : BitVec 32 := BitVec.ofNat 32 (i 2).val
  let c256_i32 : BitVec 32 := 256#32
  let v35 : BitVec 32 := Scalar.muli arg2 c256_i32
  let v36 : BitVec 32 := v35
  let v49 : Index := Scalar.indexCast v36
  ![0, 1, 0, v49.toNat]
def k0_off3 (i : grid0.Coords) : Fin 4 → Nat :=
  let c0_24 : Index := 0#32
  let c2 : Index := 2#32
  let c0_25 : Index := 0#32
  let arg2 : BitVec 32 := BitVec.ofNat 32 (i 2).val
  let c256_i32 : BitVec 32 := 256#32
  let v35 : BitVec 32 := Scalar.muli arg2 c256_i32
  let v36 : BitVec 32 := v35
  let v61 : Index := Scalar.indexCast v36
  ![0, 2, 0, v61.toNat]
def k0_off4 (i : grid0.Coords) : Fin 4 → Nat :=
  let c0_28 : Index := 0#32
  let c3 : Index := 3#32
  let c0_29 : Index := 0#32
  let arg2 : BitVec 32 := BitVec.ofNat 32 (i 2).val
  let c256_i32 : BitVec 32 := 256#32
  let v35 : BitVec 32 := Scalar.muli arg2 c256_i32
  let v36 : BitVec 32 := v35
  let v73 : Index := Scalar.indexCast v36
  ![0, 3, 0, v73.toNat]
def k0_off5 (i : grid0.Coords) : Fin 4 → Nat :=
  let c0_32 : Index := 0#32
  let c4 : Index := 4#32
  let c0_33 : Index := 0#32
  let arg2 : BitVec 32 := BitVec.ofNat 32 (i 2).val
  let c256_i32 : BitVec 32 := 256#32
  let v35 : BitVec 32 := Scalar.muli arg2 c256_i32
  let v36 : BitVec 32 := v35
  let v85 : Index := Scalar.indexCast v36
  ![0, 4, 0, v85.toNat]
def k0_off6 (i : grid0.Coords) : Fin 4 → Nat :=
  let c0_36 : Index := 0#32
  let c5 : Index := 5#32
  let c0_37 : Index := 0#32
  let arg2 : BitVec 32 := BitVec.ofNat 32 (i 2).val
  let c256_i32 : BitVec 32 := 256#32
  let v35 : BitVec 32 := Scalar.muli arg2 c256_i32
  let v36 : BitVec 32 := v35
  let v97 : Index := Scalar.indexCast v36
  ![0, 5, 0, v97.toNat]
def k0_off7 (i : grid0.Coords) : Fin 4 → Nat :=
  let c0_40 : Index := 0#32
  let c6 : Index := 6#32
  let c0_41 : Index := 0#32
  let arg2 : BitVec 32 := BitVec.ofNat 32 (i 2).val
  let c256_i32 : BitVec 32 := 256#32
  let v35 : BitVec 32 := Scalar.muli arg2 c256_i32
  let v36 : BitVec 32 := v35
  let v109 : Index := Scalar.indexCast v36
  ![0, 6, 0, v109.toNat]
def k0_off8 (i : grid0.Coords) : Fin 4 → Nat :=
  let c0_44 : Index := 0#32
  let c7 : Index := 7#32
  let c0_45 : Index := 0#32
  let arg2 : BitVec 32 := BitVec.ofNat 32 (i 2).val
  let c256_i32 : BitVec 32 := 256#32
  let v35 : BitVec 32 := Scalar.muli arg2 c256_i32
  let v36 : BitVec 32 := v35
  let v121 : Index := Scalar.indexCast v36
  ![0, 7, 0, v121.toNat]
@[reducible] def k0_t1_loop (i : grid0.Coords) : Scf.Loop 32 :=
  let c0_i32 : BitVec 32 := 0#32
  let arg2 : BitVec 32 := BitVec.ofNat 32 (i 2).val
  let v136 : BitVec 32 := Scalar.subi arg2 c0_i32
  let c1_i32 : BitVec 32 := 1#32
  let v138 : BitVec 32 := Scalar.divsi v136 c1_i32
  let v139 : BitVec 32 := Scalar.muli v138 c1_i32
  let v140 : BitVec 32 := Scalar.addi c0_i32 v139
  let c1_i32_51 : BitVec 32 := 1#32
  ⟨c0_i32, v140, c1_i32_51⟩
def k0_mult2 (i : grid0.Coords) (k0_t1 : Fin (k0_t1_loop i).trips) : BitVec 32 :=
  let c0_i32 : BitVec 32 := 0#32
  let c1_i32_51 : BitVec 32 := 1#32
  let arg8 : BitVec 32 := Scf.iv c0_i32 c1_i32_51 k0_t1
  let c256_i32_158 : BitVec 32 := 256#32
  let v449 : BitVec 32 := Scalar.muli arg8 c256_i32_158
  v449
def k0_off9 (i : grid0.Coords) (k0_t1 : Fin (k0_t1_loop i).trips) : Fin 2 → Nat :=
  let c0_i32 : BitVec 32 := 0#32
  let c1_i32_51 : BitVec 32 := 1#32
  let arg8 : BitVec 32 := Scf.iv c0_i32 c1_i32_51 k0_t1
  let c256_i32_158 : BitVec 32 := 256#32
  let v449 : BitVec 32 := Scalar.muli arg8 c256_i32_158
  let v450 : BitVec 32 := v449
  let v451 : Index := Scalar.indexCast v450
  let c0_159 : Index := 0#32
  ![v451.toNat, 0]
def k0_off10 (i : grid0.Coords) (k0_t1 : Fin (k0_t1_loop i).trips) : Fin 4 → Nat :=
  let c0_161 : Index := 0#32
  let c0_162 : Index := 0#32
  let c0_163 : Index := 0#32
  let c0_i32 : BitVec 32 := 0#32
  let c1_i32_51 : BitVec 32 := 1#32
  let arg8 : BitVec 32 := Scf.iv c0_i32 c1_i32_51 k0_t1
  let c256_i32_158 : BitVec 32 := 256#32
  let v449 : BitVec 32 := Scalar.muli arg8 c256_i32_158
  let v450 : BitVec 32 := v449
  let v457 : Index := Scalar.indexCast v450
  ![0, 0, 0, v457.toNat]
def k0_off11 (i : grid0.Coords) (k0_t1 : Fin (k0_t1_loop i).trips) : Fin 2 → Nat :=
  let c0_i32 : BitVec 32 := 0#32
  let c1_i32_51 : BitVec 32 := 1#32
  let arg8 : BitVec 32 := Scf.iv c0_i32 c1_i32_51 k0_t1
  let c256_i32_158 : BitVec 32 := 256#32
  let v449 : BitVec 32 := Scalar.muli arg8 c256_i32_158
  let v450 : BitVec 32 := v449
  let v482 : Index := Scalar.indexCast v450
  let c128_168 : Index := 128#32
  ![v482.toNat, 128]
def k0_off12 (i : grid0.Coords) (k0_t1 : Fin (k0_t1_loop i).trips) : Fin 4 → Nat :=
  let c0_170 : Index := 0#32
  let c1_171 : Index := 1#32
  let c0_172 : Index := 0#32
  let c0_i32 : BitVec 32 := 0#32
  let c1_i32_51 : BitVec 32 := 1#32
  let arg8 : BitVec 32 := Scf.iv c0_i32 c1_i32_51 k0_t1
  let c256_i32_158 : BitVec 32 := 256#32
  let v449 : BitVec 32 := Scalar.muli arg8 c256_i32_158
  let v450 : BitVec 32 := v449
  let v488 : Index := Scalar.indexCast v450
  ![0, 1, 0, v488.toNat]
def k0_off13 (i : grid0.Coords) (k0_t1 : Fin (k0_t1_loop i).trips) : Fin 2 → Nat :=
  let c0_i32 : BitVec 32 := 0#32
  let c1_i32_51 : BitVec 32 := 1#32
  let arg8 : BitVec 32 := Scf.iv c0_i32 c1_i32_51 k0_t1
  let c256_i32_158 : BitVec 32 := 256#32
  let v449 : BitVec 32 := Scalar.muli arg8 c256_i32_158
  let v450 : BitVec 32 := v449
  let v513 : Index := Scalar.indexCast v450
  let c256_177 : Index := 256#32
  ![v513.toNat, 256]
def k0_off14 (i : grid0.Coords) (k0_t1 : Fin (k0_t1_loop i).trips) : Fin 4 → Nat :=
  let c0_179 : Index := 0#32
  let c2_180 : Index := 2#32
  let c0_181 : Index := 0#32
  let c0_i32 : BitVec 32 := 0#32
  let c1_i32_51 : BitVec 32 := 1#32
  let arg8 : BitVec 32 := Scf.iv c0_i32 c1_i32_51 k0_t1
  let c256_i32_158 : BitVec 32 := 256#32
  let v449 : BitVec 32 := Scalar.muli arg8 c256_i32_158
  let v450 : BitVec 32 := v449
  let v519 : Index := Scalar.indexCast v450
  ![0, 2, 0, v519.toNat]
def k0_off15 (i : grid0.Coords) (k0_t1 : Fin (k0_t1_loop i).trips) : Fin 2 → Nat :=
  let c0_i32 : BitVec 32 := 0#32
  let c1_i32_51 : BitVec 32 := 1#32
  let arg8 : BitVec 32 := Scf.iv c0_i32 c1_i32_51 k0_t1
  let c256_i32_158 : BitVec 32 := 256#32
  let v449 : BitVec 32 := Scalar.muli arg8 c256_i32_158
  let v450 : BitVec 32 := v449
  let v544 : Index := Scalar.indexCast v450
  let c384_186 : Index := 384#32
  ![v544.toNat, 384]
def k0_off16 (i : grid0.Coords) (k0_t1 : Fin (k0_t1_loop i).trips) : Fin 4 → Nat :=
  let c0_188 : Index := 0#32
  let c3_189 : Index := 3#32
  let c0_190 : Index := 0#32
  let c0_i32 : BitVec 32 := 0#32
  let c1_i32_51 : BitVec 32 := 1#32
  let arg8 : BitVec 32 := Scf.iv c0_i32 c1_i32_51 k0_t1
  let c256_i32_158 : BitVec 32 := 256#32
  let v449 : BitVec 32 := Scalar.muli arg8 c256_i32_158
  let v450 : BitVec 32 := v449
  let v550 : Index := Scalar.indexCast v450
  ![0, 3, 0, v550.toNat]
def k0_off17 (i : grid0.Coords) (k0_t1 : Fin (k0_t1_loop i).trips) : Fin 2 → Nat :=
  let c0_i32 : BitVec 32 := 0#32
  let c1_i32_51 : BitVec 32 := 1#32
  let arg8 : BitVec 32 := Scf.iv c0_i32 c1_i32_51 k0_t1
  let c256_i32_158 : BitVec 32 := 256#32
  let v449 : BitVec 32 := Scalar.muli arg8 c256_i32_158
  let v450 : BitVec 32 := v449
  let v575 : Index := Scalar.indexCast v450
  let c512_195 : Index := 512#32
  ![v575.toNat, 512]
def k0_off18 (i : grid0.Coords) (k0_t1 : Fin (k0_t1_loop i).trips) : Fin 4 → Nat :=
  let c0_197 : Index := 0#32
  let c4_198 : Index := 4#32
  let c0_199 : Index := 0#32
  let c0_i32 : BitVec 32 := 0#32
  let c1_i32_51 : BitVec 32 := 1#32
  let arg8 : BitVec 32 := Scf.iv c0_i32 c1_i32_51 k0_t1
  let c256_i32_158 : BitVec 32 := 256#32
  let v449 : BitVec 32 := Scalar.muli arg8 c256_i32_158
  let v450 : BitVec 32 := v449
  let v581 : Index := Scalar.indexCast v450
  ![0, 4, 0, v581.toNat]
def k0_off19 (i : grid0.Coords) (k0_t1 : Fin (k0_t1_loop i).trips) : Fin 2 → Nat :=
  let c0_i32 : BitVec 32 := 0#32
  let c1_i32_51 : BitVec 32 := 1#32
  let arg8 : BitVec 32 := Scf.iv c0_i32 c1_i32_51 k0_t1
  let c256_i32_158 : BitVec 32 := 256#32
  let v449 : BitVec 32 := Scalar.muli arg8 c256_i32_158
  let v450 : BitVec 32 := v449
  let v606 : Index := Scalar.indexCast v450
  let c640_204 : Index := 640#32
  ![v606.toNat, 640]
def k0_off20 (i : grid0.Coords) (k0_t1 : Fin (k0_t1_loop i).trips) : Fin 4 → Nat :=
  let c0_206 : Index := 0#32
  let c5_207 : Index := 5#32
  let c0_208 : Index := 0#32
  let c0_i32 : BitVec 32 := 0#32
  let c1_i32_51 : BitVec 32 := 1#32
  let arg8 : BitVec 32 := Scf.iv c0_i32 c1_i32_51 k0_t1
  let c256_i32_158 : BitVec 32 := 256#32
  let v449 : BitVec 32 := Scalar.muli arg8 c256_i32_158
  let v450 : BitVec 32 := v449
  let v612 : Index := Scalar.indexCast v450
  ![0, 5, 0, v612.toNat]
def k0_off21 (i : grid0.Coords) (k0_t1 : Fin (k0_t1_loop i).trips) : Fin 2 → Nat :=
  let c0_i32 : BitVec 32 := 0#32
  let c1_i32_51 : BitVec 32 := 1#32
  let arg8 : BitVec 32 := Scf.iv c0_i32 c1_i32_51 k0_t1
  let c256_i32_158 : BitVec 32 := 256#32
  let v449 : BitVec 32 := Scalar.muli arg8 c256_i32_158
  let v450 : BitVec 32 := v449
  let v637 : Index := Scalar.indexCast v450
  let c768_213 : Index := 768#32
  ![v637.toNat, 768]
def k0_off22 (i : grid0.Coords) (k0_t1 : Fin (k0_t1_loop i).trips) : Fin 4 → Nat :=
  let c0_215 : Index := 0#32
  let c6_216 : Index := 6#32
  let c0_217 : Index := 0#32
  let c0_i32 : BitVec 32 := 0#32
  let c1_i32_51 : BitVec 32 := 1#32
  let arg8 : BitVec 32 := Scf.iv c0_i32 c1_i32_51 k0_t1
  let c256_i32_158 : BitVec 32 := 256#32
  let v449 : BitVec 32 := Scalar.muli arg8 c256_i32_158
  let v450 : BitVec 32 := v449
  let v643 : Index := Scalar.indexCast v450
  ![0, 6, 0, v643.toNat]
def k0_off23 (i : grid0.Coords) (k0_t1 : Fin (k0_t1_loop i).trips) : Fin 2 → Nat :=
  let c0_i32 : BitVec 32 := 0#32
  let c1_i32_51 : BitVec 32 := 1#32
  let arg8 : BitVec 32 := Scf.iv c0_i32 c1_i32_51 k0_t1
  let c256_i32_158 : BitVec 32 := 256#32
  let v449 : BitVec 32 := Scalar.muli arg8 c256_i32_158
  let v450 : BitVec 32 := v449
  let v668 : Index := Scalar.indexCast v450
  let c896_222 : Index := 896#32
  ![v668.toNat, 896]
def k0_off24 (i : grid0.Coords) (k0_t1 : Fin (k0_t1_loop i).trips) : Fin 4 → Nat :=
  let c0_224 : Index := 0#32
  let c7_225 : Index := 7#32
  let c0_226 : Index := 0#32
  let c0_i32 : BitVec 32 := 0#32
  let c1_i32_51 : BitVec 32 := 1#32
  let arg8 : BitVec 32 := Scf.iv c0_i32 c1_i32_51 k0_t1
  let c256_i32_158 : BitVec 32 := 256#32
  let v449 : BitVec 32 := Scalar.muli arg8 c256_i32_158
  let v450 : BitVec 32 := v449
  let v674 : Index := Scalar.indexCast v450
  ![0, 7, 0, v674.toNat]
@[reducible] def k0_t2_loop (i : grid0.Coords) : Scf.Loop 32 :=
  let c0_i32 : BitVec 32 := 0#32
  let arg2 : BitVec 32 := BitVec.ofNat 32 (i 2).val
  let v136 : BitVec 32 := Scalar.subi arg2 c0_i32
  let c1_i32 : BitVec 32 := 1#32
  let v138 : BitVec 32 := Scalar.divsi v136 c1_i32
  let v139 : BitVec 32 := Scalar.muli v138 c1_i32
  let v140 : BitVec 32 := Scalar.addi c0_i32 v139
  let v137 : BitVec 32 := Scalar.addi c0_i32 v136
  let c1_i32_52 : BitVec 32 := 1#32
  ⟨v140, v137, c1_i32_52⟩
def k0_mult3 (i : grid0.Coords) (k0_t2 : Fin (k0_t2_loop i).trips) : BitVec 32 :=
  let c0_i32 : BitVec 32 := 0#32
  let arg2 : BitVec 32 := BitVec.ofNat 32 (i 2).val
  let v136 : BitVec 32 := Scalar.subi arg2 c0_i32
  let c1_i32 : BitVec 32 := 1#32
  let v138 : BitVec 32 := Scalar.divsi v136 c1_i32
  let v139 : BitVec 32 := Scalar.muli v138 c1_i32
  let v140 : BitVec 32 := Scalar.addi c0_i32 v139
  let c1_i32_52 : BitVec 32 := 1#32
  let arg8 : BitVec 32 := Scf.iv v140 c1_i32_52 k0_t2
  let c256_i32_158 : BitVec 32 := 256#32
  let v449 : BitVec 32 := Scalar.muli arg8 c256_i32_158
  v449
def k0_off25 (i : grid0.Coords) (k0_t2 : Fin (k0_t2_loop i).trips) : Fin 2 → Nat :=
  let c0_i32 : BitVec 32 := 0#32
  let arg2 : BitVec 32 := BitVec.ofNat 32 (i 2).val
  let v136 : BitVec 32 := Scalar.subi arg2 c0_i32
  let c1_i32 : BitVec 32 := 1#32
  let v138 : BitVec 32 := Scalar.divsi v136 c1_i32
  let v139 : BitVec 32 := Scalar.muli v138 c1_i32
  let v140 : BitVec 32 := Scalar.addi c0_i32 v139
  let c1_i32_52 : BitVec 32 := 1#32
  let arg8 : BitVec 32 := Scf.iv v140 c1_i32_52 k0_t2
  let c256_i32_158 : BitVec 32 := 256#32
  let v449 : BitVec 32 := Scalar.muli arg8 c256_i32_158
  let v450 : BitVec 32 := v449
  let v451 : Index := Scalar.indexCast v450
  let c0_159 : Index := 0#32
  ![v451.toNat, 0]
def k0_off26 (i : grid0.Coords) (k0_t2 : Fin (k0_t2_loop i).trips) : Fin 4 → Nat :=
  let c0_161 : Index := 0#32
  let c0_162 : Index := 0#32
  let c0_163 : Index := 0#32
  let c0_i32 : BitVec 32 := 0#32
  let arg2 : BitVec 32 := BitVec.ofNat 32 (i 2).val
  let v136 : BitVec 32 := Scalar.subi arg2 c0_i32
  let c1_i32 : BitVec 32 := 1#32
  let v138 : BitVec 32 := Scalar.divsi v136 c1_i32
  let v139 : BitVec 32 := Scalar.muli v138 c1_i32
  let v140 : BitVec 32 := Scalar.addi c0_i32 v139
  let c1_i32_52 : BitVec 32 := 1#32
  let arg8 : BitVec 32 := Scf.iv v140 c1_i32_52 k0_t2
  let c256_i32_158 : BitVec 32 := 256#32
  let v449 : BitVec 32 := Scalar.muli arg8 c256_i32_158
  let v450 : BitVec 32 := v449
  let v457 : Index := Scalar.indexCast v450
  ![0, 0, 0, v457.toNat]
def k0_off27 (i : grid0.Coords) (k0_t2 : Fin (k0_t2_loop i).trips) : Fin 2 → Nat :=
  let c0_i32 : BitVec 32 := 0#32
  let arg2 : BitVec 32 := BitVec.ofNat 32 (i 2).val
  let v136 : BitVec 32 := Scalar.subi arg2 c0_i32
  let c1_i32 : BitVec 32 := 1#32
  let v138 : BitVec 32 := Scalar.divsi v136 c1_i32
  let v139 : BitVec 32 := Scalar.muli v138 c1_i32
  let v140 : BitVec 32 := Scalar.addi c0_i32 v139
  let c1_i32_52 : BitVec 32 := 1#32
  let arg8 : BitVec 32 := Scf.iv v140 c1_i32_52 k0_t2
  let c256_i32_158 : BitVec 32 := 256#32
  let v449 : BitVec 32 := Scalar.muli arg8 c256_i32_158
  let v450 : BitVec 32 := v449
  let v482 : Index := Scalar.indexCast v450
  let c128_168 : Index := 128#32
  ![v482.toNat, 128]
def k0_off28 (i : grid0.Coords) (k0_t2 : Fin (k0_t2_loop i).trips) : Fin 4 → Nat :=
  let c0_170 : Index := 0#32
  let c1_171 : Index := 1#32
  let c0_172 : Index := 0#32
  let c0_i32 : BitVec 32 := 0#32
  let arg2 : BitVec 32 := BitVec.ofNat 32 (i 2).val
  let v136 : BitVec 32 := Scalar.subi arg2 c0_i32
  let c1_i32 : BitVec 32 := 1#32
  let v138 : BitVec 32 := Scalar.divsi v136 c1_i32
  let v139 : BitVec 32 := Scalar.muli v138 c1_i32
  let v140 : BitVec 32 := Scalar.addi c0_i32 v139
  let c1_i32_52 : BitVec 32 := 1#32
  let arg8 : BitVec 32 := Scf.iv v140 c1_i32_52 k0_t2
  let c256_i32_158 : BitVec 32 := 256#32
  let v449 : BitVec 32 := Scalar.muli arg8 c256_i32_158
  let v450 : BitVec 32 := v449
  let v488 : Index := Scalar.indexCast v450
  ![0, 1, 0, v488.toNat]
def k0_off29 (i : grid0.Coords) (k0_t2 : Fin (k0_t2_loop i).trips) : Fin 2 → Nat :=
  let c0_i32 : BitVec 32 := 0#32
  let arg2 : BitVec 32 := BitVec.ofNat 32 (i 2).val
  let v136 : BitVec 32 := Scalar.subi arg2 c0_i32
  let c1_i32 : BitVec 32 := 1#32
  let v138 : BitVec 32 := Scalar.divsi v136 c1_i32
  let v139 : BitVec 32 := Scalar.muli v138 c1_i32
  let v140 : BitVec 32 := Scalar.addi c0_i32 v139
  let c1_i32_52 : BitVec 32 := 1#32
  let arg8 : BitVec 32 := Scf.iv v140 c1_i32_52 k0_t2
  let c256_i32_158 : BitVec 32 := 256#32
  let v449 : BitVec 32 := Scalar.muli arg8 c256_i32_158
  let v450 : BitVec 32 := v449
  let v513 : Index := Scalar.indexCast v450
  let c256_177 : Index := 256#32
  ![v513.toNat, 256]
def k0_off30 (i : grid0.Coords) (k0_t2 : Fin (k0_t2_loop i).trips) : Fin 4 → Nat :=
  let c0_179 : Index := 0#32
  let c2_180 : Index := 2#32
  let c0_181 : Index := 0#32
  let c0_i32 : BitVec 32 := 0#32
  let arg2 : BitVec 32 := BitVec.ofNat 32 (i 2).val
  let v136 : BitVec 32 := Scalar.subi arg2 c0_i32
  let c1_i32 : BitVec 32 := 1#32
  let v138 : BitVec 32 := Scalar.divsi v136 c1_i32
  let v139 : BitVec 32 := Scalar.muli v138 c1_i32
  let v140 : BitVec 32 := Scalar.addi c0_i32 v139
  let c1_i32_52 : BitVec 32 := 1#32
  let arg8 : BitVec 32 := Scf.iv v140 c1_i32_52 k0_t2
  let c256_i32_158 : BitVec 32 := 256#32
  let v449 : BitVec 32 := Scalar.muli arg8 c256_i32_158
  let v450 : BitVec 32 := v449
  let v519 : Index := Scalar.indexCast v450
  ![0, 2, 0, v519.toNat]
def k0_off31 (i : grid0.Coords) (k0_t2 : Fin (k0_t2_loop i).trips) : Fin 2 → Nat :=
  let c0_i32 : BitVec 32 := 0#32
  let arg2 : BitVec 32 := BitVec.ofNat 32 (i 2).val
  let v136 : BitVec 32 := Scalar.subi arg2 c0_i32
  let c1_i32 : BitVec 32 := 1#32
  let v138 : BitVec 32 := Scalar.divsi v136 c1_i32
  let v139 : BitVec 32 := Scalar.muli v138 c1_i32
  let v140 : BitVec 32 := Scalar.addi c0_i32 v139
  let c1_i32_52 : BitVec 32 := 1#32
  let arg8 : BitVec 32 := Scf.iv v140 c1_i32_52 k0_t2
  let c256_i32_158 : BitVec 32 := 256#32
  let v449 : BitVec 32 := Scalar.muli arg8 c256_i32_158
  let v450 : BitVec 32 := v449
  let v544 : Index := Scalar.indexCast v450
  let c384_186 : Index := 384#32
  ![v544.toNat, 384]
def k0_off32 (i : grid0.Coords) (k0_t2 : Fin (k0_t2_loop i).trips) : Fin 4 → Nat :=
  let c0_188 : Index := 0#32
  let c3_189 : Index := 3#32
  let c0_190 : Index := 0#32
  let c0_i32 : BitVec 32 := 0#32
  let arg2 : BitVec 32 := BitVec.ofNat 32 (i 2).val
  let v136 : BitVec 32 := Scalar.subi arg2 c0_i32
  let c1_i32 : BitVec 32 := 1#32
  let v138 : BitVec 32 := Scalar.divsi v136 c1_i32
  let v139 : BitVec 32 := Scalar.muli v138 c1_i32
  let v140 : BitVec 32 := Scalar.addi c0_i32 v139
  let c1_i32_52 : BitVec 32 := 1#32
  let arg8 : BitVec 32 := Scf.iv v140 c1_i32_52 k0_t2
  let c256_i32_158 : BitVec 32 := 256#32
  let v449 : BitVec 32 := Scalar.muli arg8 c256_i32_158
  let v450 : BitVec 32 := v449
  let v550 : Index := Scalar.indexCast v450
  ![0, 3, 0, v550.toNat]
def k0_off33 (i : grid0.Coords) (k0_t2 : Fin (k0_t2_loop i).trips) : Fin 2 → Nat :=
  let c0_i32 : BitVec 32 := 0#32
  let arg2 : BitVec 32 := BitVec.ofNat 32 (i 2).val
  let v136 : BitVec 32 := Scalar.subi arg2 c0_i32
  let c1_i32 : BitVec 32 := 1#32
  let v138 : BitVec 32 := Scalar.divsi v136 c1_i32
  let v139 : BitVec 32 := Scalar.muli v138 c1_i32
  let v140 : BitVec 32 := Scalar.addi c0_i32 v139
  let c1_i32_52 : BitVec 32 := 1#32
  let arg8 : BitVec 32 := Scf.iv v140 c1_i32_52 k0_t2
  let c256_i32_158 : BitVec 32 := 256#32
  let v449 : BitVec 32 := Scalar.muli arg8 c256_i32_158
  let v450 : BitVec 32 := v449
  let v575 : Index := Scalar.indexCast v450
  let c512_195 : Index := 512#32
  ![v575.toNat, 512]
def k0_off34 (i : grid0.Coords) (k0_t2 : Fin (k0_t2_loop i).trips) : Fin 4 → Nat :=
  let c0_197 : Index := 0#32
  let c4_198 : Index := 4#32
  let c0_199 : Index := 0#32
  let c0_i32 : BitVec 32 := 0#32
  let arg2 : BitVec 32 := BitVec.ofNat 32 (i 2).val
  let v136 : BitVec 32 := Scalar.subi arg2 c0_i32
  let c1_i32 : BitVec 32 := 1#32
  let v138 : BitVec 32 := Scalar.divsi v136 c1_i32
  let v139 : BitVec 32 := Scalar.muli v138 c1_i32
  let v140 : BitVec 32 := Scalar.addi c0_i32 v139
  let c1_i32_52 : BitVec 32 := 1#32
  let arg8 : BitVec 32 := Scf.iv v140 c1_i32_52 k0_t2
  let c256_i32_158 : BitVec 32 := 256#32
  let v449 : BitVec 32 := Scalar.muli arg8 c256_i32_158
  let v450 : BitVec 32 := v449
  let v581 : Index := Scalar.indexCast v450
  ![0, 4, 0, v581.toNat]
def k0_off35 (i : grid0.Coords) (k0_t2 : Fin (k0_t2_loop i).trips) : Fin 2 → Nat :=
  let c0_i32 : BitVec 32 := 0#32
  let arg2 : BitVec 32 := BitVec.ofNat 32 (i 2).val
  let v136 : BitVec 32 := Scalar.subi arg2 c0_i32
  let c1_i32 : BitVec 32 := 1#32
  let v138 : BitVec 32 := Scalar.divsi v136 c1_i32
  let v139 : BitVec 32 := Scalar.muli v138 c1_i32
  let v140 : BitVec 32 := Scalar.addi c0_i32 v139
  let c1_i32_52 : BitVec 32 := 1#32
  let arg8 : BitVec 32 := Scf.iv v140 c1_i32_52 k0_t2
  let c256_i32_158 : BitVec 32 := 256#32
  let v449 : BitVec 32 := Scalar.muli arg8 c256_i32_158
  let v450 : BitVec 32 := v449
  let v606 : Index := Scalar.indexCast v450
  let c640_204 : Index := 640#32
  ![v606.toNat, 640]
def k0_off36 (i : grid0.Coords) (k0_t2 : Fin (k0_t2_loop i).trips) : Fin 4 → Nat :=
  let c0_206 : Index := 0#32
  let c5_207 : Index := 5#32
  let c0_208 : Index := 0#32
  let c0_i32 : BitVec 32 := 0#32
  let arg2 : BitVec 32 := BitVec.ofNat 32 (i 2).val
  let v136 : BitVec 32 := Scalar.subi arg2 c0_i32
  let c1_i32 : BitVec 32 := 1#32
  let v138 : BitVec 32 := Scalar.divsi v136 c1_i32
  let v139 : BitVec 32 := Scalar.muli v138 c1_i32
  let v140 : BitVec 32 := Scalar.addi c0_i32 v139
  let c1_i32_52 : BitVec 32 := 1#32
  let arg8 : BitVec 32 := Scf.iv v140 c1_i32_52 k0_t2
  let c256_i32_158 : BitVec 32 := 256#32
  let v449 : BitVec 32 := Scalar.muli arg8 c256_i32_158
  let v450 : BitVec 32 := v449
  let v612 : Index := Scalar.indexCast v450
  ![0, 5, 0, v612.toNat]
def k0_off37 (i : grid0.Coords) (k0_t2 : Fin (k0_t2_loop i).trips) : Fin 2 → Nat :=
  let c0_i32 : BitVec 32 := 0#32
  let arg2 : BitVec 32 := BitVec.ofNat 32 (i 2).val
  let v136 : BitVec 32 := Scalar.subi arg2 c0_i32
  let c1_i32 : BitVec 32 := 1#32
  let v138 : BitVec 32 := Scalar.divsi v136 c1_i32
  let v139 : BitVec 32 := Scalar.muli v138 c1_i32
  let v140 : BitVec 32 := Scalar.addi c0_i32 v139
  let c1_i32_52 : BitVec 32 := 1#32
  let arg8 : BitVec 32 := Scf.iv v140 c1_i32_52 k0_t2
  let c256_i32_158 : BitVec 32 := 256#32
  let v449 : BitVec 32 := Scalar.muli arg8 c256_i32_158
  let v450 : BitVec 32 := v449
  let v637 : Index := Scalar.indexCast v450
  let c768_213 : Index := 768#32
  ![v637.toNat, 768]
def k0_off38 (i : grid0.Coords) (k0_t2 : Fin (k0_t2_loop i).trips) : Fin 4 → Nat :=
  let c0_215 : Index := 0#32
  let c6_216 : Index := 6#32
  let c0_217 : Index := 0#32
  let c0_i32 : BitVec 32 := 0#32
  let arg2 : BitVec 32 := BitVec.ofNat 32 (i 2).val
  let v136 : BitVec 32 := Scalar.subi arg2 c0_i32
  let c1_i32 : BitVec 32 := 1#32
  let v138 : BitVec 32 := Scalar.divsi v136 c1_i32
  let v139 : BitVec 32 := Scalar.muli v138 c1_i32
  let v140 : BitVec 32 := Scalar.addi c0_i32 v139
  let c1_i32_52 : BitVec 32 := 1#32
  let arg8 : BitVec 32 := Scf.iv v140 c1_i32_52 k0_t2
  let c256_i32_158 : BitVec 32 := 256#32
  let v449 : BitVec 32 := Scalar.muli arg8 c256_i32_158
  let v450 : BitVec 32 := v449
  let v643 : Index := Scalar.indexCast v450
  ![0, 6, 0, v643.toNat]
def k0_off39 (i : grid0.Coords) (k0_t2 : Fin (k0_t2_loop i).trips) : Fin 2 → Nat :=
  let c0_i32 : BitVec 32 := 0#32
  let arg2 : BitVec 32 := BitVec.ofNat 32 (i 2).val
  let v136 : BitVec 32 := Scalar.subi arg2 c0_i32
  let c1_i32 : BitVec 32 := 1#32
  let v138 : BitVec 32 := Scalar.divsi v136 c1_i32
  let v139 : BitVec 32 := Scalar.muli v138 c1_i32
  let v140 : BitVec 32 := Scalar.addi c0_i32 v139
  let c1_i32_52 : BitVec 32 := 1#32
  let arg8 : BitVec 32 := Scf.iv v140 c1_i32_52 k0_t2
  let c256_i32_158 : BitVec 32 := 256#32
  let v449 : BitVec 32 := Scalar.muli arg8 c256_i32_158
  let v450 : BitVec 32 := v449
  let v668 : Index := Scalar.indexCast v450
  let c896_222 : Index := 896#32
  ![v668.toNat, 896]
def k0_off40 (i : grid0.Coords) (k0_t2 : Fin (k0_t2_loop i).trips) : Fin 4 → Nat :=
  let c0_224 : Index := 0#32
  let c7_225 : Index := 7#32
  let c0_226 : Index := 0#32
  let c0_i32 : BitVec 32 := 0#32
  let arg2 : BitVec 32 := BitVec.ofNat 32 (i 2).val
  let v136 : BitVec 32 := Scalar.subi arg2 c0_i32
  let c1_i32 : BitVec 32 := 1#32
  let v138 : BitVec 32 := Scalar.divsi v136 c1_i32
  let v139 : BitVec 32 := Scalar.muli v138 c1_i32
  let v140 : BitVec 32 := Scalar.addi c0_i32 v139
  let c1_i32_52 : BitVec 32 := 1#32
  let arg8 : BitVec 32 := Scf.iv v140 c1_i32_52 k0_t2
  let c256_i32_158 : BitVec 32 := 256#32
  let v449 : BitVec 32 := Scalar.muli arg8 c256_i32_158
  let v450 : BitVec 32 := v449
  let v674 : Index := Scalar.indexCast v450
  ![0, 7, 0, v674.toNat]
def k0_mult4 (i : grid0.Coords) : BitVec 32 :=
  let arg2 : BitVec 32 := BitVec.ofNat 32 (i 2).val
  let c256_i32_53 : BitVec 32 := 256#32
  let v143 : BitVec 32 := Scalar.muli arg2 c256_i32_53
  v143
def k0_off41 (i : grid0.Coords) : Fin 2 → Nat :=
  let arg2 : BitVec 32 := BitVec.ofNat 32 (i 2).val
  let c256_i32_53 : BitVec 32 := 256#32
  let v143 : BitVec 32 := Scalar.muli arg2 c256_i32_53
  let v144 : BitVec 32 := v143
  let v145 : Index := Scalar.indexCast v144
  let c0_54 : Index := 0#32
  ![v145.toNat, 0]
def k0_off42 (i : grid0.Coords) : Fin 2 → Nat :=
  let arg2 : BitVec 32 := BitVec.ofNat 32 (i 2).val
  let c256_i32_53 : BitVec 32 := 256#32
  let v143 : BitVec 32 := Scalar.muli arg2 c256_i32_53
  let v144 : BitVec 32 := v143
  let v180 : Index := Scalar.indexCast v144
  let c128_65 : Index := 128#32
  ![v180.toNat, 128]
def k0_off43 (i : grid0.Coords) : Fin 2 → Nat :=
  let arg2 : BitVec 32 := BitVec.ofNat 32 (i 2).val
  let c256_i32_53 : BitVec 32 := 256#32
  let v143 : BitVec 32 := Scalar.muli arg2 c256_i32_53
  let v144 : BitVec 32 := v143
  let v215 : Index := Scalar.indexCast v144
  let c256_76 : Index := 256#32
  ![v215.toNat, 256]
def k0_off44 (i : grid0.Coords) : Fin 2 → Nat :=
  let arg2 : BitVec 32 := BitVec.ofNat 32 (i 2).val
  let c256_i32_53 : BitVec 32 := 256#32
  let v143 : BitVec 32 := Scalar.muli arg2 c256_i32_53
  let v144 : BitVec 32 := v143
  let v250 : Index := Scalar.indexCast v144
  let c384_87 : Index := 384#32
  ![v250.toNat, 384]
def k0_off45 (i : grid0.Coords) : Fin 2 → Nat :=
  let arg2 : BitVec 32 := BitVec.ofNat 32 (i 2).val
  let c256_i32_53 : BitVec 32 := 256#32
  let v143 : BitVec 32 := Scalar.muli arg2 c256_i32_53
  let v144 : BitVec 32 := v143
  let v285 : Index := Scalar.indexCast v144
  let c512_98 : Index := 512#32
  ![v285.toNat, 512]
def k0_off46 (i : grid0.Coords) : Fin 2 → Nat :=
  let arg2 : BitVec 32 := BitVec.ofNat 32 (i 2).val
  let c256_i32_53 : BitVec 32 := 256#32
  let v143 : BitVec 32 := Scalar.muli arg2 c256_i32_53
  let v144 : BitVec 32 := v143
  let v320 : Index := Scalar.indexCast v144
  let c640_109 : Index := 640#32
  ![v320.toNat, 640]
def k0_off47 (i : grid0.Coords) : Fin 2 → Nat :=
  let arg2 : BitVec 32 := BitVec.ofNat 32 (i 2).val
  let c256_i32_53 : BitVec 32 := 256#32
  let v143 : BitVec 32 := Scalar.muli arg2 c256_i32_53
  let v144 : BitVec 32 := v143
  let v355 : Index := Scalar.indexCast v144
  let c768_120 : Index := 768#32
  ![v355.toNat, 768]
def k0_off48 (i : grid0.Coords) : Fin 2 → Nat :=
  let arg2 : BitVec 32 := BitVec.ofNat 32 (i 2).val
  let c256_i32_53 : BitVec 32 := 256#32
  let v143 : BitVec 32 := Scalar.muli arg2 c256_i32_53
  let v144 : BitVec 32 := v143
  let v390 : Index := Scalar.indexCast v144
  let c896_131 : Index := 896#32
  ![v390.toNat, 896]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8192x1024 : Shape := ⟨2, ![8192, 1024]⟩
abbrev S4x8x2048 : Shape := ⟨3, ![4, 8, 2048]⟩
abbrev S4x2048x8x128 : Shape := ⟨4, ![4, 2048, 8, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S4x8x2048x2048 : Shape := ⟨4, ![4, 8, 2048, 2048]⟩
abbrev S4x8x2048x1 : Shape := ⟨4, ![4, 8, 2048, 1]⟩
abbrev S4x8x1x2048 : Shape := ⟨4, ![4, 8, 1, 2048]⟩
abbrev S4x8x128x2048 : Shape := ⟨4, ![4, 8, 128, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x8x2048, .f32⟩
  | .hbm, ⟨4, _⟩ => ⟨S4x2048x8x128, .f32⟩
  | .hbm, ⟨5, _⟩ => ⟨S4x2048x8x128, .f32⟩
  | .hbm, ⟨6, _⟩ => ⟨S4x2048x8x128, .f32⟩
  | .hbm, ⟨7, _⟩ => ⟨S2048, .i32⟩
  | .hbm, ⟨8, _⟩ => ⟨S2048x1, .i32⟩
  | .hbm, ⟨9, _⟩ => ⟨S1x2048, .i32⟩
  | .hbm, ⟨10, _⟩ => ⟨S2048x2048, .i32⟩
  | .hbm, ⟨11, _⟩ => ⟨S2048x2048, .i32⟩
  | .hbm, ⟨12, _⟩ => ⟨S2048x2048, .i32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .i1⟩
  | .hbm, ⟨17, _⟩ => ⟨S4x8x2048x2048, .f32⟩
  | .hbm, ⟨18, _⟩ => ⟨S_, .f32⟩
  | .hbm, ⟨19, _⟩ => ⟨S4x8x2048x2048, .f32⟩
  | .hbm, ⟨20, _⟩ => ⟨S4x8x2048x2048, .f32⟩
  | .hbm, ⟨21, _⟩ => ⟨S4x8x2048x1, .f32⟩
  | .hbm, ⟨22, _⟩ => ⟨S4x8x2048x2048, .f32⟩
  | .hbm, ⟨23, _⟩ => ⟨S4x8x2048x2048, .f32⟩
  | .hbm, ⟨24, _⟩ => ⟨S4x8x1x2048, .f32⟩
  | .hbm, ⟨25, _⟩ => ⟨S4x8x2048x2048, .f32⟩
  | .hbm, ⟨26, _⟩ => ⟨S4x8x2048x2048, .f32⟩
  | .hbm, ⟨27, _⟩ => ⟨S_, .f32⟩
  | .hbm, ⟨28, _⟩ => ⟨S_, .f32⟩
  | .hbm, ⟨29, _⟩ => ⟨S4x8x2048x2048, .i1⟩
  | .hbm, ⟨30, _⟩ => ⟨S4x8x2048x2048, .f32⟩
  | .hbm, ⟨31, _⟩ => ⟨S4x8x2048x2048, .f32⟩
  | .hbm, ⟨32, _⟩ => ⟨S_, .f32⟩
  | .hbm, ⟨33, _⟩ => ⟨S4x8x2048, .f32⟩
  | .hbm, ⟨34, _⟩ => ⟨S_, .f32⟩
  | .hbm, ⟨35, _⟩ => ⟨S4x8x2048, .f32⟩
  | .hbm, ⟨36, _⟩ => ⟨S4x8x2048, .f32⟩
  | .hbm, ⟨37, _⟩ => ⟨S4x8x2048x1, .f32⟩
  | .hbm, ⟨38, _⟩ => ⟨S4x8x2048x2048, .f32⟩
  | .hbm, ⟨39, _⟩ => ⟨S4x8x2048x2048, .f32⟩
  | .hbm, ⟨40, _⟩ => ⟨S4x8x2048x2048, .f32⟩
  | .hbm, ⟨41, _⟩ => ⟨S_, .f32⟩
  | .hbm, ⟨42, _⟩ => ⟨S4x8x2048, .f32⟩
  | .hbm, ⟨43, _⟩ => ⟨S4x8x2048x1, .f32⟩
  | .hbm, ⟨44, _⟩ => ⟨S4x8x2048x2048, .f32⟩
  | .hbm, ⟨45, _⟩ => ⟨S4x8x2048x2048, .f32⟩
  | .hbm, ⟨46, _⟩ => ⟨S4x8x128x2048, .f32⟩
  | .hbm, ⟨47, _⟩ => ⟨S4x2048x8x128, .f32⟩
  | .hbm, ⟨48, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Proj.lean ====
abbrev S4x2048x2048 : Shape := ⟨3, ![4, 2048, 2048]⟩
abbrev S1x2048 : Shape := ⟨2, ![1, 2048]⟩
abbrev S1x2048x6152 : Shape := ⟨3, ![1, 2048, 6152]⟩
abbrev S1x8 : Shape := ⟨2, ![1, 8]⟩
abbrev S1x2048x6144 : Shape := ⟨3, ![1, 2048, 6144]⟩
abbrev S2048x6144 : Shape := ⟨2, ![2048, 6144]⟩
abbrev S1x2048x8 : Shape := ⟨3, ![1, 2048, 8]⟩
abbrev S2048x8 : Shape := ⟨2, ![2048, 8]⟩
abbrev S_ : Shape := ⟨0, ![]⟩
abbrev S2048x128 : Shape := ⟨2, ![2048, 128]⟩
abbrev S8192x2048 : Shape := ⟨2, ![8192, 2048]⟩
abbrev S128 : Shape := ⟨1, ![128]⟩
abbrev S8 : Shape := ⟨1, ![8]⟩
abbrev S1 : Shape := ⟨1, ![1]⟩
abbrev S2048 : Shape := ⟨1, ![2048]⟩
abbrev S1x128 : Shape := ⟨2, ![1, 128]⟩
abbrev S8192x1024 : Shape := ⟨2, ![8192, 1024]⟩
abbrev S8192x128 : Shape := ⟨2, ![8192, 128]⟩
abbrev S256x2048 : Shape := ⟨2, ![256, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S2048x1024 : Shape := ⟨2, ![2048, 1024]⟩
abbrev S8192x8 : Shape := ⟨2, ![8192, 8]⟩

abbrev nBuf : Space → Nat
  | .hbm => 31
  | .vmem => 20
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x6152, .f32⟩
  | .hbm, ⟨3, _⟩ => ⟨S1x8, .f32⟩
  | .hbm, ⟨4, _⟩ => ⟨S1x2048x6144, .f32⟩
  | .hbm, ⟨5, _⟩ => ⟨S2048x6144, .f32⟩
  | .hbm, ⟨6, _⟩ => ⟨S2048x6144, .bf16⟩
  | .hbm, ⟨7, _⟩ => ⟨S1x2048x8, .f32⟩
  | .hbm, ⟨8, _⟩ => ⟨S2048x8, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S8192x2048, .f32⟩
  | .hbm, ⟨14, _⟩ => ⟨S_, .f32⟩
  | .hbm, ⟨15, _⟩ => ⟨S128, .f32⟩
  | .hbm, ⟨16, _⟩ => ⟨S8, .f32⟩
  | .hbm, ⟨17, _⟩ => ⟨S_, .i32⟩
  | .hbm, ⟨18, _⟩ => ⟨S1, .i32⟩
  | .hbm, ⟨19, _⟩ => ⟨S128, .f32⟩
  | .hbm, ⟨20, _⟩ => ⟨S2048, .f32⟩
  | .hbm, ⟨21, _⟩ => ⟨S1x2048, .f32⟩
  | .hbm, ⟨22, _⟩ => ⟨S1x128, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x128, .f32⟩
  | .hbm, ⟨30, _⟩ => ⟨S8192x8, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x6144, .bf16⟩
  | .local _ .vmem, ⟨4, _⟩ => ⟨S2048x128, .bf16⟩
  | .local _ .vmem, ⟨5, _⟩ => ⟨S1x128, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x128, .f32⟩
  | .local _ .vmem, ⟨19, _⟩ => ⟨S256x128, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev main_v15_4 : Ref sig .tc := ⟨.hbm, 27, rfl⟩
abbrev main_v15_5 : Ref sig .tc := ⟨.hbm, 28, rfl⟩
abbrev main_v15_6 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RefProjIdeal.lean ====
abbrev S4x2048x2048 : Shape := ⟨3, ![4, 2048, 2048]⟩
abbrev S1x2048 : Shape := ⟨2, ![1, 2048]⟩
abbrev S1x2048x6152 : Shape := ⟨3, ![1, 2048, 6152]⟩
abbrev S1x8 : Shape := ⟨2, ![1, 8]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x6152 : Shape := ⟨2, ![2048, 6152]⟩
abbrev S4x2048x6152 : Shape := ⟨3, ![4, 2048, 6152]⟩
abbrev S4x2048x1024 : Shape := ⟨3, ![4, 2048, 1024]⟩
abbrev S8192x1024 : Shape := ⟨2, ![8192, 1024]⟩
abbrev S4x2048x8 : Shape := ⟨3, ![4, 2048, 8]⟩
abbrev S8192x8 : Shape := ⟨2, ![8192, 8]⟩
abbrev S8 : Shape := ⟨1, ![8]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x6152, .f32⟩
  | .hbm, ⟨3, _⟩ => ⟨S1x8, .f32⟩
  | .hbm, ⟨4, _⟩ => ⟨S2048, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S2048x6152, .f32⟩
  | .hbm, ⟨22, _⟩ => ⟨S4x2048x6152, .f32⟩
  | .hbm, ⟨23, _⟩ => ⟨S4x2048x1024, .f32⟩
  | .hbm, ⟨24, _⟩ => ⟨S8192x1024, .f32⟩
  | .hbm, ⟨25, _⟩ => ⟨S4x2048x1024, .f32⟩
  | .hbm, ⟨26, _⟩ => ⟨S8192x1024, .f32⟩
  | .hbm, ⟨27, _⟩ => ⟨S4x2048x1024, .f32⟩
  | .hbm, ⟨28, _⟩ => ⟨S8192x1024, .f32⟩
  | .hbm, ⟨29, _⟩ => ⟨S4x2048x1024, .f32⟩
  | .hbm, ⟨30, _⟩ => ⟨S8192x1024, .f32⟩
  | .hbm, ⟨31, _⟩ => ⟨S4x2048x1024, .f32⟩
  | .hbm, ⟨32, _⟩ => ⟨S8192x1024, .f32⟩
  | .hbm, ⟨33, _⟩ => ⟨S4x2048x1024, .f32⟩
  | .hbm, ⟨34, _⟩ => ⟨S8192x1024, .f32⟩
  | .hbm, ⟨35, _⟩ => ⟨S4x2048x8, .f32⟩
  | .hbm, ⟨36, _⟩ => ⟨S8192x8, .f32⟩
  | .hbm, ⟨37, _⟩ => ⟨S8, .f32⟩
  | .hbm, ⟨38, _⟩ => ⟨S1x8, .f32⟩
  | .hbm, ⟨39, _⟩ => ⟨S8192x8, .f32⟩
  | .hbm, ⟨40, _⟩ => ⟨S8192x8, .f32⟩
  | .hbm, ⟨41, _⟩ => ⟨S8192x8, .f32⟩
  | .hbm, ⟨42, _⟩ => ⟨S_, .f32⟩
  | .hbm, ⟨43, _⟩ => ⟨S8192x8, .f32⟩
  | .hbm, ⟨44, _⟩ => ⟨S8192x8, .f32⟩
  | .hbm, ⟨45, _⟩ => ⟨S8192x8, .f32⟩
  | .hbm, ⟨46, _⟩ => ⟨S8192x8, .f32⟩
  | .hbm, ⟨47, _⟩ => ⟨S8192x8, .i1⟩
  | .hbm, ⟨48, _⟩ => ⟨S8192x8, .f32⟩
  | .hbm, ⟨49, _⟩ => ⟨S8192x8, .f32⟩
  | .hbm, ⟨50, _⟩ => ⟨S8192x8, .f32⟩
  | .hbm, ⟨51, _⟩ => ⟨S8192x8, .f32⟩
  | .hbm, ⟨52, _⟩ => ⟨S8192x8, .f32⟩
  | .hbm, ⟨53, _⟩ => ⟨S8192x8, .f32⟩
  | .hbm, ⟨54, _⟩ => ⟨S8192x8, .f32⟩
  | .hbm, ⟨55, _⟩ => ⟨S8192x8, .f32⟩
  | .hbm, ⟨56, _⟩ => ⟨S8192x8, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call0_v0 : Ref sig .tc := ⟨.hbm, 41, rfl⟩
abbrev main_call0_call0_cst : Ref sig .tc := ⟨.hbm, 42, rfl⟩
abbrev main_call0_call0_v0 : Ref sig .tc := ⟨.hbm, 43, rfl⟩
abbrev main_call0_call0_v1 : Ref sig .tc := ⟨.hbm, 44, rfl⟩
abbrev main_call0_call0_v2 : Ref sig .tc := ⟨.hbm, 45, rfl⟩
abbrev main_call0_call0_v3 : Ref sig .tc := ⟨.hbm, 46, rfl⟩
abbrev main_call0_call0_v4 : Ref sig .tc := ⟨.hbm, 47, rfl⟩
abbrev main_call0_call0_v5 : Ref sig .tc := ⟨.hbm, 48, rfl⟩
abbrev main_call0_call0_v6 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_v1 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Sample.lean ====
abbrev S32x8x2048 : Shape := ⟨3, ![32, 8, 2048]⟩
abbrev S1x2048 : Shape := ⟨2, ![1, 2048]⟩
abbrev S1x2048x6152 : Shape := ⟨3, ![1, 2048, 6152]⟩
abbrev S1x8 : Shape := ⟨2, ![1, 8]⟩
abbrev S1x2048x6144 : Shape := ⟨3, ![1, 2048, 6144]⟩
abbrev S2048x6144 : Shape := ⟨2, ![2048, 6144]⟩
abbrev S1x2048x8 : Shape := ⟨3, ![1, 2048, 8]⟩
abbrev S2048x8 : Shape := ⟨2, ![2048, 8]⟩
abbrev S_ : Shape := ⟨0, ![]⟩
abbrev S2048x128 : Shape := ⟨2, ![2048, 128]⟩
abbrev S256x2048 : Shape := ⟨2, ![256, 2048]⟩
abbrev S128 : Shape := ⟨1, ![128]⟩
abbrev S8 : Shape := ⟨1, ![8]⟩
abbrev S1 : Shape := ⟨1, ![1]⟩
abbrev S2048 : Shape := ⟨1, ![2048]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S2048x1024 : Shape := ⟨2, ![2048, 1024]⟩
abbrev S256x8 : Shape := ⟨2, ![256, 8]⟩

abbrev nBuf : Space → Nat
  | .hbm => 31
  | .vmem => 12
  | .smem => 0
  | _ => 0

abbrev bufTy : (tb : Table) → Fin (tcTables nBuf tb) → BufTy
  | .hbm, ⟨0, _⟩ => ⟨S32x8x2048, .f32⟩
  | .hbm, ⟨1, _⟩ => ⟨S1x2048, .f32⟩
  | .hbm, ⟨2, _⟩ => ⟨S1x2048x6152, .f32⟩
  | .hbm, ⟨3, _⟩ => ⟨S1x8, .f32⟩
  | .hbm, ⟨4, _⟩ => ⟨S1x2048x6144, .f32⟩
  | .hbm, ⟨5, _⟩ => ⟨S2048x6144, .f32⟩
  | .hbm, ⟨6, _⟩ => ⟨S2048x6144, .bf16⟩
  | .hbm, ⟨7, _⟩ => ⟨S1x2048x8, .f32⟩
  | .hbm, ⟨8, _⟩ => ⟨S2048x8, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S256x2048, .f32⟩
  | .hbm, ⟨14, _⟩ => ⟨S_, .f32⟩
  | .hbm, ⟨15, _⟩ => ⟨S128, .f32⟩
  | .hbm, ⟨16, _⟩ => ⟨S8, .f32⟩
  | .hbm, ⟨17, _⟩ => ⟨S_, .i32⟩
  | .hbm, ⟨18, _⟩ => ⟨S1, .i32⟩
  | .hbm, ⟨19, _⟩ => ⟨S128, .f32⟩
  | .hbm, ⟨20, _⟩ => ⟨S2048, .f32⟩
  | .hbm, ⟨21, _⟩ => ⟨S1x2048, .f32⟩
  | .hbm, ⟨22, _⟩ => ⟨S1x128, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S256x128, .f32⟩
  | .hbm, ⟨30, _⟩ => ⟨S256x8, .f32⟩
  | .local _ .vmem, ⟨0, _⟩ => ⟨S256x2048, .f32⟩
  | .local _ .vmem, ⟨1, _⟩ => ⟨S1x2048, .f32⟩
  | .local _ .vmem, ⟨2, _⟩ => ⟨S2048x6144, .bf16⟩
  | .local _ .vmem, ⟨3, _⟩ => ⟨S2048x128, .bf16⟩
  | .local _ .vmem, ⟨4, _⟩ => ⟨S1x128, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x128, .f32⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev main_v15_4 : Ref sig .tc := ⟨.hbm, 27, rfl⟩
abbrev main_v15_5 : Ref sig .tc := ⟨.hbm, 28, rfl⟩
abbrev main_v15_6 : Ref sig .tc := ⟨.hbm, 29, rfl⟩
abbrev main_v16 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== RefSampleIdeal.lean ====
abbrev S32x8x2048 : Shape := ⟨3, ![32, 8, 2048]⟩
abbrev S1x2048 : Shape := ⟨2, ![1, 2048]⟩
abbrev S1x2048x6152 : Shape := ⟨3, ![1, 2048, 6152]⟩
abbrev S1x8 : Shape := ⟨2, ![1, 8]⟩
abbrev S2048 : Shape := ⟨1, ![2048]⟩
abbrev S_ : Shape := ⟨0, ![]⟩
abbrev S32x8 : Shape := ⟨2, ![32, 8]⟩
abbrev S32x8x1 : Shape := ⟨3, ![32, 8, 1]⟩
abbrev S1x1x2048 : Shape := ⟨3, ![1, 1, 2048]⟩
abbrev S2048x6152 : Shape := ⟨2, ![2048, 6152]⟩
abbrev S32x8x6152 : Shape := ⟨3, ![32, 8, 6152]⟩
abbrev S32x8x1024 : Shape := ⟨3, ![32, 8, 1024]⟩
abbrev S256x1024 : Shape := ⟨2, ![256, 1024]⟩
abbrev S32x8x8 : Shape := ⟨3, ![32, 8, 8]⟩
abbrev S256x8 : Shape := ⟨2, ![256, 8]⟩
abbrev S8 : Shape := ⟨1, ![8]⟩

abbrev nBuf : Space → Nat
  | .hbm => 57
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S1x2048, .f32⟩
  | .hbm, ⟨2, _⟩ => ⟨S1x2048x6152, .f32⟩
  | .hbm, ⟨3, _⟩ => ⟨S1x8, .f32⟩
  | .hbm, ⟨4, _⟩ => ⟨S2048, .f32⟩
  | .hbm, ⟨5, _⟩ => ⟨S32x8x2048, .f32⟩
  | .hbm, ⟨6, _⟩ => ⟨S_, .f32⟩
  | .hbm, ⟨7, _⟩ => ⟨S32x8, .f32⟩
  | .hbm, ⟨8, _⟩ => ⟨S32x8x1, .f32⟩
  | .hbm, ⟨9, _⟩ => ⟨S_, .f32⟩
  | .hbm, ⟨10, _⟩ => ⟨S32x8x1, .f32⟩
  | .hbm, ⟨11, _⟩ => ⟨S32x8x1, .f32⟩
  | .hbm, ⟨12, _⟩ => ⟨S_, .f32⟩
  | .hbm, ⟨13, _⟩ => ⟨S32x8x1, .f32⟩
  | .hbm, ⟨14, _⟩ => ⟨S32x8x1, .f32⟩
  | .hbm, ⟨15, _⟩ => ⟨S32x8x1, .f32⟩
  | .hbm, ⟨16, _⟩ => ⟨S32x8x2048, .f32⟩
  | .hbm, ⟨17, _⟩ => ⟨S32x8x2048, .f32⟩
  | .hbm, ⟨18, _⟩ => ⟨S1x1x2048, .f32⟩
  | .hbm, ⟨19, _⟩ => ⟨S32x8x2048, .f32⟩
  | .hbm, ⟨20, _⟩ => ⟨S32x8x2048, .f32⟩
  | .hbm, ⟨21, _⟩ => ⟨S2048x6152, .f32⟩
  | .hbm, ⟨22, _⟩ => ⟨S32x8x6152, .f32⟩
  | .hbm, ⟨23, _⟩ => ⟨S32x8x1024, .f32⟩
  | .hbm, ⟨24, _⟩ => ⟨S256x1024, .f32⟩
  | .hbm, ⟨25, _⟩ => ⟨S32x8x1024, .f32⟩
  | .hbm, ⟨26, _⟩ => ⟨S256x1024, .f32⟩
  | .hbm, ⟨27, _⟩ => ⟨S32x8x1024, .f32⟩
  | .hbm, ⟨28, _⟩ => ⟨S256x1024, .f32⟩
  | .hbm, ⟨29, _⟩ => ⟨S32x8x1024, .f32⟩
  | .hbm, ⟨30, _⟩ => ⟨S256x1024, .f32⟩
  | .hbm, ⟨31, _⟩ => ⟨S32x8x1024, .f32⟩
  | .hbm, ⟨32, _⟩ => ⟨S256x1024, .f32⟩
  | .hbm, ⟨33, _⟩ => ⟨S32x8x1024, .f32⟩
  | .hbm, ⟨34, _⟩ => ⟨S256x1024, .f32⟩
  | .hbm, ⟨35, _⟩ => ⟨S32x8x8, .f32⟩
  | .hbm, ⟨36, _⟩ => ⟨S256x8, .f32⟩
  | .hbm, ⟨37, _⟩ => ⟨S8, .f32⟩
  | .hbm, ⟨38, _⟩ => ⟨S1x8, .f32⟩
  | .hbm, ⟨39, _⟩ => ⟨S256x8, .f32⟩
  | .hbm, ⟨40, _⟩ => ⟨S256x8, .f32⟩
  | .hbm, ⟨41, _⟩ => ⟨S256x8, .f32⟩
  | .hbm, ⟨42, _⟩ => ⟨S_, .f32⟩
  | .hbm, ⟨43, _⟩ => ⟨S256x8, .f32⟩
  | .hbm, ⟨44, _⟩ => ⟨S256x8, .f32⟩
  | .hbm, ⟨45, _⟩ => ⟨S256x8, .f32⟩
  | .hbm, ⟨46, _⟩ => ⟨S256x8, .f32⟩
  | .hbm, ⟨47, _⟩ => ⟨S256x8, .i1⟩
  | .hbm, ⟨48, _⟩ => ⟨S256x8, .f32⟩
  | .hbm, ⟨49, _⟩ => ⟨S256x8, .f32⟩
  | .hbm, ⟨50, _⟩ => ⟨S256x8, .f32⟩
  | .hbm, ⟨51, _⟩ => ⟨S256x8, .f32⟩
  | .hbm, ⟨52, _⟩ => ⟨S256x8, .f32⟩
  | .hbm, ⟨53, _⟩ => ⟨S256x8, .f32⟩
  | .hbm, ⟨54, _⟩ => ⟨S256x8, .f32⟩
  | .hbm, ⟨55, _⟩ => ⟨S256x8, .f32⟩
  | .hbm, ⟨56, _⟩ => ⟨S256x8, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call0_v0 : Ref sig .tc := ⟨.hbm, 41, rfl⟩
abbrev main_call0_call0_cst : Ref sig .tc := ⟨.hbm, 42, rfl⟩
abbrev main_call0_call0_v0 : Ref sig .tc := ⟨.hbm, 43, rfl⟩
abbrev main_call0_call0_v1 : Ref sig .tc := ⟨.hbm, 44, rfl⟩
abbrev main_call0_call0_v2 : Ref sig .tc := ⟨.hbm, 45, rfl⟩
abbrev main_call0_call0_v3 : Ref sig .tc := ⟨.hbm, 46, rfl⟩
abbrev main_call0_call0_v4 : Ref sig .tc := ⟨.hbm, 47, rfl⟩
abbrev main_call0_call0_v5 : Ref sig .tc := ⟨.hbm, 48, rfl⟩
abbrev main_call0_call0_v6 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_v1 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Mem.lean ====
abbrev S4x256x2048 : Shape := ⟨3, ![4, 256, 2048]⟩
abbrev S1x2048x2048 : Shape := ⟨3, ![1, 2048, 2048]⟩
abbrev S1024x2048 : Shape := ⟨2, ![1024, 2048]⟩
abbrev S2048x2048 : Shape := ⟨2, ![2048, 2048]⟩
abbrev S512x2048 : Shape := ⟨2, ![512, 2048]⟩

abbrev nBuf : Space → Nat
  | .hbm => 6
  | .vmem => 5
  | .smem => 0
  | _ => 0

abbrev bufTy : (tb : Table) → Fin (tcTables nBuf tb) → BufTy
  | .hbm, ⟨0, _⟩ => ⟨S4x256x2048, .f32⟩
  | .hbm, ⟨1, _⟩ => ⟨S1x2048x2048, .f32⟩
  | .hbm, ⟨2, _⟩ => ⟨S1024x2048, .f32⟩
  | .hbm, ⟨3, _⟩ => ⟨S2048x2048, .f32⟩
  | .hbm, ⟨4, _⟩ => ⟨S2048x2048, .bf16⟩
  | .hbm, ⟨5, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefMemIdeal.lean ====
abbrev S4x256x2048 : Shape := ⟨3, ![4, 256, 2048]⟩
abbrev S1x2048x2048 : Shape := ⟨3, ![1, 2048, 2048]⟩
abbrev S2048x2048 : Shape := ⟨2, ![2048, 2048]⟩
abbrev S1024x2048 : Shape := ⟨2, ![1024, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048x2048, .f32⟩
  | .hbm, ⟨2, _⟩ => ⟨S2048x2048, .f32⟩
  | .hbm, ⟨3, _⟩ => ⟨S4x256x2048, .f32⟩
  | .hbm, ⟨4, _⟩ => ⟨S1024x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Query.lean ====
abbrev S8192x2048 : Shape := ⟨2, ![8192, 2048]⟩
abbrev S1x2048x2048 : Shape := ⟨3, ![1, 2048, 2048]⟩
abbrev S2048x2048 : Shape := ⟨2, ![2048, 2048]⟩
abbrev S512x2048 : Shape := ⟨2, ![512, 2048]⟩

abbrev nBuf : Space → Nat
  | .hbm => 6
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048x2048, .f32⟩
  | .hbm, ⟨2, _⟩ => ⟨S8192x2048, .bf16⟩
  | .hbm, ⟨3, _⟩ => ⟨S2048x2048, .f32⟩
  | .hbm, ⟨4, _⟩ => ⟨S2048x2048, .bf16⟩
  | .hbm, ⟨5, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefQueryIdeal.lean ====
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x2048, .f32⟩
  | .hbm, ⟨2, _⟩ => ⟨S2048x2048, .f32⟩
  | .hbm, ⟨3, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Merge.lean ====
abbrev S4x2048x2048 : Shape := ⟨3, ![4, 2048, 2048]⟩
abbrev S8192x1024 : Shape := ⟨2, ![8192, 1024]⟩
abbrev S1x2048x2048 : Shape := ⟨3, ![1, 2048, 2048]⟩
abbrev S1x2048 : Shape := ⟨2, ![1, 2048]⟩
abbrev S1x1024x2048 : Shape := ⟨3, ![1, 1024, 2048]⟩
abbrev S1024x2048 : Shape := ⟨2, ![1024, 2048]⟩
abbrev S8192x2048 : Shape := ⟨2, ![8192, 2048]⟩
abbrev S2048 : Shape := ⟨1, ![2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 16
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S8192x1024, .f32⟩
  | .hbm, ⟨2, _⟩ => ⟨S8192x1024, .f32⟩
  | .hbm, ⟨3, _⟩ => ⟨S1x2048x2048, .f32⟩
  | .hbm, ⟨4, _⟩ => ⟨S1x2048, .f32⟩
  | .hbm, ⟨5, _⟩ => ⟨S1x1024x2048, .f32⟩
  | .hbm, ⟨6, _⟩ => ⟨S1024x2048, .f32⟩
  | .hbm, ⟨7, _⟩ => ⟨S1024x2048, .bf16⟩
  | .hbm, ⟨8, _⟩ => ⟨S1x1024x2048, .f32⟩
  | .hbm, ⟨9, _⟩ => ⟨S1024x2048, .f32⟩
  | .hbm, ⟨10, _⟩ => ⟨S1024x2048, .bf16⟩
  | .hbm, ⟨11, _⟩ => ⟨S8192x2048, .f32⟩
  | .hbm, ⟨12, _⟩ => ⟨S2048, .f32⟩
  | .hbm, ⟨13, _⟩ => ⟨S1x2048, .f32⟩
  | .hbm, ⟨14, _⟩ => ⟨S8192x2048, .f32⟩
  | .hbm, ⟨15, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefMergeIdeal.lean ====
abbrev S4x2048x2048 : Shape := ⟨3, ![4, 2048, 2048]⟩
abbrev S8192x1024 : Shape := ⟨2, ![8192, 1024]⟩
abbrev S1x2048x2048 : Shape := ⟨3, ![1, 2048, 2048]⟩
abbrev S1x2048 : Shape := ⟨2, ![1, 2048]⟩
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x1024, .f32⟩
  | .hbm, ⟨2, _⟩ => ⟨S8192x1024, .f32⟩
  | .hbm, ⟨3, _⟩ => ⟨S1x2048x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== MemOut.lean ====
abbrev S8192x2048 : Shape := ⟨2, ![8192, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S2048, .f32⟩
  | .hbm, ⟨7, _⟩ => ⟨S1x2048, .f32⟩
  | .hbm, ⟨8, _⟩ => ⟨S8192x2048, .f32⟩
  | .hbm, ⟨9, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefMemOutIdeal.lean ====
abbrev S8192x2048 : Shape := ⟨2, ![8192, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048x2048, .f32⟩
  | .hbm, ⟨3, _⟩ => ⟨S1x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Diff.lean ====
abbrev S8192x1024 : Shape := ⟨2, ![8192, 1024]⟩
abbrev S4 : Shape := ⟨1, ![4]⟩
abbrev S4x128 : Shape := ⟨2, ![4, 128]⟩
abbrev S4x256 : Shape := ⟨2, ![4, 256]⟩
abbrev S4x1x256 : Shape := ⟨3, ![4, 1, 256]⟩
abbrev S256x1024 : Shape := ⟨2, ![256, 1024]⟩
abbrev S2048x1024 : Shape := ⟨2, ![2048, 1024]⟩
abbrev S1x128 : Shape := ⟨2, ![1, 128]⟩
abbrev S1 : Shape := ⟨1, ![1]⟩
abbrev S1x1 : Shape := ⟨2, ![1, 1]⟩
abbrev S256x128 : Shape := ⟨2, ![256, 128]⟩
abbrev S256x256 : Shape := ⟨2, ![256, 256]⟩
abbrev S256x1 : Shape := ⟨2, ![256, 1]⟩
abbrev S256 : Shape := ⟨1, ![256]⟩
abbrev S1x1x256 : Shape := ⟨3, ![1, 1, 256]⟩
abbrev S1x256 : Shape := ⟨2, ![1, 256]⟩

abbrev nBuf : Space → Nat
  | .hbm => 8
  | .vmem => 10
  | .smem => 1
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4, .f32⟩
  | .hbm, ⟨4, _⟩ => ⟨S4x128, .f32⟩
  | .hbm, ⟨5, _⟩ => ⟨S4x256, .f32⟩
  | .hbm, ⟨6, _⟩ => ⟨S4x1x256, .f32⟩
  | .hbm, ⟨7, _⟩ => ⟨S8192x1024, .f32⟩
  | .local _ .vmem, ⟨0, _⟩ => ⟨S4x128, .f32⟩
  | .local _ .vmem, ⟨1, _⟩ => ⟨S256x1024, .f32⟩
  | .local _ .vmem, ⟨2, _⟩ => ⟨S256x1024, .f32⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | .local _ .vmem, ⟨7, _⟩ => ⟨S4x1x256, .f32⟩
  | .local _ .vmem, ⟨8, _⟩ => ⟨S256x1024, .f32⟩
  | .local _ .vmem, ⟨9, _⟩ => ⟨S256x1024, .f32⟩
  | .local _ .smem, ⟨0, _⟩ => ⟨S4, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 1, 8], ![false, false, false]⟩

def k0_off1 (i : grid0.Coords) (c0_i32 : BitVec 32) : Fin 1 → Nat :=
  let arg1 : BitVec 32 := BitVec.ofNat 32 (i 1).val
  let c4_i32 : BitVec 32 := 4#32
  let v48 : BitVec 32 := Scalar.muli arg1 c4_i32
  let v49 : BitVec 32 := Scalar.addi v48 c0_i32
  let v50 : Index := Scalar.indexCast v49
  ![v50.toNat]
@[reducible] def k0_t1_loop (i : grid0.Coords) : Scf.Loop 32 :=
  let c0_i32_26 : BitVec 32 := 0#32
  let arg2 : BitVec 32 := BitVec.ofNat 32 (i 2).val
  let v70 : BitVec 32 := Scalar.subi arg2 c0_i32_26
  let c1_i32_27 : BitVec 32 := 1#32
  let v72 : BitVec 32 := Scalar.divsi v70 c1_i32_27
  let v73 : BitVec 32 := Scalar.muli v72 c1_i32_27
  let v74 : BitVec 32 := Scalar.addi c0_i32_26 v73
  let c1_i32_28 : BitVec 32 := 1#32
  ⟨c0_i32_26, v74, c1_i32_28⟩
def k0_mult1 (i : grid0.Coords) (k0_t1 : Fin (k0_t1_loop i).trips) : BitVec 32 :=
  let c0_i32_26 : BitVec 32 := 0#32
  let c1_i32_28 : BitVec 32 := 1#32
  let arg10 : BitVec 32 := Scf.iv c0_i32_26 c1_i32_28 k0_t1
  let c256_i32_128 : BitVec 32 := 256#32
  let v412 : BitVec 32 := Scalar.muli arg10 c256_i32_128
  v412
def k0_off2 (i : grid0.Coords) (k0_t1 : Fin (k0_t1_loop i).trips) : Fin 2 → Nat :=
  let c0_i32_26 : BitVec 32 := 0#32
  let c1_i32_28 : BitVec 32 := 1#32
  let arg10 : BitVec 32 := Scf.iv c0_i32_26 c1_i32_28 k0_t1
  let c256_i32_128 : BitVec 32 := 256#32
  let v412 : BitVec 32 := Scalar.muli arg10 c256_i32_128
  let v413 : BitVec 32 := v412
  let v422 : Index := Scalar.indexCast v413
  let c0_131 : Index := 0#32
  ![v422.toNat, 0]
def k0_off3 (i : grid0.Coords) (k0_t1 : Fin (k0_t1_loop i).trips) : Fin 2 → Nat :=
  let c0_i32_26 : BitVec 32 := 0#32
  let c1_i32_28 : BitVec 32 := 1#32
  let arg10 : BitVec 32 := Scf.iv c0_i32_26 c1_i32_28 k0_t1
  let c256_i32_128 : BitVec 32 := 256#32
  let v412 : BitVec 32 := Scalar.muli arg10 c256_i32_128
  let v413 : BitVec 32 := v412
  let v425 : Index := Scalar.indexCast v413
  let c0_132 : Index := 0#32
  ![v425.toNat, 0]
def k0_off4 (i : grid0.Coords) (k0_t1 : Fin (k0_t1_loop i).trips) : Fin 2 → Nat :=
  let c0_i32_26 : BitVec 32 := 0#32
  let c1_i32_28 : BitVec 32 := 1#32
  let arg10 : BitVec 32 := Scf.iv c0_i32_26 c1_i32_28 k0_t1
  let c256_i32_128 : BitVec 32 := 256#32
  let v412 : BitVec 32 := Scalar.muli arg10 c256_i32_128
  let v413 : BitVec 32 := v412
  let v447 : Index := Scalar.indexCast v413
  let c128_137 : Index := 128#32
  ![v447.toNat, 128]
def k0_off5 (i : grid0.Coords) (k0_t1 : Fin (k0_t1_loop i).trips) : Fin 2 → Nat :=
  let c0_i32_26 : BitVec 32 := 0#32
  let c1_i32_28 : BitVec 32 := 1#32
  let arg10 : BitVec 32 := Scf.iv c0_i32_26 c1_i32_28 k0_t1
  let c256_i32_128 : BitVec 32 := 256#32
  let v412 : BitVec 32 := Scalar.muli arg10 c256_i32_128
  let v413 : BitVec 32 := v412
  let v472 : Index := Scalar.indexCast v413
  let c256_143 : Index := 256#32
  ![v472.toNat, 256]
def k0_off6 (i : grid0.Coords) (k0_t1 : Fin (k0_t1_loop i).trips) : Fin 2 → Nat :=
  let c0_i32_26 : BitVec 32 := 0#32
  let c1_i32_28 : BitVec 32 := 1#32
  let arg10 : BitVec 32 := Scf.iv c0_i32_26 c1_i32_28 k0_t1
  let c256_i32_128 : BitVec 32 := 256#32
  let v412 : BitVec 32 := Scalar.muli arg10 c256_i32_128
  let v413 : BitVec 32 := v412
  let v475 : Index := Scalar.indexCast v413
  let c256_144 : Index := 256#32
  ![v475.toNat, 256]
def k0_off7 (i : grid0.Coords) (k0_t1 : Fin (k0_t1_loop i).trips) : Fin 2 → Nat :=
  let c0_i32_26 : BitVec 32 := 0#32
  let c1_i32_28 : BitVec 32 := 1#32
  let arg10 : BitVec 32 := Scf.iv c0_i32_26 c1_i32_28 k0_t1
  let c256_i32_128 : BitVec 32 := 256#32
  let v412 : BitVec 32 := Scalar.muli arg10 c256_i32_128
  let v413 : BitVec 32 := v412
  let v497 : Index := Scalar.indexCast v413
  let c384_149 : Index := 384#32
  ![v497.toNat, 384]
def k0_off8 (i : grid0.Coords) (k0_t1 : Fin (k0_t1_loop i).trips) : Fin 2 → Nat :=
  let c0_i32_26 : BitVec 32 := 0#32
  let c1_i32_28 : BitVec 32 := 1#32
  let arg10 : BitVec 32 := Scf.iv c0_i32_26 c1_i32_28 k0_t1
  let c256_i32_128 : BitVec 32 := 256#32
  let v412 : BitVec 32 := Scalar.muli arg10 c256_i32_128
  let v413 : BitVec 32 := v412
  let v522 : Index := Scalar.indexCast v413
  let c512_155 : Index := 512#32
  ![v522.toNat, 512]
def k0_off9 (i : grid0.Coords) (k0_t1 : Fin (k0_t1_loop i).trips) : Fin 2 → Nat :=
  let c0_i32_26 : BitVec 32 := 0#32
  let c1_i32_28 : BitVec 32 := 1#32
  let arg10 : BitVec 32 := Scf.iv c0_i32_26 c1_i32_28 k0_t1
  let c256_i32_128 : BitVec 32 := 256#32
  let v412 : BitVec 32 := Scalar.muli arg10 c256_i32_128
  let v413 : BitVec 32 := v412
  let v525 : Index := Scalar.indexCast v413
  let c512_156 : Index := 512#32
  ![v525.toNat, 512]
def k0_off10 (i : grid0.Coords) (k0_t1 : Fin (k0_t1_loop i).trips) : Fin 2 → Nat :=
  let c0_i32_26 : BitVec 32 := 0#32
  let c1_i32_28 : BitVec 32 := 1#32
  let arg10 : BitVec 32 := Scf.iv c0_i32_26 c1_i32_28 k0_t1
  let c256_i32_128 : BitVec 32 := 256#32
  let v412 : BitVec 32 := Scalar.muli arg10 c256_i32_128
  let v413 : BitVec 32 := v412
  let v547 : Index := Scalar.indexCast v413
  let c640_161 : Index := 640#32
  ![v547.toNat, 640]
def k0_off11 (i : grid0.Coords) (k0_t1 : Fin (k0_t1_loop i).trips) : Fin 2 → Nat :=
  let c0_i32_26 : BitVec 32 := 0#32
  let c1_i32_28 : BitVec 32 := 1#32
  let arg10 : BitVec 32 := Scf.iv c0_i32_26 c1_i32_28 k0_t1
  let c256_i32_128 : BitVec 32 := 256#32
  let v412 : BitVec 32 := Scalar.muli arg10 c256_i32_128
  let v413 : BitVec 32 := v412
  let v572 : Index := Scalar.indexCast v413
  let c768_167 : Index := 768#32
  ![v572.toNat, 768]
def k0_off12 (i : grid0.Coords) (k0_t1 : Fin (k0_t1_loop i).trips) : Fin 2 → Nat :=
  let c0_i32_26 : BitVec 32 := 0#32
  let c1_i32_28 : BitVec 32 := 1#32
  let arg10 : BitVec 32 := Scf.iv c0_i32_26 c1_i32_28 k0_t1
  let c256_i32_128 : BitVec 32 := 256#32
  let v412 : BitVec 32 := Scalar.muli arg10 c256_i32_128
  let v413 : BitVec 32 := v412
  let v575 : Index := Scalar.indexCast v413
  let c768_168 : Index := 768#32
  ![v575.toNat, 768]
def k0_off13 (i : grid0.Coords) (k0_t1 : Fin (k0_t1_loop i).trips) : Fin 2 → Nat :=
  let c0_i32_26 : BitVec 32 := 0#32
  let c1_i32_28 : BitVec 32 := 1#32
  let arg10 : BitVec 32 := Scf.iv c0_i32_26 c1_i32_28 k0_t1
  let c256_i32_128 : BitVec 32 := 256#32
  let v412 : BitVec 32 := Scalar.muli arg10 c256_i32_128
  let v413 : BitVec 32 := v412
  let v597 : Index := Scalar.indexCast v413
  let c896_173 : Index := 896#32
  ![v597.toNat, 896]
@[reducible] def k0_t2_loop (i : grid0.Coords) : Scf.Loop 32 :=
  let c0_i32_26 : BitVec 32 := 0#32
  let arg2 : BitVec 32 := BitVec.ofNat 32 (i 2).val
  let v70 : BitVec 32 := Scalar.subi arg2 c0_i32_26
  let c1_i32_27 : BitVec 32 := 1#32
  let v72 : BitVec 32 := Scalar.divsi v70 c1_i32_27
  let v73 : BitVec 32 := Scalar.muli v72 c1_i32_27
  let v74 : BitVec 32 := Scalar.addi c0_i32_26 v73
  let v71 : BitVec 32 := Scalar.addi c0_i32_26 v70
  let c1_i32_29 : BitVec 32 := 1#32
  ⟨v74, v71, c1_i32_29⟩
def k0_mult2 (i : grid0.Coords) (k0_t2 : Fin (k0_t2_loop i).trips) : BitVec 32 :=
  let c0_i32_26 : BitVec 32 := 0#32
  let arg2 : BitVec 32 := BitVec.ofNat 32 (i 2).val
  let v70 : BitVec 32 := Scalar.subi arg2 c0_i32_26
  let c1_i32_27 : BitVec 32 := 1#32
  let v72 : BitVec 32 := Scalar.divsi v70 c1_i32_27
  let v73 : BitVec 32 := Scalar.muli v72 c1_i32_27
  let v74 : BitVec 32 := Scalar.addi c0_i32_26 v73
  let c1_i32_29 : BitVec 32 := 1#32
  let arg10 : BitVec 32 := Scf.iv v74 c1_i32_29 k0_t2
  let c256_i32_128 : BitVec 32 := 256#32
  let v412 : BitVec 32 := Scalar.muli arg10 c256_i32_128
  v412
def k0_off14 (i : grid0.Coords) (k0_t2 : Fin (k0_t2_loop i).trips) : Fin 2 → Nat :=
  let c0_i32_26 : BitVec 32 := 0#32
  let arg2 : BitVec 32 := BitVec.ofNat 32 (i 2).val
  let v70 : BitVec 32 := Scalar.subi arg2 c0_i32_26
  let c1_i32_27 : BitVec 32 := 1#32
  let v72 : BitVec 32 := Scalar.divsi v70 c1_i32_27
  let v73 : BitVec 32 := Scalar.muli v72 c1_i32_27
  let v74 : BitVec 32 := Scalar.addi c0_i32_26 v73
  let c1_i32_29 : BitVec 32 := 1#32
  let arg10 : BitVec 32 := Scf.iv v74 c1_i32_29 k0_t2
  let c256_i32_128 : BitVec 32 := 256#32
  let v412 : BitVec 32 := Scalar.muli arg10 c256_i32_128
  let v413 : BitVec 32 := v412
  let v422 : Index := Scalar.indexCast v413
  let c0_131 : Index := 0#32
  ![v422.toNat, 0]
def k0_off15 (i : grid0.Coords) (k0_t2 : Fin (k0_t2_loop i).trips) : Fin 2 → Nat :=
  let c0_i32_26 : BitVec 32 := 0#32
  let arg2 : BitVec 32 := BitVec.ofNat 32 (i 2).val
  let v70 : BitVec 32 := Scalar.subi arg2 c0_i32_26
  let c1_i32_27 : BitVec 32 := 1#32
  let v72 : BitVec 32 := Scalar.divsi v70 c1_i32_27
  let v73 : BitVec 32 := Scalar.muli v72 c1_i32_27
  let v74 : BitVec 32 := Scalar.addi c0_i32_26 v73
  let c1_i32_29 : BitVec 32 := 1#32
  let arg10 : BitVec 32 := Scf.iv v74 c1_i32_29 k0_t2
  let c256_i32_128 : BitVec 32 := 256#32
  let v412 : BitVec 32 := Scalar.muli arg10 c256_i32_128
  let v413 : BitVec 32 := v412
  let v425 : Index := Scalar.indexCast v413
  let c0_132 : Index := 0#32
  ![v425.toNat, 0]
def k0_off16 (i : grid0.Coords) (k0_t2 : Fin (k0_t2_loop i).trips) : Fin 2 → Nat :=
  let c0_i32_26 : BitVec 32 := 0#32
  let arg2 : BitVec 32 := BitVec.ofNat 32 (i 2).val
  let v70 : BitVec 32 := Scalar.subi arg2 c0_i32_26
  let c1_i32_27 : BitVec 32 := 1#32
  let v72 : BitVec 32 := Scalar.divsi v70 c1_i32_27
  let v73 : BitVec 32 := Scalar.muli v72 c1_i32_27
  let v74 : BitVec 32 := Scalar.addi c0_i32_26 v73
  let c1_i32_29 : BitVec 32 := 1#32
  let arg10 : BitVec 32 := Scf.iv v74 c1_i32_29 k0_t2
  let c256_i32_128 : BitVec 32 := 256#32
  let v412 : BitVec 32 := Scalar.muli arg10 c256_i32_128
  let v413 : BitVec 32 := v412
  let v447 : Index := Scalar.indexCast v413
  let c128_137 : Index := 128#32
  ![v447.toNat, 128]
def k0_off17 (i : grid0.Coords) (k0_t2 : Fin (k0_t2_loop i).trips) : Fin 2 → Nat :=
  let c0_i32_26 : BitVec 32 := 0#32
  let arg2 : BitVec 32 := BitVec.ofNat 32 (i 2).val
  let v70 : BitVec 32 := Scalar.subi arg2 c0_i32_26
  let c1_i32_27 : BitVec 32 := 1#32
  let v72 : BitVec 32 := Scalar.divsi v70 c1_i32_27
  let v73 : BitVec 32 := Scalar.muli v72 c1_i32_27
  let v74 : BitVec 32 := Scalar.addi c0_i32_26 v73
  let c1_i32_29 : BitVec 32 := 1#32
  let arg10 : BitVec 32 := Scf.iv v74 c1_i32_29 k0_t2
  let c256_i32_128 : BitVec 32 := 256#32
  let v412 : BitVec 32 := Scalar.muli arg10 c256_i32_128
  let v413 : BitVec 32 := v412
  let v472 : Index := Scalar.indexCast v413
  let c256_143 : Index := 256#32
  ![v472.toNat, 256]
def k0_off18 (i : grid0.Coords) (k0_t2 : Fin (k0_t2_loop i).trips) : Fin 2 → Nat :=
  let c0_i32_26 : BitVec 32 := 0#32
  let arg2 : BitVec 32 := BitVec.ofNat 32 (i 2).val
  let v70 : BitVec 32 := Scalar.subi arg2 c0_i32_26
  let c1_i32_27 : BitVec 32 := 1#32
  let v72 : BitVec 32 := Scalar.divsi v70 c1_i32_27
  let v73 : BitVec 32 := Scalar.muli v72 c1_i32_27
  let v74 : BitVec 32 := Scalar.addi c0_i32_26 v73
  let c1_i32_29 : BitVec 32 := 1#32
  let arg10 : BitVec 32 := Scf.iv v74 c1_i32_29 k0_t2
  let c256_i32_128 : BitVec 32 := 256#32
  let v412 : BitVec 32 := Scalar.muli arg10 c256_i32_128
  let v413 : BitVec 32 := v412
  let v475 : Index := Scalar.indexCast v413
  let c256_144 : Index := 256#32
  ![v475.toNat, 256]
def k0_off19 (i : grid0.Coords) (k0_t2 : Fin (k0_t2_loop i).trips) : Fin 2 → Nat :=
  let c0_i32_26 : BitVec 32 := 0#32
  let arg2 : BitVec 32 := BitVec.ofNat 32 (i 2).val
  let v70 : BitVec 32 := Scalar.subi arg2 c0_i32_26
  let c1_i32_27 : BitVec 32 := 1#32
  let v72 : BitVec 32 := Scalar.divsi v70 c1_i32_27
  let v73 : BitVec 32 := Scalar.muli v72 c1_i32_27
  let v74 : BitVec 32 := Scalar.addi c0_i32_26 v73
  let c1_i32_29 : BitVec 32 := 1#32
  let arg10 : BitVec 32 := Scf.iv v74 c1_i32_29 k0_t2
  let c256_i32_128 : BitVec 32 := 256#32
  let v412 : BitVec 32 := Scalar.muli arg10 c256_i32_128
  let v413 : BitVec 32 := v412
  let v497 : Index := Scalar.indexCast v413
  let c384_149 : Index := 384#32
  ![v497.toNat, 384]
def k0_off20 (i : grid0.Coords) (k0_t2 : Fin (k0_t2_loop i).trips) : Fin 2 → Nat :=
  let c0_i32_26 : BitVec 32 := 0#32
  let arg2 : BitVec 32 := BitVec.ofNat 32 (i 2).val
  let v70 : BitVec 32 := Scalar.subi arg2 c0_i32_26
  let c1_i32_27 : BitVec 32 := 1#32
  let v72 : BitVec 32 := Scalar.divsi v70 c1_i32_27
  let v73 : BitVec 32 := Scalar.muli v72 c1_i32_27
  let v74 : BitVec 32 := Scalar.addi c0_i32_26 v73
  let c1_i32_29 : BitVec 32 := 1#32
  let arg10 : BitVec 32 := Scf.iv v74 c1_i32_29 k0_t2
  let c256_i32_128 : BitVec 32 := 256#32
  let v412 : BitVec 32 := Scalar.muli arg10 c256_i32_128
  let v413 : BitVec 32 := v412
  let v522 : Index := Scalar.indexCast v413
  let c512_155 : Index := 512#32
  ![v522.toNat, 512]
def k0_off21 (i : grid0.Coords) (k0_t2 : Fin (k0_t2_loop i).trips) : Fin 2 → Nat :=
  let c0_i32_26 : BitVec 32 := 0#32
  let arg2 : BitVec 32 := BitVec.ofNat 32 (i 2).val
  let v70 : BitVec 32 := Scalar.subi arg2 c0_i32_26
  let c1_i32_27 : BitVec 32 := 1#32
  let v72 : BitVec 32 := Scalar.divsi v70 c1_i32_27
  let v73 : BitVec 32 := Scalar.muli v72 c1_i32_27
  let v74 : BitVec 32 := Scalar.addi c0_i32_26 v73
  let c1_i32_29 : BitVec 32 := 1#32
  let arg10 : BitVec 32 := Scf.iv v74 c1_i32_29 k0_t2
  let c256_i32_128 : BitVec 32 := 256#32
  let v412 : BitVec 32 := Scalar.muli arg10 c256_i32_128
  let v413 : BitVec 32 := v412
  let v525 : Index := Scalar.indexCast v413
  let c512_156 : Index := 512#32
  ![v525.toNat, 512]
def k0_off22 (i : grid0.Coords) (k0_t2 : Fin (k0_t2_loop i).trips) : Fin 2 → Nat :=
  let c0_i32_26 : BitVec 32 := 0#32
  let arg2 : BitVec 32 := BitVec.ofNat 32 (i 2).val
  let v70 : BitVec 32 := Scalar.subi arg2 c0_i32_26
  let c1_i32_27 : BitVec 32 := 1#32
  let v72 : BitVec 32 := Scalar.divsi v70 c1_i32_27
  let v73 : BitVec 32 := Scalar.muli v72 c1_i32_27
  let v74 : BitVec 32 := Scalar.addi c0_i32_26 v73
  let c1_i32_29 : BitVec 32 := 1#32
  let arg10 : BitVec 32 := Scf.iv v74 c1_i32_29 k0_t2
  let c256_i32_128 : BitVec 32 := 256#32
  let v412 : BitVec 32 := Scalar.muli arg10 c256_i32_128
  let v413 : BitVec 32 := v412
  let v547 : Index := Scalar.indexCast v413
  let c640_161 : Index := 640#32
  ![v547.toNat, 640]
def k0_off23 (i : grid0.Coords) (k0_t2 : Fin (k0_t2_loop i).trips) : Fin 2 → Nat :=
  let c0_i32_26 : BitVec 32 := 0#32
  let arg2 : BitVec 32 := BitVec.ofNat 32 (i 2).val
  let v70 : BitVec 32 := Scalar.subi arg2 c0_i32_26
  let c1_i32_27 : BitVec 32 := 1#32
  let v72 : BitVec 32 := Scalar.divsi v70 c1_i32_27
  let v73 : BitVec 32 := Scalar.muli v72 c1_i32_27
  let v74 : BitVec 32 := Scalar.addi c0_i32_26 v73
  let c1_i32_29 : BitVec 32 := 1#32
  let arg10 : BitVec 32 := Scf.iv v74 c1_i32_29 k0_t2
  let c256_i32_128 : BitVec 32 := 256#32
  let v412 : BitVec 32 := Scalar.muli arg10 c256_i32_128
  let v413 : BitVec 32 := v412
  let v572 : Index := Scalar.indexCast v413
  let c768_167 : Index := 768#32
  ![v572.toNat, 768]
def k0_off24 (i : grid0.Coords) (k0_t2 : Fin (k0_t2_loop i).trips) : Fin 2 → Nat :=
  let c0_i32_26 : BitVec 32 := 0#32
  let arg2 : BitVec 32 := BitVec.ofNat 32 (i 2).val
  let v70 : BitVec 32 := Scalar.subi arg2 c0_i32_26
  let c1_i32_27 : BitVec 32 := 1#32
  let v72 : BitVec 32 := Scalar.divsi v70 c1_i32_27
  let v73 : BitVec 32 := Scalar.muli v72 c1_i32_27
  let v74 : BitVec 32 := Scalar.addi c0_i32_26 v73
  let c1_i32_29 : BitVec 32 := 1#32
  let arg10 : BitVec 32 := Scf.iv v74 c1_i32_29 k0_t2
  let c256_i32_128 : BitVec 32 := 256#32
  let v412 : BitVec 32 := Scalar.muli arg10 c256_i32_128
  let v413 : BitVec 32 := v412
  let v575 : Index := Scalar.indexCast v413
  let c768_168 : Index := 768#32
  ![v575.toNat, 768]
def k0_off25 (i : grid0.Coords) (k0_t2 : Fin (k0_t2_loop i).trips) : Fin 2 → Nat :=
  let c0_i32_26 : BitVec 32 := 0#32
  let arg2 : BitVec 32 := BitVec.ofNat 32 (i 2).val
  let v70 : BitVec 32 := Scalar.subi arg2 c0_i32_26
  let c1_i32_27 : BitVec 32 := 1#32
  let v72 : BitVec 32 := Scalar.divsi v70 c1_i32_27
  let v73 : BitVec 32 := Scalar.muli v72 c1_i32_27
  let v74 : BitVec 32 := Scalar.addi c0_i32_26 v73
  let c1_i32_29 : BitVec 32 := 1#32
  let arg10 : BitVec 32 := Scf.iv v74 c1_i32_29 k0_t2
  let c256_i32_128 : BitVec 32 := 256#32
  let v412 : BitVec 32 := Scalar.muli arg10 c256_i32_128
  let v413 : BitVec 32 := v412
  let v597 : Index := Scalar.indexCast v413
  let c896_173 : Index := 896#32
  ![v597.toNat, 896]
def k0_mult3 (i : grid0.Coords) : BitVec 32 :=
  let arg2 : BitVec 32 := BitVec.ofNat 32 (i 2).val
  let c256_i32 : BitVec 32 := 256#32
  let v77 : BitVec 32 := Scalar.muli arg2 c256_i32
  v77
def k0_off26 (i : grid0.Coords) : Fin 2 → Nat :=
  let arg2 : BitVec 32 := BitVec.ofNat 32 (i 2).val
  let c256_i32 : BitVec 32 := 256#32
  let v77 : BitVec 32 := Scalar.muli arg2 c256_i32
  let v78 : BitVec 32 := v77
  let v87 : Index := Scalar.indexCast v78
  let c0_32 : Index := 0#32
  ![v87.toNat, 0]
def k0_off27 (i : grid0.Coords) : Fin 2 → Nat :=
  let arg2 : BitVec 32 := BitVec.ofNat 32 (i 2).val
  let c256_i32 : BitVec 32 := 256#32
  let v77 : BitVec 32 := Scalar.muli arg2 c256_i32
  let v78 : BitVec 32 := v77
  let v90 : Index := Scalar.indexCast v78
  let c0_33 : Index := 0#32
  ![v90.toNat, 0]
def k0_off28 (i : grid0.Coords) : Fin 2 → Nat :=
  let arg2 : BitVec 32 := BitVec.ofNat 32 (i 2).val
  let c256_i32 : BitVec 32 := 256#32
  let v77 : BitVec 32 := Scalar.muli arg2 c256_i32
  let v78 : BitVec 32 := v77
  let v116 : Index := Scalar.indexCast v78
  let c128_40 : Index := 128#32
  ![v116.toNat, 128]
def k0_off29 (i : grid0.Coords) : Fin 2 → Nat :=
  let arg2 : BitVec 32 := BitVec.ofNat 32 (i 2).val
  let c256_i32 : BitVec 32 := 256#32
  let v77 : BitVec 32 := Scalar.muli arg2 c256_i32
  let v78 : BitVec 32 := v77
  let v145 : Index := Scalar.indexCast v78
  let c256_48 : Index := 256#32
  ![v145.toNat, 256]
def k0_off30 (i : grid0.Coords) : Fin 2 → Nat :=
  let arg2 : BitVec 32 := BitVec.ofNat 32 (i 2).val
  let c256_i32 : BitVec 32 := 256#32
  let v77 : BitVec 32 := Scalar.muli arg2 c256_i32
  let v78 : BitVec 32 := v77
  let v148 : Index := Scalar.indexCast v78
  let c256_49 : Index := 256#32
  ![v148.toNat, 256]
def k0_off31 (i : grid0.Coords) : Fin 2 → Nat :=
  let arg2 : BitVec 32 := BitVec.ofNat 32 (i 2).val
  let c256_i32 : BitVec 32 := 256#32
  let v77 : BitVec 32 := Scalar.muli arg2 c256_i32
  let v78 : BitVec 32 := v77
  let v174 : Index := Scalar.indexCast v78
  let c384_56 : Index := 384#32
  ![v174.toNat, 384]
def k0_off32 (i : grid0.Coords) : Fin 2 → Nat :=
  let arg2 : BitVec 32 := BitVec.ofNat 32 (i 2).val
  let c256_i32 : BitVec 32 := 256#32
  let v77 : BitVec 32 := Scalar.muli arg2 c256_i32
  let v78 : BitVec 32 := v77
  let v203 : Index := Scalar.indexCast v78
  let c512_64 : Index := 512#32
  ![v203.toNat, 512]
def k0_off33 (i : grid0.Coords) : Fin 2 → Nat :=
  let arg2 : BitVec 32 := BitVec.ofNat 32 (i 2).val
  let c256_i32 : BitVec 32 := 256#32
  let v77 : BitVec 32 := Scalar.muli arg2 c256_i32
  let v78 : BitVec 32 := v77
  let v206 : Index := Scalar.indexCast v78
  let c512_65 : Index := 512#32
  ![v206.toNat, 512]
def k0_off34 (i : grid0.Coords) : Fin 2 → Nat :=
  let arg2 : BitVec 32 := BitVec.ofNat 32 (i 2).val
  let c256_i32 : BitVec 32 := 256#32
  let v77 : BitVec 32 := Scalar.muli arg2 c256_i32
  let v78 : BitVec 32 := v77
  let v232 : Index := Scalar.indexCast v78
  let c640_72 : Index := 640#32
  ![v232.toNat, 640]
def k0_off35 (i : grid0.Coords) : Fin 2 → Nat :=
  let arg2 : BitVec 32 := BitVec.ofNat 32 (i 2).val
  let c256_i32 : BitVec 32 := 256#32
  let v77 : BitVec 32 := Scalar.muli arg2 c256_i32
  let v78 : BitVec 32 := v77
  let v261 : Index := Scalar.indexCast v78
  let c768_80 : Index := 768#32
  ![v261.toNat, 768]
def k0_off36 (i : grid0.Coords) : Fin 2 → Nat :=
  let arg2 : BitVec 32 := BitVec.ofNat 32 (i 2).val
  let c256_i32 : BitVec 32 := 256#32
  let v77 : BitVec 32 := Scalar.muli arg2 c256_i32
  let v78 : BitVec 32 := v77
  let v264 : Index := Scalar.indexCast v78
  let c768_81 : Index := 768#32
  ![v264.toNat, 768]
def k0_off37 (i : grid0.Coords) : Fin 2 → Nat :=
  let arg2 : BitVec 32 := BitVec.ofNat 32 (i 2).val
  let c256_i32 : BitVec 32 := 256#32
  let v77 : BitVec 32 := Scalar.muli arg2 c256_i32
  let v78 : BitVec 32 := v77
  let v290 : Index := Scalar.indexCast v78
  let c896_88 : Index := 896#32
  ![v290.toNat, 896]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== RefDiffIdeal.lean ====
abbrev S8192x1024 : Shape := ⟨2, ![8192, 1024]⟩
abbrev S4 : Shape := ⟨1, ![4]⟩
abbrev S4x128 : Shape := ⟨2, ![4, 128]⟩
abbrev S4x256 : Shape := ⟨2, ![4, 256]⟩
abbrev S4x2048x4x2x128 : Shape := ⟨5, ![4, 2048, 4, 2, 128]⟩
abbrev S4x2048x4x256 : Shape := ⟨4, ![4, 2048, 4, 256]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S1x128 : Shape := ⟨2, ![1, 128]⟩
abbrev S128 : Shape := ⟨1, ![128]⟩
abbrev S4x4x2x2048x2048 : Shape := ⟨5, ![4, 4, 2, 2048, 2048]⟩
abbrev S1x4x1x2048x2048 : Shape := ⟨5, ![1, 4, 1, 2048, 2048]⟩
abbrev S4x4x2x2048 : Shape := ⟨4, ![4, 4, 2, 2048]⟩
abbrev S4x4x2x2048x1 : Shape := ⟨5, ![4, 4, 2, 2048, 1]⟩
abbrev S4x4x1x2048x2048 : Shape := ⟨5, ![4, 4, 1, 2048, 2048]⟩
abbrev S4x4x2048x2048 : Shape := ⟨4, ![4, 4, 2048, 2048]⟩
abbrev S4x4x256x2048 : Shape := ⟨4, ![4, 4, 256, 2048]⟩
abbrev S4x2048x4 : Shape := ⟨3, ![4, 2048, 4]⟩
abbrev S4x2048x4x1 : Shape := ⟨4, ![4, 2048, 4, 1]⟩
abbrev S1x1x4x256 : Shape := ⟨4, ![1, 1, 4, 256]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4, .f32⟩
  | .hbm, ⟨4, _⟩ => ⟨S4x128, .f32⟩
  | .hbm, ⟨5, _⟩ => ⟨S4x256, .f32⟩
  | .hbm, ⟨6, _⟩ => ⟨S4x2048x4x2x128, .f32⟩
  | .hbm, ⟨7, _⟩ => ⟨S4x2048x4x2x128, .f32⟩
  | .hbm, ⟨8, _⟩ => ⟨S4x2048x4x256, .f32⟩
  | .hbm, ⟨9, _⟩ => ⟨S2048, .i32⟩
  | .hbm, ⟨10, _⟩ => ⟨S2048x1, .i32⟩
  | .hbm, ⟨11, _⟩ => ⟨S1x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .i1⟩
  | .hbm, ⟨19, _⟩ => ⟨S4x1x1, .f32⟩
  | .hbm, ⟨20, _⟩ => ⟨S4x1x1, .f32⟩
  | .hbm, ⟨21, _⟩ => ⟨S2048x2048, .f32⟩
  | .hbm, ⟨22, _⟩ => ⟨S1x2048x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S1x128, .f32⟩
  | .hbm, ⟨27, _⟩ => ⟨S128, .f32⟩
  | .hbm, ⟨28, _⟩ => ⟨S1x128, .f32⟩
  | .hbm, ⟨29, _⟩ => ⟨S128, .f32⟩
  | .hbm, ⟨30, _⟩ => ⟨S128, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1x128, .f32⟩
  | .hbm, ⟨35, _⟩ => ⟨S128, .f32⟩
  | .hbm, ⟨36, _⟩ => ⟨S1x128, .f32⟩
  | .hbm, ⟨37, _⟩ => ⟨S128, .f32⟩
  | .hbm, ⟨38, _⟩ => ⟨S128, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4x4x2x2048x2048, .f32⟩
  | .hbm, ⟨46, _⟩ => ⟨S_, .f32⟩
  | .hbm, ⟨47, _⟩ => ⟨S4x4x2x2048x2048, .f32⟩
  | .hbm, ⟨48, _⟩ => ⟨S4x4x2x2048x2048, .f32⟩
  | .hbm, ⟨49, _⟩ => ⟨S1x4x1x2048x2048, .f32⟩
  | .hbm, ⟨50, _⟩ => ⟨S4x4x2x2048x2048, .f32⟩
  | .hbm, ⟨51, _⟩ => ⟨S4x4x2x2048x2048, .f32⟩
  | .hbm, ⟨52, _⟩ => ⟨S_, .f32⟩
  | .hbm, ⟨53, _⟩ => ⟨S_, .f32⟩
  | .hbm, ⟨54, _⟩ => ⟨S4x4x2x2048x2048, .i1⟩
  | .hbm, ⟨55, _⟩ => ⟨S4x4x2x2048x2048, .f32⟩
  | .hbm, ⟨56, _⟩ => ⟨S4x4x2x2048x2048, .f32⟩
  | .hbm, ⟨57, _⟩ => ⟨S_, .f32⟩
  | .hbm, ⟨58, _⟩ => ⟨S4x4x2x2048, .f32⟩
  | .hbm, ⟨59, _⟩ => ⟨S_, .f32⟩
  | .hbm, ⟨60, _⟩ => ⟨S4x4x2x2048, .f32⟩
  | .hbm, ⟨61, _⟩ => ⟨S4x4x2x2048, .f32⟩
  | .hbm, ⟨62, _⟩ => ⟨S4x4x2x2048x1, .f32⟩
  | .hbm, ⟨63, _⟩ => ⟨S4x4x2x2048x2048, .f32⟩
  | .hbm, ⟨64, _⟩ => ⟨S4x4x2x2048x2048, .f32⟩
  | .hbm, ⟨65, _⟩ => ⟨S4x4x2x2048x2048, .f32⟩
  | .hbm, ⟨66, _⟩ => ⟨S_, .f32⟩
  | .hbm, ⟨67, _⟩ => ⟨S4x4x2x2048, .f32⟩
  | .hbm, ⟨68, _⟩ => ⟨S4x4x2x2048x1, .f32⟩
  | .hbm, ⟨69, _⟩ => ⟨S4x4x2x2048x2048, .f32⟩
  | .hbm, ⟨70, _⟩ => ⟨S4x4x2x2048x2048, .f32⟩
  | .hbm, ⟨71, _⟩ => ⟨S4x4x1x2048x2048, .f32⟩
  | .hbm, ⟨72, _⟩ => ⟨S4x4x2048x2048, .f32⟩
  | .hbm, ⟨73, _⟩ => ⟨S4x4x1x2048x2048, .f32⟩
  | .hbm, ⟨74, _⟩ => ⟨S4x4x2048x2048, .f32⟩
  | .hbm, ⟨75, _⟩ => ⟨S4x4x2048x2048, .f32⟩
  | .hbm, ⟨76, _⟩ => ⟨S4x4x2048x2048, .f32⟩
  | .hbm, ⟨77, _⟩ => ⟨S4x4x2048x2048, .f32⟩
  | .hbm, ⟨78, _⟩ => ⟨S4x4x256x2048, .f32⟩
  | .hbm, ⟨79, _⟩ => ⟨S4x2048x4x256, .f32⟩
  | .hbm, ⟨80, _⟩ => ⟨S4x2048x4x256, .f32⟩
  | .hbm, ⟨81, _⟩ => ⟨S_, .f32⟩
  | .hbm, ⟨82, _⟩ => ⟨S4x2048x4, .f32⟩
  | .hbm, ⟨83, _⟩ => ⟨S4x2048x4x1, .f32⟩
  | .hbm, ⟨84, _⟩ => ⟨S_, .f32⟩
  | .hbm, ⟨85, _⟩ => ⟨S4x2048x4x1, .f32⟩
  | .hbm, ⟨86, _⟩ => ⟨S4x2048x4x1, .f32⟩
  | .hbm, ⟨87, _⟩ => ⟨S_, .f32⟩
  | .hbm, ⟨88, _⟩ => ⟨S4x2048x4x1, .f32⟩
  | .hbm, ⟨89, _⟩ => ⟨S4x2048x4x1, .f32⟩
  | .hbm, ⟨90, _⟩ => ⟨S4x2048x4x1, .f32⟩
  | .hbm, ⟨91, _⟩ => ⟨S4x2048x4x256, .f32⟩
  | .hbm, ⟨92, _⟩ => ⟨S4x2048x4x256, .f32⟩
  | .hbm, ⟨93, _⟩ => ⟨S1x1x4x256, .f32⟩
  | .hbm, ⟨94, _⟩ => ⟨S4x2048x4x256, .f32⟩
  | .hbm, ⟨95, _⟩ => ⟨S4x2048x4x256, .f32⟩
  | .hbm, ⟨96, _⟩ => ⟨S_, .f32⟩
  | .hbm, ⟨97, _⟩ => ⟨S4x2048x4x256, .f32⟩
  | .hbm, ⟨98, _⟩ => ⟨S4x2048x4x256, .f32⟩
  | .hbm, ⟨99, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_1 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_8 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_v65 : Ref sig .tc := ⟨.hbm, 85, rfl⟩
abbrev main_v66 : Ref sig .tc := ⟨.hbm, 86, rfl⟩
abbrev main_cst_10 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_11 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩

abbrev nD : Nat := 1
abbrev τ : Topo := Topo.v7x

variable {F : FTy → Type} [FloatOps F]
-- ==== Cross.lean ====
abbrev S8192x2048 : Shape := ⟨2, ![8192, 2048]⟩
abbrev S4x256x2048 : Shape := ⟨3, ![4, 256, 2048]⟩
abbrev S2048x512 : Shape := ⟨2, ![2048, 512]⟩
abbrev S1x256x512 : Shape := ⟨3, ![1, 256, 512]⟩
abbrev S256x512 : Shape := ⟨2, ![256, 512]⟩
abbrev S2048x256 : Shape := ⟨2, ![2048, 256]⟩
abbrev S2048 : Shape := ⟨1, ![2048]⟩
abbrev S2048x1 : Shape := ⟨2, ![2048, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S4x256x2048, .f32⟩
  | .hbm, ⟨2, _⟩ => ⟨S4x256x2048, .f32⟩
  | .hbm, ⟨3, _⟩ => ⟨S8192x2048, .f32⟩
  | .local _ .vmem, ⟨0, _⟩ => ⟨S2048x512, .f32⟩
  | .local _ .vmem, ⟨1, _⟩ => ⟨S2048x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S2048x512, .f32⟩
  | .local _ .vmem, ⟨7, _⟩ => ⟨S2048x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![v1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![v1.toNat, arg2.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== RefCrossIdeal.lean ====
abbrev S8192x2048 : Shape := ⟨2, ![8192, 2048]⟩
abbrev S4x256x2048 : Shape := ⟨3, ![4, 256, 2048]⟩
abbrev S4x2048x4x512 : Shape := ⟨4, ![4, 2048, 4, 512]⟩
abbrev S4x256x4x512 : Shape := ⟨4, ![4, 256, 4, 512]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x512x2048 : Shape := ⟨4, ![4, 4, 512, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x256x2048, .f32⟩
  | .hbm, ⟨2, _⟩ => ⟨S4x256x2048, .f32⟩
  | .hbm, ⟨3, _⟩ => ⟨S4x2048x4x512, .f32⟩
  | .hbm, ⟨4, _⟩ => ⟨S4x256x4x512, .f32⟩
  | .hbm, ⟨5, _⟩ => ⟨S4x256x4x512, .f32⟩
  | .hbm, ⟨6, _⟩ => ⟨S4x4x2048x256, .f32⟩
  | .hbm, ⟨7, _⟩ => ⟨S_, .f32⟩
  | .hbm, ⟨8, _⟩ => ⟨S4x4x2048x256, .f32⟩
  | .hbm, ⟨9, _⟩ => ⟨S4x4x2048x256, .f32⟩
  | .hbm, ⟨10, _⟩ => ⟨S_, .f32⟩
  | .hbm, ⟨11, _⟩ => ⟨S4x4x2048, .f32⟩
  | .hbm, ⟨12, _⟩ => ⟨S_, .f32⟩
  | .hbm, ⟨13, _⟩ => ⟨S4x4x2048, .f32⟩
  | .hbm, ⟨14, _⟩ => ⟨S4x4x2048, .f32⟩
  | .hbm, ⟨15, _⟩ => ⟨S4x4x2048x1, .f32⟩
  | .hbm, ⟨16, _⟩ => ⟨S4x4x2048x256, .f32⟩
  | .hbm, ⟨17, _⟩ => ⟨S4x4x2048x256, .f32⟩
  | .hbm, ⟨18, _⟩ => ⟨S4x4x2048x256, .f32⟩
  | .hbm, ⟨19, _⟩ => ⟨S_, .f32⟩
  | .hbm, ⟨20, _⟩ => ⟨S4x4x2048, .f32⟩
  | .hbm, ⟨21, _⟩ => ⟨S4x4x2048x1, .f32⟩
  | .hbm, ⟨22, _⟩ => ⟨S4x4x2048x256, .f32⟩
  | .hbm, ⟨23, _⟩ => ⟨S4x4x2048x256, .f32⟩
  | .hbm, ⟨24, _⟩ => ⟨S4x4x512x2048, .f32⟩
  | .hbm, ⟨25, _⟩ => ⟨S4x2048x4x512, .f32⟩
  | .hbm, ⟨26, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.FoxHead.lean ====
/-
  One head of the forgetting attention, as the kernel's vector operations compute it, and the loop's trip in those terms.

  The kernel carries eight heads side by side: a trip of the loop over the blocks of keys updates eight triples (running
  maximum, normalizer, accumulator), one after another. Every head does the same: `scores` of a block of queries against a
  block of keys, then `upd`. `pick` takes a head's triple out of the loop's carried value.
-/
module

public import proofs.«01_k».proof.Proof.Gen.KernelIdeal.Value
public import Idealize.ShloMosaic.PureOps.Ideal

@[expose] public section

set_option maxRecDepth 16384

noncomputable section

namespace Cert.Proof.Fox

open Idealize.ShloMosaic Idealize.ShloMosaic.TcCoe Idealize.SL.Sem
open Cert.KernelIdeal Cert.KernelIdeal.Gen

variable {F : FTy → Type} [FloatOps F]

/-- A head's softmax state over the 256 rows of a query block: maximum, normalizer, accumulator. -/
abbrev St (F : FTy → Type) : Type := FVec F S256x1 .f32 × FVec F S256x1 .f32 × FVec F S256x128 .f32

/-- The queries of a block, scaled, as the products read them. -/
def scaled (q : Vec F S256x128 .f32) : FVec F S256x128 .bf16 :=
  truncf .bf16 (mulf q (broadcast S256x128 (Scalar.ofBits .f32 0x3DB504F3#32))) bitsLt_bf16_f32

/-- A row of cumulative log-forget terms turned into a column: the diagonal of its broadcast, summed along rows. -/
def col (r : Vec F S1x1x1x256 .f32) : FVec F S256x1 .f32 :=
  shapeCast S256x1 (multiReduction .add [1] S256
    (select (cmpi .eq (iota .tc S256x256 32 [0] iota_S256x256_d0_w32) (iota .tc S256x256 32 [1] iota_S256x256_d1_w32))
      (broadcastTo S256x256 (shapeCast S1x256 (shapeCast S1x256 r shapeCasts_S1x1x1x256_S1x256) shapeCasts_S1x256_S1x256) broadcasts_S1x256_S256x256)
      (broadcast S256x256 (Scalar.ofBits .f32 0x00000000#32)))
    0x00000000#32 reduces_S256x256_S256 (.inl rfl) rfl) shapeCasts_S256_S256x1

/-- The scores of a query block against a key block: products of queries and keys, plus the queries' cumulative
    log-forget terms, minus the keys'. -/
def scores (q : FVec F S256x128 .bf16) (cq : FVec F S256x1 .f32) (kb : Vec F S256x128 .f32) (ck : Vec F S1x1x1x256 .f32) :
    FVec F S256x256 .f32 :=
  subf (addf (matmul dot_S256x128_S256x128_S256x256_1_1_0_0_n_n none q (truncf .bf16 kb bitsLt_bf16_f32) (constant S256x256 .f32 0x00000000#32))
      (broadcastTo S256x256 cq broadcasts_S256x1_S256x256))
    (broadcastTo S256x256 (shapeCast S1x256 ck shapeCasts_S1x1x1x256_S1x256) broadcasts_S1x256_S256x256)

/-- On the diagonal block the keys after the query are masked. -/
def masked (s : FVec F S256x256 .f32) : FVec F S256x256 .f32 :=
  select (cmpi .sge (subi (iota .tc S256x256 32 [0] iota_S256x256_d0_w32) (iota .tc S256x256 32 [1] iota_S256x256_d1_w32)) (broadcast S256x256 0#32))
    s (broadcast S256x256 (Scalar.ofBits .f32 0xFF800000#32))

/-- The new running maximum. -/
def mx (s : FVec F S256x256 .f32) (m : FVec F S256x1 .f32) : FVec F S256x1 .f32 :=
  maximumf m (shapeCast S256x1 (multiReduction .maximumf [1] S256 s 0xFF800000#32 reduces_S256x256_S256 (.inl rfl) rfl) shapeCasts_S256_S256x1)

/-- The block's exponentials, relative to the new maximum. -/
def ex (s : FVec F S256x256 .f32) (m : FVec F S256x1 .f32) : FVec F S256x256 .f32 :=
  exp (subf s (broadcastTo S256x256 (mx s m) broadcasts_S256x1_S256x256))

/-- The factor by which the old state is rescaled. -/
def al (s : FVec F S256x256 .f32) (m : FVec F S256x1 .f32) : FVec F S256x1 .f32 := exp (subf m (mx s m))

/-- One block of keys taken into the state. -/
def upd (s : FVec F S256x256 .f32) (vb : Vec F S256x128 .f32) (x : St F) : St F :=
  (mx s x.1,
   addf (mulf (al s x.1) x.2.1) (shapeCast S256x1 (multiReduction .add [1] S256 (ex s x.1) 0x00000000#32 reduces_S256x256_S256 (.inl rfl) rfl) shapeCasts_S256_S256x1),
   addf (mulf (broadcastTo S256x128 (al s x.1) broadcasts_S256x1_S256x128) x.2.2)
     (matmul dot_S256x256_S256x128_S256x128_1_0_0_1_n_n none (truncf .bf16 (ex s x.1) bitsLt_bf16_f32) (truncf .bf16 vb bitsLt_bf16_f32) (constant S256x128 .f32 0x00000000#32)))

/-- The head's result: accumulator over normalizer. -/
def quot (x : St F) : FVec F S256x128 .f32 := divf x.2.2 (broadcastTo S256x128 x.2.1 broadcasts_S256x1_S256x128)

/-- The state before the first block. -/
def start : St F := (k0_pay137, k0_pay138, k0_pay139)

/-- What the loop carries: the eight heads' triples. -/
abbrev Acc (F : FTy → Type) : Type :=
  FVec F S256x1 .f32 × FVec F S256x1 .f32 × FVec F S256x128 .f32 × FVec F S256x1 .f32 × FVec F S256x1 .f32 × FVec F S256x128 .f32 ×
  FVec F S256x1 .f32 × FVec F S256x1 .f32 × FVec F S256x128 .f32 × FVec F S256x1 .f32 × FVec F S256x1 .f32 × FVec F S256x128 .f32 ×
  FVec F S256x1 .f32 × FVec F S256x1 .f32 × FVec F S256x128 .f32 × FVec F S256x1 .f32 × FVec F S256x1 .f32 × FVec F S256x128 .f32 ×
  FVec F S256x1 .f32 × FVec F S256x1 .f32 × FVec F S256x128 .f32 × FVec F S256x1 .f32 × FVec F S256x1 .f32 × FVec F S256x128 .f32

/-- Head `h`'s triple. -/
def pick (a : Acc F) : Fin 8 → St F
  | 0 => (a.1, a.2.1, a.2.2.1)
  | 1 => (a.2.2.2.1, a.2.2.2.2.1, a.2.2.2.2.2.1)
  | 2 => (a.2.2.2.2.2.2.1, a.2.2.2.2.2.2.2.1, a.2.2.2.2.2.2.2.2.1)
  | 3 => (a.2.2.2.2.2.2.2.2.2.1, a.2.2.2.2.2.2.2.2.2.2.1, a.2.2.2.2.2.2.2.2.2.2.2.1)
  | 4 => (a.2.2.2.2.2.2.2.2.2.2.2.2.1, a.2.2.2.2.2.2.2.2.2.2.2.2.2.1, a.2.2.2.2.2.2.2.2.2.2.2.2.2.2.1)
  | 5 => (a.2.2.2.2.2.2.2.2.2.2.2.2.2.2.2.1, a.2.2.2.2.2.2.2.2.2.2.2.2.2.2.2.2.1, a.2.2.2.2.2.2.2.2.2.2.2.2.2.2.2.2.2.1)
  | 6 => (a.2.2.2.2.2.2.2.2.2.2.2.2.2.2.2.2.2.2.1, a.2.2.2.2.2.2.2.2.2.2.2.2.2.2.2.2.2.2.2.1, a.2.2.2.2.2.2.2.2.2.2.2.2.2.2.2.2.2.2.2.2.1)
  | 7 => (a.2.2.2.2.2.2.2.2.2.2.2.2.2.2.2.2.2.2.2.2.2.1, a.2.2.2.2.2.2.2.2.2.2.2.2.2.2.2.2.2.2.2.2.2.2.1, a.2.2.2.2.2.2.2.2.2.2.2.2.2.2.2.2.2.2.2.2.2.2.2)

variable (c : Dev nD) (i : grid0.Coords) (arg3 : Memref sig .tc .vmem S256x1024 .f32) (harg3 : arg3.IsWhole)
  (arg4 : Memref sig .tc .vmem S2048x1024 .f32) (harg4 : arg4.IsWhole) (arg5 : Memref sig .tc .vmem S2048x1024 .f32) (harg5 : arg5.IsWhole)
  (arg6 : Memref sig .tc .vmem S1x8x1x2048 .f32) (harg6 : arg6.IsWhole) (arg7 : Memref sig .tc .vmem S256x1024 .f32) (harg7 : arg7.IsWhole)
  (x0 : Vec F S256x1024 .f32) (x1 : Vec F S2048x1024 .f32) (x2 : Vec F S2048x1024 .f32) (x3 : Vec F S1x8x1x2048 .f32)

/-- Columns `128·h …` of rows `256·k …` of a block of keys or values are in the array. -/
theorem inb_rows {k : ℕ} (hk : k < 8) (h : Fin 8) : ∀ a, (![256 * k, 128 * h.val] : Fin 2 → ℕ) a + S256x128.size a ≤ S2048x1024.size a := by
  intro a; fin_cases a
  · show 256 * k + 256 ≤ 2048; omega
  · show 128 * h.val + 128 ≤ 1024; omega

/-- Entries `256·k …` of row `h` of the cumulative log-forget terms are in the array. -/
theorem inb_cum {k : ℕ} (hk : k < 8) (h : Fin 8) : ∀ a, (![0, h.val, 0, 256 * k] : Fin 4 → ℕ) a + S1x1x1x256.size a ≤ S1x8x1x2048.size a := by
  intro a; fin_cases a
  · show 0 + 1 ≤ 1; omega
  · show h.val + 1 ≤ 8; omega
  · show 0 + 1 ≤ 1; omega
  · show 256 * k + 256 ≤ 2048; omega

/-- Columns `128·h …` of the block of queries are in it. -/
theorem inb_q (h : Fin 8) : ∀ a, (![0, 128 * h.val] : Fin 2 → ℕ) a + S256x128.size a ≤ S256x1024.size a := by
  intro a; fin_cases a
  · show 0 + 256 ≤ 256; omega
  · show 128 * h.val + 128 ≤ 1024; omega

/-- Head `h`'s queries, read from the staged block. -/
def qld (h : Fin 8) : Vec F S256x128 .f32 :=
  View.readAt (Elt F) arg3.view (Rect.unit (s := S256x1024) ![0, 128 * h.val] S256x128.size (inb_q h)).toLoadRect (harg3.unread x0)

/-- Head `h`'s keys (or values) of block `k`, read from the staged array. -/
def kld (arg : Memref sig .tc .vmem S2048x1024 .f32) (harg : arg.IsWhole) (x : Vec F S2048x1024 .f32) {k : ℕ} (hk : k < 8) (h : Fin 8) :
    Vec F S256x128 .f32 :=
  View.readAt (Elt F) arg.view (Rect.unit (s := S2048x1024) ![256 * k, 128 * h.val] S256x128.size (inb_rows hk h)).toLoadRect (harg.unread x)

/-- Head `h`'s cumulative log-forget terms of block `k`. -/
def cld {k : ℕ} (hk : k < 8) (h : Fin 8) : Vec F S1x1x1x256 .f32 :=
  View.readAt (Elt F) arg6.view (Rect.unit (s := S1x8x1x2048) ![0, h.val, 0, 256 * k] S1x1x1x256.size (inb_cum hk h)).toLoadRect (harg6.unread x3)

/-- The grid's last coordinate, the query block, is below 8. -/
theorem qi_lt : (i 2).val < 8 := (i 2).isLt

/-- A trip's number is below 8. -/
theorem trip_lt (k : Fin (k0_t1_loop i).trips) : k.val < 8 := by have := (k0_t1_abs i).2.1; omega

/-- Loads at equal offsets are equal. -/
theorem readAt_off {sp : Space} {s u : Shape} {φ : EltTy} (arg : Memref sig .tc sp s φ) {o o' : Fin s.rank → ℕ} (sz : Fin s.rank → ℕ)
    (e : o = o') (ho : ∀ a, o a + sz a ≤ s.size a) (ho' : ∀ a, o' a + sz a ≤ s.size a) (X : arg.view.ty.Contents (Elt F)) :
    View.readAt (Elt F) arg.view (Rect.unit o sz ho).toLoadRect X = View.readAt (Elt F) arg.view (Rect.unit o' sz ho').toLoadRect X := by
  subst e; rfl

end Cert.Proof.Fox

end
-- ==== Proof.FoxLoop.lean ====
/-
  The kernel's loop over key blocks, head by head: a trip takes one block into every head's state.
-/
module

public import proofs.«01_k».proof.Proof.FoxHead

@[expose] public section

set_option maxRecDepth 16384

noncomputable section

namespace Cert.Proof.Fox

open Idealize.ShloMosaic Idealize.ShloMosaic.TcCoe Idealize.SL.Sem
open Cert.KernelIdeal Cert.KernelIdeal.Gen

variable {F : FTy → Type} [FloatOps F]

variable (c : Dev nD) (i : grid0.Coords) (arg3 : Memref sig .tc .vmem S256x1024 .f32) (harg3 : arg3.IsWhole)
  (arg4 : Memref sig .tc .vmem S2048x1024 .f32) (harg4 : arg4.IsWhole) (arg5 : Memref sig .tc .vmem S2048x1024 .f32) (harg5 : arg5.IsWhole)
  (arg6 : Memref sig .tc .vmem S1x8x1x2048 .f32) (harg6 : arg6.IsWhole) (arg7 : Memref sig .tc .vmem S256x1024 .f32) (harg7 : arg7.IsWhole)
  (x0 : Vec F S256x1024 .f32) (x1 : Vec F S2048x1024 .f32) (x2 : Vec F S2048x1024 .f32) (x3 : Vec F S1x8x1x2048 .f32)

/-- What the loop is started on: the eight heads' states, each as before the first block. -/
def init : Acc F :=
  (k0_pay137, k0_pay138, k0_pay139, k0_pay137, k0_pay138, k0_pay139, k0_pay137, k0_pay138, k0_pay139, k0_pay137, k0_pay138, k0_pay139,
   k0_pay137, k0_pay138, k0_pay139, k0_pay137, k0_pay138, k0_pay139, k0_pay137, k0_pay138, k0_pay139, k0_pay137, k0_pay138, k0_pay139)

/-- The carried value before trip `n`. -/
def run (n : ℕ) : Acc F :=
  st_k0_t1 Variants.none c none i arg3 harg3 arg4 harg4 arg5 harg5 arg6 harg6 arg7 harg7 (BitVec.ofNat 32 (i 2).val)
    (kernelRun0_A.sl.r c arg3 harg3 x0) (kernelRun0_A.sl.r_1 c arg3 harg3 x0) (kernelRun0_A.sl.r_2 c arg3 harg3 x0)
    (kernelRun0_A.sl.r_3 c arg3 harg3 x0) (kernelRun0_A.sl.r_4 c arg3 harg3 x0) (kernelRun0_A.sl.r_5 c arg3 harg3 x0)
    (kernelRun0_A.sl.r_6 c arg3 harg3 x0) (kernelRun0_A.sl.r_7 c arg3 harg3 x0) (kernelRun0_A.sl.v35 i)
    (kernelRun0_A.sl.r_8 c i arg6 harg6 x3) (kernelRun0_A.sl.r_9 c i arg6 harg6 x3) (kernelRun0_A.sl.r_10 c i arg6 harg6 x3)
    (kernelRun0_A.sl.r_11 c i arg6 harg6 x3) (kernelRun0_A.sl.r_12 c i arg6 harg6 x3) (kernelRun0_A.sl.r_13 c i arg6 harg6 x3) k0_pay132
    (kernelRun0_A.sl.r_14 c i arg6 harg6 x3) k0_pay134
    (View.readAt (Elt F) arg6.view (Rect.unit (s := S1x8x1x2048) (k0_off8 i) S1x1x1x256.size (k0_off8_inb i)).toLoadRect (harg6.unread x3))
    (harg4.unread x1) (harg5.unread x2) (harg6.unread x3) init n

/-- Head `h`'s scaled queries. -/
def q (h : Fin 8) : FVec F S256x128 .bf16 := scaled (qld arg3 harg3 x0 h)

/-- Head `h`'s column of cumulative log-forget terms of the query block. -/
def cq (h : Fin 8) : FVec F S256x1 .f32 := col (cld arg6 harg6 x3 (qi_lt i) h)

/-- Before the first trip each head's state is the initial one. -/
theorem run_zero (h : Fin 8) :
    pick (run c i arg3 harg3 arg4 harg4 arg5 harg5 arg6 harg6 arg7 harg7 x0 x1 x2 x3 0) h = start := by
  rw [run, st_k0_t1_zero]
  match h with
  | 0 | 1 | 2 | 3 | 4 | 5 | 6 | 7 => rfl

/-- Head `h`'s keys (or values) of block `k`, loaded at an offset the program computes. -/
theorem kld_eq (arg : Memref sig .tc .vmem S2048x1024 .f32) (harg : arg.IsWhole) (x : Vec F S2048x1024 .f32) {k : ℕ} (hk : k < 8) (h : Fin 8)
    {o : Fin 2 → ℕ} (e : o = ![256 * k, 128 * h.val]) (ho : ∀ a, o a + S256x128.size a ≤ S2048x1024.size a) :
    kld arg harg x hk h = View.readAt (Elt F) arg.view (Rect.unit (s := S2048x1024) o S256x128.size ho).toLoadRect (harg.unread x) := by
  subst e; rfl

/-- Head `h`'s cumulative log-forget terms of block `k`, loaded at an offset the program computes. -/
theorem cld_eq {k : ℕ} (hk : k < 8) (h : Fin 8)
    {o : Fin 4 → ℕ} (e : o = ![0, h.val, 0, 256 * k]) (ho : ∀ a, o a + S1x1x1x256.size a ≤ S1x8x1x2048.size a) :
    cld arg6 harg6 x3 hk h = View.readAt (Elt F) arg6.view (Rect.unit (s := S1x8x1x2048) o S1x1x1x256.size ho).toLoadRect (harg6.unread x3) := by
  subst e; rfl

/-- The column as the body names it, head by head. -/
def cqs : Fin 8 → FVec F S256x1 .f32
  | 0 => kernelRun0_A.sl.r_8 c i arg6 harg6 x3
  | 1 => kernelRun0_A.sl.r_9 c i arg6 harg6 x3
  | 2 => kernelRun0_A.sl.r_10 c i arg6 harg6 x3
  | 3 => kernelRun0_A.sl.r_11 c i arg6 harg6 x3
  | 4 => kernelRun0_A.sl.r_12 c i arg6 harg6 x3
  | 5 => kernelRun0_A.sl.r_13 c i arg6 harg6 x3
  | 6 => kernelRun0_A.sl.r_15 c i arg6 harg6 x3
  | 7 => kernelRun0_A.sl.r_16 c i arg6 harg6 x3

/-- The body's offsets of the query block's cumulative log-forget terms, head by head. -/
def qoff : Fin 8 → Fin 4 → ℕ
  | 0 => k0_off1 i | 1 => k0_off2 i | 2 => k0_off3 i | 3 => k0_off4 i
  | 4 => k0_off5 i | 5 => k0_off6 i | 6 => k0_off7 i | 7 => k0_off8 i

/-- … in closed form. -/
theorem qoff_eq (h : Fin 8) : qoff i h = ![0, h.val, 0, 256 * (i 2).val] :=
  match h with
  | 0 => k0_off1_eq i | 1 => k0_off2_eq i | 2 => k0_off3_eq i | 3 => k0_off4_eq i
  | 4 => k0_off5_eq i | 5 => k0_off6_eq i | 6 => k0_off7_eq i | 7 => k0_off8_eq i

/-- … and in the array. -/
theorem qoff_inb (h : Fin 8) : ∀ a, qoff i h a + S1x1x1x256.size a ≤ S1x8x1x2048.size a := by
  rw [qoff_eq]; exact inb_cum (qi_lt i) h

/-- It is the column of the head's terms. -/
theorem cq_eq (h : Fin 8) : cq i arg6 harg6 x3 h = cqs c i arg6 harg6 x3 h := by
  rw [cq, cld_eq arg6 harg6 x3 (qi_lt i) h (qoff_eq i h) (qoff_inb i h)]
  match h with
  | 0 => rfl
  | 1 => rfl
  | 2 => rfl
  | 3 => rfl
  | 4 => rfl
  | 5 => rfl
  | 6 => rfl
  | 7 => rfl

/-- The body's offsets of a trip's block of keys and values, head by head. -/
def koff (k : Fin (k0_t1_loop i).trips) : Fin 8 → Fin 2 → ℕ
  | 0 => k0_off9 i k | 1 => k0_off11 i k | 2 => k0_off13 i k | 3 => k0_off15 i k
  | 4 => k0_off17 i k | 5 => k0_off19 i k | 6 => k0_off21 i k | 7 => k0_off23 i k

/-- … in closed form. -/
theorem koff_eq (k : Fin (k0_t1_loop i).trips) (h : Fin 8) : koff i k h = ![256 * k.val, 128 * h.val] :=
  match h with
  | 0 => k0_off9_eq i k | 1 => k0_off11_eq i k | 2 => k0_off13_eq i k | 3 => k0_off15_eq i k
  | 4 => k0_off17_eq i k | 5 => k0_off19_eq i k | 6 => k0_off21_eq i k | 7 => k0_off23_eq i k

/-- … and in the array. -/
theorem koff_inb (k : Fin (k0_t1_loop i).trips) (h : Fin 8) : ∀ a, koff i k h a + S256x128.size a ≤ S2048x1024.size a := by
  rw [koff_eq]; exact inb_rows (trip_lt i k) h

/-- The body's offsets of a trip's cumulative log-forget terms, head by head. -/
def coff (k : Fin (k0_t1_loop i).trips) : Fin 8 → Fin 4 → ℕ
  | 0 => k0_off10 i k | 1 => k0_off12 i k | 2 => k0_off14 i k | 3 => k0_off16 i k
  | 4 => k0_off18 i k | 5 => k0_off20 i k | 6 => k0_off22 i k | 7 => k0_off24 i k

/-- … in closed form. -/
theorem coff_eq (k : Fin (k0_t1_loop i).trips) (h : Fin 8) : coff i k h = ![0, h.val, 0, 256 * k.val] :=
  match h with
  | 0 => k0_off10_eq i k | 1 => k0_off12_eq i k | 2 => k0_off14_eq i k | 3 => k0_off16_eq i k
  | 4 => k0_off18_eq i k | 5 => k0_off20_eq i k | 6 => k0_off22_eq i k | 7 => k0_off24_eq i k

/-- … and in the array. -/
theorem coff_inb (k : Fin (k0_t1_loop i).trips) (h : Fin 8) : ∀ a, coff i k h a + S1x1x1x256.size a ≤ S1x8x1x2048.size a := by
  rw [coff_eq]; exact inb_cum (trip_lt i k) h

/-- A trip takes block `k` of the keys and values into each head's state. -/
theorem run_succ (k : Fin (k0_t1_loop i).trips) (h : Fin 8) :
    pick (run c i arg3 harg3 arg4 harg4 arg5 harg5 arg6 harg6 arg7 harg7 x0 x1 x2 x3 (k.val + 1)) h
      = upd (scores (q arg3 harg3 x0 h) (cq i arg6 harg6 x3 h) (kld arg4 harg4 x1 (trip_lt i k) h) (cld arg6 harg6 x3 (trip_lt i k) h))
          (kld arg5 harg5 x2 (trip_lt i k) h) (pick (run c i arg3 harg3 arg4 harg4 arg5 harg5 arg6 harg6 arg7 harg7 x0 x1 x2 x3 k.val) h) := by
  rw [run, st_k0_t1_succ, ← run]
  generalize run c i arg3 harg3 arg4 harg4 arg5 harg5 arg6 harg6 arg7 harg7 x0 x1 x2 x3 k.val = acc
  rw [kld_eq arg4 harg4 x1 (trip_lt i k) h (koff_eq i k h) (koff_inb i k h), kld_eq arg5 harg5 x2 (trip_lt i k) h (koff_eq i k h) (koff_inb i k h),
    cld_eq arg6 harg6 x3 (trip_lt i k) h (coff_eq i k h) (coff_inb i k h), cq_eq c]
  unfold tripR_k0_t1 trip_k0_t1
  match h with
  | 0 => rfl
  | 1 => rfl
  | 2 => rfl
  | 3 => rfl
  | 4 => rfl
  | 5 => rfl
  | 6 => rfl
  | 7 => rfl

end Cert.Proof.Fox

end
-- ==== Proof.FoxBody.lean ====
/-
  What the kernel's body stores: for each head, the state after the loop with the diagonal block taken in, accumulator over
  normalizer.
-/
module

public import proofs.«01_k».proof.Proof.FoxLoop

@[expose] public section

set_option maxRecDepth 16384

noncomputable section

namespace Cert.Proof.Fox

open Idealize.ShloMosaic Idealize.ShloMosaic.TcCoe Idealize.SL.Sem
open Cert.KernelIdeal Cert.KernelIdeal.Gen

variable {F : FTy → Type} [FloatOps F]

variable (c : Dev nD) (i : grid0.Coords) (arg3 : Memref sig .tc .vmem S256x1024 .f32) (harg3 : arg3.IsWhole)
  (arg4 : Memref sig .tc .vmem S2048x1024 .f32) (harg4 : arg4.IsWhole) (arg5 : Memref sig .tc .vmem S2048x1024 .f32) (harg5 : arg5.IsWhole)
  (arg6 : Memref sig .tc .vmem S1x8x1x2048 .f32) (harg6 : arg6.IsWhole) (arg7 : Memref sig .tc .vmem S256x1024 .f32) (harg7 : arg7.IsWhole)
  (x0 : Vec F S256x1024 .f32) (x1 : Vec F S2048x1024 .f32) (x2 : Vec F S2048x1024 .f32) (x3 : Vec F S1x8x1x2048 .f32)

/-- Head `h`'s state after the loops, as the body names it. -/
def lastSt : Fin 8 → St F
  | 0 => (kernelRun0_A.sl.r_17 c i arg3 harg3 arg4 harg4 arg5 harg5 arg6 harg6 arg7 harg7 x0 x1 x2 x3, kernelRun0_A.sl.r_18 c i arg3 harg3 arg4 harg4 arg5 harg5 arg6 harg6 arg7 harg7 x0 x1 x2 x3,
      kernelRun0_A.sl.r_19 c i arg3 harg3 arg4 harg4 arg5 harg5 arg6 harg6 arg7 harg7 x0 x1 x2 x3)
  | 1 => (kernelRun0_A.sl.r_20 c i arg3 harg3 arg4 harg4 arg5 harg5 arg6 harg6 arg7 harg7 x0 x1 x2 x3, kernelRun0_A.sl.r_21 c i arg3 harg3 arg4 harg4 arg5 harg5 arg6 harg6 arg7 harg7 x0 x1 x2 x3,
      kernelRun0_A.sl.r_22 c i arg3 harg3 arg4 harg4 arg5 harg5 arg6 harg6 arg7 harg7 x0 x1 x2 x3)
  | 2 => (kernelRun0_A.sl.r_23 c i arg3 harg3 arg4 harg4 arg5 harg5 arg6 harg6 arg7 harg7 x0 x1 x2 x3, kernelRun0_A.sl.r_24 c i arg3 harg3 arg4 harg4 arg5 harg5 arg6 harg6 arg7 harg7 x0 x1 x2 x3,
      kernelRun0_A.sl.r_25 c i arg3 harg3 arg4 harg4 arg5 harg5 arg6 harg6 arg7 harg7 x0 x1 x2 x3)
  | 3 => (kernelRun0_A.sl.r_26 c i arg3 harg3 arg4 harg4 arg5 harg5 arg6 harg6 arg7 harg7 x0 x1 x2 x3, kernelRun0_A.sl.r_27 c i arg3 harg3 arg4 harg4 arg5 harg5 arg6 harg6 arg7 harg7 x0 x1 x2 x3,
      kernelRun0_A.sl.r_28 c i arg3 harg3 arg4 harg4 arg5 harg5 arg6 harg6 arg7 harg7 x0 x1 x2 x3)
  | 4 => (kernelRun0_A.sl.r_29 c i arg3 harg3 arg4 harg4 arg5 harg5 arg6 harg6 arg7 harg7 x0 x1 x2 x3, kernelRun0_A.sl.r_30 c i arg3 harg3 arg4 harg4 arg5 harg5 arg6 harg6 arg7 harg7 x0 x1 x2 x3,
      kernelRun0_A.sl.r_31 c i arg3 harg3 arg4 harg4 arg5 harg5 arg6 harg6 arg7 harg7 x0 x1 x2 x3)
  | 5 => (kernelRun0_A.sl.r_32 c i arg3 harg3 arg4 harg4 arg5 harg5 arg6 harg6 arg7 harg7 x0 x1 x2 x3, kernelRun0_A.sl.r_33 c i arg3 harg3 arg4 harg4 arg5 harg5 arg6 harg6 arg7 harg7 x0 x1 x2 x3,
      kernelRun0_A.sl.r_34 c i arg3 harg3 arg4 harg4 arg5 harg5 arg6 harg6 arg7 harg7 x0 x1 x2 x3)
  | 6 => (kernelRun0_A.sl.r_35 c i arg3 harg3 arg4 harg4 arg5 harg5 arg6 harg6 arg7 harg7 x0 x1 x2 x3, kernelRun0_A.sl.r_36 c i arg3 harg3 arg4 harg4 arg5 harg5 arg6 harg6 arg7 harg7 x0 x1 x2 x3,
      kernelRun0_A.sl.r_37 c i arg3 harg3 arg4 harg4 arg5 harg5 arg6 harg6 arg7 harg7 x0 x1 x2 x3)
  | 7 => (kernelRun0_A.sl.r_38 c i arg3 harg3 arg4 harg4 arg5 harg5 arg6 harg6 arg7 harg7 x0 x1 x2 x3, kernelRun0_A.sl.r_39 c i arg3 harg3 arg4 harg4 arg5 harg5 arg6 harg6 arg7 harg7 x0 x1 x2 x3,
      kernelRun0_A.sl.r_40 c i arg3 harg3 arg4 harg4 arg5 harg5 arg6 harg6 arg7 harg7 x0 x1 x2 x3)

/-- The first loop makes one trip per block before the query block … -/
theorem trips1 : ∀ i : grid0.Coords, Scf.trips (k0_t1_loop i).lb (k0_t1_loop i).ub (k0_t1_loop i).st = (i 2).val := by decide +kernel

/-- … and the second, the remainder of the first when it is unrolled, none. -/
theorem trips2 : ∀ i : grid0.Coords, Scf.trips (k0_t2_loop i).lb (k0_t2_loop i).ub (k0_t2_loop i).st = 0 := by decide +kernel

/-- The carried value, component by component. -/
def eta (a : Acc F) : Acc F :=
  (a.1, a.2.1, a.2.2.1, a.2.2.2.1, a.2.2.2.2.1, a.2.2.2.2.2.1, a.2.2.2.2.2.2.1, a.2.2.2.2.2.2.2.1, a.2.2.2.2.2.2.2.2.1, a.2.2.2.2.2.2.2.2.2.1, a.2.2.2.2.2.2.2.2.2.2.1, a.2.2.2.2.2.2.2.2.2.2.2.1, a.2.2.2.2.2.2.2.2.2.2.2.2.1, a.2.2.2.2.2.2.2.2.2.2.2.2.2.1, a.2.2.2.2.2.2.2.2.2.2.2.2.2.2.1, a.2.2.2.2.2.2.2.2.2.2.2.2.2.2.2.1, a.2.2.2.2.2.2.2.2.2.2.2.2.2.2.2.2.1, a.2.2.2.2.2.2.2.2.2.2.2.2.2.2.2.2.2.1, a.2.2.2.2.2.2.2.2.2.2.2.2.2.2.2.2.2.2.1, a.2.2.2.2.2.2.2.2.2.2.2.2.2.2.2.2.2.2.2.1, a.2.2.2.2.2.2.2.2.2.2.2.2.2.2.2.2.2.2.2.2.1, a.2.2.2.2.2.2.2.2.2.2.2.2.2.2.2.2.2.2.2.2.2.1, a.2.2.2.2.2.2.2.2.2.2.2.2.2.2.2.2.2.2.2.2.2.2.1, a.2.2.2.2.2.2.2.2.2.2.2.2.2.2.2.2.2.2.2.2.2.2.2)

/-- The second loop's carried value before trip `n`, started on `a`. -/
def run2 (a : Acc F) (n : ℕ) : Acc F :=
  st_k0_t2 Variants.none c none i arg3 harg3 arg4 harg4 arg5 harg5 arg6 harg6 arg7 harg7 (BitVec.ofNat 32 (i 2).val)
    (kernelRun0_A.sl.r c arg3 harg3 x0) (kernelRun0_A.sl.r_1 c arg3 harg3 x0) (kernelRun0_A.sl.r_2 c arg3 harg3 x0)
    (kernelRun0_A.sl.r_3 c arg3 harg3 x0) (kernelRun0_A.sl.r_4 c arg3 harg3 x0) (kernelRun0_A.sl.r_5 c arg3 harg3 x0)
    (kernelRun0_A.sl.r_6 c arg3 harg3 x0) (kernelRun0_A.sl.r_7 c arg3 harg3 x0) (kernelRun0_A.sl.v35 i)
    (kernelRun0_A.sl.r_8 c i arg6 harg6 x3) (kernelRun0_A.sl.r_9 c i arg6 harg6 x3) (kernelRun0_A.sl.r_10 c i arg6 harg6 x3)
    (kernelRun0_A.sl.r_11 c i arg6 harg6 x3) (kernelRun0_A.sl.r_12 c i arg6 harg6 x3) (kernelRun0_A.sl.r_13 c i arg6 harg6 x3) k0_pay132
    (kernelRun0_A.sl.r_14 c i arg6 harg6 x3) k0_pay134
    (View.readAt (Elt F) arg6.view (Rect.unit (s := S1x8x1x2048) (k0_off8 i) S1x1x1x256.size (k0_off8_inb i)).toLoadRect (harg6.unread x3))
    (kernelRun0_A.sl.v140 i) (harg4.unread x1) (harg5.unread x2) (harg6.unread x3) a n

/-- It never runs, and ends as it began. -/
theorem run2_end (a : Acc F) :
    run2 c i arg3 harg3 arg4 harg4 arg5 harg5 arg6 harg6 arg7 harg7 x0 x1 x2 x3 a (Scf.trips (k0_t2_loop i).lb (k0_t2_loop i).ub (k0_t2_loop i).st) = a := by
  rw [trips2, run2, st_k0_t2_zero]

/-- The body's state is the second loop's, started on the first loop's last. -/
theorem lastSt_run2 (h : Fin 8) :
    lastSt c i arg3 harg3 arg4 harg4 arg5 harg5 arg6 harg6 arg7 harg7 x0 x1 x2 x3 h
      = pick (run2 c i arg3 harg3 arg4 harg4 arg5 harg5 arg6 harg6 arg7 harg7 x0 x1 x2 x3 (eta (run c i arg3 harg3 arg4 harg4 arg5 harg5 arg6 harg6 arg7 harg7 x0 x1 x2 x3 (Scf.trips (k0_t1_loop i).lb (k0_t1_loop i).ub (k0_t1_loop i).st)))
          (Scf.trips (k0_t2_loop i).lb (k0_t2_loop i).ub (k0_t2_loop i).st)) h := by
  match h with
  | 0 =>
    unfold lastSt pick
    delta kernelRun0_A.sl.r_17 kernelRun0_A.sl.r_18 kernelRun0_A.sl.r_19 run2 eta run init
    with_reducible rfl
  | 1 =>
    unfold lastSt pick
    delta kernelRun0_A.sl.r_20 kernelRun0_A.sl.r_21 kernelRun0_A.sl.r_22 run2 eta run init
    with_reducible rfl
  | 2 =>
    unfold lastSt pick
    delta kernelRun0_A.sl.r_23 kernelRun0_A.sl.r_24 kernelRun0_A.sl.r_25 run2 eta run init
    with_reducible rfl
  | 3 =>
    unfold lastSt pick
    delta kernelRun0_A.sl.r_26 kernelRun0_A.sl.r_27 kernelRun0_A.sl.r_28 run2 eta run init
    with_reducible rfl
  | 4 =>
    unfold lastSt pick
    delta kernelRun0_A.sl.r_29 kernelRun0_A.sl.r_30 kernelRun0_A.sl.r_31 run2 eta run init
    with_reducible rfl
  | 5 =>
    unfold lastSt pick
    delta kernelRun0_A.sl.r_32 kernelRun0_A.sl.r_33 kernelRun0_A.sl.r_34 run2 eta run init
    with_reducible rfl
  | 6 =>
    unfold lastSt pick
    delta kernelRun0_A.sl.r_35 kernelRun0_A.sl.r_36 kernelRun0_A.sl.r_37 run2 eta run init
    with_reducible rfl
  | 7 =>
    unfold lastSt pick
    delta kernelRun0_A.sl.r_38 kernelRun0_A.sl.r_39 kernelRun0_A.sl.r_40 run2 eta run init
    with_reducible rfl

/-- So it is the state the first loop ends in. -/
theorem lastSt_eq (h : Fin 8) : lastSt c i arg3 harg3 arg4 harg4 arg5 harg5 arg6 harg6 arg7 harg7 x0 x1 x2 x3 h = pick (run c i arg3 harg3 arg4 harg4 arg5 harg5 arg6 harg6 arg7 harg7 x0 x1 x2 x3 (i 2).val) h := by
  rw [lastSt_run2, run2_end, trips1, show ∀ a : Acc F, eta a = a from fun _ => rfl]

/-- What the body stores in head `h`'s columns, as it names it. -/
def piece : Fin 8 → FVec F S256x128 .f32
  | 0 => k0_pay212 (kernelRun0_A.sl.r_44 c i arg3 harg3 arg4 harg4 arg5 harg5 arg6 harg6 arg7 harg7 x0 x1 x2 x3) (kernelRun0_A.sl.r_45 c i arg3 harg3 arg4 harg4 arg5 harg5 arg6 harg6 arg7 harg7 x0 x1 x2 x3)
  | 1 => kernelRun0_A.sl.r_72 c i arg3 harg3 arg4 harg4 arg5 harg5 arg6 harg6 arg7 harg7 x0 x1 x2 x3
  | 2 => k0_pay1 (kernelRun0_A.sl.r_51 c i arg3 harg3 arg4 harg4 arg5 harg5 arg6 harg6 arg7 harg7 x0 x1 x2 x3) (kernelRun0_A.sl.r_52 c i arg3 harg3 arg4 harg4 arg5 harg5 arg6 harg6 arg7 harg7 x0 x1 x2 x3)
  | 3 => k0_pay2 (kernelRun0_A.sl.r_53 c i arg3 harg3 arg4 harg4 arg5 harg5 arg6 harg6 arg7 harg7 x0 x1 x2 x3) (kernelRun0_A.sl.r_54 c i arg3 harg3 arg4 harg4 arg5 harg5 arg6 harg6 arg7 harg7 x0 x1 x2 x3)
  | 4 => k0_pay3 (kernelRun0_A.sl.r_58 c i arg3 harg3 arg4 harg4 arg5 harg5 arg6 harg6 arg7 harg7 x0 x1 x2 x3) (kernelRun0_A.sl.r_59 c i arg3 harg3 arg4 harg4 arg5 harg5 arg6 harg6 arg7 harg7 x0 x1 x2 x3)
  | 5 => k0_pay4 (kernelRun0_A.sl.r_63 c i arg3 harg3 arg4 harg4 arg5 harg5 arg6 harg6 arg7 harg7 x0 x1 x2 x3) (kernelRun0_A.sl.r_64 c i arg3 harg3 arg4 harg4 arg5 harg5 arg6 harg6 arg7 harg7 x0 x1 x2 x3)
  | 6 => k0_pay5 (kernelRun0_A.sl.r_66 c i arg3 harg3 arg4 harg4 arg5 harg5 arg6 harg6 arg7 harg7 x0 x1 x2 x3) (kernelRun0_A.sl.r_69 c i arg3 harg3 arg4 harg4 arg5 harg5 arg6 harg6 arg7 harg7 x0 x1 x2 x3)
  | 7 => k0_pay6 (kernelRun0_A.sl.r_70 c i arg3 harg3 arg4 harg4 arg5 harg5 arg6 harg6 arg7 harg7 x0 x1 x2 x3) (kernelRun0_A.sl.r_71 c i arg3 harg3 arg4 harg4 arg5 harg5 arg6 harg6 arg7 harg7 x0 x1 x2 x3)

/-- The body's offsets of the diagonal block of keys and values, head by head. -/
def doff : Fin 8 → Fin 2 → ℕ
  | 0 => k0_off41 i | 1 => k0_off42 i | 2 => k0_off43 i | 3 => k0_off44 i
  | 4 => k0_off45 i | 5 => k0_off46 i | 6 => k0_off47 i | 7 => k0_off48 i

/-- … in closed form. -/
theorem doff_eq (h : Fin 8) : doff i h = ![256 * (i 2).val, 128 * h.val] :=
  match h with
  | 0 => k0_off41_eq i | 1 => k0_off42_eq i | 2 => k0_off43_eq i | 3 => k0_off44_eq i
  | 4 => k0_off45_eq i | 5 => k0_off46_eq i | 6 => k0_off47_eq i | 7 => k0_off48_eq i

/-- … and in the array. -/
theorem doff_inb (h : Fin 8) : ∀ a, doff i h a + S256x128.size a ≤ S2048x1024.size a := by
  rw [doff_eq]; exact inb_rows (qi_lt i) h

/-- It is the quotient of the state with the masked diagonal block taken in. -/
theorem piece_eq (h : Fin 8) :
    piece c i arg3 harg3 arg4 harg4 arg5 harg5 arg6 harg6 arg7 harg7 x0 x1 x2 x3 h
      = quot (upd (masked (scores (q arg3 harg3 x0 h) (cq i arg6 harg6 x3 h) (kld arg4 harg4 x1 (qi_lt i) h) (cld arg6 harg6 x3 (qi_lt i) h)))
          (kld arg5 harg5 x2 (qi_lt i) h) (pick (run c i arg3 harg3 arg4 harg4 arg5 harg5 arg6 harg6 arg7 harg7 x0 x1 x2 x3 (i 2).val) h)) := by
  rw [← lastSt_eq, kld_eq arg4 harg4 x1 (qi_lt i) h (doff_eq i h) (doff_inb i h), kld_eq arg5 harg5 x2 (qi_lt i) h (doff_eq i h) (doff_inb i h),
    cq_eq c, cld_eq arg6 harg6 x3 (qi_lt i) h (qoff_eq i h) (qoff_inb i h)]
  match h with
  | 0 => rfl
  | 1 => rfl
  | 2 => rfl
  | 3 => rfl
  | 4 => rfl
  | 5 => rfl
  | 6 => rfl
  | 7 => rfl

end Cert.Proof.Fox

end
-- ==== Proof.FoxPoint.lean ====
/-
  The head's vector operations read at an index, over the extended reals.
-/
module

public import proofs.«01_k».proof.Proof.FoxBody
public import Idealize.ShloMosaic.Lib.Pointwise

@[expose] public section

set_option maxRecDepth 16384

noncomputable section

namespace Cert.Proof.Fox

open Idealize.ShloMosaic Idealize.ShloMosaic.TcCoe Idealize.SL.Sem
open Cert.KernelIdeal Cert.KernelIdeal.Gen
open scoped BigOperators

/-- The word of `-∞` is `⊥`. -/
theorem ofBits_ninf : Ideal.ofBits .f32 0xFF800000#32 = ⊥ := by simp [Ideal.ofBits, Ideal.ieee]

/-- Two lane numbers are compared as words: for equality … -/
theorem eq_word (r k : Fin 256) :
    IntOp.cmpi CmpIPredicate.eq (BitVec.ofNat 32 r.val) (BitVec.ofNat 32 k.val) = if r = k then 1#1 else 0#1 := by
  have hr := r.isLt; have hk := k.isLt
  by_cases h : r = k
  · subst h; rw [if_pos rfl]; show BitVec.ofBool (_ == _) = _; rw [beq_self_eq_true]; rfl
  · rw [if_neg h]
    show BitVec.ofBool (_ == _) = _
    rw [beq_eq_false_iff_ne.mpr]
    · rfl
    · intro e
      have e' := congrArg BitVec.toNat e
      rw [BitVec.toNat_ofNat, BitVec.toNat_ofNat, Nat.mod_eq_of_lt (by omega), Nat.mod_eq_of_lt (by omega)] at e'
      exact h (Fin.ext e')

/-- … and, by the sign of their difference, for order. -/
theorem ge_word (r k : Fin 256) :
    IntOp.cmpi CmpIPredicate.sge (IntOp.subi (BitVec.ofNat 32 r.val) (BitVec.ofNat 32 k.val)) 0#32 = if k.val ≤ r.val then 1#1 else 0#1 := by
  have hr := r.isLt; have hk := k.isLt
  have e : (0#32).sle (BitVec.ofNat 32 r.val - BitVec.ofNat 32 k.val) = decide (k.val ≤ r.val) := by
    rw [BitVec.sle_eq_decide, decide_eq_decide]
    simp only [BitVec.toInt_eq_toNat_cond, BitVec.toNat_sub, BitVec.toNat_ofNat]
    split <;> split <;> omega
  show BitVec.ofBool ((0#32).sle (BitVec.ofNat 32 r.val - BitVec.ofNat 32 k.val)) = _
  rw [e]
  by_cases h : k.val ≤ r.val
  · rw [if_pos h, decide_eq_true h]; rfl
  · rw [if_neg h, decide_eq_false h]; rfl

/-- A score at a row and a column. -/
theorem scores_at (q : FVec Ideal S256x128 .bf16) (cq : FVec Ideal S256x1 .f32) (kb : Vec Ideal S256x128 .f32) (ck : Vec Ideal S1x1x1x256 .f32)
    (r k : Fin 256) :
    scores q cq kb ck (ix2 r k) = (∑ d : Fin 128, q (ix2 r d) * kb (ix2 k d)) + cq (ix2 r 0) - ck (ix4 0 0 0 k) := by
  pointwise [scores]

/-- The new running maximum at a row. -/
theorem mx_at (s : FVec Ideal S256x256 .f32) (m : FVec Ideal S256x1 .f32) (r : Fin 256) :
    mx s m (ix2 r 0) = max (m (ix2 r 0)) (Finset.univ.fold max ⊥ fun k => s (ix2 r k)) := by
  pointwise [mx]
  rw [ofBits_ninf]

/-- The exponentials at a row and a column. -/
theorem ex_at (s : FVec Ideal S256x256 .f32) (m : FVec Ideal S256x1 .f32) (r k : Fin 256) :
    ex s m (ix2 r k) = Ideal.exp (s (ix2 r k) - mx s m (ix2 r 0)) := by
  pointwise [ex]

/-- The rescaling factor at a row. -/
theorem al_at (s : FVec Ideal S256x256 .f32) (m : FVec Ideal S256x1 .f32) (r : Fin 256) :
    al s m (ix2 r 0) = Ideal.exp (m (ix2 r 0) - mx s m (ix2 r 0)) := by
  pointwise [al]

/-- The updated normalizer at a row. -/
theorem upd_sum_at (s : FVec Ideal S256x256 .f32) (vb : Vec Ideal S256x128 .f32) (x : St Ideal) (r : Fin 256) :
    (upd s vb x).2.1 (ix2 r 0) = al s x.1 (ix2 r 0) * x.2.1 (ix2 r 0) + ∑ k : Fin 256, ex s x.1 (ix2 r k) := by
  pointwise [upd]

/-- The updated accumulator at a row and a column. -/
theorem upd_acc_at (s : FVec Ideal S256x256 .f32) (vb : Vec Ideal S256x128 .f32) (x : St Ideal) (r : Fin 256) (d : Fin 128) :
    (upd s vb x).2.2 (ix2 r d) = al s x.1 (ix2 r 0) * x.2.2 (ix2 r d) + ∑ k : Fin 256, ex s x.1 (ix2 r k) * vb (ix2 k d) := by
  pointwise [upd]

/-- The result at a row and a column. -/
theorem quot_at (x : St Ideal) (r : Fin 256) (d : Fin 128) :
    quot x (ix2 r d) = Ideal.div (x.2.2 (ix2 r d)) (x.2.1 (ix2 r 0)) := by
  pointwise [quot]

/-- The scaled queries at a row and a column. -/
theorem scaled_at (x : Vec Ideal S256x128 .f32) (r : Fin 256) (d : Fin 128) :
    scaled x (ix2 r d) = x (ix2 r d) * Ideal.ofBits .f32 0x3DB504F3#32 := by
  pointwise [scaled]

/-- The column at a row is the row's entry: of the masked sum one term is left. -/
theorem col_at (x : Vec Ideal S1x1x1x256 .f32) (r : Fin 256) : col x (ix2 r 0) = x (ix4 0 0 0 r) := by
  pointwise [col]
  rw [Finset.sum_eq_single r]
  · rw [eq_word, if_pos rfl]; rfl
  · intro k _ hk
    rw [eq_word, if_neg (Ne.symm hk)]; rfl
  · exact fun h => absurd (Finset.mem_univ r) h

/-- The mask at a row and a column. -/
theorem masked_at (s : FVec Ideal S256x256 .f32) (r k : Fin 256) :
    masked s (ix2 r k) = if k.val ≤ r.val then s (ix2 r k) else ⊥ := by
  pointwise [masked]
  rw [ge_word, ofBits_ninf]
  by_cases h : k.val ≤ r.val
  · rw [if_pos h, if_pos h]; rfl
  · rw [if_neg h, if_neg h]; rfl

end Cert.Proof.Fox

end
-- ==== Proof.Softmax.lean ====
/-
  The arithmetic of a softmax computed block by block, over the extended reals, with no program in sight.

  A row of scores `s κ` (one per key, never `⊤`; `⊥` at a masked key) weights the rows `v κ` of the values. The blockwise
  algorithm carries a running maximum `m`, a normalizer `l` and an accumulator `a`. All that the result needs of `m` is that
  it is a real number: with `w κ = exp (s κ)` the state after the first `n` keys is
  `l = exp (-m) · ∑ w κ` and `a = exp (-m) · ∑ w κ · v κ` (`Good`), and the factor `exp (-m)` cancels in `a / l`.
-/
module

public import Idealize.ShloMosaic.PureOps.Ideal

@[expose] public section

noncomputable section

namespace Cert.Proof.Softmax

open Idealize.ShloMosaic
open scoped BigOperators

/-- The weight of a score: its exponential as a real number, `0` at a masked key. -/
def wt (s : EReal) : ℝ := (Ideal.exp s).toReal

/-- A weight is not negative. -/
theorem wt_nonneg (s : EReal) : 0 ≤ wt s := by
  unfold wt
  induction s using EReal.rec with
  | bot => simp
  | top => simp
  | coe r => simp [Real.exp_nonneg]

/-- A masked key weighs nothing. -/
theorem wt_bot : wt ⊥ = 0 := by simp [wt]

/-- A real score has a positive weight. -/
theorem wt_pos (r : ℝ) : 0 < wt (r : EReal) := by simp [wt, Real.exp_pos]

/-- The exponential of a score shifted by a real number is the score's weight times `exp (-m)`. -/
theorem exp_sub {s : EReal} (hs : s ≠ ⊤) (m : ℝ) :
    Ideal.exp (s - (m : EReal)) = ((wt s * Real.exp (-m) : ℝ) : EReal) := by
  induction s using EReal.rec with
  | bot => simp [wt]
  | top => exact absurd rfl hs
  | coe r =>
    rw [← EReal.coe_sub, Ideal.exp_coe]
    simp only [wt, Ideal.exp_coe, EReal.toReal_coe]
    rw [sub_eq_add_neg, Real.exp_add]

/-- A nonnegative real factor distributes over a sum of extended reals. -/
theorem coe_mul_add {c : ℝ} (hc : 0 ≤ c) (x y : EReal) : (c : EReal) * (x + y) = c * x + c * y :=
  EReal.left_distrib_of_nonneg_of_ne_top (EReal.coe_nonneg.mpr hc) (EReal.coe_ne_top c) x y

/-- … and over a finite one. -/
theorem coe_mul_sum {ι : Type*} {c : ℝ} (hc : 0 ≤ c) (S : Finset ι) (f : ι → EReal) :
    (c : EReal) * ∑ i ∈ S, f i = ∑ i ∈ S, (c : EReal) * f i := by
  classical
  induction S using Finset.induction_on with
  | empty => simp
  | insert i S hi ih => rw [Finset.sum_insert hi, Finset.sum_insert hi, coe_mul_add hc, ih]

/-- A finite sum of real numbers, taken among the extended reals. -/
theorem coe_sum {ι : Type*} (S : Finset ι) (f : ι → ℝ) : ∑ i ∈ S, (f i : EReal) = ((∑ i ∈ S, f i : ℝ) : EReal) := by
  classical
  induction S using Finset.induction_on with
  | empty => simp
  | insert i S hi ih => rw [Finset.sum_insert hi, Finset.sum_insert hi, ih, EReal.coe_add]

/-- The maximum of finitely many scores below `⊤` is below `⊤`. -/
theorem fold_max_ne_top {ι : Type*} (S : Finset ι) {b : EReal} (hb : b ≠ ⊤) {f : ι → EReal} (hf : ∀ i ∈ S, f i ≠ ⊤) :
    S.fold max b f ≠ ⊤ := by
  rw [← lt_top_iff_ne_top, Finset.fold_max_lt]
  exact ⟨lt_top_iff_ne_top.mpr hb, fun i hi => lt_top_iff_ne_top.mpr (hf i hi)⟩

/-- The larger of a real number and something below `⊤` is a real number. -/
theorem max_coe (r : ℝ) {x : EReal} (hx : x ≠ ⊤) : ∃ μ : ℝ, max (r : EReal) x = μ := by
  induction x using EReal.rec with
  | bot => exact ⟨r, by simp⟩
  | top => exact absurd rfl hx
  | coe y => exact ⟨max r y, (EReal.coe_strictMono.monotone.map_max).symm⟩

variable {D : Type*}

/-- The state after the first `n` keys. -/
def Good (s : ℕ → EReal) (v : ℕ → D → EReal) (n : ℕ) (m l : EReal) (a : D → EReal) : Prop :=
  ∃ μ : ℝ, m = μ ∧ l = ((Real.exp (-μ) * ∑ κ ∈ Finset.range n, wt (s κ) : ℝ) : EReal)
    ∧ ∀ d, a d = ((Real.exp (-μ) : ℝ) : EReal) * ∑ κ ∈ Finset.range n, (wt (s κ) : EReal) * v κ d

/-- Before the first key the normalizer and the accumulator are zero. -/
theorem good_zero (s : ℕ → EReal) (v : ℕ → D → EReal) (μ : ℝ) : Good s v 0 (μ : EReal) 0 (fun _ => 0) :=
  ⟨μ, rfl, by simp, fun d => by simp⟩

/-- One block of `N` keys: the maximum moves to `m'` (any real number), the old normalizer and accumulator are rescaled
    by `exp (m - m')`, and the block's keys are added with their weights relative to `m'`. -/
theorem good_step {s : ℕ → EReal} {v : ℕ → D → EReal} {n N : ℕ} {m l : EReal} {a : D → EReal} (h : Good s v n m l a)
    {x : EReal} {t : Fin N → EReal} {w : Fin N → D → EReal} (hx : x ≠ ⊤) (ht : ∀ k, t k ≠ ⊤)
    (hts : ∀ k : Fin N, t k = s (n + k.val)) (hw : ∀ (k : Fin N) d, w k d = v (n + k.val) d) :
    Good s v (n + N) (max m x) (Ideal.exp (m - max m x) * l + ∑ k, Ideal.exp (t k - max m x))
      (fun d => Ideal.exp (m - max m x) * a d + ∑ k, Ideal.exp (t k - max m x) * w k d) := by
  obtain ⟨μ, rfl, rfl, ha⟩ := h
  obtain ⟨ν, hν⟩ := max_coe μ hx
  have hα : Ideal.exp ((μ : EReal) - max (μ : EReal) x) = ((Real.exp (μ - ν) : ℝ) : EReal) := by
    rw [hν, ← EReal.coe_sub, Ideal.exp_coe]
  have hμν : Real.exp (μ - ν) * Real.exp (-μ) = Real.exp (-ν) := by rw [← Real.exp_add]; congr 1; ring
  have hp : ∀ k, Ideal.exp (t k - max (μ : EReal) x) = ((Real.exp (-ν) * wt (s (n + k.val)) : ℝ) : EReal) := fun k => by
    rw [hν, exp_sub (ht k), hts k, mul_comm]
  refine ⟨ν, hν, ?_, fun d => ?_⟩
  · rw [hα, Finset.sum_congr rfl (fun k _ => hp k), coe_sum, ← EReal.coe_mul, ← EReal.coe_add]
    congr 1
    rw [← Finset.mul_sum, ← mul_assoc, hμν, Finset.sum_range_add, mul_add, Finset.sum_range (fun k => wt (s (n + k)))]
  · have hb : ∑ k, Ideal.exp (t k - max (μ : EReal) x) * w k d
        = ((Real.exp (-ν) : ℝ) : EReal) * ∑ k : Fin N, (wt (s (n + k.val)) : EReal) * v (n + k.val) d := by
      rw [coe_mul_sum (Real.exp_nonneg _)]
      exact Finset.sum_congr rfl fun k _ => by rw [hp k, hw k d, EReal.coe_mul, mul_assoc]
    simp only [hb, hα, ha d]
    rw [← mul_assoc, ← EReal.coe_mul, hμν, ← coe_mul_add (Real.exp_nonneg _), Finset.sum_range_add,
      Finset.sum_range (fun k => (wt (s (n + k)) : EReal) * v (n + k) d)]

/-- The softmax-weighted sum of the values: weights over their total. -/
def out (s : ℕ → EReal) (v : ℕ → D → EReal) (n : ℕ) (d : D) : EReal :=
  (∑ κ ∈ Finset.range n, (wt (s κ) : EReal) * v κ d) * ((1 / ∑ κ ∈ Finset.range n, wt (s κ) : ℝ) : EReal)

/-- The total of the weights is positive once one score among them is real. -/
theorem total_pos {s : ℕ → EReal} {n κ₀ : ℕ} (h0 : κ₀ < n) {r : ℝ} (hr : s κ₀ = r) : 0 < ∑ κ ∈ Finset.range n, wt (s κ) :=
  Finset.sum_pos' (fun κ _ => wt_nonneg _) ⟨κ₀, Finset.mem_range.mpr h0, by rw [hr]; exact wt_pos r⟩

/-- The blockwise result is the softmax-weighted sum: accumulator over normalizer, the factor `exp (-m)` cancelling. -/
theorem good_out {s : ℕ → EReal} {v : ℕ → D → EReal} {n κ₀ : ℕ} {m l : EReal} {a : D → EReal} (h : Good s v n m l a)
    (h0 : κ₀ < n) {r : ℝ} (hr : s κ₀ = r) (d : D) : Ideal.div (a d) l = out s v n d := by
  obtain ⟨μ, -, rfl, ha⟩ := h
  have ht := total_pos h0 hr
  rw [Ideal.div_coe (mul_pos (Real.exp_pos _) ht).ne', ha d, out, mul_comm ((Real.exp (-μ) : ℝ) : EReal), mul_assoc, ← EReal.coe_mul]
  congr 2
  have := (Real.exp_pos (-μ)).ne'
  field_simp

/-- The textbook softmax, shifted by any real `μ`, weights the values alike. -/
theorem softmax_out {s : ℕ → EReal} {v : ℕ → D → EReal} {n κ₀ : ℕ} (hs : ∀ κ < n, s κ ≠ ⊤) (h0 : κ₀ < n) {r : ℝ}
    (hr : s κ₀ = r) (μ : ℝ) (d : D) :
    ∑ k : Fin n, Ideal.div (Ideal.exp (s k - μ)) (∑ j : Fin n, Ideal.exp (s j - μ)) * v k d = out s v n d := by
  have ht := total_pos h0 hr
  have hsum : ∑ j : Fin n, Ideal.exp (s j - μ) = ((Real.exp (-μ) * ∑ κ ∈ Finset.range n, wt (s κ) : ℝ) : EReal) := by
    rw [Finset.sum_congr rfl (fun (j : Fin n) _ => exp_sub (hs j j.isLt) μ), coe_sum, ← Finset.sum_mul, mul_comm,
      Finset.sum_range]
  rw [hsum, out, mul_comm (∑ κ ∈ Finset.range n, (wt (s κ) : EReal) * v κ d), coe_mul_sum (by positivity),
    Finset.sum_range (fun κ => ((1 / ∑ κ ∈ Finset.range n, wt (s κ) : ℝ) : EReal) * ((wt (s κ) : EReal) * v κ d))]
  refine Finset.sum_congr rfl fun k _ => ?_
  rw [Ideal.div_coe (mul_pos (Real.exp_pos _) ht).ne', exp_sub (hs k k.isLt), ← mul_assoc, ← EReal.coe_mul, ← EReal.coe_mul]
  congr 2
  have := (Real.exp_pos (-μ)).ne'
  field_simp

/-- Keys of weight zero past the `n`-th change nothing. -/
theorem out_masked {s : ℕ → EReal} (v : ℕ → D → EReal) {n N : ℕ} (hn : n ≤ N) (hz : ∀ κ, n ≤ κ → κ < N → s κ = ⊥) (d : D) :
    out s v N d = out s v n d := by
  obtain ⟨e, rfl⟩ := Nat.exists_eq_add_of_le hn
  have hz' : ∀ k ∈ Finset.range e, wt (s (n + k)) = 0 := fun k hk => by
    rw [hz _ (Nat.le_add_right _ _) (by have := Finset.mem_range.mp hk; omega), wt_bot]
  have h1 : ∑ k ∈ Finset.range e, wt (s (n + k)) = 0 := Finset.sum_eq_zero hz'
  have h2 : ∑ k ∈ Finset.range e, (wt (s (n + k)) : EReal) * v (n + k) d = 0 :=
    Finset.sum_eq_zero fun k hk => by rw [hz' k hk, EReal.coe_zero, zero_mul]
  rw [out, out, Finset.sum_range_add, Finset.sum_range_add, h1, h2, add_zero, add_zero]

end Cert.Proof.Softmax

end
-- ==== Proof.FoxMath.lean ====
/-
  A head's result at a query: the exponentially weighted mean of the values, over the keys up to the query.
-/
module

public import proofs.«01_k».proof.Proof.FoxPoint
public import proofs.«01_k».proof.Proof.Softmax

@[expose] public section

set_option maxRecDepth 16384

noncomputable section

namespace Cert.Proof.Fox

open Idealize.ShloMosaic Idealize.ShloMosaic.TcCoe Idealize.SL.Sem
open Cert.KernelIdeal Cert.KernelIdeal.Gen Cert.Proof.Softmax
open scoped BigOperators

/-- A key's number as a row of the array. -/
def row (κ : ℕ) : Fin 2048 := ⟨κ % 2048, Nat.mod_lt _ (by decide)⟩

/-- Below 2048 the row is the number. -/
theorem row_eq {κ : ℕ} (h : κ < 2048) : row κ = ⟨κ, h⟩ := Fin.ext (Nat.mod_eq_of_lt h)

/-- Head `h`'s column `d` among the 1024. -/
def lane (h : Fin 8) (d : Fin 128) : Fin 1024 := ⟨128 * h.val + d.val, by have := h.isLt; have := d.isLt; omega⟩

/-- The factor the queries are scaled by. -/
abbrev scale : EReal := Ideal.ofBits .f32 0x3DB504F3#32

section Raw

variable (x0 : Vec Ideal S256x1024 .f32) (x1 : Vec Ideal S2048x1024 .f32) (x2 : Vec Ideal S2048x1024 .f32) (x3 : Vec Ideal S1x8x1x2048 .f32)

/-- The score of row `r` of query block `b` and key `κ`, mask apart. -/
def raw (b : ℕ) (h : Fin 8) (r : Fin 256) (κ : ℕ) : EReal :=
  (∑ d : Fin 128, x0 (ix2 r (lane h d)) * scale * x1 (ix2 (row κ) (lane h d))) + x3 (ix4 0 h 0 (row (256 * b + r.val))) - x3 (ix4 0 h 0 (row κ))

/-- The score, `⊥` at the keys after the query. -/
def score (b : ℕ) (h : Fin 8) (r : Fin 256) (κ : ℕ) : EReal := if κ ≤ 256 * b + r.val then raw x0 x1 x3 b h r κ else ⊥

/-- The values, by key. -/
def value (h : Fin 8) (κ : ℕ) (d : Fin 128) : EReal := x2 (ix2 (row κ) (lane h d))

end Raw

section Loads

variable (i : grid0.Coords) (arg3 : Memref sig .tc .vmem S256x1024 .f32) (harg3 : arg3.IsWhole)
  (arg : Memref sig .tc .vmem S2048x1024 .f32) (harg : arg.IsWhole) (arg6 : Memref sig .tc .vmem S1x8x1x2048 .f32) (harg6 : arg6.IsWhole)
  (x0 : Vec Ideal S256x1024 .f32) (x : Vec Ideal S2048x1024 .f32) (x3 : Vec Ideal S1x8x1x2048 .f32)

/-- The queries at a row and a column. -/
theorem qld_at (h : Fin 8) (r : Fin 256) (d : Fin 128) : qld arg3 harg3 x0 h (ix2 r d) = x0 (ix2 r (lane h d)) := by
  rw [qld, View.readAt_eq_ld, harg3.read_unread]
  pointwise [View.ld]
  rfl

/-- The keys (or values) of a block at a row and a column. -/
theorem kld_at {k : ℕ} (hk : k < 8) (h : Fin 8) (r : Fin 256) (d : Fin 128) :
    kld arg harg x hk h (ix2 r d) = x (ix2 (row (256 * k + r.val)) (lane h d)) := by
  rw [kld, View.readAt_eq_ld, harg.read_unread]
  pointwise [View.ld]
  rw [row_eq (by have := r.isLt; omega)]; rfl

/-- The cumulative log-forget terms of a block at an entry. -/
theorem cld_at {k : ℕ} (hk : k < 8) (h : Fin 8) (r : Fin 256) :
    cld arg6 harg6 x3 hk h (ix4 0 0 0 r) = x3 (ix4 0 h 0 (row (256 * k + r.val))) := by
  rw [cld, View.readAt_eq_ld, harg6.read_unread]
  pointwise [View.ld]
  rw [row_eq (by have := r.isLt; omega)]

/-- The scores of a block at a row and a column. -/
theorem tile_at {k : ℕ} (hk : k < 8) (h : Fin 8) (r j : Fin 256) :
    scores (q arg3 harg3 x0 h) (cq i arg6 harg6 x3 h) (kld arg harg x hk h) (cld arg6 harg6 x3 hk h) (ix2 r j)
      = raw x0 x x3 (i 2).val h r (256 * k + j.val) := by
  rw [scores_at, cq, col_at, cld_at, cld_at, raw]
  congr 2
  exact Finset.sum_congr rfl fun d _ => by rw [q, scaled_at, qld_at, kld_at]

end Loads

/-- A block of 256 keys taken into a good state gives a good state. -/
theorem good_upd {s : ℕ → EReal} {v : ℕ → Fin 128 → EReal} {n : ℕ} {x : St Ideal} {r : Fin 256}
    (g : Good s v n (x.1 (ix2 r 0)) (x.2.1 (ix2 r 0)) fun d => x.2.2 (ix2 r d)) (S : FVec Ideal S256x256 .f32) (vb : Vec Ideal S256x128 .f32)
    (hs : ∀ κ, s κ ≠ ⊤) (hS : ∀ k : Fin 256, S (ix2 r k) = s (n + k.val)) (hv : ∀ (k : Fin 256) d, vb (ix2 k d) = v (n + k.val) d) :
    Good s v (n + 256) ((upd S vb x).1 (ix2 r 0)) ((upd S vb x).2.1 (ix2 r 0)) fun d => (upd S vb x).2.2 (ix2 r d) := by
  have hne : ∀ k : Fin 256, S (ix2 r k) ≠ ⊤ := fun k => by rw [hS]; exact hs _
  have key := good_step g (fold_max_ne_top Finset.univ (b := ⊥) (f := fun k : Fin 256 => S (ix2 r k)) (by simp) fun k _ => hne k) hne hS hv
  have e1 : (upd S vb x).1 (ix2 r 0) = max (x.1 (ix2 r 0)) (Finset.univ.fold max ⊥ fun k => S (ix2 r k)) := mx_at S x.1 r
  rw [e1, upd_sum_at]
  simp only [upd_acc_at, al_at, ex_at, mx_at]
  exact key

section Result

variable (c : Dev nD) (i : grid0.Coords) (arg3 : Memref sig .tc .vmem S256x1024 .f32) (harg3 : arg3.IsWhole)
  (arg4 : Memref sig .tc .vmem S2048x1024 .f32) (harg4 : arg4.IsWhole) (arg5 : Memref sig .tc .vmem S2048x1024 .f32) (harg5 : arg5.IsWhole)
  (arg6 : Memref sig .tc .vmem S1x8x1x2048 .f32) (harg6 : arg6.IsWhole) (arg7 : Memref sig .tc .vmem S256x1024 .f32) (harg7 : arg7.IsWhole)
  (x0 : Vec Ideal S256x1024 .f32) (x1 : Vec Ideal S2048x1024 .f32) (x2 : Vec Ideal S2048x1024 .f32) (x3 : Vec Ideal S1x8x1x2048 .f32)

/-- The state before the first block is good: no key is in it. -/
theorem good_start (s : ℕ → EReal) (v : ℕ → Fin 128 → EReal) (r : Fin 256) :
    Good s v 0 ((start (F := Ideal)).1 (ix2 r 0)) ((start (F := Ideal)).2.1 (ix2 r 0)) fun d => (start (F := Ideal)).2.2 (ix2 r d) := by
  have hm : ∃ μ : ℝ, (start (F := Ideal)).1 (ix2 r 0) = μ := by
    pointwise [start, k0_pay137]
    simp [Ideal.ofBits, Ideal.ieee]
    exact ⟨-((13234890 : ℝ) * 2 ^ 76), by push_cast; rfl⟩
  have hl : (start (F := Ideal)).2.1 (ix2 r 0) = 0 := by
    pointwise [start, k0_pay138]
  have ha : (fun d => (start (F := Ideal)).2.2 (ix2 r d)) = fun _ => 0 := by
    funext d
    pointwise [start, k0_pay139]
  obtain ⟨μ, hμ⟩ := hm
  rw [hμ, hl, ha]
  exact good_zero s v μ

variable (hraw : ∀ h r κ, ∃ t : ℝ, raw x0 x1 x3 (i 2).val h r κ = t)

include hraw in
/-- No score is `⊤`. -/
theorem score_ne (h : Fin 8) (r : Fin 256) (κ : ℕ) : score x0 x1 x3 (i 2).val h r κ ≠ ⊤ := by
  rw [score]
  split
  · obtain ⟨t, ht⟩ := hraw h r κ; rw [ht]; exact EReal.coe_ne_top t
  · exact bot_ne_top

include hraw in
/-- After `n` trips each head's state is good for the first `256·n` keys. -/
theorem good_run (h : Fin 8) (r : Fin 256) : ∀ n ≤ (i 2).val,
    let x := pick (run c i arg3 harg3 arg4 harg4 arg5 harg5 arg6 harg6 arg7 harg7 x0 x1 x2 x3 n) h
    Good (score x0 x1 x3 (i 2).val h r) (value x2 h) (256 * n) (x.1 (ix2 r 0)) (x.2.1 (ix2 r 0)) fun d => x.2.2 (ix2 r d) := by
  intro n
  induction n with
  | zero =>
    intro _
    rw [run_zero]
    exact good_start _ _ r
  | succ n ih =>
    intro hn
    have hk : n < (k0_t1_loop i).trips := by rw [show (k0_t1_loop i).trips = (i 2).val from trips1 i]; omega
    have e := run_succ c i arg3 harg3 arg4 harg4 arg5 harg5 arg6 harg6 arg7 harg7 x0 x1 x2 x3 ⟨n, hk⟩ h
    simp only at e
    rw [e]
    refine good_upd (ih (by omega)) _ _ (score_ne i x0 x1 x3 hraw h r) (fun k => ?_) (fun k d => ?_)
    · rw [tile_at, score, if_pos (by have := k.isLt; omega)]
    · rw [kld_at, value]

include hraw in
/-- What is stored for head `h`, at row `r` and column `d`: the weighted mean of the values over all keys, those after the query weighing nothing. -/
theorem piece_at (h : Fin 8) (r : Fin 256) (d : Fin 128) :
    piece c i arg3 harg3 arg4 harg4 arg5 harg5 arg6 harg6 arg7 harg7 x0 x1 x2 x3 h (ix2 r d)
      = out (score x0 x1 x3 (i 2).val h r) (value x2 h) 2048 d := by
  have hb := qi_lt i
  have hr := r.isLt
  rw [piece_eq, quot_at]
  have g := good_upd (good_run c i arg3 harg3 arg4 harg4 arg5 harg5 arg6 harg6 arg7 harg7 x0 x1 x2 x3 hraw h r (i 2).val le_rfl)
    (masked (scores (q arg3 harg3 x0 h) (cq i arg6 harg6 x3 h) (kld arg4 harg4 x1 (qi_lt i) h) (cld arg6 harg6 x3 (qi_lt i) h)))
    (kld arg5 harg5 x2 (qi_lt i) h) (score_ne i x0 x1 x3 hraw h r)
    (fun k => by
      rw [masked_at, tile_at, score]
      by_cases hk : k.val ≤ r.val
      · rw [if_pos hk, if_pos (by omega)]
      · rw [if_neg hk, if_neg (by omega)])
    (fun k d => by rw [kld_at, value])
  obtain ⟨t, ht⟩ := hraw h r 0
  rw [good_out g (κ₀ := 0) (by omega) (r := t) (by rw [score, if_pos (by omega), ht])]
  exact (out_masked _ (by omega) (fun κ h1 _ => by rw [score, if_neg (by omega)]) d).symm

end Result

end Cert.Proof.Fox

end
-- ==== Proof.FoxArray.lean ====
/-
  The attention's array: every entry, from the whole arrays of queries, keys, values and cumulative log-forget terms.
-/
module

public import proofs.«01_k».proof.Proof.FoxMath
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Proof.Fox

open Idealize.ShloMosaic Idealize.ShloMosaic.TcCoe Idealize.SL.Sem
open Cert.KernelIdeal Cert.KernelIdeal.Gen Cert.KernelIdeal.Value Cert.Proof.Softmax
open scoped BigOperators

/-- Row `κ` of sequence `b` among the 8192 rows. -/
def pos (b : Fin 4) (κ : Fin 2048) : Fin 8192 := ⟨2048 * b.val + κ.val, by have := b.isLt; have := κ.isLt; omega⟩

section Entry

variable (A0 A1 A2 : S8192x1024.Idx → EReal) (A3 : S4x8x2048.Idx → EReal)

/-- The score of query `t` and key `κ` of sequence `b` in head `h`, mask apart. -/
def rawOf (b : Fin 4) (h : Fin 8) (t : Fin 2048) (κ : ℕ) : EReal :=
  (∑ d : Fin 128, A0 (ix2 (pos b t) (lane h d)) * scale * A1 (ix2 (pos b (row κ)) (lane h d))) + A3 (ix3 b h t) - A3 (ix3 b h (row κ))

/-- The score, `⊥` at the keys after the query. -/
def scoreOf (b : Fin 4) (h : Fin 8) (t : Fin 2048) (κ : ℕ) : EReal := if κ ≤ t.val then rawOf A0 A1 A3 b h t κ else ⊥

/-- The values of sequence `b` in head `h`, by key. -/
def valueOf (b : Fin 4) (h : Fin 8) (κ : ℕ) (d : Fin 128) : EReal := A2 (ix2 (pos b (row κ)) (lane h d))

/-- The attention's result: of sequence `b`, at query `t`, in column `d` of head `h`. -/
def attn (b : Fin 4) (h : Fin 8) (t : Fin 2048) (d : Fin 128) : EReal := out (scoreOf A0 A1 A3 b h t) (valueOf A2 b h) 2048 d

/-- The same as an array: row and column split into sequence, query, head and column. -/
def attnArr (j : S8192x1024.Idx) : EReal :=
  attn A0 A1 A2 A3 ⟨(j 0).val / 2048, by have : (j 0).val < 8192 := (j 0).isLt; omega⟩
    ⟨(j 1).val / 128, by have : (j 1).val < 1024 := (j 1).isLt; omega⟩
    ⟨(j 0).val % 2048, Nat.mod_lt _ (by decide)⟩ ⟨(j 1).val % 128, Nat.mod_lt _ (by decide)⟩

/-- The array at a row and a column given by their parts. -/
theorem attnArr_at (b : Fin 4) (h : Fin 8) (t : Fin 2048) (d : Fin 128) :
    attnArr A0 A1 A2 A3 (ix2 (pos b t) (lane h d)) = attn A0 A1 A2 A3 b h t d := by
  have := t.isLt; have := d.isLt
  unfold attnArr
  congr 1
  · exact Fin.ext (by show (2048 * b.val + t.val) / 2048 = b.val; omega)
  · exact Fin.ext (by show (128 * h.val + d.val) / 128 = h.val; omega)
  · exact Fin.ext (by show (2048 * b.val + t.val) % 2048 = t.val; omega)
  · exact Fin.ext (by show (128 * h.val + d.val) % 128 = d.val; omega)

end Entry

variable (m : (ℓ : Loc nD τ sig) → Buf (Elt Ideal) ℓ)

/-- Where the windows' blocks lie. -/
theorem idx : ∀ t : Fin grid0.N,
    win0_0.index t = ![8 * (grid0.coords t 0).val + (grid0.coords t 2).val, 0] ∧ win0_1.index t = ![(grid0.coords t 0).val, 0]
    ∧ win0_2.index t = ![(grid0.coords t 0).val, 0] ∧ win0_3.index t = ![(grid0.coords t 0).val, 0, 0, 0]
    ∧ win0_4.index t = ![8 * (grid0.coords t 0).val + (grid0.coords t 2).val, 0] := by
  decide +kernel

section Blocks

variable (c : Dev nD) (t : Fin cfg0.N)

/-- The sequence of a grid point. -/
abbrev seqOf : Fin 4 := (grid0.coords t 0)

/-- The query at row `r` of a grid point's block. -/
def qry (r : Fin 256) : Fin 2048 := ⟨256 * (grid0.coords t 2).val + r.val, by have := qi_lt (grid0.coords t); have := r.isLt; omega⟩

/-- The block of queries. -/
theorem blk0 (r : Fin 256) (l : Fin 1024) : iblk m c 0 t (ix2 r l) = m ((c : Thread nD τ).loc main_arg0) (ix2 (pos (seqOf t) (qry t r)) l) := by
  obtain ⟨e0, e1, e2, e3, e4⟩ := idx t
  blk_ext [iblk, V, e0]
  show _ = 2048 * (grid0.coords t 0).val + (256 * (grid0.coords t 2).val + r.val); omega

/-- The block of keys. -/
theorem blk1 (r : Fin 2048) (l : Fin 1024) : iblk m c 1 t (ix2 r l) = m ((c : Thread nD τ).loc main_arg1) (ix2 (pos (seqOf t) r) l) := by
  obtain ⟨e0, e1, e2, e3, e4⟩ := idx t
  blk_ext [iblk, V, e1]
  show _ = 2048 * (grid0.coords t 0).val + r.val; omega

/-- The block of values. -/
theorem blk2 (r : Fin 2048) (l : Fin 1024) : iblk m c 2 t (ix2 r l) = m ((c : Thread nD τ).loc main_arg2) (ix2 (pos (seqOf t) r) l) := by
  obtain ⟨e0, e1, e2, e3, e4⟩ := idx t
  blk_ext [iblk, V, e2]
  show _ = 2048 * (grid0.coords t 0).val + r.val; omega

/-- The block of cumulative log-forget terms. -/
theorem blk3 (h : Fin 8) (r : Fin 2048) : iblk m c 3 t (ix4 0 h 0 r) = m ((c : Thread nD τ).loc main_arg3) (ix3 (seqOf t) h r) := by
  obtain ⟨e0, e1, e2, e3, e4⟩ := idx t
  blk_ext! [iblk, V, e3]
  rfl

end Blocks

section Stored

variable (c : Dev nD) (i : grid0.Coords) (arg3 : Memref sig .tc .vmem S256x1024 .f32) (harg3 : arg3.IsWhole)
  (arg4 : Memref sig .tc .vmem S2048x1024 .f32) (harg4 : arg4.IsWhole) (arg5 : Memref sig .tc .vmem S2048x1024 .f32) (harg5 : arg5.IsWhole)
  (arg6 : Memref sig .tc .vmem S1x8x1x2048 .f32) (harg6 : arg6.IsWhole) (arg7 : Memref sig .tc .vmem S256x1024 .f32) (harg7 : arg7.IsWhole)
  (x0 : Vec Ideal S256x1024 .f32) (x1 : Vec Ideal S2048x1024 .f32) (x2 : Vec Ideal S2048x1024 .f32) (x3 : Vec Ideal S1x8x1x2048 .f32)

/-- What a grid point stores for head `h`, its blocks being parts of the arrays. -/
theorem piece_arr (A0 A1 A2 : S8192x1024.Idx → EReal) (A3 : S4x8x2048.Idx → EReal) (b : Fin 4)
    (hraw : ∀ b h t κ, ∃ x : ℝ, rawOf A0 A1 A3 b h t κ = x) (qr : Fin 256 → Fin 2048) (hq : ∀ r, (qr r).val = 256 * (i 2).val + r.val)
    (h0 : ∀ r l, x0 (ix2 r l) = A0 (ix2 (pos b (qr r)) l)) (h1 : ∀ r l, x1 (ix2 r l) = A1 (ix2 (pos b r) l))
    (h2 : ∀ r l, x2 (ix2 r l) = A2 (ix2 (pos b r) l)) (h3 : ∀ h r, x3 (ix4 0 h 0 r) = A3 (ix3 b h r)) (h : Fin 8) (r : Fin 256) (d : Fin 128) :
    piece c i arg3 harg3 arg4 harg4 arg5 harg5 arg6 harg6 arg7 harg7 x0 x1 x2 x3 h (ix2 r d) = attn A0 A1 A2 A3 b h (qr r) d := by
  have e : ∀ (h : Fin 8) (r : Fin 256) (κ : ℕ), raw x0 x1 x3 (i 2).val h r κ = rawOf A0 A1 A3 b h (qr r) κ := fun h r κ => by
    have er : row (256 * (i 2).val + r.val) = qr r := Fin.ext (by show (256 * (i 2).val + r.val) % 2048 = _; rw [← hq]; exact Nat.mod_eq_of_lt (qr r).isLt)
    unfold raw rawOf
    rw [h3, h3, er]
    congr 2
    exact Finset.sum_congr rfl fun d _ => by rw [h0, h1]
  have es : score x0 x1 x3 (i 2).val h r = scoreOf A0 A1 A3 b h (qr r) := funext fun κ => by unfold score scoreOf; rw [e, hq]
  have ev : value x2 h = valueOf A2 b h := funext fun κ => funext fun d => h2 _ _
  rw [piece_at c i arg3 harg3 arg4 harg4 arg5 harg5 arg6 harg6 arg7 harg7 x0 x1 x2 x3 (fun h r κ => by rw [e]; exact hraw _ _ _ _), es, ev, attn]

/-- The heads' results side by side: head `h` in the columns from `128·h`. -/
def side (y : S256x1024.Idx) : EReal :=
  piece c i arg3 harg3 arg4 harg4 arg5 harg5 arg6 harg6 arg7 harg7 x0 x1 x2 x3
    ⟨(y 1).val / 128, by have : (y 1).val < 1024 := (y 1).isLt; omega⟩ (ix2 (y 0) ⟨(y 1).val % 128, Nat.mod_lt _ (by decide)⟩)

/-- A head's result is the part of them at its columns. -/
theorem side_piece (h : Fin 8) (x : S256x128.Idx) :
    piece c i arg3 harg3 arg4 harg4 arg5 harg5 arg6 harg6 arg7 harg7 x0 x1 x2 x3 h x
      = side c i arg3 harg3 arg4 harg4 arg5 harg5 arg6 harg6 arg7 harg7 x0 x1 x2 x3
          ((Rect.unit (s := S256x1024) ![0, 128 * h.val] S256x128.size (inb_q h)).emb x) := by
  have hx : (x 1).val < 128 := (x 1).isLt
  have e0 : (((Rect.unit (s := S256x1024) ![0, 128 * h.val] S256x128.size (inb_q h)).emb x) 0) = x 0 :=
    Fin.ext (by show 0 + 1 * (x 0).val = _; omega)
  have e1 : (((Rect.unit (s := S256x1024) ![0, 128 * h.val] S256x128.size (inb_q h)).emb x) 1).val = 128 * h.val + (x 1).val := by
    show 128 * h.val + 1 * (x 1).val = _; omega
  unfold side
  have eh : (⟨(((Rect.unit (s := S256x1024) ![0, 128 * h.val] S256x128.size (inb_q h)).emb x) 1).val / 128, by rw [e1]; omega⟩ : Fin 8) = h :=
    Fin.ext (by show _ / 128 = _; rw [e1]; omega)
  rw [eh]
  congr 1
  funext a
  match a with
  | ⟨0, _⟩ => exact e0.symm
  | ⟨1, _⟩ => exact Fin.ext (by show (x 1).val = _ % 128; rw [e1]; omega)

/-- The same at a row and a column of a head. -/
theorem side_at (h : Fin 8) (r : Fin 256) (d : Fin 128) :
    side c i arg3 harg3 arg4 harg4 arg5 harg5 arg6 harg6 arg7 harg7 x0 x1 x2 x3 (ix2 r (lane h d))
      = piece c i arg3 harg3 arg4 harg4 arg5 harg5 arg6 harg6 arg7 harg7 x0 x1 x2 x3 h (ix2 r d) := by
  have := d.isLt
  unfold side
  congr 1
  · exact Fin.ext (by show (128 * h.val + d.val) / 128 = h.val; omega)
  · congr 1
    exact Fin.ext (by show (128 * h.val + d.val) % 128 = d.val; omega)

/-- What the body leaves is the heads' results side by side. -/
theorem stored : out0_A_4 c i arg3 harg3 arg4 harg4 arg5 harg5 arg6 harg6 arg7 harg7 x0 x1 x2 x3
    = side c i arg3 harg3 arg4 harg4 arg5 harg5 arg6 harg6 arg7 harg7 x0 x1 x2 x3 := by
  unfold out0_A_4
  rw [View.read_writes_eq_canon _ _ _ (cover0_A_4 c i arg3 harg3 arg4 harg4 arg5 harg5 arg6 harg6 arg7 harg7 x0 x1 x2 x3)]
  funext y
  refine View.canon_apply_of_pieces _ _ ?_ y (cover0_A_4 c i arg3 harg3 arg4 harg4 arg5 harg5 arg6 harg6 arg7 harg7 x0 x1 x2 x3 y)
  have key := side_piece c i arg3 harg3 arg4 harg4 arg5 harg5 arg6 harg6 arg7 harg7 x0 x1 x2 x3
  have all : View.PiecesOf (side c i arg3 harg3 arg4 harg4 arg5 harg5 arg6 harg6 arg7 harg7 x0 x1 x2 x3)
      (kernelRun0_A c i arg3 harg3 arg4 harg4 arg5 harg5 arg6 harg6 arg7 harg7 x0 x1 x2 x3).1 := by
    unfold kernelRun0_A
    exact ⟨key 7, key 6, key 5, key 4, key 3, key 2, key 1, key 0, trivial⟩
  exact View.PiecesOf.mem all

end Stored

/-- An index of the block, by row, head and column. -/
theorem split (y : S256x1024.Idx) : ∃ (r : Fin 256) (h : Fin 8) (d : Fin 128), y = ix2 r (lane h d) := by
  have h1 : (y 1).val < 1024 := (y 1).isLt
  refine ⟨y 0, ⟨(y 1).val / 128, by omega⟩, ⟨(y 1).val % 128, Nat.mod_lt _ (by decide)⟩, ?_⟩
  funext a
  match a with
  | ⟨0, _⟩ => rfl
  | ⟨1, _⟩ => exact Fin.ext (by show (y 1).val = 128 * ((y 1).val / 128) + (y 1).val % 128; omega)

/-- Where an entry of a grid point's result lies in the array. -/
theorem emb_eq (t : Fin cfg0.N) (r : Fin 256) (l : Fin 1024) :
    ((cfg0.win 4).blk t).view.emb (ix2 r l) = ix2 (pos (seqOf t) (qry t r)) l := by
  obtain ⟨e0, e1, e2, e3, e4⟩ := idx t
  blk_ext [e4]
  show _ = 2048 * (grid0.coords t 0).val + (256 * (grid0.coords t 2).val + r.val); omega

/-- The result array, for finite scores. -/
theorem arr_eq (c : Dev nD) (hraw : ∀ b h t κ, ∃ x : ℝ, rawOf (m ((c : Thread nD τ).loc main_arg0)) (m ((c : Thread nD τ).loc main_arg1))
      (m ((c : Thread nD τ).loc main_arg3)) b h t κ = x) :
    (dats m 0 c).arrAt 4 cfg0.N = attnArr (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  rw [stored]
  obtain ⟨r, h, d, rfl⟩ := split y
  rw [emb_eq, attnArr_at]
  refine (side_at ..).trans ?_
  exact piece_arr c (grid0.coords t) (ms0_0 t) (hs0_0 t) (ms0_1 t) (hs0_1 t) (ms0_2 t) (hs0_2 t) (ms0_3 t) (hs0_3 t) (ms0_4 t) (hs0_4 t) _ _ _ _
    _ _ _ _ (seqOf t) hraw (qry t) (fun _ => rfl) (blk0 m c t) (blk1 m c t) (blk2 m c t) (blk3 m c t) h r d

end Cert.Proof.Fox

end
-- ==== Proof.FoxRef.lean ====
/-
  The reference's result is the same function of the arguments.
-/
module

public import proofs.«01_k».proof.Proof.FoxArray
public import proofs.«01_k».proof.Proof.Gen.ReferenceIdeal.Read

@[expose] public section

set_option maxRecDepth 16384

noncomputable section

namespace Cert.Proof.Fox

open Idealize.ShloMosaic Idealize.ShloMosaic.TcCoe Idealize.SL.Sem
open Cert.ReferenceIdeal Cert.ReferenceIdeal.Gen Cert.ReferenceIdeal.Read Cert.Proof.Softmax
open scoped BigOperators

variable (A0 A1 A2 : (⟨S8192x1024, .f32⟩ : BufTy).Contents (Elt Ideal)) (A3 : (⟨S4x8x2048, .f32⟩ : BufTy).Contents (Elt Ideal))

/-- The scaling factor is a real number. -/
theorem scale_real : ∃ σ : ℝ, scale = σ := by
  unfold scale
  simp [Ideal.ofBits, Ideal.ieee]
  exact ⟨_, (EReal.coe_mul _ _).symm⟩

/-- The reference's mask: the difference of query and key, as a number, is not negative. -/
theorem mask_iff (t k : Fin 2048) :
    (0 : EReal) ≤ FloatOps.sitofp (F := Ideal) FTy.f32 (IntOp.subi (BitVec.ofNat 32 t.val) (BitVec.ofNat 32 k.val)) ↔ k.val ≤ t.val := by
  have ht := t.isLt; have hk := k.isLt
  show (0 : EReal) ≤ (((BitVec.ofNat 32 t.val - BitVec.ofNat 32 k.val).toInt : ℝ) : EReal) ↔ _
  rw [EReal.coe_nonneg, Int.cast_nonneg_iff]
  simp only [BitVec.toInt_eq_toNat_cond, BitVec.toNat_sub, BitVec.toNat_ofNat]
  split <;> omega

/-- Of finite factors the scale may be taken into the sum. -/
theorem scale_in {n : ℕ} {f g : Fin n → EReal} (hf : ∀ d, ∃ x : ℝ, f d = x) (hg : ∀ d, ∃ x : ℝ, g d = x) :
    (∑ d, f d * g d) * scale = ∑ d, f d * scale * g d := by
  obtain ⟨σ, hσ⟩ := scale_real
  choose f' hf using hf
  choose g' hg using hg
  simp only [hf, hg, hσ, ← EReal.coe_mul, coe_sum]
  rw [Finset.sum_mul]
  exact congrArg _ (Finset.sum_congr rfl fun d _ => by ring)

variable (h0 : ∀ j, ∃ x : ℝ, A0 j = x) (h1 : ∀ j, ∃ x : ℝ, A1 j = x) (h3 : ∀ j, ∃ x : ℝ, A3 j = x)

include h0 h1 h3 in
/-- Of finite arguments every score is a real number. -/
theorem rawOf_real (b : Fin 4) (h : Fin 8) (t : Fin 2048) (κ : ℕ) : ∃ x : ℝ, rawOf A0 A1 A3 b h t κ = x := by
  obtain ⟨σ, hσ⟩ := scale_real
  choose a0 e0 using h0
  choose a1 e1 using h1
  choose a3 e3 using h3
  unfold rawOf
  simp only [e0, e1, e3, hσ, ← EReal.coe_mul, coe_sum, ← EReal.coe_add, ← EReal.coe_sub]
  exact ⟨_, rfl⟩

include h0 h1 in
/-- The reference's masked scores. -/
theorem ref_score (b : Fin 4) (h : Fin 8) (t k : Fin 2048) :
    val_main_v21 (F := Ideal) A0 A1 A3 (ix4 b h t k) = scoreOf A0 A1 A3 b h t k.val := by
  pointwise [val_main_v21, val_main_v20, val_main_v19, val_main_v18, val_main_v17, val_main_v16, val_main_v15, val_main_v14, val_main_v13,
    val_main_cst_0, val_main_v12_apply, val_main_v1, val_main_v0, val_main_call0_v1, val_main_call0_v2, val_main_call0_v0, val_main_cst_1,
    val_main_v11, val_main_v10, val_main_cst, val_main_v9, val_main_v8, val_main_v7, val_main_v6, val_main_v5, val_main_v4, val_main_v3]
  have ek : row k.val = k := row_eq k.isLt
  have ep : ∀ (b : Fin 4) (t : Fin 2048) (p : b.val * 2048 + t.val < 8192), (⟨b.val * 2048 + t.val, p⟩ : Fin 8192) = pos b t :=
    fun b t p => Fin.ext (by show b.val * 2048 + t.val = 2048 * b.val + t.val; omega)
  have el : ∀ (d : Fin 128) (p : h.val * 128 + d.val < 1024), (⟨h.val * 128 + d.val, p⟩ : Fin 1024) = lane h d :=
    fun d p => Fin.ext (by show h.val * 128 + d.val = 128 * h.val + d.val; omega)
  unfold scoreOf
  simp only [mask_iff]
  by_cases hk : k.val ≤ t.val
  · rw [if_pos hk, if_pos hk, rawOf, ek]
    simp only [ep, el]
    rw [← scale_in (fun d => h0 _) (fun d => h1 _)]
  · rw [if_neg hk, if_neg hk]
    exact ofBits_ninf

include h0 h1 h3 in
/-- No score is `⊤`. -/
theorem scoreOf_ne (b : Fin 4) (h : Fin 8) (t : Fin 2048) (κ : ℕ) : scoreOf A0 A1 A3 b h t κ ≠ ⊤ := by
  unfold scoreOf
  split
  · obtain ⟨y, hy⟩ := rawOf_real A0 A1 A3 h0 h1 h3 b h t κ; rw [hy]; exact EReal.coe_ne_top y
  · exact bot_ne_top

include h0 h1 h3 in
/-- The reference's maximum is a real number. -/
theorem ref_max (b : Fin 4) (h : Fin 8) (t : Fin 2048) : ∃ μ : ℝ, val_main_v24 (F := Ideal) A0 A1 A3 (ix3 b h t) = μ := by
  have red : S4x8x2048x2048.Reduces [3] S4x8x2048 := by decide
  have e : val_main_v22 (F := Ideal) A0 A1 A3 (ix3 b h t)
      = Finset.univ.fold max ⊥ fun k : Fin 2048 => scoreOf A0 A1 A3 b h t k.val := by
    unfold val_main_v22
    rw [Host.reduce_eq_fold_single FloatOps.maximumf _ _ _ red]
    have el : (val_main_v21 (F := Ideal) A0 A1 A3 ∘ red.lift (ix3 b h t)) = fun k : Fin 2048 => scoreOf A0 A1 A3 b h t k.val := funext fun (k : Fin 2048) => by
      refine Eq.trans ?_ (ref_score A0 A1 A3 h0 h1 b h t k)
      refine congrArg (val_main_v21 (F := Ideal) A0 A1 A3) (funext fun a => Fin.ext ?_)
      match a with
      | ⟨0, _⟩ => rfl
      | ⟨1, _⟩ => rfl
      | ⟨2, _⟩ => rfl
      | ⟨3, _⟩ => rfl
    rw [el]
    show Finset.fold max (Ideal.ofBits .f32 0xFF800000#32) _ _ = _
    rw [ofBits_ninf]
    rfl
  obtain ⟨x, hx⟩ := rawOf_real A0 A1 A3 h0 h1 h3 b h t 0
  have hs := scoreOf_ne A0 A1 A3 h0 h1 h3 b h t
  have e24 : val_main_v24 (F := Ideal) A0 A1 A3 (ix3 b h t) = max (⊥ : EReal) (val_main_v22 (F := Ideal) A0 A1 A3 (ix3 b h t)) := by
    rw [val_main_v24_apply, val_main_v23_apply]
    show max (Ideal.ofBits .f32 0xFF800000#32) _ = _
    rw [ofBits_ninf]
  rw [e24, e, max_eq_right bot_le]
  have ne := fold_max_ne_top Finset.univ (b := ⊥) (f := fun k : Fin 2048 => scoreOf A0 A1 A3 b h t k.val) bot_ne_top fun k _ => hs k.val
  have hle : (x : EReal) ≤ Finset.univ.fold max ⊥ fun k : Fin 2048 => scoreOf A0 A1 A3 b h t k.val := by
    rw [Finset.le_fold_max]
    exact .inr ⟨0, Finset.mem_univ _, by show (x : EReal) ≤ scoreOf A0 A1 A3 b h t 0; rw [scoreOf, if_pos (Nat.zero_le _), hx]⟩
  obtain ⟨μ, hμ⟩ := max_coe x ne
  exact ⟨μ, by rw [← hμ, max_eq_right hle]⟩

include h0 h1 in
/-- The reference's exponentials. -/
theorem ref_exp (b : Fin 4) (h : Fin 8) (t k : Fin 2048) {μ : ℝ} (hμ : val_main_v24 (F := Ideal) A0 A1 A3 (ix3 b h t) = μ) :
    val_main_v28 (F := Ideal) A0 A1 A3 (ix4 b h t k) = Ideal.exp (scoreOf A0 A1 A3 b h t k.val - μ) := by
  rw [← ref_score A0 A1 A3 h0 h1, ← hμ]
  pointwise [val_main_v28, val_main_v27, val_main_v26, val_main_v25]

include h0 h1 in
/-- The reference's weights. -/
theorem ref_weight (b : Fin 4) (h : Fin 8) (t k : Fin 2048) {μ : ℝ} (hμ : val_main_v24 (F := Ideal) A0 A1 A3 (ix3 b h t) = μ) :
    val_main_v32 (F := Ideal) A0 A1 A3 (ix4 b h t k)
      = Ideal.div (Ideal.exp (scoreOf A0 A1 A3 b h t k.val - μ)) (∑ j : Fin 2048, Ideal.exp (scoreOf A0 A1 A3 b h t j.val - μ)) := by
  have e : (fun j : Fin 2048 => Ideal.exp (scoreOf A0 A1 A3 b h t j.val - μ)) = fun j => val_main_v28 (F := Ideal) A0 A1 A3 (ix4 b h t j) :=
    funext fun j => (ref_exp A0 A1 A3 h0 h1 b h t j hμ).symm
  rw [e, ← ref_exp A0 A1 A3 h0 h1 b h t k hμ]
  pointwise [val_main_v32, val_main_v31, val_main_v30, val_main_v29_apply, val_main_cst_4]
  refine congrArg _ (Finset.sum_congr rfl fun j _ => congrArg _ (funext fun a => ?_))
  match a with
  | ⟨0, _⟩ | ⟨1, _⟩ | ⟨2, _⟩ | ⟨3, _⟩ => rfl

/-- The reference's values. -/
theorem ref_value (b : Fin 4) (h : Fin 8) (k : Fin 2048) (d : Fin 128) : val_main_v2 (F := Ideal) A2 (ix4 b k h d) = valueOf A2 b h k.val d := by
  pointwise [val_main_v2]
  unfold valueOf
  rw [row_eq k.isLt]
  congr 1
  congr 1
  · exact Fin.ext (by show b.val * 2048 + k.val = 2048 * b.val + k.val; omega)
  · exact Fin.ext (by show h.val * 128 + d.val = 128 * h.val + d.val; omega)

/-- The reference's result, before its axes are put back. -/
theorem ref_layout (b : Fin 4) (h : Fin 8) (t : Fin 2048) (d : Fin 128) :
    val_main_v35 (F := Ideal) A0 A1 A2 A3 (ix2 (pos b t) (lane h d)) = val_main_v33 (F := Ideal) A0 A1 A2 A3 (ix4 b h d t) := by
  have := t.isLt; have := d.isLt
  pointwise [val_main_v35, val_main_v34]
  congr 1
  congr 1
  · exact Fin.ext (by show (2048 * b.val + t.val) / 2048 = b.val; omega)
  · exact Fin.ext (by show (128 * h.val + d.val) / 128 = h.val; omega)
  · exact Fin.ext (by show (128 * h.val + d.val) % 128 = d.val; omega)
  · exact Fin.ext (by show (2048 * b.val + t.val) % 2048 = t.val; omega)

include h0 h1 h3 in
/-- The reference's result at an index. -/
theorem ref_out (b : Fin 4) (h : Fin 8) (t : Fin 2048) (d : Fin 128) :
    val_main_v35 (F := Ideal) A0 A1 A2 A3 (ix2 (pos b t) (lane h d)) = attn A0 A1 A2 A3 b h t d := by
  obtain ⟨μ, hμ⟩ := ref_max A0 A1 A3 h0 h1 h3 b h t
  obtain ⟨x, hx⟩ := rawOf_real A0 A1 A3 h0 h1 h3 b h t 0
  have hx0 : scoreOf A0 A1 A3 b h t 0 = x := by rw [scoreOf, if_pos (Nat.zero_le _), hx]
  rw [attn, ← softmax_out (s := scoreOf A0 A1 A3 b h t) (v := valueOf A2 b h) (fun κ _ => scoreOf_ne A0 A1 A3 h0 h1 h3 b h t κ)
    (by decide : 0 < 2048) hx0 μ d, ref_layout, val_main_v33_apply]
  refine Finset.sum_congr rfl fun k _ => ?_
  have el : lidx_main_v33 (ix4 b h d t) k = ix4 b k h d := by
    funext a
    match a with
    | ⟨0, _⟩ | ⟨1, _⟩ | ⟨2, _⟩ | ⟨3, _⟩ => rfl
  have er : ridx_main_v33 (ix4 b h d t) k = ix4 b h t k := by
    funext a
    match a with
    | ⟨0, _⟩ | ⟨1, _⟩ | ⟨2, _⟩ | ⟨3, _⟩ => rfl
  rw [el, er, ref_value, ref_weight A0 A1 A3 h0 h1 b h t k hμ, mul_comm]

include h0 h1 h3 in
/-- The reference's result is the attention. -/
theorem ref_eq : val_main_v35 (F := Ideal) A0 A1 A2 A3 = attnArr A0 A1 A2 A3 := by
  funext j
  have e0 : (j 0).val < 8192 := (j 0).isLt
  have e1 : (j 1).val < 1024 := (j 1).isLt
  have hj : j = ix2 (pos ⟨(j 0).val / 2048, by omega⟩ ⟨(j 0).val % 2048, Nat.mod_lt _ (by decide)⟩)
      (lane ⟨(j 1).val / 128, by omega⟩ ⟨(j 1).val % 128, Nat.mod_lt _ (by decide)⟩) := by
    funext a
    match a with
    | ⟨0, _⟩ => exact Fin.ext (Nat.div_add_mod (j 0).val 2048).symm
    | ⟨1, _⟩ => exact Fin.ext (Nat.div_add_mod (j 1).val 128).symm
  rw [hj, ref_out A0 A1 A2 A3 h0 h1 h3, attnArr_at]

end Cert.Proof.Fox

end
-- ==== Proof.FoxPre.lean ====
/- What the attention's precondition says: every query, key and log-forget term is a real number. -/
module

public import proofs.«01_k».proof.Defs
public import Idealize.ShloMosaic.Lib.ReduceAll
public import Idealize.ShloMosaic.Lib.Pointwise
public import Idealize.ShloMosaic.Lib.Affine
public import Idealize.ShloMosaic.Lib.Decide
public import Idealize.ShloMosaic.Lib.Exec

@[expose] public section

noncomputable section

namespace Cert.Proof.Fox

open Idealize.ShloMosaic Idealize.SL.Sem Cert.Pre_finite_scores

/-- The side conditions the precondition's program states. -/
theorem pre_facts : Cert.Pre_finite_scores.Facts where
  bcast_S_S8192x1024 := by decide
  reducesTo_S8192x1024_S_d0_1 := by decide
  h_S_ := by decide
  bcast_S_S4x8x2048 := by decide
  reducesTo_S4x8x2048_S_d0_1_2 := by decide

/-- An extended real whose absolute value compares below `⊤` is a real number. -/
theorem real_of_abs {x : EReal} (h : Ideal.cmp .olt (FloatOps.absf (F := Ideal) (φ := .f32) x) (Ideal.ofBits .f32 0x7F800000#32) = 1#1) :
    ∃ y : ℝ, x = y := by
  have ht : Ideal.ofBits .f32 0x7F800000#32 = ⊤ := by simp [Ideal.ofBits, Ideal.ieee]
  rw [ht] at h
  replace h : Ideal.cmp .olt (max x (-x)) ⊤ = 1#1 := h
  induction x with
  | bot => exact absurd h (by simp [Ideal.cmp])
  | top => exact absurd h (by simp [Ideal.cmp])
  | coe y => exact ⟨y, rfl⟩

/-- There is one index of a scalar. -/
instance : Subsingleton S_.Idx := ⟨fun _ _ => funext fun a => a.elim0⟩

/-- Every query, key and log-forget term is a real number, from the precondition. -/
theorem real_of_pre [Cert.Pre_finite_scores.Facts] {A0 A1 A2 : FVec Ideal S8192x1024 .f32} {A3 : FVec Ideal S4x8x2048 .f32}
    (h : Cert.Pre_finite_scores.fn (F := Ideal) A0 A1 A2 A3 = fun _ => 1#1) :
    (∀ j, ∃ x : ℝ, A0 j = x) ∧ (∀ j, ∃ x : ℝ, A1 j = x) ∧ ∀ j, ∃ x : ℝ, A3 j = x := by
  have e := congrFun h (fun a => a.elim0)
  unfold fn at e
  obtain ⟨e01, e3⟩ := IntOp.andi_eq_one.mp e
  obtain ⟨e0, e1⟩ := IntOp.andi_eq_one.mp e01
  exact ⟨fun j => real_of_abs (Host.reduce_andi_all _ _ _ _ _ e0 j), fun j => real_of_abs (Host.reduce_andi_all _ _ _ _ _ e1 j),
    fun j => real_of_abs (Host.reduce_andi_all _ _ _ _ _ e3 j)⟩

end Cert.Proof.Fox

end
-- ==== Proof.Rows.lean ====
/-
  Rows of two-dimensional arrays: what several calls' proofs share.
-/
module

public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof

open Idealize.ShloMosaic
open scoped BigOperators

/-- A row scaled by the reciprocal of its root mean square, and by the gains. -/
def normOf (x g : Fin 2048 → EReal) (k : Fin 2048) : EReal :=
  x k * Ideal.rsqrt (Ideal.div (∑ k, x k * x k) (Ideal.ofBits FTy.f32 0x45000000#32) + Ideal.ofBits FTy.f32 0x358637BD#32) * g k

/-- No offset on either axis. -/
theorem zero2 : (![0, 0] : Fin 2 → ℕ) = fun _ => 0 := by decide

/-- An index of a two-dimensional array by row and column. -/
theorem split {a b : ℕ} (y : (⟨2, ![a, b]⟩ : Shape).Idx) : ∃ r l, y = ix2 r l :=
  ⟨y 0, y 1, by funext a; match a with | ⟨0, _⟩ => rfl | ⟨1, _⟩ => rfl⟩

/-- A layer's weights without the axis of one layer. -/
theorem layer (A : (⟨3, ![1, 2048, 2048]⟩ : Shape).Idx → EReal) (h) (k n : Fin 2048) :
    shapeCast (⟨2, ![2048, 2048]⟩ : Shape) A h (ix2 k n) = A (ix3 0 k n) := by
  refine shapeCast_apply A h _ (ix3 0 k n) ?_
  rewrite [Shape.rowMajor_val_three, Shape.rowMajor_val_two]
  show (0 * 2048 + k.val) * 2048 + n.val = k.val * 2048 + n.val
  omega

/-- The rows of several sequences laid out one sequence after the other. -/
theorem rows {a b n : ℕ} (A : (⟨3, ![a, b, 2048]⟩ : Shape).Idx → EReal) (h) (r : Fin n) (p : Fin a) (q : Fin b) (e : p.val * b + q.val = r.val) (k : Fin 2048) :
    shapeCast (⟨2, ![n, 2048]⟩ : Shape) A h (ix2 r k) = A (ix3 p q k) := by
  refine shapeCast_apply A h _ (ix3 p q k) ?_
  rewrite [Shape.rowMajor_val_three, Shape.rowMajor_val_two]
  show (p.val * b + q.val) * 2048 + k.val = r.val * 2048 + k.val
  rw [e]

end Cert.Proof

end
-- ==== Proof.ProjMath.lean ====
/-
  What a block of the input projection holds, entry by entry.
-/
module

public import proofs.«01_k».proof.Proof.Gen.ProjIdeal.Frame
public import proofs.«01_k».proof.Proof.Rows

@[expose] public section

set_option maxRecDepth 16384

noncomputable section

namespace Cert.Proof.Proj

open Idealize.ShloMosaic Idealize.ShloMosaic.TcCoe Idealize.SL.Sem
open Cert.ProjIdeal Cert.ProjIdeal.Gen
open scoped BigOperators

/-- The logarithm of the logistic function. -/
def logSig (z : EReal) : EReal := min z 0 - Ideal.log1p (Ideal.exp (0 - max z (-z)))

section Body

variable (x0 : Vec Ideal S256x2048 .f32) (x1 : Vec Ideal S1x2048 .f32) (x2 : Vec Ideal S2048x6144 .bf16) (x3 : Vec Ideal S2048x128 .bf16)
  (x4 : Vec Ideal S1x128 .f32)

/-- The scaled rows of a block. -/
theorem pay5_at (r : Fin 256) (k : Fin 2048) :
    k0_pay5 (View.ld x0 r0_0) (View.ld x1 r0_1) (ix2 r k) = normOf (fun k => x0 (ix2 r k)) (fun k => x1 (ix2 0 k)) k := by
  pointwise [k0_pay5]
  rfl

/-- The product of a block's scaled rows and a column of weights. -/
def prod (r : Fin 256) (w : Fin 2048 → EReal) : EReal := ∑ k : Fin 2048, normOf (fun k => x0 (ix2 r k)) (fun k => x1 (ix2 0 k)) k * w k

/-- The product of the scaled rows with 1024 columns of weights. -/
theorem prod_at (w : Vec Ideal S2048x1024 .bf16) (r : Fin 256) (l : Fin 1024) :
    k0_pay6 (View.ld x0 r0_0) (View.ld x1 r0_1) w (ix2 r l) = prod x0 x1 r fun k => w (ix2 k l) := by
  unfold k0_pay6 prod
  simp only [← pay5_at]
  generalize k0_pay5 (View.ld x0 r0_0) (View.ld x1 r0_1) = q
  pointwise []

/-- Column `l` of the part of the weights from column `s`. -/
def part (s : ℕ) (hs : s + 1024 ≤ 6144) (l : Fin 1024) (k : Fin 2048) : EReal := x2 (ix2 k ⟨s + l.val, by have := l.isLt; omega⟩)

/-- What a store of the product with 1024 columns of the weights leaves. -/
theorem stored_at (s : ℕ) (hs : s + 1024 ≤ 6144) (inb) (r : Fin 256) (l : Fin 1024) :
    View.canon [(⟨r0_3, k0_pay6 (View.ld x0 r0_0) (View.ld x1 r0_1) (View.ld x2 (Rect.unit (s := S2048x6144) ![0, s] S2048x1024.size inb))⟩ :
      View.Piece (Elt Ideal) S256x1024 .f32)] (ix2 r l) = prod x0 x1 r (part x2 s hs l) := by
  rw [View.canon_unit_zero zero2]
  refine (prod_at x0 x1 _ r l).trans (congrArg _ (funext fun k => ?_))
  show x2 _ = x2 _
  congr 1
  funext a
  match a with
  | ⟨0, _⟩ => exact Fin.ext (by show 0 + 1 * k.val = k.val; omega)
  | ⟨1, _⟩ => exact Fin.ext (by show s + 1 * l.val = s + l.val; omega)

/-! What the first six results' blocks hold: each the product with its own part of the weights. -/

theorem out5_at (r : Fin 256) (l : Fin 1024) : out0_5 x0 x1 x2 x3 x4 (ix2 r l) = prod x0 x1 r (part x2 0 (by decide) l) :=
  stored_at x0 x1 x2 0 _ _ r l
theorem out6_at (r : Fin 256) (l : Fin 1024) : out0_6 x0 x1 x2 x3 x4 (ix2 r l) = prod x0 x1 r (part x2 1024 (by decide) l) :=
  stored_at x0 x1 x2 1024 _ _ r l
theorem out7_at (r : Fin 256) (l : Fin 1024) : out0_7 x0 x1 x2 x3 x4 (ix2 r l) = prod x0 x1 r (part x2 2048 (by decide) l) :=
  stored_at x0 x1 x2 2048 _ _ r l
theorem out8_at (r : Fin 256) (l : Fin 1024) : out0_8 x0 x1 x2 x3 x4 (ix2 r l) = prod x0 x1 r (part x2 3072 (by decide) l) :=
  stored_at x0 x1 x2 3072 _ _ r l
theorem out9_at (r : Fin 256) (l : Fin 1024) : out0_9 x0 x1 x2 x3 x4 (ix2 r l) = prod x0 x1 r (part x2 4096 (by decide) l) :=
  stored_at x0 x1 x2 4096 _ _ r l
theorem out10_at (r : Fin 256) (l : Fin 1024) : out0_10 x0 x1 x2 x3 x4 (ix2 r l) = prod x0 x1 r (part x2 5120 (by decide) l) :=
  stored_at x0 x1 x2 5120 _ _ r l

/-- What the last result's block holds. -/
theorem out11_at (r : Fin 256) (l : Fin 128) :
    out0_11 x0 x1 x2 x3 x4 (ix2 r l) = logSig (prod x0 x1 r (fun k => x3 (ix2 k l)) + x4 (ix2 0 l)) := by
  unfold out0_11 k0_pay10 prod
  rw [View.canon_unit_zero zero2]
  simp only [← pay5_at]
  generalize k0_pay5 (View.ld x0 r0_0) (View.ld x1 r0_1) = q
  pointwise [k0_pay4]
  rfl

end Body

end Cert.Proof.Proj

end
-- ==== Proof.ProjEntry.lean ====
/-
  A row of the input projection: its entries, from the row's features, the gains, the weights and the forget biases.
-/
module

public import proofs.«01_k».proof.Proof.ProjMath
public import Idealize.ShloMosaic.Lib.Routing.OpsSet
public import Idealize.ShloMosaic.Lib.KernelVsHost

@[expose] public section

set_option maxRecDepth 16384

noncomputable section

namespace Cert.Proof.Proj

open Idealize.ShloMosaic Idealize.ShloMosaic.TcCoe Idealize.SL.Sem
open Cert.ProjIdeal Cert.ProjIdeal.Gen
open scoped BigOperators

section Row

variable (x : Fin 2048 → EReal) (A1 : S1x2048.Idx → EReal) (A2 : S1x2048x6152.Idx → EReal) (A3 : S1x8.Idx → EReal)

/-- The product of a token's scaled features and column `n` of the weights. -/
def projRow (n : Fin 6152) : EReal :=
  ∑ k : Fin 2048, normOf x (fun k => A1 (ix2 0 k)) k * A2 (ix3 0 k n)

/-- The logarithm of forget gate `n`. -/
def gate (n : Fin 8) : EReal := logSig (projRow x A1 A2 ⟨6144 + n.val, by omega⟩ + A3 (ix2 0 n))

/-- The weights of all projections but the forget gates'. -/
def mainWeights : S2048x6144.Idx → EReal :=
  shapeCast S2048x6144 (extractStridedSlice S1x2048x6144 ![0, 0, 0] A2 slices_S1x2048x6152_S1x2048x6144_0_0_0) shapeCasts_S1x2048x6144_S2048x6144

theorem mainWeights_at (k : Fin 2048) (n : Fin 6144) : mainWeights A2 (ix2 k n) = A2 (ix3 0 k (⟨n.val, by omega⟩ : Fin 6152)) := by
  unfold mainWeights
  pointwise []

/-- The forget gates' weights, padded to 128 columns. -/
def wideWeights : FVec Ideal S2048x128 .f32 :=
  pad S2048x128 ![0, 0] ![0, 120] ![0, 0] (shapeCast S2048x8 (extractStridedSlice S1x2048x8 ![0, 0, 6144] A2 slices_S1x2048x6152_S1x2048x8_0_0_6144)
    shapeCasts_S1x2048x8_S2048x8 : FVec Ideal S2048x8 .f32) (sitofp .f32 (constantI S_ 32 0#32)) pads_S2048x8_S2048x128_000_01200 h_S_

/-- The columns in use of them. -/
theorem wideWeights_at (k : Fin 2048) (n : Fin 8) :
    wideWeights A2 (ix2 k (⟨n.val, by omega⟩ : Fin 128)) = A2 (ix3 0 k (⟨6144 + n.val, by omega⟩ : Fin 6152)) := by
  refine (pad_apply_of_inside _ _ _ _ _ pads_S2048x8_S2048x128_000_01200 h_S_ _ (ix2 k n) fun a => ?_).trans ?_
  · match a with
    | ⟨0, _⟩ => show k.val = 0 + k.val * 1; omega
    | ⟨1, _⟩ => show n.val = 0 + n.val * 1; omega
  · pointwise []

/-- The biases written at the first 8 of 128 zeros. -/
def biases : FVec Ideal S128 .f32 :=
  Host.scatter scatter_S128_S1_S8_0_n_0_0 (fun _ b => b) (broadcastInDim S128 ![] bcast_S_S128 (constant S_ .f32 0x00000000#32))
    (broadcastInDim S1 ![] bcast_S_S1 (constantI S_ 32 0#32)) (shapeCast S8 A3 shapeCasts_S1x8_S8)

theorem lands : ∀ k : Fin 8, scatter_S128_S1_S8_0_n_0_0.resultIdx? (ix1 k) (broadcastInDim S1 ![] bcast_S_S1 (constantI S_ 32 0#32))
    = some (ix1 (⟨k.val, by omega⟩ : Fin 128)) := by
  decide +kernel

/-- Bias `l` stands at place `l`. -/
theorem biases_at (l : Fin 8) : biases A3 (ix1 (⟨l.val, by omega⟩ : Fin 128)) = A3 (ix2 0 l) := by
  unfold biases
  refine Routing.scatter_set_hit _ _ _ _ _ _ (fun k hk => ?_) (ix1 l) (lands l)
  obtain ⟨k, rfl⟩ : ∃ k' : Fin 8, k = ix1 k' := ⟨k 0, by funext a; match a with | ⟨0, _⟩ => rfl⟩
  rw [lands k] at hk
  have e := congrArg Fin.val (congrFun (Option.some.inj hk) 0)
  obtain rfl : k = l := Fin.ext e
  pointwise []

/-- The biases as a row of 128. -/
def wideBiases : S1x128.Idx → EReal := shapeCast S1x128 (biases A3) shapeCasts_S128_S1x128

/-- The entries in use of it. -/
theorem wideBiases_at (n : Fin 8) : wideBiases A3 (ix2 0 (⟨n.val, by omega⟩ : Fin 128)) = A3 (ix2 0 n) := by
  rw [← biases_at A3]
  unfold wideBiases
  pointwise []

/-- The logarithms in all 128 columns. -/
def wideGate (n : Fin 128) : EReal :=
  logSig ((∑ k : Fin 2048, normOf x (fun k => A1 (ix2 0 k)) k * wideWeights A2 (ix2 k n)) + wideBiases A3 (ix2 0 n))

/-- The columns in use of them. -/
theorem wideGate_at (n : Fin 8) : wideGate x A1 A2 A3 (⟨n.val, by omega⟩ : Fin 128) = gate x A1 A2 A3 n := by
  unfold wideGate gate projRow
  rw [wideBiases_at]
  congr 2
  exact Finset.sum_congr rfl fun k _ => by rw [wideWeights_at]

variable {x A1 A2 A3} {x0 : Vec Ideal S256x2048 .f32} {x1 : Vec Ideal S1x2048 .f32} {r : Fin 256}

/-- A product over blocks that hold a token's features and the gains is a projection. -/
theorem prod_eq (hx : ∀ k, x0 (ix2 r k) = x k) (hg : ∀ k, x1 (ix2 0 k) = A1 (ix2 0 k)) (w : Fin 2048 → EReal) (n : Fin 6152) (hw : ∀ k, w k = A2 (ix3 0 k n)) :
    prod x0 x1 r w = projRow x A1 A2 n := by
  unfold prod projRow
  rw [funext hx, funext hg, funext hw]

/-- The same for the weights' part from column `s`. -/
theorem part_eq {x2 : Vec Ideal S2048x6144 .bf16} (hx : ∀ k, x0 (ix2 r k) = x k) (hg : ∀ k, x1 (ix2 0 k) = A1 (ix2 0 k))
    (hw : ∀ k n, x2 (ix2 k n) = mainWeights A2 (ix2 k n)) (s : ℕ) (hs : s + 1024 ≤ 6144) (l : Fin 1024) :
    prod x0 x1 r (part x2 s hs l) = projRow x A1 A2 ⟨s + l.val, by omega⟩ :=
  prod_eq hx hg _ _ fun k => (hw k _).trans (mainWeights_at A2 k _)

/-- The same for the forget gates in 128 columns. -/
theorem gate_eq {x3 : Vec Ideal S2048x128 .bf16} {x4 : Vec Ideal S1x128 .f32} (hx : ∀ k, x0 (ix2 r k) = x k) (hg : ∀ k, x1 (ix2 0 k) = A1 (ix2 0 k))
    (hw : ∀ k n, x3 (ix2 k n) = wideWeights A2 (ix2 k n)) (hb : ∀ n, x4 (ix2 0 n) = wideBiases A3 (ix2 0 n)) (n : Fin 128) :
    logSig (prod x0 x1 r (fun k => x3 (ix2 k n)) + x4 (ix2 0 n)) = wideGate x A1 A2 A3 n := by
  unfold prod wideGate
  rw [funext hx, funext hg, hb, funext fun k => hw k n]

end Row

end Cert.Proof.Proj

end
-- ==== Proof.ProjArray.lean ====
/-
  The input projection's arrays: every entry, from the whole arrays of tokens, gains, weights and forget biases.
-/
module

public import proofs.«01_k».proof.Proof.ProjEntry

@[expose] public section

set_option maxRecDepth 16384

noncomputable section

namespace Cert.Proof.Proj

open Idealize.ShloMosaic Idealize.ShloMosaic.TcCoe Idealize.SL.Sem
open Cert.ProjIdeal Cert.ProjIdeal.Gen
open scoped BigOperators

section Entry

variable (A0 : S4x2048x2048.Idx → EReal) (A1 : S1x2048.Idx → EReal) (A2 : S1x2048x6152.Idx → EReal) (A3 : S1x8.Idx → EReal)

/-- Row `r` of all tokens, sequence after sequence, is token `r % 2048` of sequence `r / 2048`. -/
def token (r : Fin 8192) (k : Fin 2048) : S4x2048x2048.Idx :=
  ix3 ⟨r.val / 2048, by have := r.isLt; omega⟩ ⟨r.val % 2048, Nat.mod_lt _ (by decide)⟩ k

/-- The projections onto the 1024 columns from `s`, as an array. -/
def projArr (s : ℕ) (hs : s + 1024 ≤ 6144) (j : S8192x1024.Idx) : EReal :=
  projRow (fun k => A0 (token (j 0) k)) A1 A2 ⟨s + (j 1).val, by have : (j 1).val < 1024 := (j 1).isLt; omega⟩

/-- The forget gates' logarithms, as an array. -/
def gateArr (j : S8192x8.Idx) : EReal := gate (fun k => A0 (token (j 0) k)) A1 A2 A3 (j 1)

/-- The forget gates' logarithms in all 128 columns. -/
def gateWide (j : S8192x128.Idx) : EReal := wideGate (fun k => A0 (token (j 0) k)) A1 A2 A3 (j 1)

/-- The columns in use of it. -/
theorem gate_slice : extractStridedSlice S8192x8 ![0, 0] (gateWide A0 A1 A2 A3) slices_S8192x128_S8192x8_0_0 = gateArr A0 A1 A2 A3 := by
  funext y
  obtain ⟨r, n, rfl⟩ := split y
  refine Eq.trans (?_ : _ = gateWide A0 A1 A2 A3 (ix2 r (⟨n.val, by omega⟩ : Fin 128))) (wideGate_at _ A1 A2 A3 n)
  pointwise []

end Entry

variable (m : (ℓ : Loc nD τ sig) → Buf (Elt Ideal) ℓ) (c : Dev nD)

/-! The windows' arrays before the call. -/

theorem V7 : V m c main_v7 = shapeCast S8192x2048 (m ((c : Thread nD τ).loc main_arg0)) shapeCasts_S4x2048x2048_S8192x2048 := by
  unfold V V0
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp
  rfl

theorem V13 : V m c main_v13 = shapeCast S1x2048 (shapeCast S2048 (m ((c : Thread nD τ).loc main_arg1)) shapeCasts_S1x2048_S2048) shapeCasts_S2048_S1x2048 := by
  unfold V V0
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp
  rfl

theorem V2 : (V m c main_v2 : S2048x6144.Idx → EReal) = mainWeights (m ((c : Thread nD τ).loc main_arg2)) := by
  unfold V V0
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp
  rfl

theorem V6 : (V m c main_v6 : S2048x128.Idx → EReal) = wideWeights (m ((c : Thread nD τ).loc main_arg2)) := by
  unfold V V0
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp
  rfl

theorem V14 : V m c main_v14 = wideBiases (m ((c : Thread nD τ).loc main_arg3)) := by
  unfold V V0
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp
  rfl

/-- Where the windows' blocks lie. -/
theorem idx : ∀ t : Fin grid0.N, win0_0.index t = ![t.val, 0] ∧ win0_1.index t = ![0, 0] ∧ win0_2.index t = ![0, 0]
    ∧ win0_3.index t = ![0, 0] ∧ win0_4.index t = ![0, 0] := by
  decide +kernel

/-- Where the results' blocks lie. -/
theorem idx_out : ∀ t : Fin grid0.N, win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0] := by
  decide +kernel

variable (t : Fin cfg0.N)

/-- The grid has 32 points. -/
theorem pt_lt : t.val < 32 := t.isLt

/-- The row of all tokens at row `r` of a grid point's block. -/
def tokenRow (r : Fin 256) : Fin 8192 := ⟨256 * t.val + r.val, by have := pt_lt t; have := r.isLt; omega⟩

/-- The block of tokens. -/
theorem blk0 (r : Fin 256) (k : Fin 2048) : iblk m c 0 t (ix2 r k) = m ((c : Thread nD τ).loc main_arg0) (token (tokenRow t r) k) := by
  have e := (idx t).1
  have h : iblk m c 0 t (ix2 r k) = V m c main_v7 (ix2 (tokenRow t r) k) := by
    blk_ext [iblk, e]
    show _ = 256 * t.val + r.val; omega
  exact h.trans ((congrFun (V7 m c) _).trans (rows _ _ _ _ _ (by show (tokenRow t r).val / 2048 * 2048 + (tokenRow t r).val % 2048 = _; omega) k))

/-- The block of gains. -/
theorem blk1 (k : Fin 2048) : iblk m c 1 t (ix2 0 k) = m ((c : Thread nD τ).loc main_arg1) (ix2 0 k) := by
  have e := (idx t).2.1
  have h : iblk m c 1 t (ix2 0 k) = V m c main_v13 (ix2 0 k) := by
    blk_ext [iblk, e]
  rw [h, V13]
  pointwise []

/-- The block of weights. -/
theorem blk2 (k : Fin 2048) (n : Fin 6144) : iblk m c 2 t (ix2 k n) = mainWeights (m ((c : Thread nD τ).loc main_arg2)) (ix2 k n) := by
  have e := (idx t).2.2.1
  refine Eq.trans (?_ : _ = V m c main_v2 (ix2 k n)) (congrFun (V2 m c) _)
  blk_ext [iblk, e]

/-- The block of the forget gates' weights. -/
theorem blk3 (k : Fin 2048) (n : Fin 128) : iblk m c 3 t (ix2 k n) = wideWeights (m ((c : Thread nD τ).loc main_arg2)) (ix2 k n) := by
  have e := (idx t).2.2.2.1
  refine Eq.trans (?_ : _ = V m c main_v6 (ix2 k n)) (congrFun (V6 m c) _)
  blk_ext [iblk, e]

/-- The block of biases. -/
theorem blk4 (n : Fin 128) : iblk m c 4 t (ix2 0 n) = wideBiases (m ((c : Thread nD τ).loc main_arg3)) (ix2 0 n) := by
  have e := (idx t).2.2.2.2
  refine Eq.trans (?_ : _ = V m c main_v14 (ix2 0 n)) (congrFun (V14 m c) _)
  blk_ext [iblk, e]

/-- A grid point's product with a part of the weights is the arrays' projection. -/
theorem part_at (s : ℕ) (hs : s + 1024 ≤ 6144) (r : Fin 256) (l : Fin 1024) :
    prod (iblk m c 0 t) (iblk m c 1 t) r (part (iblk m c 2 t) s hs l) = projArr (m ((c : Thread nD τ).loc main_arg0)) (m ((c : Thread nD τ).loc main_arg1)) (m ((c : Thread nD τ).loc main_arg2)) s hs (ix2 (tokenRow t r) l) :=
  part_eq (blk0 m c t r) (blk1 m c t) (blk2 m c t) s hs l

/-- The same for the forget gates. -/
theorem gate_at (r : Fin 256) (n : Fin 128) :
    logSig (prod (iblk m c 0 t) (iblk m c 1 t) r (fun k => iblk m c 3 t (ix2 k n)) + iblk m c 4 t (ix2 0 n)) = gateWide (m ((c : Thread nD τ).loc main_arg0)) (m ((c : Thread nD τ).loc main_arg1)) (m ((c : Thread nD τ).loc main_arg2)) (m ((c : Thread nD τ).loc main_arg3)) (ix2 (tokenRow t r) n) :=
  gate_eq (blk0 m c t r) (blk1 m c t) (blk3 m c t) (blk4 m c t) n

/-! The arrays of the results, from their blocks. -/

theorem arr5 : (dats m 0 c).arrAt 5 cfg0.N
    = projArr (m ((c : Thread nD τ).loc main_arg0)) (m ((c : Thread nD τ).loc main_arg1)) (m ((c : Thread nD τ).loc main_arg2)) 0 (by decide) := by
  refine (dats m 0 c).arrAt_eq_of_covers 5 _ (by decide +kernel) fun t hf y => ?_
  blk_simp
  rw [after0_5]
  obtain ⟨r, l, rfl⟩ := split y
  refine (out5_at _ _ _ _ _ r l).trans ((part_at m c t _ _ r l).trans (congrArg _ ?_))
  have e := (idx_out t).1
  refine Eq.symm ?_
  blk_ext [e]
  show _ = 256 * t.val + r.val; omega

theorem arr6 : (dats m 0 c).arrAt 6 cfg0.N
    = projArr (m ((c : Thread nD τ).loc main_arg0)) (m ((c : Thread nD τ).loc main_arg1)) (m ((c : Thread nD τ).loc main_arg2)) 1024 (by decide) := by
  refine (dats m 0 c).arrAt_eq_of_covers 6 _ (by decide +kernel) fun t hf y => ?_
  blk_simp
  rw [after0_6]
  obtain ⟨r, l, rfl⟩ := split y
  refine (out6_at _ _ _ _ _ r l).trans ((part_at m c t _ _ r l).trans (congrArg _ ?_))
  have e := (idx_out t).2.1
  refine Eq.symm ?_
  blk_ext [e]
  show _ = 256 * t.val + r.val; omega

theorem arr7 : (dats m 0 c).arrAt 7 cfg0.N
    = projArr (m ((c : Thread nD τ).loc main_arg0)) (m ((c : Thread nD τ).loc main_arg1)) (m ((c : Thread nD τ).loc main_arg2)) 2048 (by decide) := by
  refine (dats m 0 c).arrAt_eq_of_covers 7 _ (by decide +kernel) fun t hf y => ?_
  blk_simp
  rw [after0_7]
  obtain ⟨r, l, rfl⟩ := split y
  refine (out7_at _ _ _ _ _ r l).trans ((part_at m c t _ _ r l).trans (congrArg _ ?_))
  have e := (idx_out t).2.2.1
  refine Eq.symm ?_
  blk_ext [e]
  show _ = 256 * t.val + r.val; omega

theorem arr8 : (dats m 0 c).arrAt 8 cfg0.N
    = projArr (m ((c : Thread nD τ).loc main_arg0)) (m ((c : Thread nD τ).loc main_arg1)) (m ((c : Thread nD τ).loc main_arg2)) 3072 (by decide) := by
  refine (dats m 0 c).arrAt_eq_of_covers 8 _ (by decide +kernel) fun t hf y => ?_
  blk_simp
  rw [after0_8]
  obtain ⟨r, l, rfl⟩ := split y
  refine (out8_at _ _ _ _ _ r l).trans ((part_at m c t _ _ r l).trans (congrArg _ ?_))
  have e := (idx_out t).2.2.2.1
  refine Eq.symm ?_
  blk_ext [e]
  show _ = 256 * t.val + r.val; omega

theorem arr9 : (dats m 0 c).arrAt 9 cfg0.N
    = projArr (m ((c : Thread nD τ).loc main_arg0)) (m ((c : Thread nD τ).loc main_arg1)) (m ((c : Thread nD τ).loc main_arg2)) 4096 (by decide) := by
  refine (dats m 0 c).arrAt_eq_of_covers 9 _ (by decide +kernel) fun t hf y => ?_
  blk_simp
  rw [after0_9]
  obtain ⟨r, l, rfl⟩ := split y
  refine (out9_at _ _ _ _ _ r l).trans ((part_at m c t _ _ r l).trans (congrArg _ ?_))
  have e := (idx_out t).2.2.2.2.1
  refine Eq.symm ?_
  blk_ext [e]
  show _ = 256 * t.val + r.val; omega

theorem arr10 : (dats m 0 c).arrAt 10 cfg0.N
    = projArr (m ((c : Thread nD τ).loc main_arg0)) (m ((c : Thread nD τ).loc main_arg1)) (m ((c : Thread nD τ).loc main_arg2)) 5120 (by decide) := by
  refine (dats m 0 c).arrAt_eq_of_covers 10 _ (by decide +kernel) fun t hf y => ?_
  blk_simp
  rw [after0_10]
  obtain ⟨r, l, rfl⟩ := split y
  refine (out10_at _ _ _ _ _ r l).trans ((part_at m c t _ _ r l).trans (congrArg _ ?_))
  have e := (idx_out t).2.2.2.2.2.1
  refine Eq.symm ?_
  blk_ext [e]
  show _ = 256 * t.val + r.val; omega

theorem arr11 : (dats m 0 c).arrAt 11 cfg0.N
    = gateWide (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t hf y => ?_
  blk_simp
  rw [after0_11]
  obtain ⟨r, l, rfl⟩ := split y
  refine (out11_at _ _ _ _ _ r l).trans ((gate_at m c t r l).trans (congrArg _ ?_))
  have e := (idx_out t).2.2.2.2.2.2
  refine Eq.symm ?_
  blk_ext [e]
  show _ = 256 * t.val + r.val; omega

end Cert.Proof.Proj

end
-- ==== Proof.ProjRun.lean ====
/-
  The input projection's run: what each of its results holds at the end.
-/
module

public import proofs.«01_k».proof.Proof.ProjArray

@[expose] public section

set_option maxRecDepth 16384

noncomputable section

namespace Cert.Proof.Proj

open Idealize.ShloMosaic Idealize.ShloMosaic.TcCoe Idealize.SL.Sem
open Cert.ProjIdeal Cert.ProjIdeal.Gen
open scoped BigOperators

variable (m : (ℓ : Loc nD τ sig) → Buf (Elt Ideal) ℓ)

/-- The sliced result after the call is the slice of the call's last array. -/
theorem tail (c : Dev nD) : Pipeline.afterTail₀ cfgs (dats m) 0 (V0 m) [hostOps1] c main_v16
    = extractStridedSlice S8192x8 ![0, 0] ((dats m 0 c).arrAt 11 cfg0.N) slices_S8192x128_S8192x8_0_0 := by
  unfold Pipeline.afterTail₀
  simp only [hostOps1, List.flatten_cons, List.flatten_nil, List.append_nil]
  after_results_simp
  refine congrArg (fun y : S8192x128.Idx → EReal => extractStridedSlice S8192x8 ![0, 0] y slices_S8192x128_S8192x8_0_0) ?_
  exact Pipeline.withArrays_arr spec0 (by decide) c _ _ 11

/-- The call's arrays at the end of a run. -/
theorem ends (r : PUnit × MemSt nD τ sig (Elt Ideal))
    (h : Pipeline.FramePost cfgs (dats m) 0 (Pipeline.afterTail₀ cfgs (dats m) 0 (V0 m) [hostOps1]) r) (c : Dev nD) :
      r.2.mem ((c : Thread nD τ).loc main_v15_0) = (dats m 0 c).arrAt 5 cfg0.N
      ∧ r.2.mem ((c : Thread nD τ).loc main_v15_1) = (dats m 0 c).arrAt 6 cfg0.N
      ∧ r.2.mem ((c : Thread nD τ).loc main_v15_2) = (dats m 0 c).arrAt 7 cfg0.N
      ∧ r.2.mem ((c : Thread nD τ).loc main_v15_3) = (dats m 0 c).arrAt 8 cfg0.N
      ∧ r.2.mem ((c : Thread nD τ).loc main_v15_4) = (dats m 0 c).arrAt 9 cfg0.N
      ∧ r.2.mem ((c : Thread nD τ).loc main_v15_5) = (dats m 0 c).arrAt 10 cfg0.N
      ∧ r.2.mem ((c : Thread nD τ).loc main_v16) = Pipeline.afterTail₀ cfgs (dats m) 0 (V0 m) [hostOps1] c main_v16 :=
  ⟨(h c).1 5, (h c).1 6, (h c).1 7, (h c).1 8, (h c).1 9, (h c).1 10, (h c).2 main_v16 (Pipeline.mem_restRefs_of main_v16 (by decide) (by decide))⟩

/-- The run: the projections, the forget gates, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v15_0) = projArr (m ((c : Thread nD τ).loc main_arg0)) (m ((c : Thread nD τ).loc main_arg1)) (m ((c : Thread nD τ).loc main_arg2)) 0 (by decide)
      ∧ r.2.mem ((c : Thread nD τ).loc main_v15_1) = projArr (m ((c : Thread nD τ).loc main_arg0)) (m ((c : Thread nD τ).loc main_arg1)) (m ((c : Thread nD τ).loc main_arg2)) 1024 (by decide)
      ∧ r.2.mem ((c : Thread nD τ).loc main_v15_2) = projArr (m ((c : Thread nD τ).loc main_arg0)) (m ((c : Thread nD τ).loc main_arg1)) (m ((c : Thread nD τ).loc main_arg2)) 2048 (by decide)
      ∧ r.2.mem ((c : Thread nD τ).loc main_v15_3) = projArr (m ((c : Thread nD τ).loc main_arg0)) (m ((c : Thread nD τ).loc main_arg1)) (m ((c : Thread nD τ).loc main_arg2)) 3072 (by decide)
      ∧ r.2.mem ((c : Thread nD τ).loc main_v15_4) = projArr (m ((c : Thread nD τ).loc main_arg0)) (m ((c : Thread nD τ).loc main_arg1)) (m ((c : Thread nD τ).loc main_arg2)) 4096 (by decide)
      ∧ r.2.mem ((c : Thread nD τ).loc main_v15_5) = projArr (m ((c : Thread nD τ).loc main_arg0)) (m ((c : Thread nD τ).loc main_arg1)) (m ((c : Thread nD τ).loc main_arg2)) 5120 (by decide)
      ∧ r.2.mem ((c : Thread nD τ).loc main_v16) = gateArr (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
      obtain ⟨e0, e1, e2, e3, e4, e5, e6⟩ := ends m r h.1 c
      rw [arr5] at e0; rw [arr6] at e1; rw [arr7] at e2; rw [arr8] at e3; rw [arr9] at e4; rw [arr10] at e5
      rw [tail, arr11, gate_slice] at e6
      exact ⟨e0, e1, e2, e3, e4, e5, e6, h.2 c⟩)
    (θ_run_and (run_main m ρ) (unchanged m ρ))

end Cert.Proof.Proj

end
-- ==== Proof.ProjRef.lean ====
/-
  The reference of the input projection, entry by entry: the same arrays.
-/
module

public import proofs.«01_k».proof.Proof.ProjArray
public import proofs.«01_k».proof.Proof.Gen.RefProjIdeal.Run
public import proofs.«01_k».proof.Proof.Gen.RefProjIdeal.Read
public import Idealize.ShloMosaic.Lib.Pointwise

@[expose] public section

set_option maxRecDepth 16384

noncomputable section

namespace Cert.Proof.Proj

open Idealize.ShloMosaic Idealize.ShloMosaic.TcCoe Idealize.SL.Sem
open Cert.RefProjIdeal Cert.RefProjIdeal.Gen Cert.RefProjIdeal.Read
open scoped BigOperators

/-- One plus the exponential of a number not above zero has a finite logarithm. -/
theorem log1p_exp_real (w : EReal) (hw : w ≤ 0) : ∃ x : ℝ, Ideal.log1p (Ideal.exp w) = x := by
  have key : ∀ y : ℝ, 0 ≤ y → ∃ x : ℝ, Ideal.log1p (y : EReal) = x := fun y hy => by
    refine ⟨Real.log (1 + y), ?_⟩
    unfold Ideal.log1p
    rw [← EReal.coe_one, ← EReal.coe_add]
    exact if_neg (by linarith)
  induction w using EReal.rec with
  | bot => exact key 0 le_rfl
  | coe x => exact key _ (Real.exp_pos x).le
  | top => exact absurd hw (by simp)

/-- The reference takes the logarithm of the logistic function as the negative of the softplus of the negative. -/
theorem neg_softplus (z : EReal) :
    (-if -z ≠ -z then -z else max (-z) 0 + Ideal.log1p (Ideal.exp (-max (-z) (- -z)))) = logSig z := by
  rw [if_neg (not_not.mpr rfl), neg_neg, max_comm (-z) z]
  unfold logSig
  rw [zero_sub]
  obtain ⟨x, hx⟩ := log1p_exp_real (-max z (-z)) (by
    rw [EReal.neg_le, neg_zero]
    rcases le_total 0 z with h | h
    · exact le_max_of_le_left h
    · exact le_max_of_le_right (by rw [EReal.le_neg, neg_zero]; exact h))
  rw [hx, EReal.neg_add (Or.inr (EReal.coe_ne_top x)) (Or.inr (EReal.coe_ne_bot x))]
  congr 1
  rcases le_total 0 z with h | h
  · rw [min_eq_right h, max_eq_right (by rw [EReal.neg_le, neg_zero]; exact h), neg_zero]
  · rw [min_eq_left h, max_eq_left (by rw [EReal.le_neg, neg_zero]; exact h), neg_neg]

variable (A0 : (⟨S4x2048x2048, .f32⟩ : BufTy).Contents (Elt Ideal)) (A1 : (⟨S1x2048, .f32⟩ : BufTy).Contents (Elt Ideal))
  (A2 : (⟨S1x2048x6152, .f32⟩ : BufTy).Contents (Elt Ideal)) (A3 : (⟨S1x8, .f32⟩ : BufTy).Contents (Elt Ideal))

/-- The scaled features of a token. -/
theorem ref_norm (b : Fin 4) (t : Fin 2048) (k : Fin 2048) :
    val_main_v13 A0 A1 (ix3 b t k) = normOf (fun k => A0 (ix3 b t k)) (fun k => A1 (ix2 0 k)) k := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- All projections of a token. -/
theorem ref_dot (b : Fin 4) (t : Fin 2048) (n : Fin 6152) :
    val_main_v15 A0 A1 A2 (ix3 b t n) = ∑ k : Fin 2048, normOf (fun k => A0 (ix3 b t k)) (fun k => A1 (ix2 0 k)) k * A2 (ix3 0 k n) := by
  rw [val_main_v15_apply]
  refine Finset.sum_congr rfl fun k _ => ?_
  rw [← ref_norm, val_main_v14_apply]
  congr 1
  · congr 1
    funext a
    match a with
    | ⟨0, _⟩ => rfl
    | ⟨1, _⟩ => rfl
    | ⟨2, _⟩ => rfl
  · congr 1
    have := k.isLt; have := n.isLt
    funext a
    match a with
    | ⟨0, _⟩ => rfl
    | ⟨1, _⟩ => exact Fin.ext (by show (k.val * 6152 + n.val) / 6152 % 2048 = k.val; omega)
    | ⟨2, _⟩ => exact Fin.ext (by show (k.val * 6152 + n.val) % 6152 = n.val; omega)

/-- The same at the index of a result's entry. -/
theorem ref_at (j : S4x2048x6152.Idx) (r : Fin 8192) (n : Fin 6152) (h0 : (j 0).val = r.val / 2048) (h1 : (j 1).val = r.val % 2048) (h2 : (j 2).val = n.val) :
    val_main_v15 A0 A1 A2 j = projRow (fun k => A0 (token r k)) A1 A2 n := by
  have e : j = ix3 ⟨r.val / 2048, by have := r.isLt; omega⟩ ⟨r.val % 2048, Nat.mod_lt _ (by decide)⟩ n := by
    funext a
    match a with
    | ⟨0, _⟩ => exact Fin.ext h0
    | ⟨1, _⟩ => exact Fin.ext h1
    | ⟨2, _⟩ => exact Fin.ext h2
  rw [e, ref_dot]
  rfl

/-- The same at a column of the part from column `s`, its position counted over rows of 1024. -/
theorem ref_part (s : ℕ) (hs : s + 1024 ≤ 6144) (j : S4x2048x6152.Idx) (r : Fin 8192) (l : Fin 1024) (h0 : (j 0).val = (r.val * 1024 + l.val) / 2097152)
    (h1 : (j 1).val = (r.val * 1024 + l.val) / 1024 % 2048) (h2 : (j 2).val = s + (r.val * 1024 + l.val) % 1024) :
    val_main_v15 A0 A1 A2 j = projArr A0 A1 A2 s hs (ix2 r l) := by
  have := r.isLt; have := l.isLt
  exact ref_at A0 A1 A2 j r ⟨s + l.val, by omega⟩ (by omega) (by omega) (by show _ = s + l.val; omega)

/-! The results of 1024 columns. -/

theorem ref17 : val_main_v17 A0 A1 A2 = projArr A0 A1 A2 0 (by decide) := by
  funext j
  obtain ⟨r, l, rfl⟩ := split j
  rw [val_main_v17_apply, val_main_v16_apply]
  exact ref_part A0 A1 A2 0 (by decide) _ r l rfl rfl (Nat.zero_add _).symm

theorem ref19 : val_main_v19 A0 A1 A2 = projArr A0 A1 A2 1024 (by decide) := by
  funext j
  obtain ⟨r, l, rfl⟩ := split j
  rw [val_main_v19_apply, val_main_v18_apply]
  exact ref_part A0 A1 A2 1024 (by decide) _ r l rfl rfl rfl

theorem ref21 : val_main_v21 A0 A1 A2 = projArr A0 A1 A2 2048 (by decide) := by
  funext j
  obtain ⟨r, l, rfl⟩ := split j
  rw [val_main_v21_apply, val_main_v20_apply]
  exact ref_part A0 A1 A2 2048 (by decide) _ r l rfl rfl rfl

theorem ref23 : val_main_v23 A0 A1 A2 = projArr A0 A1 A2 3072 (by decide) := by
  funext j
  obtain ⟨r, l, rfl⟩ := split j
  rw [val_main_v23_apply, val_main_v22_apply]
  exact ref_part A0 A1 A2 3072 (by decide) _ r l rfl rfl rfl

theorem ref25 : val_main_v25 A0 A1 A2 = projArr A0 A1 A2 4096 (by decide) := by
  funext j
  obtain ⟨r, l, rfl⟩ := split j
  rw [val_main_v25_apply, val_main_v24_apply]
  exact ref_part A0 A1 A2 4096 (by decide) _ r l rfl rfl rfl

theorem ref27 : val_main_v27 A0 A1 A2 = projArr A0 A1 A2 5120 (by decide) := by
  funext j
  obtain ⟨r, l, rfl⟩ := split j
  rw [val_main_v27_apply, val_main_v26_apply]
  exact ref_part A0 A1 A2 5120 (by decide) _ r l rfl rfl rfl

/-- The forget gates. -/
theorem ref34 : val_main_v34 A0 A1 A2 A3 = gateArr A0 A1 A2 A3 := by
  funext j
  obtain ⟨r, l, rfl⟩ := split j
  have := r.isLt; have := l.isLt
  have e : val_main_v33 A0 A1 A2 A3 (ix2 r l) = projRow (fun k => A0 (token r k)) A1 A2 ⟨6144 + l.val, by omega⟩ + A3 (ix2 0 l) := by
    rw [val_main_v33_apply, val_main_v29_apply, val_main_v28_apply, ref_at A0 A1 A2 _ r ⟨6144 + l.val, by omega⟩ (by show (r.val * 8 + l.val) / 16384 = r.val / 2048; omega)
      (by show (r.val * 8 + l.val) / 8 % 2048 = r.val % 2048; omega) (by show 6144 + (r.val * 8 + l.val) % 8 = 6144 + l.val; omega)]
    congr 1
    pointwise [val_main_v32, val_main_v31, val_main_v30]
  show _ = logSig _
  simp only [ix2_0, ix2_1]
  rw [← e]
  pointwise [val_main_v34, val_main_call0_v1, val_main_call0_v0, val_main_call0_call0_v11, val_main_call0_call0_v10, val_main_call0_call0_v9, val_main_call0_call0_v8,
    val_main_call0_call0_v7, val_main_call0_call0_v6, val_main_call0_call0_v5, val_main_call0_call0_v4, val_main_call0_call0_v3, val_main_call0_call0_v2, val_main_call0_call0_v1, val_main_call0_call0_v0, val_main_call0_call0_cst]
  exact neg_softplus _

/-- The reference's run: the same arrays, and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = projArr (m ((c : Thread nD τ).loc main_arg0)) (m ((c : Thread nD τ).loc main_arg1)) (m ((c : Thread nD τ).loc main_arg2)) 0 (by decide)
      ∧ r.2.mem ((c.tc : Thread nD τ).loc main_v19) = projArr (m ((c : Thread nD τ).loc main_arg0)) (m ((c : Thread nD τ).loc main_arg1)) (m ((c : Thread nD τ).loc main_arg2)) 1024 (by decide)
      ∧ r.2.mem ((c.tc : Thread nD τ).loc main_v21) = projArr (m ((c : Thread nD τ).loc main_arg0)) (m ((c : Thread nD τ).loc main_arg1)) (m ((c : Thread nD τ).loc main_arg2)) 2048 (by decide)
      ∧ r.2.mem ((c.tc : Thread nD τ).loc main_v23) = projArr (m ((c : Thread nD τ).loc main_arg0)) (m ((c : Thread nD τ).loc main_arg1)) (m ((c : Thread nD τ).loc main_arg2)) 3072 (by decide)
      ∧ r.2.mem ((c.tc : Thread nD τ).loc main_v25) = projArr (m ((c : Thread nD τ).loc main_arg0)) (m ((c : Thread nD τ).loc main_arg1)) (m ((c : Thread nD τ).loc main_arg2)) 4096 (by decide)
      ∧ r.2.mem ((c.tc : Thread nD τ).loc main_v27) = projArr (m ((c : Thread nD τ).loc main_arg0)) (m ((c : Thread nD τ).loc main_arg1)) (m ((c : Thread nD τ).loc main_arg2)) 5120 (by decide)
      ∧ r.2.mem ((c.tc : Thread nD τ).loc main_v34) = gateArr (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
      obtain ⟨e0, e1, e2, e3, e4, e5, e6, k⟩ := h c
      rw [val_main_v17_eq, ref17] at e0; rw [val_main_v19_eq, ref19] at e1; rw [val_main_v21_eq, ref21] at e2
      rw [val_main_v23_eq, ref23] at e3; rw [val_main_v25_eq, ref25] at e4; rw [val_main_v27_eq, ref27] at e5
      rw [val_main_v34_eq, ref34] at e6
      exact ⟨e0, e1, e2, e3, e4, e5, e6, k⟩)
    (Cert.RefProjIdeal.Value.run (F := Ideal) m ρ)

end Cert.Proof.Proj

end
-- ==== Proof.SampleArray.lean ====
/-
  The arrays of the input projection of the sample: every entry, from the whole arrays of tokens, gains, weights and forget biases.
-/
module

public import proofs.«01_k».proof.Proof.ProjEntry
public import proofs.«01_k».proof.Proof.Gen.SampleIdeal.Frame

@[expose] public section

set_option maxRecDepth 16384

noncomputable section

namespace Cert.Proof.Sample

open Idealize.ShloMosaic Idealize.ShloMosaic.TcCoe Idealize.SL.Sem
open Cert.SampleIdeal Cert.SampleIdeal.Gen
open Cert.Proof.Proj (prod part logSig projRow gate wideGate wideGate_at mainWeights wideWeights wideBiases part_eq gate_eq)
open scoped BigOperators

section Entry

variable (A0 : S32x8x2048.Idx → EReal) (A1 : S1x2048.Idx → EReal) (A2 : S1x2048x6152.Idx → EReal) (A3 : S1x8.Idx → EReal)

/-- Row `r` of all tokens, sequence after sequence, is token `r % 8` of sequence `r / 8`. -/
def token (r : Fin 256) (k : Fin 2048) : S32x8x2048.Idx :=
  ix3 ⟨r.val / 8, by have := r.isLt; omega⟩ ⟨r.val % 8, Nat.mod_lt _ (by decide)⟩ k

/-- The projections onto the 1024 columns from `s`, as an array. -/
def projArr (s : ℕ) (hs : s + 1024 ≤ 6144) (j : S256x1024.Idx) : EReal :=
  projRow (fun k => A0 (token (j 0) k)) A1 A2 ⟨s + (j 1).val, by have : (j 1).val < 1024 := (j 1).isLt; omega⟩

/-- The forget gates' logarithms, as an array. -/
def gateArr (j : S256x8.Idx) : EReal := gate (fun k => A0 (token (j 0) k)) A1 A2 A3 (j 1)

/-- The forget gates' logarithms in all 128 columns. -/
def gateWide (j : S256x128.Idx) : EReal := wideGate (fun k => A0 (token (j 0) k)) A1 A2 A3 (j 1)

/-- The columns in use of it. -/
theorem gate_slice : extractStridedSlice S256x8 ![0, 0] (gateWide A0 A1 A2 A3) slices_S256x128_S256x8_0_0 = gateArr A0 A1 A2 A3 := by
  funext y
  obtain ⟨r, n, rfl⟩ := split y
  refine Eq.trans (?_ : _ = gateWide A0 A1 A2 A3 (ix2 r (⟨n.val, by omega⟩ : Fin 128))) (wideGate_at _ A1 A2 A3 n)
  pointwise []

end Entry

section Body

variable (x0 : Vec Ideal S256x2048 .f32) (x1 : Vec Ideal S1x2048 .f32) (x2 : Vec Ideal S2048x6144 .bf16) (x3 : Vec Ideal S2048x128 .bf16)
  (x4 : Vec Ideal S1x128 .f32) (r : Fin 256)

/-! What the results' blocks hold: the body is the prompt's. -/

theorem out5_at (l : Fin 1024) : out0_5 x0 x1 x2 x3 x4 (ix2 r l) = prod x0 x1 r (part x2 0 (by decide) l) := Proj.out5_at x0 x1 x2 x3 x4 r l
theorem out6_at (l : Fin 1024) : out0_6 x0 x1 x2 x3 x4 (ix2 r l) = prod x0 x1 r (part x2 1024 (by decide) l) := Proj.out6_at x0 x1 x2 x3 x4 r l
theorem out7_at (l : Fin 1024) : out0_7 x0 x1 x2 x3 x4 (ix2 r l) = prod x0 x1 r (part x2 2048 (by decide) l) := Proj.out7_at x0 x1 x2 x3 x4 r l
theorem out8_at (l : Fin 1024) : out0_8 x0 x1 x2 x3 x4 (ix2 r l) = prod x0 x1 r (part x2 3072 (by decide) l) := Proj.out8_at x0 x1 x2 x3 x4 r l
theorem out9_at (l : Fin 1024) : out0_9 x0 x1 x2 x3 x4 (ix2 r l) = prod x0 x1 r (part x2 4096 (by decide) l) := Proj.out9_at x0 x1 x2 x3 x4 r l
theorem out10_at (l : Fin 1024) : out0_10 x0 x1 x2 x3 x4 (ix2 r l) = prod x0 x1 r (part x2 5120 (by decide) l) := Proj.out10_at x0 x1 x2 x3 x4 r l
theorem out11_at (l : Fin 128) : out0_11 x0 x1 x2 x3 x4 (ix2 r l) = logSig (prod x0 x1 r (fun k => x3 (ix2 k l)) + x4 (ix2 0 l)) :=
  Proj.out11_at x0 x1 x2 x3 x4 r l

end Body

variable (m : (ℓ : Loc nD τ sig) → Buf (Elt Ideal) ℓ) (c : Dev nD)

/-! The windows' arrays before the call. -/

theorem V7 : V m c main_v7 = shapeCast S256x2048 (m ((c : Thread nD τ).loc main_arg0)) shapeCasts_S32x8x2048_S256x2048 := by
  unfold V V0
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp
  rfl

theorem V13 : V m c main_v13 = shapeCast S1x2048 (shapeCast S2048 (m ((c : Thread nD τ).loc main_arg1)) shapeCasts_S1x2048_S2048) shapeCasts_S2048_S1x2048 := by
  unfold V V0
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp
  rfl

theorem V2 : (V m c main_v2 : S2048x6144.Idx → EReal) = mainWeights (m ((c : Thread nD τ).loc main_arg2)) := by
  unfold V V0
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp
  rfl

theorem V6 : (V m c main_v6 : S2048x128.Idx → EReal) = wideWeights (m ((c : Thread nD τ).loc main_arg2)) := by
  unfold V V0
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp
  rfl

theorem V14 : V m c main_v14 = wideBiases (m ((c : Thread nD τ).loc main_arg3)) := by
  unfold V V0
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp
  rfl

/-- Where the windows' blocks lie. -/
theorem idx : ∀ t : Fin grid0.N, win0_0.index t = ![t.val, 0] ∧ win0_1.index t = ![0, 0] ∧ win0_2.index t = ![0, 0]
    ∧ win0_3.index t = ![0, 0] ∧ win0_4.index t = ![0, 0] := by
  decide +kernel

/-- Where the results' blocks lie. -/
theorem idx_out : ∀ t : Fin grid0.N, win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0] := by
  decide +kernel

variable (t : Fin cfg0.N)

/-- The grid has one point. -/
theorem pt_lt : t.val < 1 := t.isLt

/-- The row of all tokens at row `r` of a grid point's block. -/
def tokenRow (r : Fin 256) : Fin 256 := ⟨256 * t.val + r.val, by have := pt_lt t; have := r.isLt; omega⟩

/-- The block of tokens. -/
theorem blk0 (r : Fin 256) (k : Fin 2048) : iblk m c 0 t (ix2 r k) = m ((c : Thread nD τ).loc main_arg0) (token (tokenRow t r) k) := by
  have e := (idx t).1
  have h : iblk m c 0 t (ix2 r k) = V m c main_v7 (ix2 (tokenRow t r) k) := by
    blk_ext [iblk, e]
    show _ = 256 * t.val + r.val; omega
  exact h.trans ((congrFun (V7 m c) _).trans (rows _ _ _ _ _ (by show (tokenRow t r).val / 8 * 8 + (tokenRow t r).val % 8 = _; omega) k))

/-- The block of gains. -/
theorem blk1 (k : Fin 2048) : iblk m c 1 t (ix2 0 k) = m ((c : Thread nD τ).loc main_arg1) (ix2 0 k) := by
  have e := (idx t).2.1
  have h : iblk m c 1 t (ix2 0 k) = V m c main_v13 (ix2 0 k) := by
    blk_ext [iblk, e]
  rw [h, V13]
  pointwise []

/-- The block of weights. -/
theorem blk2 (k : Fin 2048) (n : Fin 6144) : iblk m c 2 t (ix2 k n) = mainWeights (m ((c : Thread nD τ).loc main_arg2)) (ix2 k n) := by
  have e := (idx t).2.2.1
  refine Eq.trans (?_ : _ = V m c main_v2 (ix2 k n)) (congrFun (V2 m c) _)
  blk_ext [iblk, e]

/-- The block of the forget gates' weights. -/
theorem blk3 (k : Fin 2048) (n : Fin 128) : iblk m c 3 t (ix2 k n) = wideWeights (m ((c : Thread nD τ).loc main_arg2)) (ix2 k n) := by
  have e := (idx t).2.2.2.1
  refine Eq.trans (?_ : _ = V m c main_v6 (ix2 k n)) (congrFun (V6 m c) _)
  blk_ext [iblk, e]

/-- The block of biases. -/
theorem blk4 (n : Fin 128) : iblk m c 4 t (ix2 0 n) = wideBiases (m ((c : Thread nD τ).loc main_arg3)) (ix2 0 n) := by
  have e := (idx t).2.2.2.2
  refine Eq.trans (?_ : _ = V m c main_v14 (ix2 0 n)) (congrFun (V14 m c) _)
  blk_ext [iblk, e]

/-- A grid point's product with a part of the weights is the arrays' projection. -/
theorem part_at (s : ℕ) (hs : s + 1024 ≤ 6144) (r : Fin 256) (l : Fin 1024) :
    prod (iblk m c 0 t) (iblk m c 1 t) r (part (iblk m c 2 t) s hs l) = projArr (m ((c : Thread nD τ).loc main_arg0)) (m ((c : Thread nD τ).loc main_arg1)) (m ((c : Thread nD τ).loc main_arg2)) s hs (ix2 (tokenRow t r) l) :=
  part_eq (blk0 m c t r) (blk1 m c t) (blk2 m c t) s hs l

/-- The same for the forget gates. -/
theorem gate_at (r : Fin 256) (n : Fin 128) :
    logSig (prod (iblk m c 0 t) (iblk m c 1 t) r (fun k => iblk m c 3 t (ix2 k n)) + iblk m c 4 t (ix2 0 n)) = gateWide (m ((c : Thread nD τ).loc main_arg0)) (m ((c : Thread nD τ).loc main_arg1)) (m ((c : Thread nD τ).loc main_arg2)) (m ((c : Thread nD τ).loc main_arg3)) (ix2 (tokenRow t r) n) :=
  gate_eq (blk0 m c t r) (blk1 m c t) (blk3 m c t) (blk4 m c t) n

/-! The arrays of the results, from their blocks. -/

theorem arr5 : (dats m 0 c).arrAt 5 cfg0.N
    = projArr (m ((c : Thread nD τ).loc main_arg0)) (m ((c : Thread nD τ).loc main_arg1)) (m ((c : Thread nD τ).loc main_arg2)) 0 (by decide) := by
  refine (dats m 0 c).arrAt_eq_of_covers 5 _ (by decide +kernel) fun t hf y => ?_
  blk_simp
  rw [after0_5]
  obtain ⟨r, l, rfl⟩ := split y
  refine (out5_at _ _ _ _ _ r l).trans ((part_at m c t _ _ r l).trans (congrArg _ ?_))
  have e := (idx_out t).1
  refine Eq.symm ?_
  blk_ext [e]
  show _ = 256 * t.val + r.val; omega

theorem arr6 : (dats m 0 c).arrAt 6 cfg0.N
    = projArr (m ((c : Thread nD τ).loc main_arg0)) (m ((c : Thread nD τ).loc main_arg1)) (m ((c : Thread nD τ).loc main_arg2)) 1024 (by decide) := by
  refine (dats m 0 c).arrAt_eq_of_covers 6 _ (by decide +kernel) fun t hf y => ?_
  blk_simp
  rw [after0_6]
  obtain ⟨r, l, rfl⟩ := split y
  refine (out6_at _ _ _ _ _ r l).trans ((part_at m c t _ _ r l).trans (congrArg _ ?_))
  have e := (idx_out t).2.1
  refine Eq.symm ?_
  blk_ext [e]
  show _ = 256 * t.val + r.val; omega

theorem arr7 : (dats m 0 c).arrAt 7 cfg0.N
    = projArr (m ((c : Thread nD τ).loc main_arg0)) (m ((c : Thread nD τ).loc main_arg1)) (m ((c : Thread nD τ).loc main_arg2)) 2048 (by decide) := by
  refine (dats m 0 c).arrAt_eq_of_covers 7 _ (by decide +kernel) fun t hf y => ?_
  blk_simp
  rw [after0_7]
  obtain ⟨r, l, rfl⟩ := split y
  refine (out7_at _ _ _ _ _ r l).trans ((part_at m c t _ _ r l).trans (congrArg _ ?_))
  have e := (idx_out t).2.2.1
  refine Eq.symm ?_
  blk_ext [e]
  show _ = 256 * t.val + r.val; omega

theorem arr8 : (dats m 0 c).arrAt 8 cfg0.N
    = projArr (m ((c : Thread nD τ).loc main_arg0)) (m ((c : Thread nD τ).loc main_arg1)) (m ((c : Thread nD τ).loc main_arg2)) 3072 (by decide) := by
  refine (dats m 0 c).arrAt_eq_of_covers 8 _ (by decide +kernel) fun t hf y => ?_
  blk_simp
  rw [after0_8]
  obtain ⟨r, l, rfl⟩ := split y
  refine (out8_at _ _ _ _ _ r l).trans ((part_at m c t _ _ r l).trans (congrArg _ ?_))
  have e := (idx_out t).2.2.2.1
  refine Eq.symm ?_
  blk_ext [e]
  show _ = 256 * t.val + r.val; omega

theorem arr9 : (dats m 0 c).arrAt 9 cfg0.N
    = projArr (m ((c : Thread nD τ).loc main_arg0)) (m ((c : Thread nD τ).loc main_arg1)) (m ((c : Thread nD τ).loc main_arg2)) 4096 (by decide) := by
  refine (dats m 0 c).arrAt_eq_of_covers 9 _ (by decide +kernel) fun t hf y => ?_
  blk_simp
  rw [after0_9]
  obtain ⟨r, l, rfl⟩ := split y
  refine (out9_at _ _ _ _ _ r l).trans ((part_at m c t _ _ r l).trans (congrArg _ ?_))
  have e := (idx_out t).2.2.2.2.1
  refine Eq.symm ?_
  blk_ext [e]
  show _ = 256 * t.val + r.val; omega

theorem arr10 : (dats m 0 c).arrAt 10 cfg0.N
    = projArr (m ((c : Thread nD τ).loc main_arg0)) (m ((c : Thread nD τ).loc main_arg1)) (m ((c : Thread nD τ).loc main_arg2)) 5120 (by decide) := by
  refine (dats m 0 c).arrAt_eq_of_covers 10 _ (by decide +kernel) fun t hf y => ?_
  blk_simp
  rw [after0_10]
  obtain ⟨r, l, rfl⟩ := split y
  refine (out10_at _ _ _ _ _ r l).trans ((part_at m c t _ _ r l).trans (congrArg _ ?_))
  have e := (idx_out t).2.2.2.2.2.1
  refine Eq.symm ?_
  blk_ext [e]
  show _ = 256 * t.val + r.val; omega

theorem arr11 : (dats m 0 c).arrAt 11 cfg0.N
    = gateWide (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t hf y => ?_
  blk_simp
  rw [after0_11]
  obtain ⟨r, l, rfl⟩ := split y
  refine (out11_at _ _ _ _ _ r l).trans ((gate_at m c t r l).trans (congrArg _ ?_))
  have e := (idx_out t).2.2.2.2.2.2
  refine Eq.symm ?_
  blk_ext [e]
  show _ = 256 * t.val + r.val; omega

end Cert.Proof.Sample

end
-- ==== Proof.SampleRun.lean ====
/-
  The run of the input projection of the sample: what each of its results holds at the end.
-/
module

public import proofs.«01_k».proof.Proof.SampleArray

@[expose] public section

set_option maxRecDepth 16384

noncomputable section

namespace Cert.Proof.Sample

open Idealize.ShloMosaic Idealize.ShloMosaic.TcCoe Idealize.SL.Sem
open Cert.SampleIdeal Cert.SampleIdeal.Gen
open scoped BigOperators

variable (m : (ℓ : Loc nD τ sig) → Buf (Elt Ideal) ℓ)

/-- The sliced result after the call is the slice of the call's last array. -/
theorem tail (c : Dev nD) : Pipeline.afterTail₀ cfgs (dats m) 0 (V0 m) [hostOps1] c main_v16
    = extractStridedSlice S256x8 ![0, 0] ((dats m 0 c).arrAt 11 cfg0.N) slices_S256x128_S256x8_0_0 := by
  unfold Pipeline.afterTail₀
  simp only [hostOps1, List.flatten_cons, List.flatten_nil, List.append_nil]
  after_results_simp
  refine congrArg (fun y : S256x128.Idx → EReal => extractStridedSlice S256x8 ![0, 0] y slices_S256x128_S256x8_0_0) ?_
  exact Pipeline.withArrays_arr spec0 (by decide) c _ _ 11

/-- The call's arrays at the end of a run. -/
theorem ends (r : PUnit × MemSt nD τ sig (Elt Ideal))
    (h : Pipeline.FramePost cfgs (dats m) 0 (Pipeline.afterTail₀ cfgs (dats m) 0 (V0 m) [hostOps1]) r) (c : Dev nD) :
      r.2.mem ((c : Thread nD τ).loc main_v15_0) = (dats m 0 c).arrAt 5 cfg0.N
      ∧ r.2.mem ((c : Thread nD τ).loc main_v15_1) = (dats m 0 c).arrAt 6 cfg0.N
      ∧ r.2.mem ((c : Thread nD τ).loc main_v15_2) = (dats m 0 c).arrAt 7 cfg0.N
      ∧ r.2.mem ((c : Thread nD τ).loc main_v15_3) = (dats m 0 c).arrAt 8 cfg0.N
      ∧ r.2.mem ((c : Thread nD τ).loc main_v15_4) = (dats m 0 c).arrAt 9 cfg0.N
      ∧ r.2.mem ((c : Thread nD τ).loc main_v15_5) = (dats m 0 c).arrAt 10 cfg0.N
      ∧ r.2.mem ((c : Thread nD τ).loc main_v16) = Pipeline.afterTail₀ cfgs (dats m) 0 (V0 m) [hostOps1] c main_v16 :=
  ⟨(h c).1 5, (h c).1 6, (h c).1 7, (h c).1 8, (h c).1 9, (h c).1 10, (h c).2 main_v16 (Pipeline.mem_restRefs_of main_v16 (by decide) (by decide))⟩

/-- The run: the projections, the forget gates, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v15_0) = projArr (m ((c : Thread nD τ).loc main_arg0)) (m ((c : Thread nD τ).loc main_arg1)) (m ((c : Thread nD τ).loc main_arg2)) 0 (by decide)
      ∧ r.2.mem ((c : Thread nD τ).loc main_v15_1) = projArr (m ((c : Thread nD τ).loc main_arg0)) (m ((c : Thread nD τ).loc main_arg1)) (m ((c : Thread nD τ).loc main_arg2)) 1024 (by decide)
      ∧ r.2.mem ((c : Thread nD τ).loc main_v15_2) = projArr (m ((c : Thread nD τ).loc main_arg0)) (m ((c : Thread nD τ).loc main_arg1)) (m ((c : Thread nD τ).loc main_arg2)) 2048 (by decide)
      ∧ r.2.mem ((c : Thread nD τ).loc main_v15_3) = projArr (m ((c : Thread nD τ).loc main_arg0)) (m ((c : Thread nD τ).loc main_arg1)) (m ((c : Thread nD τ).loc main_arg2)) 3072 (by decide)
      ∧ r.2.mem ((c : Thread nD τ).loc main_v15_4) = projArr (m ((c : Thread nD τ).loc main_arg0)) (m ((c : Thread nD τ).loc main_arg1)) (m ((c : Thread nD τ).loc main_arg2)) 4096 (by decide)
      ∧ r.2.mem ((c : Thread nD τ).loc main_v15_5) = projArr (m ((c : Thread nD τ).loc main_arg0)) (m ((c : Thread nD τ).loc main_arg1)) (m ((c : Thread nD τ).loc main_arg2)) 5120 (by decide)
      ∧ r.2.mem ((c : Thread nD τ).loc main_v16) = gateArr (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
      obtain ⟨e0, e1, e2, e3, e4, e5, e6⟩ := ends m r h.1 c
      rw [arr5] at e0; rw [arr6] at e1; rw [arr7] at e2; rw [arr8] at e3; rw [arr9] at e4; rw [arr10] at e5
      rw [tail, arr11, gate_slice] at e6
      exact ⟨e0, e1, e2, e3, e4, e5, e6, h.2 c⟩)
    (θ_run_and (run_main m ρ) (unchanged m ρ))

end Cert.Proof.Sample

end
-- ==== Proof.SampleRef.lean ====
/-
  The reference of the input projection of the sample, entry by entry: the same arrays.
-/
module

public import proofs.«01_k».proof.Proof.SampleArray
public import proofs.«01_k».proof.Proof.ProjRef
public import proofs.«01_k».proof.Proof.Gen.RefSampleIdeal.Run
public import proofs.«01_k».proof.Proof.Gen.RefSampleIdeal.Read
public import Idealize.ShloMosaic.Lib.Pointwise

@[expose] public section

set_option maxRecDepth 16384

noncomputable section

namespace Cert.Proof.Sample

open Idealize.ShloMosaic Idealize.ShloMosaic.TcCoe Idealize.SL.Sem
open Cert.RefSampleIdeal Cert.RefSampleIdeal.Gen Cert.RefSampleIdeal.Read
open Cert.Proof.Proj (prod part logSig projRow gate wideGate wideGate_at mainWeights wideWeights wideBiases part_eq gate_eq neg_softplus)
open scoped BigOperators

variable (A0 : (⟨S32x8x2048, .f32⟩ : BufTy).Contents (Elt Ideal)) (A1 : (⟨S1x2048, .f32⟩ : BufTy).Contents (Elt Ideal))
  (A2 : (⟨S1x2048x6152, .f32⟩ : BufTy).Contents (Elt Ideal)) (A3 : (⟨S1x8, .f32⟩ : BufTy).Contents (Elt Ideal))

/-- The scaled features of a token. -/
theorem ref_norm (b : Fin 32) (t : Fin 8) (k : Fin 2048) :
    val_main_v13 A0 A1 (ix3 b t k) = normOf (fun k => A0 (ix3 b t k)) (fun k => A1 (ix2 0 k)) k := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- All projections of a token. -/
theorem ref_dot (b : Fin 32) (t : Fin 8) (n : Fin 6152) :
    val_main_v15 A0 A1 A2 (ix3 b t n) = ∑ k : Fin 2048, normOf (fun k => A0 (ix3 b t k)) (fun k => A1 (ix2 0 k)) k * A2 (ix3 0 k n) := by
  rw [val_main_v15_apply]
  refine Finset.sum_congr rfl fun k _ => ?_
  rw [← ref_norm, val_main_v14_apply]
  congr 1
  · congr 1
    funext a
    match a with
    | ⟨0, _⟩ => rfl
    | ⟨1, _⟩ => rfl
    | ⟨2, _⟩ => rfl
  · congr 1
    have := k.isLt; have := n.isLt
    funext a
    match a with
    | ⟨0, _⟩ => rfl
    | ⟨1, _⟩ => exact Fin.ext (by show (k.val * 6152 + n.val) / 6152 % 2048 = k.val; omega)
    | ⟨2, _⟩ => exact Fin.ext (by show (k.val * 6152 + n.val) % 6152 = n.val; omega)

/-- The same at the index of a result's entry. -/
theorem ref_at (j : S32x8x6152.Idx) (r : Fin 256) (n : Fin 6152) (h0 : (j 0).val = r.val / 8) (h1 : (j 1).val = r.val % 8) (h2 : (j 2).val = n.val) :
    val_main_v15 A0 A1 A2 j = projRow (fun k => A0 (token r k)) A1 A2 n := by
  have e : j = ix3 ⟨r.val / 8, by have := r.isLt; omega⟩ ⟨r.val % 8, Nat.mod_lt _ (by decide)⟩ n := by
    funext a
    match a with
    | ⟨0, _⟩ => exact Fin.ext h0
    | ⟨1, _⟩ => exact Fin.ext h1
    | ⟨2, _⟩ => exact Fin.ext h2
  rw [e, ref_dot]
  rfl

/-- The same at a column of the part from column `s`, its position counted over rows of 1024. -/
theorem ref_part (s : ℕ) (hs : s + 1024 ≤ 6144) (j : S32x8x6152.Idx) (r : Fin 256) (l : Fin 1024) (h0 : (j 0).val = (r.val * 1024 + l.val) / 8192)
    (h1 : (j 1).val = (r.val * 1024 + l.val) / 1024 % 8) (h2 : (j 2).val = s + (r.val * 1024 + l.val) % 1024) :
    val_main_v15 A0 A1 A2 j = projArr A0 A1 A2 s hs (ix2 r l) := by
  have := r.isLt; have := l.isLt
  exact ref_at A0 A1 A2 j r ⟨s + l.val, by omega⟩ (by omega) (by omega) (by show _ = s + l.val; omega)

/-! The results of 1024 columns. -/

theorem ref17 : val_main_v17 A0 A1 A2 = projArr A0 A1 A2 0 (by decide) := by
  funext j
  obtain ⟨r, l, rfl⟩ := split j
  rw [val_main_v17_apply, val_main_v16_apply]
  exact ref_part A0 A1 A2 0 (by decide) _ r l rfl rfl (Nat.zero_add _).symm

theorem ref19 : val_main_v19 A0 A1 A2 = projArr A0 A1 A2 1024 (by decide) := by
  funext j
  obtain ⟨r, l, rfl⟩ := split j
  rw [val_main_v19_apply, val_main_v18_apply]
  exact ref_part A0 A1 A2 1024 (by decide) _ r l rfl rfl rfl

theorem ref21 : val_main_v21 A0 A1 A2 = projArr A0 A1 A2 2048 (by decide) := by
  funext j
  obtain ⟨r, l, rfl⟩ := split j
  rw [val_main_v21_apply, val_main_v20_apply]
  exact ref_part A0 A1 A2 2048 (by decide) _ r l rfl rfl rfl

theorem ref23 : val_main_v23 A0 A1 A2 = projArr A0 A1 A2 3072 (by decide) := by
  funext j
  obtain ⟨r, l, rfl⟩ := split j
  rw [val_main_v23_apply, val_main_v22_apply]
  exact ref_part A0 A1 A2 3072 (by decide) _ r l rfl rfl rfl

theorem ref25 : val_main_v25 A0 A1 A2 = projArr A0 A1 A2 4096 (by decide) := by
  funext j
  obtain ⟨r, l, rfl⟩ := split j
  rw [val_main_v25_apply, val_main_v24_apply]
  exact ref_part A0 A1 A2 4096 (by decide) _ r l rfl rfl rfl

theorem ref27 : val_main_v27 A0 A1 A2 = projArr A0 A1 A2 5120 (by decide) := by
  funext j
  obtain ⟨r, l, rfl⟩ := split j
  rw [val_main_v27_apply, val_main_v26_apply]
  exact ref_part A0 A1 A2 5120 (by decide) _ r l rfl rfl rfl

/-- The forget gates. -/
theorem ref34 : val_main_v34 A0 A1 A2 A3 = gateArr A0 A1 A2 A3 := by
  funext j
  obtain ⟨r, l, rfl⟩ := split j
  have := r.isLt; have := l.isLt
  have e : val_main_v33 A0 A1 A2 A3 (ix2 r l) = projRow (fun k => A0 (token r k)) A1 A2 ⟨6144 + l.val, by omega⟩ + A3 (ix2 0 l) := by
    rw [val_main_v33_apply, val_main_v29_apply, val_main_v28_apply, ref_at A0 A1 A2 _ r ⟨6144 + l.val, by omega⟩ (by show (r.val * 8 + l.val) / 64 = r.val / 8; omega)
      (by show (r.val * 8 + l.val) / 8 % 8 = r.val % 8; omega) (by show 6144 + (r.val * 8 + l.val) % 8 = 6144 + l.val; omega)]
    congr 1
    pointwise [val_main_v32, val_main_v31, val_main_v30]
  show _ = logSig _
  simp only [ix2_0, ix2_1]
  rw [← e]
  pointwise [val_main_v34, val_main_call0_v1, val_main_call0_v0, val_main_call0_call0_v11, val_main_call0_call0_v10, val_main_call0_call0_v9, val_main_call0_call0_v8,
    val_main_call0_call0_v7, val_main_call0_call0_v6, val_main_call0_call0_v5, val_main_call0_call0_v4, val_main_call0_call0_v3, val_main_call0_call0_v2, val_main_call0_call0_v1, val_main_call0_call0_v0, val_main_call0_call0_cst]
  exact neg_softplus _

/-- The reference's run: the same arrays, and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = projArr (m ((c : Thread nD τ).loc main_arg0)) (m ((c : Thread nD τ).loc main_arg1)) (m ((c : Thread nD τ).loc main_arg2)) 0 (by decide)
      ∧ r.2.mem ((c.tc : Thread nD τ).loc main_v19) = projArr (m ((c : Thread nD τ).loc main_arg0)) (m ((c : Thread nD τ).loc main_arg1)) (m ((c : Thread nD τ).loc main_arg2)) 1024 (by decide)
      ∧ r.2.mem ((c.tc : Thread nD τ).loc main_v21) = projArr (m ((c : Thread nD τ).loc main_arg0)) (m ((c : Thread nD τ).loc main_arg1)) (m ((c : Thread nD τ).loc main_arg2)) 2048 (by decide)
      ∧ r.2.mem ((c.tc : Thread nD τ).loc main_v23) = projArr (m ((c : Thread nD τ).loc main_arg0)) (m ((c : Thread nD τ).loc main_arg1)) (m ((c : Thread nD τ).loc main_arg2)) 3072 (by decide)
      ∧ r.2.mem ((c.tc : Thread nD τ).loc main_v25) = projArr (m ((c : Thread nD τ).loc main_arg0)) (m ((c : Thread nD τ).loc main_arg1)) (m ((c : Thread nD τ).loc main_arg2)) 4096 (by decide)
      ∧ r.2.mem ((c.tc : Thread nD τ).loc main_v27) = projArr (m ((c : Thread nD τ).loc main_arg0)) (m ((c : Thread nD τ).loc main_arg1)) (m ((c : Thread nD τ).loc main_arg2)) 5120 (by decide)
      ∧ r.2.mem ((c.tc : Thread nD τ).loc main_v34) = gateArr (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
      obtain ⟨e0, e1, e2, e3, e4, e5, e6, k⟩ := h c
      rw [val_main_v17_eq, ref17] at e0; rw [val_main_v19_eq, ref19] at e1; rw [val_main_v21_eq, ref21] at e2
      rw [val_main_v23_eq, ref23] at e3; rw [val_main_v25_eq, ref25] at e4; rw [val_main_v27_eq, ref27] at e5
      rw [val_main_v34_eq, ref34] at e6
      exact ⟨e0, e1, e2, e3, e4, e5, e6, k⟩)
    (Cert.RefSampleIdeal.Value.run (F := Ideal) m ρ)

end Cert.Proof.Sample

end
-- ==== Proof.MemArray.lean ====
/-
  The keys and values of the memory: every entry of their array, from the whole arrays of memory rows and weights.
-/
module

public import proofs.«01_k».proof.Proof.Gen.MemIdeal.Frame
public import proofs.«01_k».proof.Proof.Gen.MemIdeal.Value
public import proofs.«01_k».proof.Proof.Rows

@[expose] public section

set_option maxRecDepth 16384

noncomputable section

namespace Cert.Proof.Mem

open Idealize.ShloMosaic Idealize.ShloMosaic.TcCoe Idealize.SL.Sem
open Cert.MemIdeal Cert.MemIdeal.Gen
open scoped BigOperators

/-- Row `r` of all memories, one after the other, is row `r % 256` of memory `r / 256`. -/
def place (r : Fin 1024) (k : Fin 2048) : S4x256x2048.Idx :=
  ix3 ⟨r.val / 256, by have := r.isLt; omega⟩ ⟨r.val % 256, Nat.mod_lt _ (by decide)⟩ k

/-- The product of the memories' rows and the columns of weights. -/
def memArr (A0 : S4x256x2048.Idx → EReal) (A1 : S1x2048x2048.Idx → EReal) (j : S1024x2048.Idx) : EReal :=
  ∑ k : Fin 2048, A0 (place (j 0) k) * A1 (ix3 0 k (j 1))

/-- What a block of the result holds. -/
theorem out2_at (x0 : Vec Ideal S512x2048 .f32) (x1 : Vec Ideal S2048x2048 .bf16) (r : Fin 512) (l : Fin 2048) :
    out0_2 x0 x1 (ix2 r l) = ∑ k : Fin 2048, x0 (ix2 r k) * x1 (ix2 k l) := by
  unfold out0_2 k0_pay1
  rw [View.canon_unit_zero zero2]
  pointwise []

variable (m : (ℓ : Loc nD τ sig) → Buf (Elt Ideal) ℓ) (c : Dev nD)

/-! The windows' arrays before the call. -/

theorem V0 : V m c main_v0 = shapeCast S1024x2048 (m ((c : Thread nD τ).loc main_arg0)) shapeCasts_S4x256x2048_S1024x2048 := by
  unfold V
  simp only [hostOps0, StableHlo.TRef.unary, StableHlo.TRef.binary, StableHlo.TRef.toBuf, StableHlo.TRef.ofBuf, cast_eq]
  after_results_simp
  rfl

theorem V2 : (V m c main_v2 : S2048x2048.Idx → EReal) = shapeCast S2048x2048 (m ((c : Thread nD τ).loc main_arg1)) shapeCasts_S1x2048x2048_S2048x2048 := by
  unfold V
  simp only [hostOps0, StableHlo.TRef.unary, StableHlo.TRef.binary, StableHlo.TRef.toBuf, StableHlo.TRef.ofBuf, cast_eq]
  after_results_simp
  rfl

/-- Where the windows' blocks lie. -/
theorem idx : ∀ t : Fin grid0.N, win0_0.index t = ![t.val, 0] ∧ win0_1.index t = ![0, 0] ∧ win0_2.index t = ![t.val, 0] := by
  decide +kernel

variable (t : Fin cfg0.N)

/-- The grid has 2 points. -/
theorem pt_lt : t.val < 2 := t.isLt

/-- The row of the whole array at row `r` of a grid point's block. -/
def wholeRow (r : Fin 512) : Fin 1024 := ⟨512 * t.val + r.val, by have := pt_lt t; have := r.isLt; omega⟩

/-- The block of rows. -/
theorem blk0 (r : Fin 512) (k : Fin 2048) : iblk m c 0 t (ix2 r k) = m ((c : Thread nD τ).loc main_arg0) (place (wholeRow t r) k) := by
  obtain ⟨e0, e1, e2⟩ := idx t
  have h : iblk m c 0 t (ix2 r k) = V m c main_v0 (ix2 (wholeRow t r) k) := by
    blk_ext [iblk, e0]
    show _ = 512 * t.val + r.val; omega
  exact h.trans ((congrFun (V0 m c) _).trans (rows _ _ _ _ _ (by show (wholeRow t r).val / 256 * 256 + (wholeRow t r).val % 256 = _; omega) k))

/-- The block of weights. -/
theorem blk1 (k : Fin 2048) (n : Fin 2048) : iblk m c 1 t (ix2 k n) = m ((c : Thread nD τ).loc main_arg1) (ix3 0 k n) := by
  obtain ⟨e0, e1, e2⟩ := idx t
  have h : iblk m c 1 t (ix2 k n) = V m c main_v2 (ix2 k n) := by
    blk_ext [iblk, e1]
  exact h.trans ((congrFun (V2 m c) _).trans (layer _ _ k n))

/-- A grid point's block of the result is the array's. -/
theorem out_eq (r : Fin 512) (l : Fin 2048) : out0_2 (iblk m c 0 t) (iblk m c 1 t) (ix2 r l)
    = memArr (m ((c : Thread nD τ).loc main_arg0)) (m ((c : Thread nD τ).loc main_arg1)) (ix2 (wholeRow t r) l) :=
  (out2_at _ _ r l).trans (Finset.sum_congr rfl fun k _ => congr (congrArg _ (blk0 m c t r k)) (blk1 m c t k l))

/-- The result's array. -/
theorem arr2 : (dats m 0 c).arrAt 2 cfg0.N = memArr (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, l, rfl⟩ := split y
  refine (out_eq m c t r l).trans (congrArg _ ?_)
  have e := (idx t).2.2
  refine Eq.symm ?_
  blk_ext [e]
  show _ = 512 * t.val + r.val; omega

end Cert.Proof.Mem

end
-- ==== Proof.MemRef.lean ====
/-
  The reference of the keys and values of the memory, entry by entry: the same array.
-/
module

public import proofs.«01_k».proof.Proof.MemArray
public import proofs.«01_k».proof.Proof.Gen.RefMemIdeal.Run
public import proofs.«01_k».proof.Proof.Gen.RefMemIdeal.Read

@[expose] public section

set_option maxRecDepth 16384

noncomputable section

namespace Cert.Proof.Mem

open Idealize.ShloMosaic Idealize.ShloMosaic.TcCoe Idealize.SL.Sem
open Cert.RefMemIdeal Cert.RefMemIdeal.Gen Cert.RefMemIdeal.Read
open scoped BigOperators

/-- The reference's result. -/
theorem ref2 (A0 : (⟨S4x256x2048, .f32⟩ : BufTy).Contents (Elt Ideal)) (A1 : (⟨S1x2048x2048, .f32⟩ : BufTy).Contents (Elt Ideal)) :
    val_main_v2 A0 A1 = memArr A0 A1 := by
  funext j
  obtain ⟨r, l, rfl⟩ := split j
  have := r.isLt; have := l.isLt
  rw [val_main_v2_apply, val_main_v1_apply]
  refine Finset.sum_congr rfl fun k _ => ?_
  rw [val_main_v0_apply]
  have := k.isLt
  congr 1
  · congr 1
    funext a
    match a with
    | ⟨0, _⟩ => exact Fin.ext (by show (r.val * 2048 + l.val) / 524288 = r.val / 256; omega)
    | ⟨1, _⟩ => exact Fin.ext (by show (r.val * 2048 + l.val) / 2048 % 256 = r.val % 256; omega)
    | ⟨2, _⟩ => rfl
  · congr 1
    funext a
    match a with
    | ⟨0, _⟩ => rfl
    | ⟨1, _⟩ => exact Fin.ext (by show (k.val * 2048 + (r.val * 2048 + l.val) % 2048) / 2048 % 2048 = k.val; omega)
    | ⟨2, _⟩ => exact Fin.ext (by show (k.val * 2048 + (r.val * 2048 + l.val) % 2048) % 2048 = l.val; omega)

/-- The reference's run. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = memArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v2_eq _ _).trans (ref2 _ _)), (h c).2⟩) (Cert.RefMemIdeal.Value.run (F := Ideal) m ρ)

end Cert.Proof.Mem

end
-- ==== Proof.QueryArray.lean ====
/-
  The query product: every entry of its array, from the whole arrays of rows and weights.
-/
module

public import proofs.«01_k».proof.Proof.Gen.QueryIdeal.Frame
public import proofs.«01_k».proof.Proof.Gen.QueryIdeal.Value
public import proofs.«01_k».proof.Proof.Rows

@[expose] public section

set_option maxRecDepth 16384

noncomputable section

namespace Cert.Proof.Query

open Idealize.ShloMosaic Idealize.ShloMosaic.TcCoe Idealize.SL.Sem
open Cert.QueryIdeal Cert.QueryIdeal.Gen
open scoped BigOperators

/-- The product of the rows and the columns of weights. -/
def queryArr (A0 : S8192x2048.Idx → EReal) (A1 : S1x2048x2048.Idx → EReal) (j : S8192x2048.Idx) : EReal :=
  ∑ k : Fin 2048, A0 (ix2 (j 0) k) * A1 (ix3 0 k (j 1))

/-- What a block of the result holds. -/
theorem out2_at (x0 : Vec Ideal S512x2048 .bf16) (x1 : Vec Ideal S2048x2048 .bf16) (r : Fin 512) (l : Fin 2048) :
    out0_2 x0 x1 (ix2 r l) = ∑ k : Fin 2048, x0 (ix2 r k) * x1 (ix2 k l) := by
  unfold out0_2 k0_pay1
  rw [View.canon_unit_zero zero2]
  pointwise []

variable (m : (ℓ : Loc nD τ sig) → Buf (Elt Ideal) ℓ) (c : Dev nD)

/-! The windows' arrays before the call. -/

theorem V0 : (V m c main_v0 : S8192x2048.Idx → EReal) = m ((c : Thread nD τ).loc main_arg0) := by
  unfold V
  simp only [hostOps0, StableHlo.TRef.unary, StableHlo.TRef.binary, StableHlo.TRef.toBuf, StableHlo.TRef.ofBuf, cast_eq]
  after_results_simp
  rfl

theorem V2 : (V m c main_v2 : S2048x2048.Idx → EReal) = shapeCast S2048x2048 (m ((c : Thread nD τ).loc main_arg1)) shapeCasts_S1x2048x2048_S2048x2048 := by
  unfold V
  simp only [hostOps0, StableHlo.TRef.unary, StableHlo.TRef.binary, StableHlo.TRef.toBuf, StableHlo.TRef.ofBuf, cast_eq]
  after_results_simp
  rfl

/-- Where the windows' blocks lie. -/
theorem idx : ∀ t : Fin grid0.N, win0_0.index t = ![t.val, 0] ∧ win0_1.index t = ![0, 0] ∧ win0_2.index t = ![t.val, 0] := by
  decide +kernel

variable (t : Fin cfg0.N)

/-- The grid has 16 points. -/
theorem pt_lt : t.val < 16 := t.isLt

/-- The row of the whole array at row `r` of a grid point's block. -/
def wholeRow (r : Fin 512) : Fin 8192 := ⟨512 * t.val + r.val, by have := pt_lt t; have := r.isLt; omega⟩

/-- The block of rows. -/
theorem blk0 (r : Fin 512) (k : Fin 2048) : iblk m c 0 t (ix2 r k) = m ((c : Thread nD τ).loc main_arg0) (ix2 (wholeRow t r) k) := by
  obtain ⟨e0, e1, e2⟩ := idx t
  have h : iblk m c 0 t (ix2 r k) = V m c main_v0 (ix2 (wholeRow t r) k) := by
    blk_ext [iblk, e0]
    show _ = 512 * t.val + r.val; omega
  exact h.trans (congrFun (V0 m c) _)

/-- The block of weights. -/
theorem blk1 (k : Fin 2048) (n : Fin 2048) : iblk m c 1 t (ix2 k n) = m ((c : Thread nD τ).loc main_arg1) (ix3 0 k n) := by
  obtain ⟨e0, e1, e2⟩ := idx t
  have h : iblk m c 1 t (ix2 k n) = V m c main_v2 (ix2 k n) := by
    blk_ext [iblk, e1]
  exact h.trans ((congrFun (V2 m c) _).trans (layer _ _ k n))

/-- A grid point's block of the result is the array's. -/
theorem out_eq (r : Fin 512) (l : Fin 2048) : out0_2 (iblk m c 0 t) (iblk m c 1 t) (ix2 r l)
    = queryArr (m ((c : Thread nD τ).loc main_arg0)) (m ((c : Thread nD τ).loc main_arg1)) (ix2 (wholeRow t r) l) :=
  (out2_at _ _ r l).trans (Finset.sum_congr rfl fun k _ => congr (congrArg _ (blk0 m c t r k)) (blk1 m c t k l))

/-- The result's array. -/
theorem arr2 : (dats m 0 c).arrAt 2 cfg0.N = queryArr (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, l, rfl⟩ := split y
  refine (out_eq m c t r l).trans (congrArg _ ?_)
  have e := (idx t).2.2
  refine Eq.symm ?_
  blk_ext [e]
  show _ = 512 * t.val + r.val; omega

end Cert.Proof.Query

end
-- ==== Proof.QueryRef.lean ====
/-
  The reference of the query product, entry by entry: the same array.
-/
module

public import proofs.«01_k».proof.Proof.QueryArray
public import proofs.«01_k».proof.Proof.Gen.RefQueryIdeal.Run
public import proofs.«01_k».proof.Proof.Gen.RefQueryIdeal.Read

@[expose] public section

set_option maxRecDepth 16384

noncomputable section

namespace Cert.Proof.Query

open Idealize.ShloMosaic Idealize.ShloMosaic.TcCoe Idealize.SL.Sem
open Cert.RefQueryIdeal Cert.RefQueryIdeal.Gen Cert.RefQueryIdeal.Read
open scoped BigOperators

/-- The reference's result. -/
theorem ref1 (A0 : (⟨S8192x2048, .f32⟩ : BufTy).Contents (Elt Ideal)) (A1 : (⟨S1x2048x2048, .f32⟩ : BufTy).Contents (Elt Ideal)) :
    val_main_v1 A0 A1 = queryArr A0 A1 := by
  funext j
  obtain ⟨r, l, rfl⟩ := split j
  rw [val_main_v1_apply]
  refine Finset.sum_congr rfl fun k _ => ?_
  rw [val_main_v0_apply]
  congr 1
  · congr 1
    funext a
    match a with
    | ⟨0, _⟩ => rfl
    | ⟨1, _⟩ => rfl
  · congr 1
    have := k.isLt; have := l.isLt
    funext a
    match a with
    | ⟨0, _⟩ => rfl
    | ⟨1, _⟩ => exact Fin.ext (by show (k.val * 2048 + l.val) / 2048 % 2048 = k.val; omega)
    | ⟨2, _⟩ => exact Fin.ext (by show (k.val * 2048 + l.val) % 2048 = l.val; omega)

/-- The reference's run. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = queryArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((val_main_v1_eq _ _).trans (ref1 _ _)), (h c).2⟩) (Cert.RefQueryIdeal.Value.run (F := Ideal) m ρ)

end Cert.Proof.Query

end
-- ==== Proof.MergeArray.lean ====
/-
  The merge of the two attentions: every entry of its two arrays, from the whole arrays.
-/
module

public import proofs.«01_k».proof.Proof.Gen.MergeIdeal.Frame
public import proofs.«01_k».proof.Proof.Gen.MergeIdeal.Value
public import proofs.«01_k».proof.Proof.Rows

@[expose] public section

set_option maxRecDepth 16384

noncomputable section

namespace Cert.Proof.Merge

open Idealize.ShloMosaic Idealize.ShloMosaic.TcCoe Idealize.SL.Sem
open Cert.MergeIdeal Cert.MergeIdeal.Gen
open scoped BigOperators

section Entry

variable (A0 : S4x2048x2048.Idx → EReal) (A1 A2 : S8192x1024.Idx → EReal) (A3 : S1x2048x2048.Idx → EReal) (A4 : S1x2048.Idx → EReal)

/-- Row `r` of all tokens, sequence after sequence, is token `r % 2048` of sequence `r / 2048`. -/
def place (r : Fin 8192) (k : Fin 2048) : S4x2048x2048.Idx :=
  ix3 ⟨r.val / 2048, by have := r.isLt; omega⟩ ⟨r.val % 2048, Nat.mod_lt _ (by decide)⟩ k

/-- A token plus its two attention rows' products with the upper and the lower half of the weights. -/
def sumRow (r : Fin 8192) (n : Fin 2048) : EReal :=
  A0 (place r n) + (∑ k : Fin 1024, A1 (ix2 r k) * A3 (ix3 0 (Fin.castAdd 1024 k) n) + ∑ k : Fin 1024, A2 (ix2 r k) * A3 (ix3 0 (Fin.natAdd 1024 k) n))

/-- These rows as an array. -/
def sumArr (j : S8192x2048.Idx) : EReal := sumRow A0 A1 A2 A3 (j 0) (j 1)

/-- The scaled rows as an array. -/
def normArr (j : S8192x2048.Idx) : EReal := normOf (sumRow A0 A1 A2 A3 (j 0)) (fun k => A4 (ix2 0 k)) (j 1)

end Entry

section Body

variable (x0 x1 : Vec Ideal S512x1024 .f32) (x2 x3 : Vec Ideal S1024x2048 .bf16) (x4 : Vec Ideal S512x2048 .f32) (x5 : Vec Ideal S1x2048 .f32)

/-- A row of a block: the residual plus the two products. -/
def blkRow (r : Fin 512) (l : Fin 2048) : EReal :=
  x4 (ix2 r l) + (∑ k : Fin 1024, x0 (ix2 r k) * x2 (ix2 k l) + ∑ k : Fin 1024, x1 (ix2 r k) * x3 (ix2 k l))

/-- The first value stored. -/
theorem pay1_at (r : Fin 512) (l : Fin 2048) :
    k0_pay1 (View.ld x0 r0_0) (View.ld x2 r0_1) (View.ld x1 r0_0) (View.ld x3 r0_1) (View.ld x4 r0_2) (ix2 r l) = blkRow x0 x1 x2 x3 x4 r l := by
  unfold blkRow
  rw [add_comm]
  pointwise [k0_pay1]

/-- What a block of the first result holds. -/
theorem out6_at (r : Fin 512) (l : Fin 2048) : out0_6 x0 x1 x2 x3 x4 x5 (ix2 r l) = blkRow x0 x1 x2 x3 x4 r l := by
  unfold out0_6
  rw [View.canon_unit_zero zero2]
  exact pay1_at x0 x1 x2 x3 x4 r l

/-- What a block of the second result holds. -/
theorem out7_at (r : Fin 512) (l : Fin 2048) : out0_7 x0 x1 x2 x3 x4 x5 (ix2 r l)
    = normOf (blkRow x0 x1 x2 x3 x4 r) (fun l => x5 (ix2 0 l)) l := by
  unfold out0_7 k0_pay2
  rw [View.canon_unit_zero zero2]
  rw [← funext (pay1_at x0 x1 x2 x3 x4 r)]
  generalize k0_pay1 (View.ld x0 r0_0) (View.ld x2 r0_1) (View.ld x1 r0_0) (View.ld x3 r0_1) (View.ld x4 r0_2) = q
  pointwise []
  rfl

end Body

variable (m : (ℓ : Loc nD τ sig) → Buf (Elt Ideal) ℓ) (c : Dev nD)

/-! The windows' arrays before the call. -/

theorem V2 : (V m c main_v2 : S1024x2048.Idx → EReal)
    = shapeCast S1024x2048 (extractStridedSlice S1x1024x2048 ![0, 0, 0] (m ((c : Thread nD τ).loc main_arg3)) slices_S1x2048x2048_S1x1024x2048_0_0_0) shapeCasts_S1x1024x2048_S1024x2048 := by
  unfold V
  simp only [hostOps0, StableHlo.TRef.unary, StableHlo.TRef.binary, StableHlo.TRef.toBuf, StableHlo.TRef.ofBuf, cast_eq]
  after_results_simp
  rfl

theorem V5 : (V m c main_v5 : S1024x2048.Idx → EReal)
    = shapeCast S1024x2048 (extractStridedSlice S1x1024x2048 ![0, 1024, 0] (m ((c : Thread nD τ).loc main_arg3)) slices_S1x2048x2048_S1x1024x2048_0_1024_0) shapeCasts_S1x1024x2048_S1024x2048 := by
  unfold V
  simp only [hostOps0, StableHlo.TRef.unary, StableHlo.TRef.binary, StableHlo.TRef.toBuf, StableHlo.TRef.ofBuf, cast_eq]
  after_results_simp
  rfl

theorem V6 : V m c main_v6 = shapeCast S8192x2048 (m ((c : Thread nD τ).loc main_arg0)) shapeCasts_S4x2048x2048_S8192x2048 := by
  unfold V
  simp only [hostOps0, StableHlo.TRef.unary, StableHlo.TRef.binary, StableHlo.TRef.toBuf, StableHlo.TRef.ofBuf, cast_eq]
  after_results_simp
  rfl

theorem V8 : V m c main_v8 = shapeCast S1x2048 (shapeCast S2048 (m ((c : Thread nD τ).loc main_arg4)) shapeCasts_S1x2048_S2048) shapeCasts_S2048_S1x2048 := by
  unfold V
  simp only [hostOps0, StableHlo.TRef.unary, StableHlo.TRef.binary, StableHlo.TRef.toBuf, StableHlo.TRef.ofBuf, cast_eq]
  after_results_simp
  rfl

/-- Half of a layer's weights, from row `o`. -/
theorem half (A : S1x2048x2048.Idx → EReal) (o : ℕ) (ho : o + 1024 ≤ 2048) (h) (k : Fin 1024) (n : Fin 2048) :
    shapeCast S1024x2048 (extractStridedSlice S1x1024x2048 ![0, o, 0] A h) shapeCasts_S1x1024x2048_S1024x2048 (ix2 k n)
      = A (ix3 0 (⟨o + k.val, by omega⟩ : Fin 2048) n) := by
  refine (rows (a := 1) (b := 1024) _ _ k 0 k (by show 0 * 1024 + k.val = k.val; omega) n).trans ?_
  pointwise []

/-- Where the windows' blocks lie. -/
theorem idx : ∀ t : Fin grid0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0] ∧ win0_7.index t = ![t.val, 0] := by
  decide +kernel

variable (t : Fin cfg0.N)

/-- The grid has 16 points. -/
theorem pt_lt : t.val < 16 := t.isLt

/-- The row of the whole array at row `r` of a grid point's block. -/
def wholeRow (r : Fin 512) : Fin 8192 := ⟨512 * t.val + r.val, by have := pt_lt t; have := r.isLt; omega⟩

/-! The blocks of the two attentions' rows. -/

theorem blk0 (r : Fin 512) (k : Fin 1024) : iblk m c 0 t (ix2 r k) = m ((c : Thread nD τ).loc main_arg1) (ix2 (wholeRow t r) k) := by
  have e := (idx t).1
  blk_ext [iblk, e]
  show _ = 512 * t.val + r.val; omega

theorem blk1 (r : Fin 512) (k : Fin 1024) : iblk m c 1 t (ix2 r k) = m ((c : Thread nD τ).loc main_arg2) (ix2 (wholeRow t r) k) := by
  have e := (idx t).2.1
  blk_ext [iblk, e]
  show _ = 512 * t.val + r.val; omega

/-! The blocks of the two halves of the weights. -/

theorem blk2 (k : Fin 1024) (n : Fin 2048) : iblk m c 2 t (ix2 k n) = m ((c : Thread nD τ).loc main_arg3) (ix3 0 (Fin.castAdd 1024 k) n) := by
  have e := (idx t).2.2.1
  have h : iblk m c 2 t (ix2 k n) = V m c main_v2 (ix2 k n) := by
    blk_ext [iblk, e]
  refine h.trans ((congrFun (V2 m c) _).trans ((half _ 0 (by decide) _ k n).trans (congrArg (fun i => m ((c : Thread nD τ).loc main_arg3) (ix3 0 i n)) (Fin.ext ?_))))
  show 0 + k.val = k.val; omega

theorem blk3 (k : Fin 1024) (n : Fin 2048) : iblk m c 3 t (ix2 k n) = m ((c : Thread nD τ).loc main_arg3) (ix3 0 (Fin.natAdd 1024 k) n) := by
  have e := (idx t).2.2.2.1
  have h : iblk m c 3 t (ix2 k n) = V m c main_v5 (ix2 k n) := by
    blk_ext [iblk, e]
  exact h.trans ((congrFun (V5 m c) _).trans (half _ 1024 (by decide) _ k n))

/-- The block of the tokens. -/
theorem blk4 (r : Fin 512) (k : Fin 2048) : iblk m c 4 t (ix2 r k) = m ((c : Thread nD τ).loc main_arg0) (place (wholeRow t r) k) := by
  have e := (idx t).2.2.2.2.1
  have h : iblk m c 4 t (ix2 r k) = V m c main_v6 (ix2 (wholeRow t r) k) := by
    blk_ext [iblk, e]
    show _ = 512 * t.val + r.val; omega
  exact h.trans ((congrFun (V6 m c) _).trans (rows _ _ _ _ _ (by show (wholeRow t r).val / 2048 * 2048 + (wholeRow t r).val % 2048 = _; omega) k))

/-- The block of gains. -/
theorem blk5 (k : Fin 2048) : iblk m c 5 t (ix2 0 k) = m ((c : Thread nD τ).loc main_arg4) (ix2 0 k) := by
  have e := (idx t).2.2.2.2.2.1
  have h : iblk m c 5 t (ix2 0 k) = V m c main_v8 (ix2 0 k) := by
    blk_ext [iblk, e]
  rw [h, V8]
  pointwise []

/-- A row of a grid point's blocks is the whole arrays' row. -/
theorem row_eq (r : Fin 512) (l : Fin 2048) : blkRow (iblk m c 0 t) (iblk m c 1 t) (iblk m c 2 t) (iblk m c 3 t) (iblk m c 4 t) r l
    = sumRow (m ((c : Thread nD τ).loc main_arg0)) (m ((c : Thread nD τ).loc main_arg1)) (m ((c : Thread nD τ).loc main_arg2)) (m ((c : Thread nD τ).loc main_arg3)) (wholeRow t r) l := by
  unfold blkRow sumRow
  refine congr (congrArg HAdd.hAdd (blk4 m c t r l)) (congr (congrArg HAdd.hAdd ?_) ?_)
  · exact Finset.sum_congr rfl fun k _ => congr (congrArg _ (blk0 m c t r k)) (blk2 m c t k l)
  · exact Finset.sum_congr rfl fun k _ => congr (congrArg _ (blk1 m c t r k)) (blk3 m c t k l)

/-- The first result's array. -/
theorem arr6 : (dats m 0 c).arrAt 6 cfg0.N
    = sumArr (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  obtain ⟨r, l, rfl⟩ := split y
  refine (out6_at _ _ _ _ _ _ r l).trans ((row_eq m c t r l).trans (congrArg (sumArr _ _ _ _) (?_ : ix2 (wholeRow t r) l = _)))
  have e := (idx t).2.2.2.2.2.2.1
  refine Eq.symm ?_
  blk_ext [e]
  show _ = 512 * t.val + r.val; omega

/-- The second result's array. -/
theorem arr7 : (dats m 0 c).arrAt 7 cfg0.N
    = normArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  obtain ⟨r, l, rfl⟩ := split y
  refine (out7_at _ _ _ _ _ _ r l).trans ((congrArg₂ (normOf · · l) (funext (row_eq m c t r)) (funext (blk5 m c t))).trans
    (congrArg (normArr _ _ _ _ _) (?_ : ix2 (wholeRow t r) l = _)))
  have e := (idx t).2.2.2.2.2.2.2
  refine Eq.symm ?_
  blk_ext [e]
  show _ = 512 * t.val + r.val; omega

end Cert.Proof.Merge

end
-- ==== Proof.MergeRef.lean ====
/-
  The reference of the merge of the two attentions, entry by entry: the same arrays.
-/
module

public import proofs.«01_k».proof.Proof.MergeArray
public import proofs.«01_k».proof.Proof.Gen.RefMergeIdeal.Run
public import proofs.«01_k».proof.Proof.Gen.RefMergeIdeal.Read

@[expose] public section

set_option maxRecDepth 16384

noncomputable section

namespace Cert.Proof.Merge

open Idealize.ShloMosaic Idealize.ShloMosaic.TcCoe Idealize.SL.Sem
open Cert.RefMergeIdeal Cert.RefMergeIdeal.Gen Cert.RefMergeIdeal.Read
open scoped BigOperators

variable (A0 : (⟨S4x2048x2048, .f32⟩ : BufTy).Contents (Elt Ideal)) (A1 A2 : (⟨S8192x1024, .f32⟩ : BufTy).Contents (Elt Ideal))
  (A3 : (⟨S1x2048x2048, .f32⟩ : BufTy).Contents (Elt Ideal)) (A4 : (⟨S1x2048, .f32⟩ : BufTy).Contents (Elt Ideal))

/-- The two attentions' rows side by side: the first half of a row. -/
theorem cat_left (r : Fin 8192) (k : Fin 1024) : val_main_v0 A1 A2 (ix2 r (Fin.castAdd 1024 k)) = A1 (ix2 r k) := by
  unfold val_main_v0
  refine concatenate_pair_apply_left (t := S8192x2048) (s₁ := S8192x1024) (s₂ := S8192x1024) 1 A1 A2 _ _ rfl (ix2 r k) fun b => ?_
  match b with
  | ⟨0, _⟩ => rfl
  | ⟨1, _⟩ => rfl

/-- The second half of a row. -/
theorem cat_right (r : Fin 8192) (k : Fin 1024) : val_main_v0 A1 A2 (ix2 r (Fin.natAdd 1024 k)) = A2 (ix2 r k) := by
  unfold val_main_v0
  refine concatenate_pair_apply_right (t := S8192x2048) (s₁ := S8192x1024) (s₂ := S8192x1024) 1 A1 A2 _ _ rfl rfl (ix2 r k) (fun b hb => ?_) (by show k.val + 1024 = 1024 + k.val; omega)
  match b with
  | ⟨0, _⟩ => rfl
  | ⟨1, _⟩ => exact absurd rfl hb

/-- The reference's product, split at the middle of the rows. -/
theorem ref3 (r : Fin 8192) (l : Fin 2048) : val_main_v3 A1 A2 A3 (ix2 r l)
    = ∑ k : Fin 1024, A1 (ix2 r k) * A3 (ix3 0 (Fin.castAdd 1024 k) l) + ∑ k : Fin 1024, A2 (ix2 r k) * A3 (ix3 0 (Fin.natAdd 1024 k) l) := by
  have h : val_main_v3 A1 A2 A3 (ix2 r l) = ∑ k : Fin (1024 + 1024), val_main_v0 A1 A2 (ix2 r k) * A3 (ix3 0 k l) := by
    rw [val_main_v3_apply]
    refine Finset.sum_congr rfl fun k _ => ?_
    congr 1
    · congr 1
      funext a
      match a with
      | ⟨0, _⟩ => rfl
      | ⟨1, _⟩ => rfl
    · refine Eq.trans (congrArg (val_main_v2 A3) ?_) (layer A3 _ k l)
      funext a
      match a with
      | ⟨0, _⟩ => rfl
      | ⟨1, _⟩ => rfl
  rw [h, Fin.sum_univ_add]
  congr 1
  · exact Finset.sum_congr rfl fun k _ => congrArg (· * _) (cat_left A1 A2 r k)
  · exact Finset.sum_congr rfl fun k _ => congrArg (· * _) (cat_right A1 A2 r k)

/-- The reference's first result. -/
theorem ref4 : val_main_v4 A0 A1 A2 A3 = sumArr A0 A1 A2 A3 := by
  funext j
  obtain ⟨r, l, rfl⟩ := split j
  show val_main_v1 A0 (ix2 r l) + val_main_v3 A1 A2 A3 (ix2 r l) = sumRow A0 A1 A2 A3 r l
  rw [ref3]
  unfold sumRow
  refine congrArg (· + _) ?_
  exact rows A0 _ _ _ _ (by show r.val / 2048 * 2048 + r.val % 2048 = r.val; omega) l

/-- The reference's second result. -/
theorem ref19 : val_main_v19 A0 A1 A2 A3 A4 = normArr A0 A1 A2 A3 A4 := by
  funext j
  obtain ⟨r, l, rfl⟩ := split j
  have e : ∀ k, sumRow A0 A1 A2 A3 r k = val_main_v4 A0 A1 A2 A3 (ix2 r k) := fun k => (congrFun (ref4 A0 A1 A2 A3) (ix2 r k)).symm
  show _ = normOf (sumRow A0 A1 A2 A3 r) _ l
  rw [funext e]
  unfold val_main_v19 val_main_v18 val_main_v15 val_main_v14 val_main_v13 val_main_v12 val_main_v10 val_main_v8 val_main_v7 val_main_v6
  generalize val_main_v4 A0 A1 A2 A3 = q
  pointwise [val_main_v17, val_main_v16, val_main_v11, val_main_v9, val_main_v5, val_main_cst, val_main_cst_0, val_main_cst_1]
  rfl

/-- The reference's run. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = sumArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v19) = normArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans ((val_main_v4_eq _ _ _ _).trans (ref4 _ _ _ _)), (h c).2.1.trans ((val_main_v19_eq _ _ _ _ _).trans (ref19 _ _ _ _ _)), (h c).2.2⟩)
    (Cert.RefMergeIdeal.Value.run (F := Ideal) m ρ)

end Cert.Proof.Merge

end
-- ==== Proof.MemOutArray.lean ====
/-
  The output projection of the memory attention: every entry of its two arrays, from the whole arrays.
-/
module

public import proofs.«01_k».proof.Proof.Gen.MemOutIdeal.Frame
public import proofs.«01_k».proof.Proof.Gen.MemOutIdeal.Value
public import proofs.«01_k».proof.Proof.Rows

@[expose] public section

set_option maxRecDepth 16384

noncomputable section

namespace Cert.Proof.MemOut

open Idealize.ShloMosaic Idealize.ShloMosaic.TcCoe Idealize.SL.Sem
open Cert.MemOutIdeal Cert.MemOutIdeal.Gen
open scoped BigOperators

section Entry

variable (A0 A1 : S8192x2048.Idx → EReal) (A2 : S1x2048x2048.Idx → EReal) (A3 : S1x2048.Idx → EReal)

/-- A row of the residual plus a row's product with the columns of weights. -/
def sumRow (r : Fin 8192) (n : Fin 2048) : EReal := A0 (ix2 r n) + ∑ k : Fin 2048, A1 (ix2 r k) * A2 (ix3 0 k n)

/-- These rows as an array. -/
def sumArr (j : S8192x2048.Idx) : EReal := sumRow A0 A1 A2 (j 0) (j 1)

/-- The scaled rows as an array. -/
def normArr (j : S8192x2048.Idx) : EReal := normOf (sumRow A0 A1 A2 (j 0)) (fun k => A3 (ix2 0 k)) (j 1)

end Entry

section Body

variable (x0 : Vec Ideal S512x2048 .f32) (x1 : Vec Ideal S2048x2048 .bf16) (x2 : Vec Ideal S512x2048 .f32) (x3 : Vec Ideal S1x2048 .f32)

/-- A row of a block: the residual plus the product. -/
def blkRow (r : Fin 512) (l : Fin 2048) : EReal := x2 (ix2 r l) + ∑ k : Fin 2048, x0 (ix2 r k) * x1 (ix2 k l)

/-- The first value stored. -/
theorem pay1_at (r : Fin 512) (l : Fin 2048) :
    k0_pay1 (View.ld x0 r0_0) (View.ld x1 r0_1) (View.ld x2 r0_0) (ix2 r l) = blkRow x0 x1 x2 r l := by
  unfold blkRow
  rw [add_comm]
  pointwise [k0_pay1]

/-- What a block of the first result holds. -/
theorem out4_at (r : Fin 512) (l : Fin 2048) : out0_4 x0 x1 x2 x3 (ix2 r l) = blkRow x0 x1 x2 r l := by
  unfold out0_4
  rw [View.canon_unit_zero zero2]
  exact pay1_at x0 x1 x2 r l

/-- What a block of the second result holds. -/
theorem out5_at (r : Fin 512) (l : Fin 2048) : out0_5 x0 x1 x2 x3 (ix2 r l)
    = normOf (blkRow x0 x1 x2 r) (fun l => x3 (ix2 0 l)) l := by
  unfold out0_5 k0_pay2
  rw [View.canon_unit_zero zero2]
  rw [← funext (pay1_at x0 x1 x2 r)]
  generalize k0_pay1 (View.ld x0 r0_0) (View.ld x1 r0_1) (View.ld x2 r0_0) = q
  pointwise []
  rfl

end Body

variable (m : (ℓ : Loc nD τ sig) → Buf (Elt Ideal) ℓ) (c : Dev nD)

/-! The windows' arrays before the call. -/

theorem V1 : (V m c main_v1 : S2048x2048.Idx → EReal) = shapeCast S2048x2048 (m ((c : Thread nD τ).loc main_arg2)) shapeCasts_S1x2048x2048_S2048x2048 := by
  unfold V
  simp only [hostOps0, StableHlo.TRef.unary, StableHlo.TRef.binary, StableHlo.TRef.toBuf, StableHlo.TRef.ofBuf, cast_eq]
  after_results_simp
  rfl

theorem V3 : V m c main_v3 = shapeCast S1x2048 (shapeCast S2048 (m ((c : Thread nD τ).loc main_arg3)) shapeCasts_S1x2048_S2048) shapeCasts_S2048_S1x2048 := by
  unfold V
  simp only [hostOps0, StableHlo.TRef.unary, StableHlo.TRef.binary, StableHlo.TRef.toBuf, StableHlo.TRef.ofBuf, cast_eq]
  after_results_simp
  rfl

/-- Where the windows' blocks lie. -/
theorem idx : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] := by
  decide +kernel

variable (t : Fin cfg0.N)

/-- The grid has 16 points. -/
theorem pt_lt : t.val < 16 := t.isLt

/-- The row of the whole array at row `r` of a grid point's block. -/
def wholeRow (r : Fin 512) : Fin 8192 := ⟨512 * t.val + r.val, by have := pt_lt t; have := r.isLt; omega⟩

/-- The block of rows. -/
theorem blk0 (r : Fin 512) (k : Fin 2048) : iblk m c 0 t (ix2 r k) = m ((c : Thread nD τ).loc main_arg1) (ix2 (wholeRow t r) k) := by
  have e := (idx t).1
  blk_ext [iblk, e]
  show _ = 512 * t.val + r.val; omega

/-- The block of weights. -/
theorem blk1 (k : Fin 2048) (n : Fin 2048) : iblk m c 1 t (ix2 k n) = m ((c : Thread nD τ).loc main_arg2) (ix3 0 k n) := by
  have e := (idx t).2.1
  have h : iblk m c 1 t (ix2 k n) = V m c main_v1 (ix2 k n) := by
    blk_ext [iblk, e]
  exact h.trans ((congrFun (V1 m c) _).trans (layer _ _ k n))

/-- The block of the residual. -/
theorem blk2 (r : Fin 512) (k : Fin 2048) : iblk m c 2 t (ix2 r k) = m ((c : Thread nD τ).loc main_arg0) (ix2 (wholeRow t r) k) := by
  have e := (idx t).2.2.1
  blk_ext [iblk, e]
  show _ = 512 * t.val + r.val; omega

/-- The block of gains. -/
theorem blk3 (k : Fin 2048) : iblk m c 3 t (ix2 0 k) = m ((c : Thread nD τ).loc main_arg3) (ix2 0 k) := by
  have e := (idx t).2.2.2.1
  have h : iblk m c 3 t (ix2 0 k) = V m c main_v3 (ix2 0 k) := by
    blk_ext [iblk, e]
  rw [h, V3]
  pointwise []

/-- A row of a grid point's blocks is the whole arrays' row. -/
theorem row_eq (r : Fin 512) (l : Fin 2048) : blkRow (iblk m c 0 t) (iblk m c 1 t) (iblk m c 2 t) r l
    = sumRow (m ((c : Thread nD τ).loc main_arg0)) (m ((c : Thread nD τ).loc main_arg1)) (m ((c : Thread nD τ).loc main_arg2)) (wholeRow t r) l := by
  unfold blkRow sumRow
  exact congr (congrArg HAdd.hAdd (blk2 m c t r l)) (Finset.sum_congr rfl fun k _ => congr (congrArg _ (blk0 m c t r k)) (blk1 m c t k l))

/-- The first result's array. -/
theorem arr4 : (dats m 0 c).arrAt 4 cfg0.N
    = sumArr (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  obtain ⟨r, l, rfl⟩ := split y
  refine (out4_at _ _ _ _ r l).trans ((row_eq m c t r l).trans (congrArg (sumArr _ _ _) (?_ : ix2 (wholeRow t r) l = _)))
  have e := (idx t).2.2.2.2.1
  refine Eq.symm ?_
  blk_ext [e]
  show _ = 512 * t.val + r.val; omega

/-- The second result's array. -/
theorem arr5 : (dats m 0 c).arrAt 5 cfg0.N
    = normArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  obtain ⟨r, l, rfl⟩ := split y
  refine (out5_at _ _ _ _ r l).trans ((congrArg₂ (normOf · · l) (funext (row_eq m c t r)) (funext (blk3 m c t))).trans
    (congrArg (normArr _ _ _ _) (?_ : ix2 (wholeRow t r) l = _)))
  have e := (idx t).2.2.2.2.2
  refine Eq.symm ?_
  blk_ext [e]
  show _ = 512 * t.val + r.val; omega

end Cert.Proof.MemOut

end
-- ==== Proof.MemOutRef.lean ====
/-
  The reference of the output projection of the memory attention, entry by entry: the same arrays.
-/
module

public import proofs.«01_k».proof.Proof.MemOutArray
public import proofs.«01_k».proof.Proof.Gen.RefMemOutIdeal.Run
public import proofs.«01_k».proof.Proof.Gen.RefMemOutIdeal.Read

@[expose] public section

set_option maxRecDepth 16384

noncomputable section

namespace Cert.Proof.MemOut

open Idealize.ShloMosaic Idealize.ShloMosaic.TcCoe Idealize.SL.Sem
open Cert.RefMemOutIdeal Cert.RefMemOutIdeal.Gen Cert.RefMemOutIdeal.Read
open scoped BigOperators

variable (A0 A1 : (⟨S8192x2048, .f32⟩ : BufTy).Contents (Elt Ideal)) (A2 : (⟨S1x2048x2048, .f32⟩ : BufTy).Contents (Elt Ideal))
  (A3 : (⟨S1x2048, .f32⟩ : BufTy).Contents (Elt Ideal))

/-- The reference's product. -/
theorem ref1 (r : Fin 8192) (l : Fin 2048) : val_main_v1 A1 A2 (ix2 r l) = ∑ k : Fin 2048, A1 (ix2 r k) * A2 (ix3 0 k l) := by
  rw [val_main_v1_apply]
  refine Finset.sum_congr rfl fun k _ => ?_
  congr 1
  · congr 1
    funext a
    match a with
    | ⟨0, _⟩ => rfl
    | ⟨1, _⟩ => rfl
  · refine Eq.trans (congrArg (val_main_v0 A2) ?_) (layer A2 _ k l)
    funext a
    match a with
    | ⟨0, _⟩ => rfl
    | ⟨1, _⟩ => rfl

/-- The reference's first result. -/
theorem ref2 : val_main_v2 A0 A1 A2 = sumArr A0 A1 A2 := by
  funext j
  obtain ⟨r, l, rfl⟩ := split j
  exact congrArg (A0 (ix2 r l) + ·) (ref1 A1 A2 r l)

/-- The reference's second result. -/
theorem ref17 : val_main_v17 A0 A1 A2 A3 = normArr A0 A1 A2 A3 := by
  funext j
  obtain ⟨r, l, rfl⟩ := split j
  have e : ∀ k, sumRow A0 A1 A2 r k = val_main_v2 A0 A1 A2 (ix2 r k) := fun k => (congrFun (ref2 A0 A1 A2) (ix2 r k)).symm
  show _ = normOf (sumRow A0 A1 A2 r) _ l
  rw [funext e]
  unfold val_main_v17 val_main_v16 val_main_v13 val_main_v12 val_main_v11 val_main_v10 val_main_v8 val_main_v6 val_main_v5 val_main_v4
  generalize val_main_v2 A0 A1 A2 = q
  pointwise [val_main_v15, val_main_v14, val_main_v9, val_main_v7, val_main_v3, val_main_cst, val_main_cst_0, val_main_cst_1]
  rfl

/-- The reference's run. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = sumArr (m ((c.tc : Thread nD τ).loc main_arg0)) (m ((c.tc : Thread nD τ).loc main_arg1)) (m ((c.tc : Thread nD τ).loc main_arg2))
      ∧ r.2.mem ((c.tc : Thread nD τ).loc main_v17) = normArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((val_main_v2_eq _ _ _).trans (ref2 _ _ _)), (h c).2.1.trans ((val_main_v17_eq _ _ _ _).trans (ref17 _ _ _ _)), (h c).2.2⟩)
    (Cert.RefMemOutIdeal.Value.run (F := Ideal) m ρ)

end Cert.Proof.MemOut

end
-- ==== Proof.DiffHead.lean ====
/-
  The differential attention's pieces, named: a map's scores with their distance bias, one block taken into its softmax
  state, and the head's result from the states of its two maps.
-/
module

public import proofs.«01_k».proof.Proof.Gen.DiffIdeal.Value
public import proofs.«01_k».proof.Proof.FoxHead

@[expose] public section

set_option maxRecDepth 16384

noncomputable section

namespace Cert.Proof.Diff

open Idealize.ShloMosaic Idealize.ShloMosaic.TcCoe Idealize.SL.Sem
open Cert.DiffIdeal Cert.DiffIdeal.Gen
open Cert.Proof.Fox (mx ex al scaled)

variable {F : FTy → Type} [FloatOps F]

/-- A map's softmax state over the 256 rows of a query block: maximum, normalizer, accumulator. -/
abbrev St (F : FTy → Type) : Type := FVec F S256x1 .f32 × FVec F S256x1 .f32 × FVec F S256x256 .f32

/-- The distances of the queries of a block to the keys of one that lies `w` keys before it. -/
def dist (w : BitVec 32) : IVec S256x256 32 :=
  addi (subi (iota .tc S256x256 32 [0] iota_S256x256_d0_w32) (iota .tc S256x256 32 [1] iota_S256x256_d1_w32)) (broadcast S256x256 w)

/-- The scores of a query block against a key block: products of queries and keys, less slope times distance. -/
def scores (q : FVec F S256x128 .bf16) (kb : Vec F S256x128 .f32) (a : Elt F .f32) (w : BitVec 32) : FVec F S256x256 .f32 :=
  addf (matmul dot_S256x128_S256x128_S256x256_1_1_0_0_n_n none q (truncf .bf16 kb bitsLt_bf16_f32) (constant S256x256 .f32 0x00000000#32))
    (mulf (broadcast S256x256 (Scalar.subf (Scalar.ofBits .f32 0x00000000#32) a)) (sitofp .f32 (dist w)))

/-- On the diagonal block the keys after the query are masked. -/
def masked (s : FVec F S256x256 .f32) (w : BitVec 32) : FVec F S256x256 .f32 :=
  select (cmpi .sge (dist w) (broadcast S256x256 0#32)) s (broadcast S256x256 (Scalar.ofBits .f32 0xFF800000#32))

/-- One block of keys taken into the state. -/
def upd (s : FVec F S256x256 .f32) (vb : Vec F S256x256 .f32) (x : St F) : St F :=
  (mx s x.1,
   addf (mulf (al s x.1) x.2.1) (shapeCast S256x1 (multiReduction .add [1] S256 (ex s x.1) 0x00000000#32 reduces_S256x256_S256 (.inl rfl) rfl) shapeCasts_S256_S256x1),
   addf (mulf (broadcastTo S256x256 (al s x.1) broadcasts_S256x1_S256x256) x.2.2)
     (matmul dot_S256x256_S256x256_S256x256_1_0_0_1_n_n none (truncf .bf16 (ex s x.1) bitsLt_bf16_f32) (truncf .bf16 vb bitsLt_bf16_f32) (constant S256x256 .f32 0x00000000#32)))

/-- A map's result: accumulator over normalizer. -/
def quot (x : St F) : FVec F S256x256 .f32 := divf x.2.2 (broadcastTo S256x256 x.2.1 broadcasts_S256x1_S256x256)

/-- The first map's result less lambda times the second's. -/
def mixed (lam : FVec F S1x1 .f32) (x y : St F) : FVec F S256x256 .f32 :=
  subf (quot x) (mulf (broadcastTo S256x256 lam broadcasts_S1x1_S256x256) (quot y))

/-- The root-mean-square norm of it, with the head's gains and a constant factor. -/
def normed (o : FVec F S256x256 .f32) (g : Vec F S1x1x256 .f32) : FVec F S256x256 .f32 :=
  mulf (mulf (mulf o (broadcastTo S256x256 (rsqrt (addf (divf
      (shapeCast S256x1 (multiReduction .add [1] S256 (mulf o o) 0x00000000#32 reduces_S256x256_S256 (.inl rfl) rfl) shapeCasts_S256_S256x1)
      (broadcast S256x1 (Scalar.ofBits .f32 0x43800000#32))) (broadcast S256x1 (Scalar.ofBits .f32 0x3727C5AC#32)))) broadcasts_S256x1_S256x256))
    (broadcastTo S256x256 (shapeCast S1x256 g shapeCasts_S1x1x256_S1x256) broadcasts_S1x256_S256x256))
    (broadcast S256x256 (Scalar.ofBits .f32 0x3F4CCCCD#32))

/-- Lambda, from the four vectors. -/
def lambda (v : Vec F S4x128 .f32) : FVec F S1x1 .f32 :=
  addf (subf
    (exp (shapeCast S1x1 (multiReduction .add [1] S1 (mulf (extractStridedSlice S1x128 ![0, 0] v slices_S4x128_o0_0_S1x128)
      (extractStridedSlice S1x128 ![1, 0] v slices_S4x128_o1_0_S1x128)) 0x00000000#32 reduces_S1x128_S1 (.inl rfl) rfl) shapeCasts_S1_S1x1))
    (exp (shapeCast S1x1 (multiReduction .add [1] S1 (mulf (extractStridedSlice S1x128 ![2, 0] v slices_S4x128_o2_0_S1x128)
      (extractStridedSlice S1x128 ![3, 0] v slices_S4x128_o3_0_S1x128)) 0x00000000#32 reduces_S1x128_S1 (.inl rfl) rfl) shapeCasts_S1_S1x1)))
    (broadcast S1x1 (Scalar.ofBits .f32 0x3E4CCCCD#32))

/-- The state before the first block. -/
def start : St F := (broadcast S256x1 (Scalar.ofBits .f32 0xF149F2CA#32), broadcast S256x1 (Scalar.ofBits .f32 0x00000000#32),
  broadcast S256x256 (Scalar.ofBits .f32 0x00000000#32))

/-- What the loop carries: the triples of the four heads' two maps. -/
abbrev Acc (F : FTy → Type) : Type :=
  FVec F S256x1 .f32 × FVec F S256x1 .f32 × FVec F S256x256 .f32 × FVec F S256x1 .f32 × FVec F S256x1 .f32 × FVec F S256x256 .f32 ×
  FVec F S256x1 .f32 × FVec F S256x1 .f32 × FVec F S256x256 .f32 × FVec F S256x1 .f32 × FVec F S256x1 .f32 × FVec F S256x256 .f32 ×
  FVec F S256x1 .f32 × FVec F S256x1 .f32 × FVec F S256x256 .f32 × FVec F S256x1 .f32 × FVec F S256x1 .f32 × FVec F S256x256 .f32 ×
  FVec F S256x1 .f32 × FVec F S256x1 .f32 × FVec F S256x256 .f32 × FVec F S256x1 .f32 × FVec F S256x1 .f32 × FVec F S256x256 .f32

/-- Map `n`'s triple. -/
def pick (a : Acc F) : Fin 8 → St F
  | 0 => (a.1, a.2.1, a.2.2.1)
  | 1 => (a.2.2.2.1, a.2.2.2.2.1, a.2.2.2.2.2.1)
  | 2 => (a.2.2.2.2.2.2.1, a.2.2.2.2.2.2.2.1, a.2.2.2.2.2.2.2.2.1)
  | 3 => (a.2.2.2.2.2.2.2.2.2.1, a.2.2.2.2.2.2.2.2.2.2.1, a.2.2.2.2.2.2.2.2.2.2.2.1)
  | 4 => (a.2.2.2.2.2.2.2.2.2.2.2.2.1, a.2.2.2.2.2.2.2.2.2.2.2.2.2.1, a.2.2.2.2.2.2.2.2.2.2.2.2.2.2.1)
  | 5 => (a.2.2.2.2.2.2.2.2.2.2.2.2.2.2.2.1, a.2.2.2.2.2.2.2.2.2.2.2.2.2.2.2.2.1, a.2.2.2.2.2.2.2.2.2.2.2.2.2.2.2.2.2.1)
  | 6 => (a.2.2.2.2.2.2.2.2.2.2.2.2.2.2.2.2.2.2.1, a.2.2.2.2.2.2.2.2.2.2.2.2.2.2.2.2.2.2.2.1, a.2.2.2.2.2.2.2.2.2.2.2.2.2.2.2.2.2.2.2.2.1)
  | 7 => (a.2.2.2.2.2.2.2.2.2.2.2.2.2.2.2.2.2.2.2.2.2.1, a.2.2.2.2.2.2.2.2.2.2.2.2.2.2.2.2.2.2.2.2.2.2.1, a.2.2.2.2.2.2.2.2.2.2.2.2.2.2.2.2.2.2.2.2.2.2.2)

/-- The head a map belongs to. -/
def headOf : Fin 8 → Fin 4
  | 0 | 1 => 0
  | 2 | 3 => 1
  | 4 | 5 => 2
  | 6 | 7 => 3

variable (c : Dev nD) (i : grid0.Coords) (arg3 : Memref sig .tc .smem S4 .f32) (harg3 : arg3.IsWhole)
  (arg4 : Memref sig .tc .vmem S4x128 .f32) (harg4 : arg4.IsWhole) (arg5 : Memref sig .tc .vmem S256x1024 .f32) (harg5 : arg5.IsWhole)
  (arg6 : Memref sig .tc .vmem S2048x1024 .f32) (harg6 : arg6.IsWhole) (arg7 : Memref sig .tc .vmem S2048x1024 .f32) (harg7 : arg7.IsWhole)
  (arg8 : Memref sig .tc .vmem S4x1x256 .f32) (harg8 : arg8.IsWhole) (arg9 : Memref sig .tc .vmem S256x1024 .f32) (harg9 : arg9.IsWhole)
  (x0 : Vec F S4 .f32) (x1 : Vec F S4x128 .f32) (x2 : Vec F S256x1024 .f32) (x3 : Vec F S2048x1024 .f32) (x4 : Vec F S2048x1024 .f32)
  (x5 : Vec F S4x1x256 .f32)

/-- Columns `256·h …` of rows `256·k …` of the values are in the array. -/
theorem inb_val {k : ℕ} (hk : k < 8) (h : Fin 4) : ∀ a, (![256 * k, 256 * h.val] : Fin 2 → ℕ) a + S256x256.size a ≤ S2048x1024.size a := by
  intro a; fin_cases a
  · show 256 * k + 256 ≤ 2048; omega
  · show 256 * h.val + 256 ≤ 1024; omega

/-- Columns `256·h …` of the block of results are in it. -/
theorem inb_out (h : Fin 4) : ∀ a, (![0, 256 * h.val] : Fin 2 → ℕ) a + S256x256.size a ≤ S256x1024.size a := by
  intro a; fin_cases a
  · show 0 + 256 ≤ 256; omega
  · show 256 * h.val + 256 ≤ 1024; omega

/-- Row `h` of the gains is in their array. -/
theorem inb_gain (h : Fin 4) : ∀ a, (![h.val, 0, 0] : Fin 3 → ℕ) a + S1x1x256.size a ≤ S4x1x256.size a := by
  intro a; fin_cases a
  · show h.val + 1 ≤ 4; omega
  · show 0 + 1 ≤ 1; omega
  · show 0 + 256 ≤ 256; omega

/-- Map `n`'s queries, read from the staged block. -/
def qld (n : Fin 8) : Vec F S256x128 .f32 :=
  View.readAt (Elt F) arg5.view (Rect.unit (s := S256x1024) ![0, 128 * n.val] S256x128.size (Fox.inb_q n)).toLoadRect (harg5.unread x2)

/-- Map `n`'s keys of block `k`, read from the staged array. -/
def kld {k : ℕ} (hk : k < 8) (n : Fin 8) : Vec F S256x128 .f32 :=
  View.readAt (Elt F) arg6.view (Rect.unit (s := S2048x1024) ![256 * k, 128 * n.val] S256x128.size (Fox.inb_rows hk n)).toLoadRect (harg6.unread x3)

/-- Head `h`'s values of block `k`, read from the staged array. -/
def vld {k : ℕ} (hk : k < 8) (h : Fin 4) : Vec F S256x256 .f32 :=
  View.readAt (Elt F) arg7.view (Rect.unit (s := S2048x1024) ![256 * k, 256 * h.val] S256x256.size (inb_val hk h)).toLoadRect (harg7.unread x4)

/-- Head `h`'s gains, read from the staged array. -/
def gld (h : Fin 4) : Vec F S1x1x256 .f32 :=
  View.readAt (Elt F) arg8.view (Rect.unit (s := S4x1x256) ![h.val, 0, 0] S1x1x256.size (inb_gain h)).toLoadRect (harg8.unread x5)

/-- The grid's last coordinate, the query block, is below 8. -/
theorem qi_lt : (i 2).val < 8 := (i 2).isLt

/-- A trip's number is below 8. -/
theorem trip_lt (k : Fin (k0_t1_loop i).trips) : k.val < 8 := by have := (k0_t1_abs i).2.1; omega

end Cert.Proof.Diff

end
-- ==== Proof.DiffLoop.lean ====
/-
  The loop over key blocks: a trip takes one block of keys and values into each map's softmax state.
-/
module

public import proofs.«01_k».proof.Proof.DiffHead
public import proofs.«01_k».proof.Proof.FoxLoop

@[expose] public section

set_option maxRecDepth 16384

noncomputable section

namespace Cert.Proof.Diff

open Idealize.ShloMosaic Idealize.ShloMosaic.TcCoe Idealize.SL.Sem
open Cert.DiffIdeal Cert.DiffIdeal.Gen
open Cert.Proof.Fox (mx ex al scaled)

variable {F : FTy → Type} [FloatOps F]

variable (c : Dev nD) (i : grid0.Coords) (arg3 : Memref sig .tc .smem S4 .f32) (harg3 : arg3.IsWhole)
  (arg4 : Memref sig .tc .vmem S4x128 .f32) (harg4 : arg4.IsWhole) (arg5 : Memref sig .tc .vmem S256x1024 .f32) (harg5 : arg5.IsWhole)
  (arg6 : Memref sig .tc .vmem S2048x1024 .f32) (harg6 : arg6.IsWhole) (arg7 : Memref sig .tc .vmem S2048x1024 .f32) (harg7 : arg7.IsWhole)
  (arg8 : Memref sig .tc .vmem S4x1x256 .f32) (harg8 : arg8.IsWhole) (arg9 : Memref sig .tc .vmem S256x1024 .f32) (harg9 : arg9.IsWhole)
  (x0 : Vec F S4 .f32) (x1 : Vec F S4x128 .f32) (x2 : Vec F S256x1024 .f32) (x3 : Vec F S2048x1024 .f32) (x4 : Vec F S2048x1024 .f32)
  (x5 : Vec F S4x1x256 .f32)

/-- What the loop is started on: the eight maps' states, each as before the first block. -/
def init : Acc F :=
  (k0_pay122, k0_pay123, k0_pay124, k0_pay122, k0_pay123, k0_pay124, k0_pay122, k0_pay123, k0_pay124, k0_pay122, k0_pay123, k0_pay124,
   k0_pay122, k0_pay123, k0_pay124, k0_pay122, k0_pay123, k0_pay124, k0_pay122, k0_pay123, k0_pay124, k0_pay122, k0_pay123, k0_pay124)

/-- The carried value before trip `n`. -/
def run (n : ℕ) : Acc F :=
  st_k0_t1 Variants.none c none i arg3 harg3 arg4 harg4 arg5 harg5 arg6 harg6 arg7 harg7 arg8 harg8 arg9 harg9 (BitVec.ofNat 32 (i 2).val)
    (kernelRun0_A.sl.r_1 c arg5 harg5 x2) (kernelRun0_A.sl.r_2 c arg5 harg5 x2) (kernelRun0_A.sl.r_3 c arg5 harg5 x2) (kernelRun0_A.sl.r_4 c arg5 harg5 x2)
    (kernelRun0_A.sl.r_5 c arg5 harg5 x2) (kernelRun0_A.sl.r_10 c arg5 harg5 x2) (kernelRun0_A.sl.r_11 c arg5 harg5 x2) (kernelRun0_A.sl.r_12 c arg5 harg5 x2)
    (kernelRun0_A.sl.r_6 c i arg3 harg3 x0) (kernelRun0_A.sl.r_7 c i arg3 harg3 x0) (kernelRun0_A.sl.r_8 c i arg3 harg3 x0) (kernelRun0_A.sl.r_9 c i arg3 harg3 x0)
    k0_pay121 k0_pay122 k0_pay123 k0_pay124 0#32 (kernelRun0_A.sl.v74 i) (harg6.unread x3) (harg7.unread x4) init n

/-- Map `n`'s scaled queries. -/
def q (n : Fin 8) : FVec F S256x128 .bf16 := scaled (qld arg5 harg5 x2 n)

/-- A head's slope, as the body names it. -/
def slope : Fin 4 → Elt F .f32
  | 0 => kernelRun0_A.sl.r_6 c i arg3 harg3 x0
  | 1 => kernelRun0_A.sl.r_7 c i arg3 harg3 x0
  | 2 => kernelRun0_A.sl.r_8 c i arg3 harg3 x0
  | 3 => kernelRun0_A.sl.r_9 c i arg3 harg3 x0

/-- How many keys a trip's block lies before the query block. -/
def gap (k : ℕ) : BitVec 32 := Scalar.muli (Scalar.subi (BitVec.ofNat 32 (i 2).val) (Scf.iv 0#32 1#32 k)) 256#32

/-- Before the first trip each map's state is the initial one. -/
theorem run_zero (n : Fin 8) : pick (run c i arg3 harg3 arg4 harg4 arg5 harg5 arg6 harg6 arg7 harg7 arg8 harg8 arg9 harg9 x0 x2 x3 x4 0) n = start := by
  rw [run, st_k0_t1_zero]
  match n with
  | 0 | 1 | 2 | 3 | 4 | 5 | 6 | 7 => rfl

/-- Head `h`'s values of block `k`, loaded at an offset the program computes. -/
theorem vld_eq {k : ℕ} (hk : k < 8) (h : Fin 4) {o : Fin 2 → ℕ} (e : o = ![256 * k, 256 * h.val]) (ho : ∀ a, o a + S256x256.size a ≤ S2048x1024.size a) :
    vld arg7 harg7 x4 hk h = View.readAt (Elt F) arg7.view (Rect.unit (s := S2048x1024) o S256x256.size ho).toLoadRect (harg7.unread x4) := by
  subst e; rfl

/-- Map `n`'s keys of block `k`, loaded at an offset the program computes. -/
theorem kld_eq {k : ℕ} (hk : k < 8) (n : Fin 8) {o : Fin 2 → ℕ} (e : o = ![256 * k, 128 * n.val]) (ho : ∀ a, o a + S256x128.size a ≤ S2048x1024.size a) :
    kld arg6 harg6 x3 hk n = View.readAt (Elt F) arg6.view (Rect.unit (s := S2048x1024) o S256x128.size ho).toLoadRect (harg6.unread x3) := by
  subst e; rfl

/-- The body's offsets of a trip's keys, map by map … -/
def koff (k : Fin (k0_t1_loop i).trips) : Fin 8 → Fin 2 → ℕ
  | 0 => k0_off3 i k | 1 => k0_off4 i k | 2 => k0_off6 i k | 3 => k0_off7 i k
  | 4 => k0_off9 i k | 5 => k0_off10 i k | 6 => k0_off12 i k | 7 => k0_off13 i k

/-- … in closed form, … -/
theorem koff_eq (k : Fin (k0_t1_loop i).trips) (n : Fin 8) : koff i k n = ![256 * k.val, 128 * n.val] :=
  match n with
  | 0 => k0_off3_eq i k | 1 => k0_off4_eq i k | 2 => k0_off6_eq i k | 3 => k0_off7_eq i k
  | 4 => k0_off9_eq i k | 5 => k0_off10_eq i k | 6 => k0_off12_eq i k | 7 => k0_off13_eq i k

/-- … and in the array. -/
theorem koff_inb (k : Fin (k0_t1_loop i).trips) (n : Fin 8) : ∀ a, koff i k n a + S256x128.size a ≤ S2048x1024.size a := by
  rw [koff_eq]; exact Fox.inb_rows (trip_lt i k) n

/-- The body's offsets of a trip's values, head by head … -/
def voff (k : Fin (k0_t1_loop i).trips) : Fin 4 → Fin 2 → ℕ
  | 0 => k0_off2 i k | 1 => k0_off5 i k | 2 => k0_off8 i k | 3 => k0_off11 i k

/-- … in closed form, … -/
theorem voff_eq (k : Fin (k0_t1_loop i).trips) (h : Fin 4) : voff i k h = ![256 * k.val, 256 * h.val] :=
  match h with
  | 0 => k0_off2_eq i k | 1 => k0_off5_eq i k | 2 => k0_off8_eq i k | 3 => k0_off11_eq i k

/-- … and in the array. -/
theorem voff_inb (k : Fin (k0_t1_loop i).trips) (h : Fin 4) : ∀ a, voff i k h a + S256x256.size a ≤ S2048x1024.size a := by
  rw [voff_eq]; exact inb_val (trip_lt i k) h

/-- The loop counts from zero by one. -/
theorem iv_eq {k : ℕ} : Scf.iv 0#32 1#32 k = BitVec.ofNat 32 k := by
  simp [Scf.iv]

/-- A trip takes block `k` of the keys and values into each map's state. -/
theorem run_succ (k : Fin (k0_t1_loop i).trips) (n : Fin 8) :
    pick (run c i arg3 harg3 arg4 harg4 arg5 harg5 arg6 harg6 arg7 harg7 arg8 harg8 arg9 harg9 x0 x2 x3 x4 (k.val + 1)) n
      = upd (scores (q arg5 harg5 x2 n) (kld arg6 harg6 x3 (trip_lt i k) n) (slope c i arg3 harg3 x0 (headOf n)) (gap i k.val))
          (vld arg7 harg7 x4 (trip_lt i k) (headOf n)) (pick (run c i arg3 harg3 arg4 harg4 arg5 harg5 arg6 harg6 arg7 harg7 arg8 harg8 arg9 harg9 x0 x2 x3 x4 k.val) n) := by
  rw [run, st_k0_t1_succ, ← run]
  generalize run c i arg3 harg3 arg4 harg4 arg5 harg5 arg6 harg6 arg7 harg7 arg8 harg8 arg9 harg9 x0 x2 x3 x4 k.val = acc
  rw [kld_eq arg6 harg6 x3 (trip_lt i k) n (koff_eq i k n) (koff_inb i k n), vld_eq arg7 harg7 x4 (trip_lt i k) (headOf n) (voff_eq i k (headOf n)) (voff_inb i k (headOf n))]
  unfold tripR_k0_t1 trip_k0_t1
  match n with
  | 0 => rfl
  | 1 => rfl
  | 2 => rfl
  | 3 => rfl
  | 4 => rfl
  | 5 => rfl
  | 6 => rfl
  | 7 => rfl

end Cert.Proof.Diff

end
-- ==== Proof.DiffBody.lean ====
/-
  What the body stores for a head, from the states the loop ends in.
-/
module

public import proofs.«01_k».proof.Proof.DiffLoop

@[expose] public section

set_option maxRecDepth 16384

noncomputable section

namespace Cert.Proof.Diff

open Idealize.ShloMosaic Idealize.ShloMosaic.TcCoe Idealize.SL.Sem
open Cert.DiffIdeal Cert.DiffIdeal.Gen
open Cert.Proof.Fox (mx ex al scaled)

variable {F : FTy → Type} [FloatOps F]

variable (c : Dev nD) (i : grid0.Coords) (arg3 : Memref sig .tc .smem S4 .f32) (harg3 : arg3.IsWhole)
  (arg4 : Memref sig .tc .vmem S4x128 .f32) (harg4 : arg4.IsWhole) (arg5 : Memref sig .tc .vmem S256x1024 .f32) (harg5 : arg5.IsWhole)
  (arg6 : Memref sig .tc .vmem S2048x1024 .f32) (harg6 : arg6.IsWhole) (arg7 : Memref sig .tc .vmem S2048x1024 .f32) (harg7 : arg7.IsWhole)
  (arg8 : Memref sig .tc .vmem S4x1x256 .f32) (harg8 : arg8.IsWhole) (arg9 : Memref sig .tc .vmem S256x1024 .f32) (harg9 : arg9.IsWhole)
  (x0 : Vec F S4 .f32) (x1 : Vec F S4x128 .f32) (x2 : Vec F S256x1024 .f32) (x3 : Vec F S2048x1024 .f32) (x4 : Vec F S2048x1024 .f32)
  (x5 : Vec F S4x1x256 .f32)

/-- The second loop's carried value before trip `n`, started on `a`. -/
def run2 (a : Acc F) (n : ℕ) : Acc F :=
  st_k0_t2 Variants.none c none i arg3 harg3 arg4 harg4 arg5 harg5 arg6 harg6 arg7 harg7 arg8 harg8 arg9 harg9 (BitVec.ofNat 32 (i 2).val)
    (kernelRun0_A.sl.r_1 c arg5 harg5 x2) (kernelRun0_A.sl.r_2 c arg5 harg5 x2) (kernelRun0_A.sl.r_3 c arg5 harg5 x2) (kernelRun0_A.sl.r_4 c arg5 harg5 x2)
    (kernelRun0_A.sl.r_5 c arg5 harg5 x2) (kernelRun0_A.sl.r_10 c arg5 harg5 x2) (kernelRun0_A.sl.r_11 c arg5 harg5 x2) (kernelRun0_A.sl.r_12 c arg5 harg5 x2)
    (kernelRun0_A.sl.r_6 c i arg3 harg3 x0) (kernelRun0_A.sl.r_7 c i arg3 harg3 x0) (kernelRun0_A.sl.r_8 c i arg3 harg3 x0) (kernelRun0_A.sl.r_9 c i arg3 harg3 x0)
    k0_pay121 k0_pay122 k0_pay123 k0_pay124 0#32 (kernelRun0_A.sl.v74 i) (harg6.unread x3) (harg7.unread x4) a n

/-- The carried value, component by component. -/
def eta (a : Acc F) : Acc F :=
  (a.1, a.2.1, a.2.2.1, a.2.2.2.1, a.2.2.2.2.1, a.2.2.2.2.2.1, a.2.2.2.2.2.2.1, a.2.2.2.2.2.2.2.1, a.2.2.2.2.2.2.2.2.1, a.2.2.2.2.2.2.2.2.2.1, a.2.2.2.2.2.2.2.2.2.2.1, a.2.2.2.2.2.2.2.2.2.2.2.1, a.2.2.2.2.2.2.2.2.2.2.2.2.1, a.2.2.2.2.2.2.2.2.2.2.2.2.2.1, a.2.2.2.2.2.2.2.2.2.2.2.2.2.2.1, a.2.2.2.2.2.2.2.2.2.2.2.2.2.2.2.1, a.2.2.2.2.2.2.2.2.2.2.2.2.2.2.2.2.1, a.2.2.2.2.2.2.2.2.2.2.2.2.2.2.2.2.2.1, a.2.2.2.2.2.2.2.2.2.2.2.2.2.2.2.2.2.2.1, a.2.2.2.2.2.2.2.2.2.2.2.2.2.2.2.2.2.2.2.1, a.2.2.2.2.2.2.2.2.2.2.2.2.2.2.2.2.2.2.2.2.1, a.2.2.2.2.2.2.2.2.2.2.2.2.2.2.2.2.2.2.2.2.2.1, a.2.2.2.2.2.2.2.2.2.2.2.2.2.2.2.2.2.2.2.2.2.2.1, a.2.2.2.2.2.2.2.2.2.2.2.2.2.2.2.2.2.2.2.2.2.2.2)

/-- A map's state after the loops, as the body names it; the first map's has no name. -/
def lastSt : Fin 8 → St F
  | 0 => pick (run2 c i arg3 harg3 arg4 harg4 arg5 harg5 arg6 harg6 arg7 harg7 arg8 harg8 arg9 harg9 x0 x2 x3 x4 (eta (run c i arg3 harg3 arg4 harg4 arg5 harg5 arg6 harg6 arg7 harg7 arg8 harg8 arg9 harg9 x0 x2 x3 x4 (Scf.trips (k0_t1_loop i).lb (k0_t1_loop i).ub (k0_t1_loop i).st))) (Scf.trips (k0_t2_loop i).lb (k0_t2_loop i).ub (k0_t2_loop i).st)) 0
  | 1 => (kernelRun0_A.sl.r_13 c i arg3 harg3 arg4 harg4 arg5 harg5 arg6 harg6 arg7 harg7 arg8 harg8 arg9 harg9 x0 x2 x3 x4, kernelRun0_A.sl.r_14 c i arg3 harg3 arg4 harg4 arg5 harg5 arg6 harg6 arg7 harg7 arg8 harg8 arg9 harg9 x0 x2 x3 x4,
      kernelRun0_A.sl.r_15 c i arg3 harg3 arg4 harg4 arg5 harg5 arg6 harg6 arg7 harg7 arg8 harg8 arg9 harg9 x0 x2 x3 x4)
  | 2 => (kernelRun0_A.sl.r_16 c i arg3 harg3 arg4 harg4 arg5 harg5 arg6 harg6 arg7 harg7 arg8 harg8 arg9 harg9 x0 x2 x3 x4, kernelRun0_A.sl.r_17 c i arg3 harg3 arg4 harg4 arg5 harg5 arg6 harg6 arg7 harg7 arg8 harg8 arg9 harg9 x0 x2 x3 x4,
      kernelRun0_A.sl.r_18 c i arg3 harg3 arg4 harg4 arg5 harg5 arg6 harg6 arg7 harg7 arg8 harg8 arg9 harg9 x0 x2 x3 x4)
  | 3 => (kernelRun0_A.sl.r_19 c i arg3 harg3 arg4 harg4 arg5 harg5 arg6 harg6 arg7 harg7 arg8 harg8 arg9 harg9 x0 x2 x3 x4, kernelRun0_A.sl.r_20 c i arg3 harg3 arg4 harg4 arg5 harg5 arg6 harg6 arg7 harg7 arg8 harg8 arg9 harg9 x0 x2 x3 x4,
      kernelRun0_A.sl.r_21 c i arg3 harg3 arg4 harg4 arg5 harg5 arg6 harg6 arg7 harg7 arg8 harg8 arg9 harg9 x0 x2 x3 x4)
  | 4 => (kernelRun0_A.sl.r_22 c i arg3 harg3 arg4 harg4 arg5 harg5 arg6 harg6 arg7 harg7 arg8 harg8 arg9 harg9 x0 x2 x3 x4, kernelRun0_A.sl.r_23 c i arg3 harg3 arg4 harg4 arg5 harg5 arg6 harg6 arg7 harg7 arg8 harg8 arg9 harg9 x0 x2 x3 x4,
      kernelRun0_A.sl.r_24 c i arg3 harg3 arg4 harg4 arg5 harg5 arg6 harg6 arg7 harg7 arg8 harg8 arg9 harg9 x0 x2 x3 x4)
  | 5 => (kernelRun0_A.sl.r_25 c i arg3 harg3 arg4 harg4 arg5 harg5 arg6 harg6 arg7 harg7 arg8 harg8 arg9 harg9 x0 x2 x3 x4, kernelRun0_A.sl.r_26 c i arg3 harg3 arg4 harg4 arg5 harg5 arg6 harg6 arg7 harg7 arg8 harg8 arg9 harg9 x0 x2 x3 x4,
      kernelRun0_A.sl.r_27 c i arg3 harg3 arg4 harg4 arg5 harg5 arg6 harg6 arg7 harg7 arg8 harg8 arg9 harg9 x0 x2 x3 x4)
  | 6 => (kernelRun0_A.sl.r_28 c i arg3 harg3 arg4 harg4 arg5 harg5 arg6 harg6 arg7 harg7 arg8 harg8 arg9 harg9 x0 x2 x3 x4, kernelRun0_A.sl.r_29 c i arg3 harg3 arg4 harg4 arg5 harg5 arg6 harg6 arg7 harg7 arg8 harg8 arg9 harg9 x0 x2 x3 x4,
      kernelRun0_A.sl.r_30 c i arg3 harg3 arg4 harg4 arg5 harg5 arg6 harg6 arg7 harg7 arg8 harg8 arg9 harg9 x0 x2 x3 x4)
  | 7 => (kernelRun0_A.sl.r_31 c i arg3 harg3 arg4 harg4 arg5 harg5 arg6 harg6 arg7 harg7 arg8 harg8 arg9 harg9 x0 x2 x3 x4, kernelRun0_A.sl.r_32 c i arg3 harg3 arg4 harg4 arg5 harg5 arg6 harg6 arg7 harg7 arg8 harg8 arg9 harg9 x0 x2 x3 x4,
      kernelRun0_A.sl.r_33 c i arg3 harg3 arg4 harg4 arg5 harg5 arg6 harg6 arg7 harg7 arg8 harg8 arg9 harg9 x0 x2 x3 x4)

/-- The first loop makes one trip per block before the query block … -/
theorem trips1 : ∀ i : grid0.Coords, Scf.trips (k0_t1_loop i).lb (k0_t1_loop i).ub (k0_t1_loop i).st = (i 2).val := by decide +kernel

/-- … and the second, the remainder of the first when it is unrolled, none. -/
theorem trips2 : ∀ i : grid0.Coords, Scf.trips (k0_t2_loop i).lb (k0_t2_loop i).ub (k0_t2_loop i).st = 0 := by decide +kernel

/-- It never runs, and ends as it began. -/
theorem run2_end (a : Acc F) : run2 c i arg3 harg3 arg4 harg4 arg5 harg5 arg6 harg6 arg7 harg7 arg8 harg8 arg9 harg9 x0 x2 x3 x4 a (Scf.trips (k0_t2_loop i).lb (k0_t2_loop i).ub (k0_t2_loop i).st) = a := by
  rw [trips2, run2, st_k0_t2_zero]

/-- The body's state is the second loop's, started on the first loop's last. -/
theorem lastSt_run2 (n : Fin 8) :
    lastSt c i arg3 harg3 arg4 harg4 arg5 harg5 arg6 harg6 arg7 harg7 arg8 harg8 arg9 harg9 x0 x2 x3 x4 n = pick (run2 c i arg3 harg3 arg4 harg4 arg5 harg5 arg6 harg6 arg7 harg7 arg8 harg8 arg9 harg9 x0 x2 x3 x4 (eta (run c i arg3 harg3 arg4 harg4 arg5 harg5 arg6 harg6 arg7 harg7 arg8 harg8 arg9 harg9 x0 x2 x3 x4 (Scf.trips (k0_t1_loop i).lb (k0_t1_loop i).ub (k0_t1_loop i).st))) (Scf.trips (k0_t2_loop i).lb (k0_t2_loop i).ub (k0_t2_loop i).st)) n := by
  match n with
  | 0 => rfl
  | 1 =>
    unfold lastSt pick
    delta kernelRun0_A.sl.r_13 kernelRun0_A.sl.r_14 kernelRun0_A.sl.r_15 run2 eta run init
    with_reducible rfl
  | 2 =>
    unfold lastSt pick
    delta kernelRun0_A.sl.r_16 kernelRun0_A.sl.r_17 kernelRun0_A.sl.r_18 run2 eta run init
    with_reducible rfl
  | 3 =>
    unfold lastSt pick
    delta kernelRun0_A.sl.r_19 kernelRun0_A.sl.r_20 kernelRun0_A.sl.r_21 run2 eta run init
    with_reducible rfl
  | 4 =>
    unfold lastSt pick
    delta kernelRun0_A.sl.r_22 kernelRun0_A.sl.r_23 kernelRun0_A.sl.r_24 run2 eta run init
    with_reducible rfl
  | 5 =>
    unfold lastSt pick
    delta kernelRun0_A.sl.r_25 kernelRun0_A.sl.r_26 kernelRun0_A.sl.r_27 run2 eta run init
    with_reducible rfl
  | 6 =>
    unfold lastSt pick
    delta kernelRun0_A.sl.r_28 kernelRun0_A.sl.r_29 kernelRun0_A.sl.r_30 run2 eta run init
    with_reducible rfl
  | 7 =>
    unfold lastSt pick
    delta kernelRun0_A.sl.r_31 kernelRun0_A.sl.r_32 kernelRun0_A.sl.r_33 run2 eta run init
    with_reducible rfl

/-- So it is the state the first loop ends in. -/
theorem lastSt_eq (n : Fin 8) : lastSt c i arg3 harg3 arg4 harg4 arg5 harg5 arg6 harg6 arg7 harg7 arg8 harg8 arg9 harg9 x0 x2 x3 x4 n = pick (run c i arg3 harg3 arg4 harg4 arg5 harg5 arg6 harg6 arg7 harg7 arg8 harg8 arg9 harg9 x0 x2 x3 x4 (i 2).val) n := by
  rw [lastSt_run2, run2_end, trips1, show ∀ a : Acc F, eta a = a from fun _ => rfl]

/-- The diagonal block begins at the query block's first query. -/
def here : BitVec 32 := Scalar.muli (Scalar.subi (BitVec.ofNat 32 (i 2).val) (BitVec.ofNat 32 (i 2).val)) 256#32

/-- The body's offsets of the diagonal block's keys, map by map … -/
def kdoff : Fin 8 → Fin 2 → ℕ
  | 0 => k0_off27 i | 1 => k0_off28 i | 2 => k0_off30 i | 3 => k0_off31 i
  | 4 => k0_off33 i | 5 => k0_off34 i | 6 => k0_off36 i | 7 => k0_off37 i

/-- … in closed form, … -/
theorem kdoff_eq (n : Fin 8) : kdoff i n = ![256 * (i 2).val, 128 * n.val] :=
  match n with
  | 0 => k0_off27_eq i | 1 => k0_off28_eq i | 2 => k0_off30_eq i | 3 => k0_off31_eq i
  | 4 => k0_off33_eq i | 5 => k0_off34_eq i | 6 => k0_off36_eq i | 7 => k0_off37_eq i

/-- … and in the array. -/
theorem kdoff_inb (n : Fin 8) : ∀ a, kdoff i n a + S256x128.size a ≤ S2048x1024.size a := by
  rw [kdoff_eq]; exact Fox.inb_rows (qi_lt i) n

/-- The body's offsets of the diagonal block's values, head by head … -/
def vdoff : Fin 4 → Fin 2 → ℕ
  | 0 => k0_off26 i | 1 => k0_off29 i | 2 => k0_off32 i | 3 => k0_off35 i

/-- … in closed form, … -/
theorem vdoff_eq (h : Fin 4) : vdoff i h = ![256 * (i 2).val, 256 * h.val] :=
  match h with
  | 0 => k0_off26_eq i | 1 => k0_off29_eq i | 2 => k0_off32_eq i | 3 => k0_off35_eq i

/-- … and in the array. -/
theorem vdoff_inb (h : Fin 4) : ∀ a, vdoff i h a + S256x256.size a ≤ S2048x1024.size a := by
  rw [vdoff_eq]; exact inb_val (qi_lt i) h

/-- A head's first map and its second. -/
def fst : Fin 4 → Fin 8
  | 0 => 0 | 1 => 2 | 2 => 4 | 3 => 6

@[inherit_doc fst] def snd : Fin 4 → Fin 8
  | 0 => 1 | 1 => 3 | 2 => 5 | 3 => 7

/-- A map's state with the masked diagonal block taken in. -/
def full (n : Fin 8) : St F :=
  upd (masked (scores (q arg5 harg5 x2 n) (kld arg6 harg6 x3 (qi_lt i) n) (slope c i arg3 harg3 x0 (headOf n)) (here i)) (here i))
    (vld arg7 harg7 x4 (qi_lt i) (headOf n)) (pick (run c i arg3 harg3 arg4 harg4 arg5 harg5 arg6 harg6 arg7 harg7 arg8 harg8 arg9 harg9 x0 x2 x3 x4 (i 2).val) n)

/-- The same with the body's own names. -/
theorem full_eq (n : Fin 8) : full c i arg3 harg3 arg4 harg4 arg5 harg5 arg6 harg6 arg7 harg7 arg8 harg8 arg9 harg9 x0 x2 x3 x4 n =
    upd (masked (scores (q arg5 harg5 x2 n) (View.readAt (Elt F) arg6.view (Rect.unit (s := S2048x1024) (kdoff i n) S256x128.size (kdoff_inb i n)).toLoadRect (harg6.unread x3))
        (slope c i arg3 harg3 x0 (headOf n)) (here i)) (here i))
      (View.readAt (Elt F) arg7.view (Rect.unit (s := S2048x1024) (vdoff i (headOf n)) S256x256.size (vdoff_inb i (headOf n))).toLoadRect (harg7.unread x4))
      (lastSt c i arg3 harg3 arg4 harg4 arg5 harg5 arg6 harg6 arg7 harg7 arg8 harg8 arg9 harg9 x0 x2 x3 x4 n) := by
  rw [lastSt_eq, full, kld_eq arg6 harg6 x3 (qi_lt i) n (kdoff_eq i n) (kdoff_inb i n), vld_eq arg7 harg7 x4 (qi_lt i) (headOf n) (vdoff_eq i (headOf n)) (vdoff_inb i (headOf n))]

/-- What the body stores in head `h`'s columns, as it names it. -/
def piece : Fin 4 → FVec F S256x256 .f32
  | 0 => k0_pay199 (kernelRun0_A.sl.r c arg4 harg4 x1) (kernelRun0_A.sl.r_38 c i arg3 harg3 arg4 harg4 arg5 harg5 arg6 harg6 arg7 harg7 arg8 harg8 arg9 harg9 x0 x2 x3 x4) (kernelRun0_A.sl.r_39 c i arg3 harg3 arg4 harg4 arg5 harg5 arg6 harg6 arg7 harg7 arg8 harg8 arg9 harg9 x0 x2 x3 x4)
      (kernelRun0_A.sl.r_41 c i arg3 harg3 arg4 harg4 arg5 harg5 arg6 harg6 arg7 harg7 arg8 harg8 arg9 harg9 x0 x2 x3 x4) (kernelRun0_A.sl.r_42 c i arg3 harg3 arg4 harg4 arg5 harg5 arg6 harg6 arg7 harg7 arg8 harg8 arg9 harg9 x0 x2 x3 x4) (View.readAt (Elt F) arg8.view (Rect.unit (s := S4x1x256) ![0, 0, 0] S1x1x256.size (inb_gain 0)).toLoadRect (harg8.unread x5))
  | 1 => k0_pay203 (kernelRun0_A.sl.r_70 c arg8 harg8 x5) (kernelRun0_A.sl.r_71 c i arg3 harg3 arg4 harg4 arg5 harg5 arg6 harg6 arg7 harg7 arg8 harg8 arg9 harg9 x0 x1 x2 x3 x4) (kernelRun0_A.sl.r_72 c i arg3 harg3 arg4 harg4 arg5 harg5 arg6 harg6 arg7 harg7 arg8 harg8 arg9 harg9 x0 x1 x2 x3 x4)
      kernelRun0_A.sl.cst_107
  | 2 => k0_pay204 (kernelRun0_A.sl.r c arg4 harg4 x1) (kernelRun0_A.sl.r_57 c i arg3 harg3 arg4 harg4 arg5 harg5 arg6 harg6 arg7 harg7 arg8 harg8 arg9 harg9 x0 x2 x3 x4) (kernelRun0_A.sl.r_58 c i arg3 harg3 arg4 harg4 arg5 harg5 arg6 harg6 arg7 harg7 arg8 harg8 arg9 harg9 x0 x2 x3 x4)
      (kernelRun0_A.sl.r_59 c i arg3 harg3 arg4 harg4 arg5 harg5 arg6 harg6 arg7 harg7 arg8 harg8 arg9 harg9 x0 x2 x3 x4) (kernelRun0_A.sl.r_60 c i arg3 harg3 arg4 harg4 arg5 harg5 arg6 harg6 arg7 harg7 arg8 harg8 arg9 harg9 x0 x2 x3 x4) (View.readAt (Elt F) arg8.view (Rect.unit (s := S4x1x256) ![2, 0, 0] S1x1x256.size (inb_gain 2)).toLoadRect (harg8.unread x5))
  | 3 => k0_pay1 (kernelRun0_A.sl.r c arg4 harg4 x1) (kernelRun0_A.sl.r_73 c arg8 harg8 x5) (kernelRun0_A.sl.r_74 c i arg3 harg3 arg4 harg4 arg5 harg5 arg6 harg6 arg7 harg7 arg8 harg8 arg9 harg9 x0 x2 x3 x4) (kernelRun0_A.sl.r_75 c i arg3 harg3 arg4 harg4 arg5 harg5 arg6 harg6 arg7 harg7 arg8 harg8 arg9 harg9 x0 x2 x3 x4)

/-- The four lambda vectors, read from the staged array. -/
def lamld : Vec F S4x128 .f32 :=
  View.readAt (Elt F) arg4.view (Rect.unit (s := S4x128) ![0, 0] S4x128.size (by decide)).toLoadRect (harg4.unread x1)

/-- A map's normalizer and accumulator in the end, as the body names them. -/
def named : Fin 8 → FVec F S256x1 .f32 × FVec F S256x256 .f32
  | 0 => (kernelRun0_A.sl.r_38 c i arg3 harg3 arg4 harg4 arg5 harg5 arg6 harg6 arg7 harg7 arg8 harg8 arg9 harg9 x0 x2 x3 x4, kernelRun0_A.sl.r_39 c i arg3 harg3 arg4 harg4 arg5 harg5 arg6 harg6 arg7 harg7 arg8 harg8 arg9 harg9 x0 x2 x3 x4)
  | 1 => (kernelRun0_A.sl.r_41 c i arg3 harg3 arg4 harg4 arg5 harg5 arg6 harg6 arg7 harg7 arg8 harg8 arg9 harg9 x0 x2 x3 x4, kernelRun0_A.sl.r_42 c i arg3 harg3 arg4 harg4 arg5 harg5 arg6 harg6 arg7 harg7 arg8 harg8 arg9 harg9 x0 x2 x3 x4)
  | 2 => (kernelRun0_A.sl.r_49 c i arg3 harg3 arg4 harg4 arg5 harg5 arg6 harg6 arg7 harg7 arg8 harg8 arg9 harg9 x0 x2 x3 x4, kernelRun0_A.sl.r_50 c i arg3 harg3 arg4 harg4 arg5 harg5 arg6 harg6 arg7 harg7 arg8 harg8 arg9 harg9 x0 x2 x3 x4)
  | 3 => (kernelRun0_A.sl.r_51 c i arg3 harg3 arg4 harg4 arg5 harg5 arg6 harg6 arg7 harg7 arg8 harg8 arg9 harg9 x0 x2 x3 x4, kernelRun0_A.sl.r_52 c i arg3 harg3 arg4 harg4 arg5 harg5 arg6 harg6 arg7 harg7 arg8 harg8 arg9 harg9 x0 x2 x3 x4)
  | 4 => (kernelRun0_A.sl.r_57 c i arg3 harg3 arg4 harg4 arg5 harg5 arg6 harg6 arg7 harg7 arg8 harg8 arg9 harg9 x0 x2 x3 x4, kernelRun0_A.sl.r_58 c i arg3 harg3 arg4 harg4 arg5 harg5 arg6 harg6 arg7 harg7 arg8 harg8 arg9 harg9 x0 x2 x3 x4)
  | 5 => (kernelRun0_A.sl.r_59 c i arg3 harg3 arg4 harg4 arg5 harg5 arg6 harg6 arg7 harg7 arg8 harg8 arg9 harg9 x0 x2 x3 x4, kernelRun0_A.sl.r_60 c i arg3 harg3 arg4 harg4 arg5 harg5 arg6 harg6 arg7 harg7 arg8 harg8 arg9 harg9 x0 x2 x3 x4)
  | 6 => (kernelRun0_A.sl.r_63 c i arg3 harg3 arg4 harg4 arg5 harg5 arg6 harg6 arg7 harg7 arg8 harg8 arg9 harg9 x0 x2 x3 x4, kernelRun0_A.sl.r_64 c i arg3 harg3 arg4 harg4 arg5 harg5 arg6 harg6 arg7 harg7 arg8 harg8 arg9 harg9 x0 x2 x3 x4)
  | 7 => (kernelRun0_A.sl.r_68 c i arg3 harg3 arg4 harg4 arg5 harg5 arg6 harg6 arg7 harg7 arg8 harg8 arg9 harg9 x0 x2 x3 x4, kernelRun0_A.sl.r_69 c i arg3 harg3 arg4 harg4 arg5 harg5 arg6 harg6 arg7 harg7 arg8 harg8 arg9 harg9 x0 x2 x3 x4)

/-- They are those of the state with the diagonal block taken in. -/
theorem named_eq (n : Fin 8) : (full c i arg3 harg3 arg4 harg4 arg5 harg5 arg6 harg6 arg7 harg7 arg8 harg8 arg9 harg9 x0 x2 x3 x4 n).2 = named c i arg3 harg3 arg4 harg4 arg5 harg5 arg6 harg6 arg7 harg7 arg8 harg8 arg9 harg9 x0 x2 x3 x4 n := by
  rw [full_eq]
  match n with
  | 0 =>
    unfold lastSt pick named
    delta kernelRun0_A.sl.r_38 kernelRun0_A.sl.r_39 run2 eta run init
    rfl
  | 1 => rfl
  | 2 => rfl
  | 3 => rfl
  | 4 => rfl
  | 5 => rfl
  | 6 => rfl
  | 7 => rfl

/-- It is the norm of the first map's quotient less lambda times the second's. -/
theorem piece_eq (h : Fin 4) :
    piece c i arg3 harg3 arg4 harg4 arg5 harg5 arg6 harg6 arg7 harg7 arg8 harg8 arg9 harg9 x0 x1 x2 x3 x4 x5 h
      = normed (mixed (lambda (lamld arg4 harg4 x1)) (full c i arg3 harg3 arg4 harg4 arg5 harg5 arg6 harg6 arg7 harg7 arg8 harg8 arg9 harg9 x0 x2 x3 x4 (fst h)) (full c i arg3 harg3 arg4 harg4 arg5 harg5 arg6 harg6 arg7 harg7 arg8 harg8 arg9 harg9 x0 x2 x3 x4 (snd h))) (gld arg8 harg8 x5 h) := by
  unfold mixed quot
  rw [named_eq, named_eq]
  match h with
  | 0 => rfl
  | 1 => rfl
  | 2 => rfl
  | 3 => rfl

end Cert.Proof.Diff

end
-- ==== Proof.DiffPoint.lean ====
/-
  The body's steps read at a row and a column.
-/
module

public import proofs.«01_k».proof.Proof.DiffBody
public import proofs.«01_k».proof.Proof.FoxPoint

@[expose] public section

set_option maxRecDepth 16384

noncomputable section

namespace Cert.Proof.Diff

open Idealize.ShloMosaic Idealize.ShloMosaic.TcCoe Idealize.SL.Sem
open Cert.DiffIdeal Cert.DiffIdeal.Gen
open Cert.Proof.Fox (mx ex al scaled)
open scoped BigOperators

/-- The distance word of row `r` and column `k`, the key block lying `e` blocks before the query block, is the distance. -/
theorem dist_word (e : ℕ) (he : e < 8) (r k : Fin 256) :
    (IntOp.addi (IntOp.subi (BitVec.ofNat 32 r.val) (BitVec.ofNat 32 k.val)) (BitVec.ofNat 32 (256 * e))).toInt = 256 * (e : ℤ) + r.val - k.val := by
  have hr := r.isLt; have hk := k.isLt
  show (BitVec.ofNat 32 r.val - BitVec.ofNat 32 k.val + BitVec.ofNat 32 (256 * e)).toInt = _
  simp only [BitVec.toInt_eq_toNat_cond, BitVec.toNat_add, BitVec.toNat_sub, BitVec.toNat_ofNat]
  split <;> omega

/-- It is not negative exactly where the key is not after the query. -/
theorem dist_ge (e : ℕ) (he : e < 8) (r k : Fin 256) :
    IntOp.cmpi CmpIPredicate.sge (IntOp.addi (IntOp.subi (BitVec.ofNat 32 r.val) (BitVec.ofNat 32 k.val)) (BitVec.ofNat 32 (256 * e))) 0#32
      = if k.val ≤ 256 * e + r.val then 1#1 else 0#1 := by
  have h := dist_word e he r k
  generalize IntOp.addi (IntOp.subi (BitVec.ofNat 32 r.val) (BitVec.ofNat 32 k.val)) (BitVec.ofNat 32 (256 * e)) = x at h
  show BitVec.ofBool ((0#32).sle x) = _
  rw [BitVec.sle_eq_decide, h, BitVec.toInt_zero]
  by_cases hk : k.val ≤ 256 * e + r.val
  · rw [if_pos hk, decide_eq_true (by omega)]; rfl
  · rw [if_neg hk, decide_eq_false (by omega)]; rfl

/-- A trip's block lies its number of blocks before the query block. -/
theorem gap_word : ∀ a k : Fin 8, k ≤ a →
    Scalar.muli (Scalar.subi (BitVec.ofNat 32 a.val) (Scf.iv 0#32 1#32 k.val)) 256#32 = BitVec.ofNat 32 (256 * (a.val - k.val)) := by decide +kernel

/-- The diagonal block lies none before it. -/
theorem here_word : ∀ a : Fin 8, Scalar.muli (Scalar.subi (BitVec.ofNat 32 a.val) (BitVec.ofNat 32 a.val)) 256#32 = BitVec.ofNat 32 (256 * 0) := by decide +kernel

/-- A score at a row and a column. -/
theorem scores_at (q : FVec Ideal S256x128 .bf16) (kb : Vec Ideal S256x128 .f32) (a : EReal) (e : ℕ) (he : e < 8) (r k : Fin 256) :
    scores q kb a (BitVec.ofNat 32 (256 * e)) (ix2 r k)
      = (∑ d : Fin 128, q (ix2 r d) * kb (ix2 k d)) + (0 - a) * (((256 * (e : ℤ) + r.val - k.val : ℤ) : ℝ) : EReal) := by
  rw [← dist_word e he r k]
  pointwise [scores, dist]
  rfl

/-- The mask at a row and a column. -/
theorem masked_at (s : FVec Ideal S256x256 .f32) (e : ℕ) (he : e < 8) (r k : Fin 256) :
    masked s (BitVec.ofNat 32 (256 * e)) (ix2 r k) = if k.val ≤ 256 * e + r.val then s (ix2 r k) else ⊥ := by
  pointwise [masked, dist]
  rw [dist_ge e he, Fox.ofBits_ninf]
  by_cases h : k.val ≤ 256 * e + r.val
  · rw [if_pos h, if_pos h]; rfl
  · rw [if_neg h, if_neg h]; rfl

/-- The updated normalizer at a row. -/
theorem upd_sum_at (s : FVec Ideal S256x256 .f32) (vb : Vec Ideal S256x256 .f32) (x : St Ideal) (r : Fin 256) :
    (upd s vb x).2.1 (ix2 r 0) = al s x.1 (ix2 r 0) * x.2.1 (ix2 r 0) + ∑ k : Fin 256, ex s x.1 (ix2 r k) := by
  pointwise [upd]

/-- The updated accumulator at a row and a column. -/
theorem upd_acc_at (s : FVec Ideal S256x256 .f32) (vb : Vec Ideal S256x256 .f32) (x : St Ideal) (r : Fin 256) (d : Fin 256) :
    (upd s vb x).2.2 (ix2 r d) = al s x.1 (ix2 r 0) * x.2.2 (ix2 r d) + ∑ k : Fin 256, ex s x.1 (ix2 r k) * vb (ix2 k d) := by
  pointwise [upd]

/-- A map's result at a row and a column. -/
theorem quot_at (x : St Ideal) (r : Fin 256) (d : Fin 256) :
    quot x (ix2 r d) = Ideal.div (x.2.2 (ix2 r d)) (x.2.1 (ix2 r 0)) := by
  pointwise [quot]

/-- The difference of the two maps at a row and a column. -/
theorem mixed_at (lam : FVec Ideal S1x1 .f32) (x y : St Ideal) (r : Fin 256) (d : Fin 256) :
    mixed lam x y (ix2 r d) = quot x (ix2 r d) - lam (ix2 0 0) * quot y (ix2 r d) := by
  pointwise [mixed]

/-- The norm at a row and a column. -/
theorem normed_at (o : FVec Ideal S256x256 .f32) (g : Vec Ideal S1x1x256 .f32) (r d : Fin 256) :
    normed o g (ix2 r d)
      = o (ix2 r d) * Ideal.rsqrt (Ideal.div (∑ k : Fin 256, o (ix2 r k) * o (ix2 r k)) (Ideal.ofBits .f32 0x43800000#32) + Ideal.ofBits .f32 0x3727C5AC#32)
          * g (ix3 0 0 d) * Ideal.ofBits .f32 0x3F4CCCCD#32 := by
  pointwise [normed]

/-- Lambda. -/
theorem lambda_at (v : Vec Ideal S4x128 .f32) :
    lambda v (ix2 0 0) = Ideal.exp (∑ d : Fin 128, v (ix2 0 d) * v (ix2 1 d)) - Ideal.exp (∑ d : Fin 128, v (ix2 2 d) * v (ix2 3 d))
      + Ideal.ofBits .f32 0x3E4CCCCD#32 := by
  pointwise [lambda]

end Cert.Proof.Diff

end
-- ==== Proof.Ends.lean ====
/-
  A softmax row in which a score is `⊤`, or every score is `⊥`: every exponential is zero, so that the result is `⊥`, computed
  block by block or at once.
-/
module

public import proofs.«01_k».proof.Proof.Softmax

@[expose] public section

noncomputable section

namespace Cert.Proof.Softmax

open Idealize.ShloMosaic
open scoped BigOperators

variable {D : Type*}

/-- The row of scores has a real entry and none that is `⊤`. -/
def Fine (s : ℕ → EReal) (n : ℕ) : Prop := (∀ κ < n, s κ ≠ ⊤) ∧ ∃ κ < n, ∃ r : ℝ, s κ = r

open scoped Classical in
/-- The weighted mean of such a row, `⊥` for any other. -/
def outE (s : ℕ → EReal) (v : ℕ → D → EReal) (n : ℕ) (d : D) : EReal := if Fine s n then out s v n d else ⊥

/-- Less `⊤` every score has the exponential zero. -/
theorem exp_sub_top (x : EReal) : Ideal.exp (x - ⊤) = 0 := by
  rw [EReal.sub_top, Ideal.exp_bot]

/-- The state after the first `n` keys: `Good` while no score is `⊤`, and zero from then on. -/
def GoodE (s : ℕ → EReal) (v : ℕ → D → EReal) (n : ℕ) (m l : EReal) (a : D → EReal) : Prop :=
  ((∃ κ < n, s κ = ⊤) ∧ m = ⊤ ∧ l = 0 ∧ ∀ d, a d = 0) ∨ ((∀ κ < n, s κ ≠ ⊤) ∧ Good s v n m l a)

/-- One block of `N` keys, whatever their scores. -/
theorem goodE_step {s : ℕ → EReal} {v : ℕ → D → EReal} {n N : ℕ} {m l : EReal} {a : D → EReal} (h : GoodE s v n m l a)
    {t : Fin N → EReal} {w : Fin N → D → EReal}
    (hts : ∀ k : Fin N, t k = s (n + k.val)) (hw : ∀ (k : Fin N) d, w k d = v (n + k.val) d) :
    GoodE s v (n + N) (max m (Finset.univ.fold max ⊥ t)) (Ideal.exp (m - max m (Finset.univ.fold max ⊥ t)) * l + ∑ k, Ideal.exp (t k - max m (Finset.univ.fold max ⊥ t)))
      (fun d => Ideal.exp (m - max m (Finset.univ.fold max ⊥ t)) * a d + ∑ k, Ideal.exp (t k - max m (Finset.univ.fold max ⊥ t)) * w k d) := by
  rcases h with ⟨⟨κ, hκ, e⟩, rfl, rfl, ha⟩ | ⟨hn, g⟩
  · refine .inl ⟨⟨κ, by omega, e⟩, ?_, ?_, fun d => ?_⟩
    · exact max_eq_left le_top
    · simp [exp_sub_top]
    · simp [exp_sub_top]
  · by_cases ht : ∃ k, t k = ⊤
    · obtain ⟨k, hk⟩ := ht
      have hx : Finset.univ.fold max ⊥ t = ⊤ := top_le_iff.mp (by rw [Finset.le_fold_max]; exact .inr ⟨k, Finset.mem_univ _, hk.ge⟩)
      refine .inl ⟨⟨n + k.val, by have := k.isLt; omega, by rw [← hts, hk]⟩, ?_, ?_, fun d => ?_⟩
      · rw [hx]; exact max_eq_right le_top
      · simp [hx, exp_sub_top]
      · simp [hx, exp_sub_top]
    · have ht' : ∀ k, t k ≠ ⊤ := fun k hk => ht ⟨k, hk⟩
      refine .inr ⟨fun κ hκ => ?_, good_step g (fold_max_ne_top Finset.univ (b := ⊥) (by simp) fun k _ => ht' k) ht' hts hw⟩
      by_cases hκn : κ < n
      · exact hn κ hκn
      · have := ht' ⟨κ - n, by omega⟩
        rwa [hts, show n + (κ - n) = κ by omega] at this

/-- Zero by zero is `⊥`. -/
theorem div_zero_zero : Ideal.div 0 0 = ⊥ := by
  simp [Ideal.div]

/-- A score that is neither `⊤` nor real is `⊥`. -/
theorem bot_of_not_fine {s : ℕ → EReal} {n : ℕ} (hn : ∀ κ < n, s κ ≠ ⊤) (hf : ¬ Fine s n) : ∀ κ < n, s κ = ⊥ := fun κ hκ => by
  induction h : s κ using EReal.rec with
  | bot => rfl
  | top => exact absurd h (hn κ hκ)
  | coe r => exact absurd ⟨hn, κ, hκ, r, h⟩ hf

/-- The blockwise result. -/
theorem goodE_out {s : ℕ → EReal} {v : ℕ → D → EReal} {n : ℕ} {m l : EReal} {a : D → EReal} (h : GoodE s v n m l a) (d : D) :
    Ideal.div (a d) l = outE s v n d := by
  unfold outE
  rcases h with ⟨⟨κ, hκ, e⟩, -, rfl, ha⟩ | ⟨hn, g⟩
  · rw [if_neg (fun hf : Fine s n => hf.1 κ hκ e), ha, div_zero_zero]
  · by_cases hf : Fine s n
    · obtain ⟨-, κ, hκ, r, hr⟩ := id hf
      rw [if_pos hf, good_out g hκ hr]
    · have hb := bot_of_not_fine hn hf
      obtain ⟨μ, -, rfl, ha⟩ := g
      have hw : ∀ κ ∈ Finset.range n, wt (s κ) = 0 := fun κ hκ => by rw [hb κ (Finset.mem_range.mp hκ), wt_bot]
      rw [if_neg hf, ha, Finset.sum_eq_zero hw,
        Finset.sum_eq_zero (fun κ hκ => by rw [hw κ hκ, EReal.coe_zero, zero_mul]), mul_zero, mul_zero, EReal.coe_zero, div_zero_zero]

/-- Masked keys past the `n`-th change nothing. -/
theorem outE_masked {s : ℕ → EReal} (v : ℕ → D → EReal) {n N : ℕ} (hn : n ≤ N) (hz : ∀ κ, n ≤ κ → κ < N → s κ = ⊥) (d : D) :
    outE s v N d = outE s v n d := by
  have e : Fine s N ↔ Fine s n := by
    constructor
    · rintro ⟨h1, κ, hκ, r, hr⟩
      refine ⟨fun κ h => h1 κ (by omega), κ, ?_, r, hr⟩
      by_contra hc
      rw [hz κ (by omega) hκ] at hr
      exact EReal.coe_ne_bot r hr.symm
    · rintro ⟨h1, κ, hκ, r, hr⟩
      refine ⟨fun κ' h => ?_, κ, by omega, r, hr⟩
      by_cases hc : κ' < n
      · exact h1 κ' hc
      · rw [hz κ' (by omega) h]; exact bot_ne_top
  unfold outE
  by_cases hf : Fine s n
  · rw [if_pos hf, if_pos (e.mpr hf), out_masked v hn hz]
  · rw [if_neg hf, if_neg (fun h => hf (e.mp h))]

/-- The maximum of a row that has a real entry and none that is `⊤` is real. -/
theorem fine_max {s : ℕ → EReal} {n : ℕ} (hf : Fine s n) : ∃ μ : ℝ, (Finset.univ.fold max ⊥ fun k : Fin n => s k.val) = μ := by
  obtain ⟨hs, κ, hκ, x, hx⟩ := hf
  have ne := fold_max_ne_top Finset.univ (b := ⊥) (f := fun k : Fin n => s k.val) bot_ne_top fun k _ => hs k.val k.isLt
  have hle : (x : EReal) ≤ Finset.univ.fold max ⊥ fun k : Fin n => s k.val := by
    rw [Finset.le_fold_max]
    exact .inr ⟨⟨κ, hκ⟩, Finset.mem_univ _, by show (x : EReal) ≤ s κ; rw [hx]⟩
  obtain ⟨μ, hμ⟩ := max_coe x ne
  exact ⟨μ, by rw [← hμ, max_eq_right hle]⟩

/-- In any other row every exponential is zero … -/
theorem exp_not_fine {s : ℕ → EReal} {n : ℕ} (hf : ¬ Fine s n) (k : Fin n) : Ideal.exp (s k.val - Finset.univ.fold max ⊥ fun k : Fin n => s k.val) = 0 := by
  by_cases ht : ∃ κ < n, s κ = ⊤
  · obtain ⟨κ, hκ, e⟩ := ht
    have hx : (Finset.univ.fold max ⊥ fun k : Fin n => s k.val) = ⊤ :=
      top_le_iff.mp (by rw [Finset.le_fold_max]; exact .inr ⟨⟨κ, hκ⟩, Finset.mem_univ _, e.ge⟩)
    rw [hx, exp_sub_top]
  · have hb := bot_of_not_fine (fun κ hκ e => ht ⟨κ, hκ, e⟩) hf
    rw [hb k k.isLt, EReal.bot_sub, Ideal.exp_bot]

/-- … and every weight `⊥`. -/
theorem weight_not_fine {s : ℕ → EReal} {n : ℕ} (hf : ¬ Fine s n) (k : Fin n) :
    Ideal.div (Ideal.exp (s k.val - Finset.univ.fold max ⊥ fun k : Fin n => s k.val))
      (∑ j : Fin n, Ideal.exp (s j.val - Finset.univ.fold max ⊥ fun k : Fin n => s k.val)) = ⊥ := by
  rw [exp_not_fine hf, Finset.sum_eq_zero (fun j _ => exp_not_fine hf j), div_zero_zero]

/-- Zero, or an end of the line. -/
def End (x : EReal) : Prop := x = 0 ∨ x = ⊤ ∨ x = ⊥

/-- A sum of such is one … -/
theorem End.sum {ι : Type*} (S : Finset ι) {f : ι → EReal} (hf : ∀ i, End (f i)) : End (∑ i ∈ S, f i) := by
  classical
  induction S using Finset.induction_on with
  | empty => exact .inl (by simp)
  | insert i S hi ih =>
    rw [Finset.sum_insert hi]
    rcases hf i with h | h | h <;> rcases ih with h' | h' | h' <;> rw [h, h'] <;> simp [End]

/-- … and an end times a real number too. -/
theorem End.mul_coe {c : EReal} (hc : c = ⊤ ∨ c = ⊥) (x : ℝ) : End (c * x) := by
  rcases lt_trichotomy x 0 with h | h | h
  · rcases hc with rfl | rfl
    · exact .inr (.inr (EReal.top_mul_coe_of_neg h))
    · exact .inr (.inl (EReal.bot_mul_coe_of_neg h))
  · exact .inl (by rw [h, EReal.coe_zero, mul_zero])
  · rcases hc with rfl | rfl
    · exact .inr (.inl (EReal.top_mul_coe_of_pos h))
    · exact .inr (.inr (EReal.bot_mul_coe_of_pos h))

/-- A square is not negative. -/
theorem mul_self_nonneg' (x : EReal) : 0 ≤ x * x := by
  induction x using EReal.rec with
  | bot => simp
  | top => simp
  | coe r => rw [← EReal.coe_mul]; exact EReal.coe_nonneg.mpr (mul_self_nonneg r)

/-- The reciprocal root of a mean square in which an end occurs is zero. -/
theorem rsqrt_end {ι : Type*} [Fintype ι] {o : ι → EReal} {i : ι} (hi : o i = ⊤ ∨ o i = ⊥) {c e : ℝ} (hc : 0 < c) :
    Ideal.rsqrt (Ideal.div (∑ k, o k * o k) (c : EReal) + (e : EReal)) = 0 := by
  have hs : ∑ k, o k * o k = ⊤ := by
    refine top_le_iff.mp (le_trans ?_ (Finset.single_le_sum (f := fun k => o k * o k) (fun k _ => mul_self_nonneg' _) (Finset.mem_univ i)))
    rcases hi with h | h <;> simp [h]
  rw [hs, Ideal.div_coe hc.ne', EReal.top_mul_coe_of_pos (by positivity), EReal.top_add_coe, Ideal.rsqrt_top]

end Cert.Proof.Softmax

end
-- ==== Proof.DiffMath.lean ====
/-
  What a grid point stores: for each head the norm of the difference of two softmax-weighted means.
-/
module

public import proofs.«01_k».proof.Proof.DiffPoint
public import proofs.«01_k».proof.Proof.FoxMath
public import proofs.«01_k».proof.Proof.Ends

@[expose] public section

set_option maxRecDepth 16384

noncomputable section

namespace Cert.Proof.Diff

open Idealize.ShloMosaic Idealize.ShloMosaic.TcCoe Idealize.SL.Sem
open Cert.DiffIdeal Cert.DiffIdeal.Gen Cert.Proof.Softmax
open Cert.Proof.Fox (mx ex al scaled row row_eq lane scale mx_at ex_at al_at scaled_at)
open scoped BigOperators

/-- Head `h`'s column `d` of the values among the 1024. -/
def vlane (h : Fin 4) (d : Fin 256) : Fin 1024 := ⟨256 * h.val + d.val, by have := h.isLt; have := d.isLt; omega⟩

/-- What is added to a score: less the slope `a` times the distance of query `t` and key `κ`. -/
def bias (a : EReal) (t κ : ℕ) : EReal := (0 - a) * ((((t : ℤ) - κ : ℤ) : ℝ) : EReal)

/-- Lambda, from four vectors. -/
def lamOf (f : Fin 4 → Fin 128 → EReal) : EReal :=
  Ideal.exp (∑ d : Fin 128, f 0 d * f 1 d) - Ideal.exp (∑ d : Fin 128, f 2 d * f 3 d) + Ideal.ofBits .f32 0x3E4CCCCD#32

/-- The root-mean-square norm of a row, with gains and the constant factor. -/
def normOf (o g : Fin 256 → EReal) (d : Fin 256) : EReal :=
  o d * Ideal.rsqrt (Ideal.div (∑ k : Fin 256, o k * o k) (Ideal.ofBits .f32 0x43800000#32) + Ideal.ofBits .f32 0x3727C5AC#32)
    * g d * Ideal.ofBits .f32 0x3F4CCCCD#32

/-- The difference of the two maps' weighted means. -/
def mixOf (lam : EReal) (s1 s2 : ℕ → EReal) (v : ℕ → Fin 256 → EReal) (d : Fin 256) : EReal := outE s1 v 2048 d - lam * outE s2 v 2048 d

section Raw

variable (x0 : Vec Ideal S4 .f32) (x2 : Vec Ideal S256x1024 .f32) (x3 : Vec Ideal S2048x1024 .f32) (x4 : Vec Ideal S2048x1024 .f32)

/-- The score of row `r` of query block `b` and key `κ` in map `n`, mask apart. -/
def raw (b : ℕ) (n : Fin 8) (r : Fin 256) (κ : ℕ) : EReal :=
  (∑ d : Fin 128, x2 (ix2 r (lane n d)) * scale * x3 (ix2 (row κ) (lane n d))) + bias (x0 (ix1 (headOf n))) (256 * b + r.val) κ

/-- The score, `⊥` at the keys after the query. -/
def score (b : ℕ) (n : Fin 8) (r : Fin 256) (κ : ℕ) : EReal := if κ ≤ 256 * b + r.val then raw x0 x2 x3 b n r κ else ⊥

/-- The values, by key. -/
def value (h : Fin 4) (κ : ℕ) (d : Fin 256) : EReal := x4 (ix2 (row κ) (vlane h d))

end Raw

section Loads

variable (c : Dev nD) (i : grid0.Coords) (arg3 : Memref sig .tc .smem S4 .f32) (harg3 : arg3.IsWhole)
  (arg4 : Memref sig .tc .vmem S4x128 .f32) (harg4 : arg4.IsWhole) (arg5 : Memref sig .tc .vmem S256x1024 .f32) (harg5 : arg5.IsWhole)
  (arg6 : Memref sig .tc .vmem S2048x1024 .f32) (harg6 : arg6.IsWhole) (arg7 : Memref sig .tc .vmem S2048x1024 .f32) (harg7 : arg7.IsWhole)
  (arg8 : Memref sig .tc .vmem S4x1x256 .f32) (harg8 : arg8.IsWhole)
  (x0 : Vec Ideal S4 .f32) (x1 : Vec Ideal S4x128 .f32) (x2 : Vec Ideal S256x1024 .f32) (x3 : Vec Ideal S2048x1024 .f32) (x4 : Vec Ideal S2048x1024 .f32)
  (x5 : Vec Ideal S4x1x256 .f32)

/-- The queries at a row and a column. -/
theorem qld_at (n : Fin 8) (r : Fin 256) (d : Fin 128) : qld arg5 harg5 x2 n (ix2 r d) = x2 (ix2 r (lane n d)) := by
  rw [qld, View.readAt_eq_ld, harg5.read_unread]
  pointwise [View.ld]
  rfl

/-- The keys of a block at a row and a column. -/
theorem kld_at {k : ℕ} (hk : k < 8) (n : Fin 8) (r : Fin 256) (d : Fin 128) :
    kld arg6 harg6 x3 hk n (ix2 r d) = x3 (ix2 (row (256 * k + r.val)) (lane n d)) := by
  rw [kld, View.readAt_eq_ld, harg6.read_unread]
  pointwise [View.ld]
  rw [row_eq (by have := r.isLt; omega)]; rfl

/-- The values of a block at a row and a column. -/
theorem vld_at {k : ℕ} (hk : k < 8) (h : Fin 4) (r : Fin 256) (d : Fin 256) :
    vld arg7 harg7 x4 hk h (ix2 r d) = x4 (ix2 (row (256 * k + r.val)) (vlane h d)) := by
  rw [vld, View.readAt_eq_ld, harg7.read_unread]
  pointwise [View.ld]
  rw [row_eq (by have := r.isLt; omega)]; rfl

/-- A head's gains. -/
theorem gld_at (h : Fin 4) (d : Fin 256) : gld arg8 harg8 x5 h (ix3 0 0 d) = x5 (ix3 h 0 d) := by
  rw [gld, View.readAt_eq_ld, harg8.read_unread]
  pointwise [View.ld]

/-- The lambda vectors. -/
theorem lamld_at (a : Fin 4) (d : Fin 128) : lamld arg4 harg4 x1 (ix2 a d) = x1 (ix2 a d) := by
  rw [lamld, View.readAt_eq_ld, harg4.read_unread]
  pointwise [View.ld]

/-- An entry of the slopes, loaded at an offset the program computes. -/
theorem slope_word (h : Fin 4) (ho : ∀ a, k0_off1 i (BitVec.ofNat 32 h.val) a + S1.size a ≤ S4.size a) (hp : 0 < S1.numel) :
    View.readAt (Elt Ideal) arg3.view (Rect.unit (s := S4) (k0_off1 i (BitVec.ofNat 32 h.val)) S1.size ho).toLoadRect (harg3.unread x0) (Shape.Idx.first (s := S1) hp)
      = x0 (ix1 h) := by
  have h1 : (i 1).val < 1 := (i 1).isLt
  have h2 : (Shape.Idx.first (s := S1) hp 0).val < 1 := (Shape.Idx.first (s := S1) hp 0).isLt
  rw [View.readAt_eq_ld, harg3.read_unread]
  show x0 _ = _
  congr 1
  funext a
  match a with
  | ⟨0, _⟩ =>
    refine Fin.ext ?_
    show k0_off1 i (BitVec.ofNat 32 h.val) 0 + 1 * (Shape.Idx.first (s := S1) hp 0).val = h.val
    rw [k0_off1_eq]
    show 4 * (i 1).val + h.val + 1 * (Shape.Idx.first (s := S1) hp 0).val = h.val
    omega

/-- A head's slope. -/
theorem slope_at (h : Fin 4) : slope c i arg3 harg3 x0 h = x0 (ix1 h) :=
  match h with
  | 0 => slope_word i arg3 harg3 x0 0 _ _
  | 1 => slope_word i arg3 harg3 x0 1 _ _
  | 2 => slope_word i arg3 harg3 x0 2 _ _
  | 3 => slope_word i arg3 harg3 x0 3 _ _

/-- The scores of a block `e` blocks before the query block, at a row and a column. -/
theorem tile_at {k : ℕ} (hk : k < 8) (e : ℕ) (he : (i 2).val = k + e) (n : Fin 8) (r j : Fin 256) :
    scores (q arg5 harg5 x2 n) (kld arg6 harg6 x3 hk n) (slope c i arg3 harg3 x0 (headOf n)) (BitVec.ofNat 32 (256 * e)) (ix2 r j)
      = raw x0 x2 x3 (i 2).val n r (256 * k + j.val) := by
  have hi := qi_lt i
  rw [scores_at _ _ _ e (by omega), slope_at, raw, bias]
  congr 1
  · exact Finset.sum_congr rfl fun d _ => by rw [q, scaled_at, qld_at, kld_at]
  · have : (256 * (e : ℤ) + r.val - j.val) = (((256 * (i 2).val + r.val : ℕ) : ℤ) - ((256 * k + j.val : ℕ) : ℤ)) := by
      rw [he]; push_cast; ring
    rw [this]

end Loads

/-- A block of 256 keys taken into a good state gives a good state. -/
theorem good_upd {s : ℕ → EReal} {v : ℕ → Fin 256 → EReal} {n : ℕ} {x : St Ideal} {r : Fin 256}
    (g : GoodE s v n (x.1 (ix2 r 0)) (x.2.1 (ix2 r 0)) fun d => x.2.2 (ix2 r d)) (S : FVec Ideal S256x256 .f32) (vb : Vec Ideal S256x256 .f32)
    (hS : ∀ k : Fin 256, S (ix2 r k) = s (n + k.val)) (hv : ∀ (k : Fin 256) d, vb (ix2 k d) = v (n + k.val) d) :
    GoodE s v (n + 256) ((upd S vb x).1 (ix2 r 0)) ((upd S vb x).2.1 (ix2 r 0)) fun d => (upd S vb x).2.2 (ix2 r d) := by
  have key := goodE_step g (t := fun k : Fin 256 => S (ix2 r k)) hS hv
  have e1 : (upd S vb x).1 (ix2 r 0) = max (x.1 (ix2 r 0)) (Finset.univ.fold max ⊥ fun k => S (ix2 r k)) := mx_at S x.1 r
  rw [e1, upd_sum_at]
  simp only [upd_acc_at, al_at, ex_at, mx_at]
  exact key

/-- The state before the first block is good: no key is in it. -/
theorem good_start (s : ℕ → EReal) (v : ℕ → Fin 256 → EReal) (r : Fin 256) :
    GoodE s v 0 ((start (F := Ideal)).1 (ix2 r 0)) ((start (F := Ideal)).2.1 (ix2 r 0)) fun d => (start (F := Ideal)).2.2 (ix2 r d) := by
  have hm : ∃ μ : ℝ, (start (F := Ideal)).1 (ix2 r 0) = μ := by
    pointwise [start]
    simp [Ideal.ofBits, Ideal.ieee]
    exact ⟨-((13234890 : ℝ) * 2 ^ 76), by push_cast; rfl⟩
  have hl : (start (F := Ideal)).2.1 (ix2 r 0) = 0 := by
    pointwise [start]
  have ha : (fun d => (start (F := Ideal)).2.2 (ix2 r d)) = fun _ => 0 := by
    funext d
    pointwise [start]
  obtain ⟨μ, hμ⟩ := hm
  rw [hμ, hl, ha]
  exact .inr ⟨fun κ hκ => absurd hκ (Nat.not_lt_zero κ), good_zero s v μ⟩

section Result

variable (c : Dev nD) (i : grid0.Coords) (arg3 : Memref sig .tc .smem S4 .f32) (harg3 : arg3.IsWhole)
  (arg4 : Memref sig .tc .vmem S4x128 .f32) (harg4 : arg4.IsWhole) (arg5 : Memref sig .tc .vmem S256x1024 .f32) (harg5 : arg5.IsWhole)
  (arg6 : Memref sig .tc .vmem S2048x1024 .f32) (harg6 : arg6.IsWhole) (arg7 : Memref sig .tc .vmem S2048x1024 .f32) (harg7 : arg7.IsWhole)
  (arg8 : Memref sig .tc .vmem S4x1x256 .f32) (harg8 : arg8.IsWhole) (arg9 : Memref sig .tc .vmem S256x1024 .f32) (harg9 : arg9.IsWhole)
  (x0 : Vec Ideal S4 .f32) (x1 : Vec Ideal S4x128 .f32) (x2 : Vec Ideal S256x1024 .f32) (x3 : Vec Ideal S2048x1024 .f32) (x4 : Vec Ideal S2048x1024 .f32)
  (x5 : Vec Ideal S4x1x256 .f32)

/-- After `p` trips each map's state is good for the first `256·p` keys. -/
theorem good_run (n : Fin 8) (r : Fin 256) : ∀ p ≤ (i 2).val,
    let x := pick (run c i arg3 harg3 arg4 harg4 arg5 harg5 arg6 harg6 arg7 harg7 arg8 harg8 arg9 harg9 x0 x2 x3 x4 p) n
    GoodE (score x0 x2 x3 (i 2).val n r) (value x4 (headOf n)) (256 * p) (x.1 (ix2 r 0)) (x.2.1 (ix2 r 0)) fun d => x.2.2 (ix2 r d) := by
  intro p
  induction p with
  | zero =>
    intro _
    rw [run_zero]
    exact good_start _ _ r
  | succ p ih =>
    intro hn
    have hi := qi_lt i
    have hk : p < (k0_t1_loop i).trips := by rw [show (k0_t1_loop i).trips = (i 2).val from trips1 i]; omega
    have e := run_succ c i arg3 harg3 arg4 harg4 arg5 harg5 arg6 harg6 arg7 harg7 arg8 harg8 arg9 harg9 x0 x2 x3 x4 ⟨p, hk⟩ n
    simp only at e
    rw [e, show gap i p = BitVec.ofNat 32 (256 * ((i 2).val - p)) from gap_word (i 2) ⟨p, by omega⟩ (by show p ≤ (i 2).val; omega)]
    refine good_upd (ih (by omega)) _ _ (fun k => ?_) (fun k d => ?_)
    · rw [tile_at c i arg3 harg3 arg5 harg5 arg6 harg6 x0 x2 x3 _ _ (by omega), score, if_pos (by have := k.isLt; omega)]
    · rw [vld_at, value]

/-- In the end each map's quotient is the weighted mean of the values over all keys, those after the query weighing nothing. -/
theorem full_at (n : Fin 8) (r d : Fin 256) :
    quot (full c i arg3 harg3 arg4 harg4 arg5 harg5 arg6 harg6 arg7 harg7 arg8 harg8 arg9 harg9 x0 x2 x3 x4 n) (ix2 r d)
      = outE (score x0 x2 x3 (i 2).val n r) (value x4 (headOf n)) 2048 d := by
  have hb := qi_lt i
  have hr := r.isLt
  rw [quot_at, full, show here i = BitVec.ofNat 32 (256 * 0) from here_word (i 2)]
  have g := good_upd (good_run c i arg3 harg3 arg4 harg4 arg5 harg5 arg6 harg6 arg7 harg7 arg8 harg8 arg9 harg9 x0 x2 x3 x4 n r (i 2).val le_rfl)
    (masked (scores (q arg5 harg5 x2 n) (kld arg6 harg6 x3 (qi_lt i) n) (slope c i arg3 harg3 x0 (headOf n)) (BitVec.ofNat 32 (256 * 0))) (BitVec.ofNat 32 (256 * 0)))
    (vld arg7 harg7 x4 (qi_lt i) (headOf n))
    (fun k => by
      rw [masked_at _ 0 (by omega), tile_at c i arg3 harg3 arg5 harg5 arg6 harg6 x0 x2 x3 _ 0 (by omega), score]
      by_cases hk : k.val ≤ r.val
      · rw [if_pos (by omega), if_pos (by omega)]
      · rw [if_neg (by omega), if_neg (by omega)])
    (fun k d => by rw [vld_at, value])
  rw [goodE_out g]
  exact (outE_masked _ (by omega) (fun κ h1 _ => by rw [score, if_neg (by omega)]) d).symm

/-- A head's maps are of that head. -/
theorem head_fst (h : Fin 4) : headOf (fst h) = h := match h with
  | 0 | 1 | 2 | 3 => rfl

@[inherit_doc head_fst] theorem head_snd (h : Fin 4) : headOf (snd h) = h := match h with
  | 0 | 1 | 2 | 3 => rfl

/-- What is stored for head `h`, at row `r` and column `d`. -/
theorem piece_at (h : Fin 4) (r : Fin 256) (d : Fin 256) :
    piece c i arg3 harg3 arg4 harg4 arg5 harg5 arg6 harg6 arg7 harg7 arg8 harg8 arg9 harg9 x0 x1 x2 x3 x4 x5 h (ix2 r d)
      = normOf (mixOf (lamOf fun a d => x1 (ix2 a d)) (score x0 x2 x3 (i 2).val (fst h) r) (score x0 x2 x3 (i 2).val (snd h) r) (value x4 h))
          (fun d => x5 (ix3 h 0 d)) d := by
  rw [piece_eq, normed_at, gld_at]
  simp only [mixed_at, lambda_at, lamld_at, full_at c i arg3 harg3 arg4 harg4 arg5 harg5 arg6 harg6 arg7 harg7 arg8 harg8 arg9 harg9 x0 x2 x3 x4, head_fst, head_snd]
  rfl

end Result

end Cert.Proof.Diff

end
-- ==== Proof.DiffArray.lean ====
/-
  From the blocks to the array: the grid points store parts of one array, and cover it.
-/
module

public import proofs.«01_k».proof.Proof.DiffMath
public import proofs.«01_k».proof.Proof.FoxArray

@[expose] public section

set_option maxRecDepth 16384

noncomputable section

namespace Cert.Proof.Diff

open Idealize.ShloMosaic Idealize.ShloMosaic.TcCoe Idealize.SL.Sem
open Cert.DiffIdeal Cert.DiffIdeal.Gen Cert.DiffIdeal.Value Cert.Proof.Softmax
open Cert.Proof.Fox (row row_eq lane scale pos)
open scoped BigOperators

section Entry

variable (A0 A1 A2 : S8192x1024.Idx → EReal) (A3 : S4.Idx → EReal) (A4 : S4x128.Idx → EReal) (A5 : S4x256.Idx → EReal)

/-- The score of query `t` and key `κ` of sequence `b` in map `n`, mask apart. -/
def rawOf (b : Fin 4) (n : Fin 8) (t : Fin 2048) (κ : ℕ) : EReal :=
  (∑ d : Fin 128, A0 (ix2 (pos b t) (lane n d)) * scale * A1 (ix2 (pos b (row κ)) (lane n d))) + bias (A3 (ix1 (headOf n))) t.val κ

/-- The score, `⊥` at the keys after the query. -/
def scoreOf (b : Fin 4) (n : Fin 8) (t : Fin 2048) (κ : ℕ) : EReal := if κ ≤ t.val then rawOf A0 A1 A3 b n t κ else ⊥

/-- The values of sequence `b` in head `h`, by key. -/
def valueOf (b : Fin 4) (h : Fin 4) (κ : ℕ) (d : Fin 256) : EReal := A2 (ix2 (pos b (row κ)) (vlane h d))

/-- The difference of a head's two maps' weighted means. -/
def mean (b : Fin 4) (h : Fin 4) (t : Fin 2048) : Fin 256 → EReal :=
  mixOf (lamOf fun a d => A4 (ix2 a d)) (scoreOf A0 A1 A3 b (fst h) t) (scoreOf A0 A1 A3 b (snd h) t) (valueOf A2 b h)

/-- The attention's result: of sequence `b`, at query `t`, in column `d` of head `h`. -/
def attn (b : Fin 4) (h : Fin 4) (t : Fin 2048) (d : Fin 256) : EReal := normOf (mean A0 A1 A2 A3 A4 b h t) (fun d => A5 (ix2 h d)) d

/-- The same as an array: row and column split into sequence, query, head and column. -/
def attnArr (j : S8192x1024.Idx) : EReal :=
  attn A0 A1 A2 A3 A4 A5 ⟨(j 0).val / 2048, by have : (j 0).val < 8192 := (j 0).isLt; omega⟩
    ⟨(j 1).val / 256, by have : (j 1).val < 1024 := (j 1).isLt; omega⟩
    ⟨(j 0).val % 2048, Nat.mod_lt _ (by decide)⟩ ⟨(j 1).val % 256, Nat.mod_lt _ (by decide)⟩

/-- The array at a row and a column given by their parts. -/
theorem attnArr_at (b : Fin 4) (h : Fin 4) (t : Fin 2048) (d : Fin 256) :
    attnArr A0 A1 A2 A3 A4 A5 (ix2 (pos b t) (vlane h d)) = attn A0 A1 A2 A3 A4 A5 b h t d := by
  have := t.isLt; have := d.isLt
  unfold attnArr
  congr 1
  · exact Fin.ext (by show (2048 * b.val + t.val) / 2048 = b.val; omega)
  · exact Fin.ext (by show (256 * h.val + d.val) / 256 = h.val; omega)
  · exact Fin.ext (by show (2048 * b.val + t.val) % 2048 = t.val; omega)
  · exact Fin.ext (by show (256 * h.val + d.val) % 256 = d.val; omega)

end Entry

variable (m : (ℓ : Loc nD τ sig) → Buf (Elt Ideal) ℓ)

/-- The gains before the call, an axis put in. -/
theorem V0 (c : Dev nD) : (V m c main_v0 : S4x1x256.Idx → EReal) = shapeCast S4x1x256 (m ((c : Thread nD τ).loc main_arg5)) shapeCasts_S4x256_S4x1x256 := by
  unfold V
  simp only [hostOps0, StableHlo.TRef.unary, StableHlo.TRef.binary, StableHlo.TRef.toBuf, StableHlo.TRef.ofBuf, cast_eq]
  after_results_simp
  rfl

/-- The axis put in leaves the entries. -/
theorem cast_gain (x : Vec Ideal S4x256 .f32) (h : Fin 4) (d : Fin 256) :
    shapeCast S4x1x256 x shapeCasts_S4x256_S4x1x256 (ix3 h 0 d) = x (ix2 h d) := by
  pointwise []

/-- Where the windows' blocks lie. -/
theorem idx : ∀ t : Fin grid0.N,
    win0_0.index t = ![0] ∧ win0_1.index t = ![0, 0]
    ∧ win0_2.index t = ![8 * (grid0.coords t 0).val + (grid0.coords t 2).val, 0] ∧ win0_3.index t = ![(grid0.coords t 0).val, 0]
    ∧ win0_4.index t = ![(grid0.coords t 0).val, 0] ∧ win0_5.index t = ![0, 0, 0]
    ∧ win0_6.index t = ![8 * (grid0.coords t 0).val + (grid0.coords t 2).val, 0] := by
  decide +kernel

section Blocks

variable (c : Dev nD) (t : Fin cfg0.N)

/-- The sequence of a grid point. -/
abbrev seqOf : Fin 4 := (grid0.coords t 0)

/-- The query at row `r` of a grid point's block. -/
def qry (r : Fin 256) : Fin 2048 := ⟨256 * (grid0.coords t 2).val + r.val, by have := qi_lt (grid0.coords t); have := r.isLt; omega⟩

/-- The slopes. -/
theorem blk0 (h : Fin 4) : iblk m c 0 t (ix1 h) = m ((c : Thread nD τ).loc main_arg3) (ix1 h) := by
  obtain ⟨e0, e1, e2, e3, e4, e5, e6⟩ := idx t
  blk_ext [iblk, V, e0]

/-- The lambda vectors. -/
theorem blk1 (r : Fin 4) (l : Fin 128) : iblk m c 1 t (ix2 r l) = m ((c : Thread nD τ).loc main_arg4) (ix2 r l) := by
  obtain ⟨e0, e1, e2, e3, e4, e5, e6⟩ := idx t
  blk_ext [iblk, V, e1]

/-- The block of queries. -/
theorem blk2 (r : Fin 256) (l : Fin 1024) : iblk m c 2 t (ix2 r l) = m ((c : Thread nD τ).loc main_arg0) (ix2 (pos (seqOf t) (qry t r)) l) := by
  obtain ⟨e0, e1, e2, e3, e4, e5, e6⟩ := idx t
  blk_ext [iblk, V, e2]
  show _ = 2048 * (grid0.coords t 0).val + (256 * (grid0.coords t 2).val + r.val); omega

/-- The block of keys. -/
theorem blk3 (r : Fin 2048) (l : Fin 1024) : iblk m c 3 t (ix2 r l) = m ((c : Thread nD τ).loc main_arg1) (ix2 (pos (seqOf t) r) l) := by
  obtain ⟨e0, e1, e2, e3, e4, e5, e6⟩ := idx t
  blk_ext [iblk, V, e3]
  show _ = 2048 * (grid0.coords t 0).val + r.val; omega

/-- The block of values. -/
theorem blk4 (r : Fin 2048) (l : Fin 1024) : iblk m c 4 t (ix2 r l) = m ((c : Thread nD τ).loc main_arg2) (ix2 (pos (seqOf t) r) l) := by
  obtain ⟨e0, e1, e2, e3, e4, e5, e6⟩ := idx t
  blk_ext [iblk, V, e4]
  show _ = 2048 * (grid0.coords t 0).val + r.val; omega

/-- The gains. -/
theorem blk5 (h : Fin 4) (d : Fin 256) : iblk m c 5 t (ix3 h 0 d) = m ((c : Thread nD τ).loc main_arg5) (ix2 h d) := by
  obtain ⟨e0, e1, e2, e3, e4, e5, e6⟩ := idx t
  have e : iblk m c 5 t (ix3 h 0 d) = (V m c main_v0 : S4x1x256.Idx → EReal) (ix3 h 0 d) := by
    blk_ext [iblk, e5]
  rw [e, V0, cast_gain]

end Blocks

section Stored

variable (c : Dev nD) (i : grid0.Coords) (arg3 : Memref sig .tc .smem S4 .f32) (harg3 : arg3.IsWhole)
  (arg4 : Memref sig .tc .vmem S4x128 .f32) (harg4 : arg4.IsWhole) (arg5 : Memref sig .tc .vmem S256x1024 .f32) (harg5 : arg5.IsWhole)
  (arg6 : Memref sig .tc .vmem S2048x1024 .f32) (harg6 : arg6.IsWhole) (arg7 : Memref sig .tc .vmem S2048x1024 .f32) (harg7 : arg7.IsWhole)
  (arg8 : Memref sig .tc .vmem S4x1x256 .f32) (harg8 : arg8.IsWhole) (arg9 : Memref sig .tc .vmem S256x1024 .f32) (harg9 : arg9.IsWhole)
  (x0 : Vec Ideal S4 .f32) (x1 : Vec Ideal S4x128 .f32) (x2 : Vec Ideal S256x1024 .f32) (x3 : Vec Ideal S2048x1024 .f32) (x4 : Vec Ideal S2048x1024 .f32)
  (x5 : Vec Ideal S4x1x256 .f32)

/-- What a grid point stores for head `h`, its blocks being parts of the arrays. -/
theorem piece_arr (A0 A1 A2 : S8192x1024.Idx → EReal) (A3 : S4.Idx → EReal) (A4 : S4x128.Idx → EReal) (A5 : S4x256.Idx → EReal) (b : Fin 4)
    (qr : Fin 256 → Fin 2048) (hq : ∀ r, (qr r).val = 256 * (i 2).val + r.val)
    (h0 : ∀ h, x0 (ix1 h) = A3 (ix1 h)) (h1 : ∀ r l, x1 (ix2 r l) = A4 (ix2 r l))
    (h2 : ∀ r l, x2 (ix2 r l) = A0 (ix2 (pos b (qr r)) l)) (h3 : ∀ r l, x3 (ix2 r l) = A1 (ix2 (pos b r) l))
    (h4 : ∀ r l, x4 (ix2 r l) = A2 (ix2 (pos b r) l)) (h5 : ∀ h d, x5 (ix3 h 0 d) = A5 (ix2 h d)) (h : Fin 4) (r : Fin 256) (d : Fin 256) :
    piece c i arg3 harg3 arg4 harg4 arg5 harg5 arg6 harg6 arg7 harg7 arg8 harg8 arg9 harg9 x0 x1 x2 x3 x4 x5 h (ix2 r d) = attn A0 A1 A2 A3 A4 A5 b h (qr r) d := by
  have e : ∀ (n : Fin 8) (r : Fin 256) (κ : ℕ), raw x0 x2 x3 (i 2).val n r κ = rawOf A0 A1 A3 b n (qr r) κ := fun n r κ => by
    unfold raw rawOf
    rw [h0, hq]
    congr 1
    exact Finset.sum_congr rfl fun d _ => by rw [h2, h3]
  have es : ∀ n : Fin 8, score x0 x2 x3 (i 2).val n r = scoreOf A0 A1 A3 b n (qr r) := fun n => funext fun κ => by unfold score scoreOf; rw [e, hq]
  have ev : value x4 h = valueOf A2 b h := funext fun κ => funext fun d => h4 _ _
  rw [piece_at c i arg3 harg3 arg4 harg4 arg5 harg5 arg6 harg6 arg7 harg7 arg8 harg8 arg9 harg9 x0 x1 x2 x3 x4 x5, es, es, ev, attn, mean]
  simp only [h1, h5]

/-- The heads' results side by side: head `h` in the columns from `256·h`. -/
def side (y : S256x1024.Idx) : EReal :=
  piece c i arg3 harg3 arg4 harg4 arg5 harg5 arg6 harg6 arg7 harg7 arg8 harg8 arg9 harg9 x0 x1 x2 x3 x4 x5
    ⟨(y 1).val / 256, by have : (y 1).val < 1024 := (y 1).isLt; omega⟩ (ix2 (y 0) ⟨(y 1).val % 256, Nat.mod_lt _ (by decide)⟩)

/-- A head's result is the part of them at its columns. -/
theorem side_piece (h : Fin 4) (x : S256x256.Idx) :
    piece c i arg3 harg3 arg4 harg4 arg5 harg5 arg6 harg6 arg7 harg7 arg8 harg8 arg9 harg9 x0 x1 x2 x3 x4 x5 h x
      = side c i arg3 harg3 arg4 harg4 arg5 harg5 arg6 harg6 arg7 harg7 arg8 harg8 arg9 harg9 x0 x1 x2 x3 x4 x5
          ((Rect.unit (s := S256x1024) ![0, 256 * h.val] S256x256.size (inb_out h)).emb x) := by
  have hx : (x 1).val < 256 := (x 1).isLt
  have e0 : (((Rect.unit (s := S256x1024) ![0, 256 * h.val] S256x256.size (inb_out h)).emb x) 0) = x 0 :=
    Fin.ext (by show 0 + 1 * (x 0).val = _; omega)
  have e1 : (((Rect.unit (s := S256x1024) ![0, 256 * h.val] S256x256.size (inb_out h)).emb x) 1).val = 256 * h.val + (x 1).val := by
    show 256 * h.val + 1 * (x 1).val = _; omega
  unfold side
  have eh : (⟨(((Rect.unit (s := S256x1024) ![0, 256 * h.val] S256x256.size (inb_out h)).emb x) 1).val / 256, by rw [e1]; omega⟩ : Fin 4) = h :=
    Fin.ext (by show _ / 256 = _; rw [e1]; omega)
  rw [eh]
  congr 1
  funext a
  match a with
  | ⟨0, _⟩ => exact e0.symm
  | ⟨1, _⟩ => exact Fin.ext (by show (x 1).val = _ % 256; rw [e1]; omega)

/-- The same at a row and a column of a head. -/
theorem side_at (h : Fin 4) (r : Fin 256) (d : Fin 256) :
    side c i arg3 harg3 arg4 harg4 arg5 harg5 arg6 harg6 arg7 harg7 arg8 harg8 arg9 harg9 x0 x1 x2 x3 x4 x5 (ix2 r (vlane h d))
      = piece c i arg3 harg3 arg4 harg4 arg5 harg5 arg6 harg6 arg7 harg7 arg8 harg8 arg9 harg9 x0 x1 x2 x3 x4 x5 h (ix2 r d) := by
  have := d.isLt
  unfold side
  congr 1
  · exact Fin.ext (by show (256 * h.val + d.val) / 256 = h.val; omega)
  · congr 1
    exact Fin.ext (by show (256 * h.val + d.val) % 256 = d.val; omega)

/-- What the body leaves is the heads' results side by side. -/
theorem stored : out0_A_6 c i arg3 harg3 arg4 harg4 arg5 harg5 arg6 harg6 arg7 harg7 arg8 harg8 arg9 harg9 x0 x1 x2 x3 x4 x5
    = side c i arg3 harg3 arg4 harg4 arg5 harg5 arg6 harg6 arg7 harg7 arg8 harg8 arg9 harg9 x0 x1 x2 x3 x4 x5 := by
  unfold out0_A_6
  rw [View.read_writes_eq_canon _ _ _ (cover0_A_6 c i arg3 harg3 arg4 harg4 arg5 harg5 arg6 harg6 arg7 harg7 arg8 harg8 arg9 harg9 x0 x1 x2 x3 x4 x5)]
  funext y
  refine View.canon_apply_of_pieces _ _ ?_ y (cover0_A_6 c i arg3 harg3 arg4 harg4 arg5 harg5 arg6 harg6 arg7 harg7 arg8 harg8 arg9 harg9 x0 x1 x2 x3 x4 x5 y)
  have key := side_piece c i arg3 harg3 arg4 harg4 arg5 harg5 arg6 harg6 arg7 harg7 arg8 harg8 arg9 harg9 x0 x1 x2 x3 x4 x5
  have all : View.PiecesOf (side c i arg3 harg3 arg4 harg4 arg5 harg5 arg6 harg6 arg7 harg7 arg8 harg8 arg9 harg9 x0 x1 x2 x3 x4 x5)
      (kernelRun0_A c i arg3 harg3 arg4 harg4 arg5 harg5 arg6 harg6 arg7 harg7 arg8 harg8 arg9 harg9 x0 x1 x2 x3 x4 x5).1 := by
    unfold kernelRun0_A
    exact ⟨key 3, key 2, key 1, key 0, trivial⟩
  exact View.PiecesOf.mem all

end Stored

/-- An index of the block, by row, head and column. -/
theorem split (y : S256x1024.Idx) : ∃ (r : Fin 256) (h : Fin 4) (d : Fin 256), y = ix2 r (vlane h d) := by
  have h1 : (y 1).val < 1024 := (y 1).isLt
  refine ⟨y 0, ⟨(y 1).val / 256, by omega⟩, ⟨(y 1).val % 256, Nat.mod_lt _ (by decide)⟩, ?_⟩
  funext a
  match a with
  | ⟨0, _⟩ => rfl
  | ⟨1, _⟩ => exact Fin.ext (by show (y 1).val = 256 * ((y 1).val / 256) + (y 1).val % 256; omega)

/-- Where an entry of a grid point's result lies in the array. -/
theorem emb_eq (t : Fin cfg0.N) (r : Fin 256) (l : Fin 1024) :
    ((cfg0.win 6).blk t).view.emb (ix2 r l) = ix2 (pos (seqOf t) (qry t r)) l := by
  obtain ⟨e0, e1, e2, e3, e4, e5, e6⟩ := idx t
  blk_ext [e6]
  show _ = 2048 * (grid0.coords t 0).val + (256 * (grid0.coords t 2).val + r.val); omega

/-- The result array. -/
theorem arr_eq (c : Dev nD) :
    (dats m 0 c).arrAt 6 cfg0.N = attnArr (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  unfold outsAt0
  rw [stored]
  obtain ⟨r, h, d, rfl⟩ := split y
  rw [emb_eq, attnArr_at]
  refine (side_at ..).trans ?_
  exact piece_arr c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) _ _ _ _ _ _
    _ _ _ _ _ _ (seqOf t) (qry t) (fun _ => rfl) (blk0 m c t) (blk1 m c t) (blk2 m c t) (blk3 m c t) (blk4 m c t) (blk5 m c t) h r d

end Cert.Proof.Diff

end
-- ==== Proof.DiffRef.lean ====
/-
  The reference's result, for finite values and a finite lambda, is the same array: its difference of weights splits into the two
  weighted means, and where a score is `⊤`, or every score `⊥`, the norm sends the row to zero on both sides.
-/
module

public import proofs.«01_k».proof.Proof.Gen.RefDiffIdeal.Read
public import proofs.«01_k».proof.Proof.DiffArray
public import proofs.«01_k».proof.Proof.FoxRef

@[expose] public section

set_option maxRecDepth 16384

noncomputable section

namespace Cert.Proof.Diff

open Idealize.ShloMosaic Idealize.ShloMosaic.TcCoe Idealize.SL.Sem
open Cert.RefDiffIdeal Cert.RefDiffIdeal.Gen Cert.RefDiffIdeal.Read Cert.Proof.Softmax
open Cert.Proof.Fox (row row_eq lane scale pos mask_iff ofBits_ninf)
open scoped BigOperators

/-- A softmax weight is a real number. -/
theorem weight_real {s : ℕ → EReal} {n κ₀ : ℕ} (hs : ∀ κ < n, s κ ≠ ⊤) (h0 : κ₀ < n) {r : ℝ} (hr : s κ₀ = r) (μ : ℝ) (k : Fin n) :
    ∃ p : ℝ, Ideal.div (Ideal.exp (s k - μ)) (∑ j : Fin n, Ideal.exp (s j - μ)) = p := by
  have ht := total_pos h0 hr
  have hsum : ∑ j : Fin n, Ideal.exp (s j - μ) = ((Real.exp (-μ) * ∑ κ ∈ Finset.range n, wt (s κ) : ℝ) : EReal) := by
    rw [Finset.sum_congr rfl (fun (j : Fin n) _ => exp_sub (hs j j.isLt) μ), coe_sum, ← Finset.sum_mul, mul_comm, Finset.sum_range]
  rw [hsum, Ideal.div_coe (mul_pos (Real.exp_pos _) ht).ne', exp_sub (hs k k.isLt), ← EReal.coe_mul]
  exact ⟨_, rfl⟩

/-- Of finite values and a finite lambda, the difference of the weights weights them as the difference of the weighted means. -/
theorem mix_out {D : Type*} {s1 s2 : ℕ → EReal} {v : ℕ → D → EReal} {n κ₁ κ₂ : ℕ} (hs1 : ∀ κ < n, s1 κ ≠ ⊤) (hs2 : ∀ κ < n, s2 κ ≠ ⊤)
    (h1 : κ₁ < n) (h2 : κ₂ < n) {r1 r2 : ℝ} (hr1 : s1 κ₁ = r1) (hr2 : s2 κ₂ = r2) (hv : ∀ κ d, ∃ x : ℝ, v κ d = x) {lam : EReal} (hl : ∃ x : ℝ, lam = x) (μ1 μ2 : ℝ) (d : D) :
    ∑ k : Fin n, (Ideal.div (Ideal.exp (s1 k - μ1)) (∑ j : Fin n, Ideal.exp (s1 j - μ1))
        - lam * Ideal.div (Ideal.exp (s2 k - μ2)) (∑ j : Fin n, Ideal.exp (s2 j - μ2))) * v k d
      = out s1 v n d - lam * out s2 v n d := by
  rw [← softmax_out hs1 h1 hr1 μ1 d, ← softmax_out hs2 h2 hr2 μ2 d]
  choose p1 e1 using weight_real hs1 h1 hr1 μ1
  choose p2 e2 using weight_real hs2 h2 hr2 μ2
  choose v' ev using hv
  obtain ⟨l, rfl⟩ := hl
  simp only [e1, e2, ev, ← EReal.coe_mul, ← EReal.coe_sub, coe_sum]
  rw [Finset.mul_sum, ← Finset.sum_sub_distrib]
  exact congrArg _ (Finset.sum_congr rfl fun k _ => by ring)

/-- A row of which every entry is zero or an end of the line has the norm zero. -/
theorem norm_end {o : Fin 256 → EReal} (ho : ∀ d, End (o d)) (g : Fin 256 → EReal) (d : Fin 256) : normOf o g d = 0 := by
  have hc : ∃ c : ℝ, 0 < c ∧ Ideal.ofBits .f32 0x43800000#32 = c := by
    simp [Ideal.ofBits, Ideal.ieee]
    exact ⟨_, by positivity, (EReal.coe_mul _ _).symm⟩
  have he : ∃ e : ℝ, Ideal.ofBits .f32 0x3727C5AC#32 = e := by
    simp [Ideal.ofBits, Ideal.ieee]
    exact ⟨_, (EReal.coe_mul _ _).symm⟩
  obtain ⟨c, hc, ec⟩ := hc
  obtain ⟨e, ee⟩ := he
  unfold normOf
  rcases ho d with h | h
  · rw [h, zero_mul, zero_mul, zero_mul]
  · rw [ec, ee, rsqrt_end (i := d) h hc, mul_zero, zero_mul, zero_mul]

/-- The weights of a row of scores, shifted by their maximum. -/
def weight (s : ℕ → EReal) (k : Fin 2048) : EReal :=
  Ideal.div (Ideal.exp (s k.val - Finset.univ.fold max ⊥ fun k : Fin 2048 => s k.val))
    (∑ j : Fin 2048, Ideal.exp (s j.val - Finset.univ.fold max ⊥ fun k : Fin 2048 => s k.val))

/-- Of finite values and a finite lambda, and any scores, the difference of the weights and the difference of the means have the same norm. -/
theorem mix_norm {s1 s2 : ℕ → EReal} {v : ℕ → Fin 256 → EReal} (hv : ∀ κ d, ∃ x : ℝ, v κ d = x) {lam : EReal} (hl : ∃ x : ℝ, lam = x)
    (g : Fin 256 → EReal) (d : Fin 256) :
    normOf (fun d => ∑ k : Fin 2048, (weight s1 k - lam * weight s2 k) * v k.val d) g d = normOf (mixOf lam s1 s2 v) g d := by
  have ends : ∀ c : EReal, (c = ⊤ ∨ c = ⊥) → (∀ k, weight s1 k - lam * weight s2 k = c) → (∀ d, mixOf lam s1 s2 v d = c) →
      normOf (fun d => ∑ k : Fin 2048, (weight s1 k - lam * weight s2 k) * v k.val d) g d = normOf (mixOf lam s1 s2 v) g d := by
    intro c hc hw ho
    rw [norm_end (o := mixOf lam s1 s2 v) (fun d => by rw [ho]; exact .inr hc), norm_end]
    refine fun d => End.sum _ fun k => ?_
    obtain ⟨x, hx⟩ := hv k.val d
    rw [hw, hx]
    exact End.mul_coe hc x
  by_cases f1 : Fine s1 2048
  · obtain ⟨μ, hμ⟩ := fine_max f1
    obtain ⟨h1, κ1, b1, r1, e1⟩ := id f1
    by_cases f2 : Fine s2 2048
    · obtain ⟨ν, hν⟩ := fine_max f2
      obtain ⟨h2, κ2, b2, r2, e2⟩ := id f2
      refine congrArg (fun o => normOf o g d) (funext fun d => ?_)
      unfold weight
      rw [hμ, hν, mixOf, outE, outE, if_pos f1, if_pos f2]
      exact mix_out h1 h2 b1 b2 e1 e2 hv hl μ ν d
    · have w2 : ∀ k, weight s2 k = ⊥ := fun k => weight_not_fine f2 k
      have w1 : ∀ k, ∃ p : ℝ, weight s1 k = p := fun k => by
        unfold weight; rw [hμ]; exact weight_real h1 b1 e1 μ k
      have o1 : ∀ d, outE s1 v 2048 d = ∑ k : Fin 2048, weight s1 k * v k.val d := fun d => by
        unfold weight; rw [hμ, softmax_out h1 b1 e1 μ d, outE, if_pos f1]
      have o1r : ∀ d, ∃ y : ℝ, outE s1 v 2048 d = y := fun d => by
        choose p hp using w1
        choose v' ev using hv
        rw [o1]
        simp only [hp, ev, ← EReal.coe_mul, coe_sum]
        exact ⟨_, rfl⟩
      have o2 : ∀ d, outE s2 v 2048 d = ⊥ := fun d => by rw [outE, if_neg f2]
      obtain ⟨l, rfl⟩ := hl
      rcases lt_trichotomy l 0 with hl | hl | hl
      · refine ends ⊥ (.inr rfl) (fun k => ?_) fun d => ?_
        · rw [w2, EReal.coe_mul_bot_of_neg hl, EReal.sub_top]
        · rw [mixOf, o2, EReal.coe_mul_bot_of_neg hl, EReal.sub_top]
      · refine congrArg (fun o => normOf o g d) (funext fun d => ?_)
        simp only [hl, EReal.coe_zero, zero_mul, sub_zero, mixOf, o1]
      · refine ends ⊤ (.inl rfl) (fun k => ?_) fun d => ?_
        · obtain ⟨p, hp⟩ := w1 k
          rw [w2, hp, EReal.coe_mul_bot_of_pos hl, EReal.coe_sub_bot]
        · obtain ⟨y, hy⟩ := o1r d
          rw [mixOf, o2, hy, EReal.coe_mul_bot_of_pos hl, EReal.coe_sub_bot]
  · refine ends ⊥ (.inr rfl) (fun k => ?_) fun d => ?_
    · rw [show weight s1 k = ⊥ from weight_not_fine f1 k, EReal.bot_sub]
    · rw [mixOf, show outE s1 v 2048 d = ⊥ by rw [outE, if_neg f1], EReal.bot_sub]

/-- The scale, a real number that is not negative, may be taken into the sum. -/
theorem scale_in {n : ℕ} (f g : Fin n → EReal) : (∑ d, f d * g d) * scale = ∑ d, f d * scale * g d := by
  have hs : ∃ σ : ℝ, 0 ≤ σ ∧ scale = σ := by
    unfold scale
    simp [Ideal.ofBits, Ideal.ieee]
    exact ⟨_, by positivity, (EReal.coe_mul _ _).symm⟩
  obtain ⟨σ, h, e⟩ := hs
  rw [e, mul_comm, coe_mul_sum h]
  exact Finset.sum_congr rfl fun d _ => by rw [mul_comm (f d) (σ : EReal), mul_assoc]

/-- Lambda of finite vectors is a real number. -/
theorem lamOf_real {f : Fin 4 → Fin 128 → EReal} (hf : ∀ a d, ∃ x : ℝ, f a d = x) : ∃ x : ℝ, lamOf f = x := by
  have hc : ∃ σ : ℝ, Ideal.ofBits .f32 0x3E4CCCCD#32 = σ := by
    simp [Ideal.ofBits, Ideal.ieee]
    exact ⟨_, (EReal.coe_mul _ _).symm⟩
  obtain ⟨σ, hσ⟩ := hc
  choose f' hf using hf
  unfold lamOf
  simp only [hf, hσ, ← EReal.coe_mul, coe_sum, Ideal.exp_coe, ← EReal.coe_sub, ← EReal.coe_add]
  exact ⟨_, rfl⟩

/-- Map `j` of head `h` among the eight. -/
def mapOf (h : Fin 4) (j : Fin 2) : Fin 8 := ⟨2 * h.val + j.val, by have := h.isLt; have := j.isLt; omega⟩

theorem mapOf_zero : ∀ h : Fin 4, mapOf h 0 = fst h := by decide
theorem mapOf_one : ∀ h : Fin 4, mapOf h 1 = snd h := by decide
theorem head_mapOf : ∀ (h : Fin 4) (j : Fin 2), headOf (mapOf h j) = h := by decide

/-- The reference's bias, at the keys not after the query. -/
theorem bias_abs (a : EReal) (t k : Fin 2048) (h : k.val ≤ t.val) :
    -a * FloatOps.hostAbsf (F := Ideal) (φ := .f32) (FloatOps.sitofp (F := Ideal) FTy.f32 (IntOp.subi (BitVec.ofNat 32 t.val) (BitVec.ofNat 32 k.val))) = bias a t.val k.val := by
  have ht := t.isLt; have hk := k.isLt
  have e : (BitVec.ofNat 32 t.val - BitVec.ofNat 32 k.val).toInt = (t.val : ℤ) - k.val := by
    simp only [BitVec.toInt_eq_toNat_cond, BitVec.toNat_sub, BitVec.toNat_ofNat]
    split <;> omega
  have hp : (0 : ℝ) ≤ (((t.val : ℤ) - k.val : ℤ) : ℝ) := by
    rw [Int.cast_nonneg_iff]; omega
  show -a * max (((BitVec.ofNat 32 t.val - BitVec.ofNat 32 k.val).toInt : ℝ) : EReal) (-(((BitVec.ofNat 32 t.val - BitVec.ofNat 32 k.val).toInt : ℝ) : EReal)) = _
  rw [e, ← EReal.coe_neg, max_eq_left (EReal.coe_le_coe_iff.mpr (by linarith)), bias, zero_sub]

variable (A0 A1 A2 : (⟨S8192x1024, .f32⟩ : BufTy).Contents (Elt Ideal)) (A3 : (⟨S4, .f32⟩ : BufTy).Contents (Elt Ideal))
  (A4 : (⟨S4x128, .f32⟩ : BufTy).Contents (Elt Ideal)) (A5 : (⟨S4x256, .f32⟩ : BufTy).Contents (Elt Ideal))

variable (h2 : ∀ j, ∃ x : ℝ, A2 j = x) (h4 : ∀ j, ∃ x : ℝ, A4 j = x)

/-- The reference's queries … -/
theorem ref_query (b : Fin 4) (t : Fin 2048) (h : Fin 4) (j : Fin 2) (d : Fin 128) :
    val_main_v0 (F := Ideal) A0 (ix5 b t h j d) = A0 (ix2 (pos b t) (lane (mapOf h j) d)) := by
  have := b.isLt; have := t.isLt; have := h.isLt; have := j.isLt; have := d.isLt
  rw [val_main_v0_apply]
  congr 1
  funext a
  match a with
  | ⟨0, _⟩ =>
    exact Fin.ext (by show ((((b.val * 2048 + t.val) * 4 + h.val) * 2 + j.val) * 128 + d.val) / 1024 = 2048 * b.val + t.val; omega)
  | ⟨1, _⟩ =>
    exact Fin.ext (by show ((((b.val * 2048 + t.val) * 4 + h.val) * 2 + j.val) * 128 + d.val) % 1024 = 128 * (2 * h.val + j.val) + d.val; omega)

/-- … and keys. -/
theorem ref_key (b : Fin 4) (t : Fin 2048) (h : Fin 4) (j : Fin 2) (d : Fin 128) :
    val_main_v1 (F := Ideal) A1 (ix5 b t h j d) = A1 (ix2 (pos b t) (lane (mapOf h j) d)) := ref_query A1 b t h j d

/-- The products of queries and keys. -/
theorem ref_dot (b : Fin 4) (h : Fin 4) (j : Fin 2) (t k : Fin 2048) :
    val_main_v35 (F := Ideal) A0 A1 (ix5 b h j t k)
      = ∑ d : Fin 128, A0 (ix2 (pos b t) (lane (mapOf h j) d)) * A1 (ix2 (pos b k) (lane (mapOf h j) d)) := by
  rw [val_main_v35_apply]
  refine Finset.sum_congr rfl fun d _ => ?_
  rw [← ref_query A0, ← ref_key A1]
  have el : lidx_main_v35 (ix5 b h j t k) d = ix5 b t h j d := by
    funext a
    match a with
    | ⟨0, _⟩ | ⟨1, _⟩ | ⟨2, _⟩ | ⟨3, _⟩ | ⟨4, _⟩ => rfl
  have er : ridx_main_v35 (ix5 b h j t k) d = ix5 b k h j d := by
    funext a
    match a with
    | ⟨0, _⟩ | ⟨1, _⟩ | ⟨2, _⟩ | ⟨3, _⟩ | ⟨4, _⟩ => rfl
  rw [el, er]

/-- The reference's masked scores. -/
theorem ref_score (b : Fin 4) (h : Fin 4) (j : Fin 2) (t k : Fin 2048) :
    val_main_v41 (F := Ideal) A0 A1 A3 (ix5 b h j t k) = scoreOf A0 A1 A3 b (mapOf h j) t k.val := by
  have ek : row k.val = k := row_eq k.isLt
  have e35 := ref_dot A0 A1 b h j t k
  pointwise [val_main_v41, val_main_v40, val_main_v39, val_main_v38, val_main_v37, val_main_v36, val_main_cst_3, val_main_v18, val_main_v17, val_main_v16,
    val_main_v15, val_main_v14, val_main_v13, val_main_v12, val_main_call0_v1, val_main_call0_v2, val_main_call0_v0, val_main_cst_4,
    val_main_v11, val_main_v10, val_main_cst, val_main_v9, val_main_v8, val_main_v7, val_main_v6, val_main_v5, val_main_v4, val_main_v3]
  rw [e35]
  unfold scoreOf
  simp only [mask_iff]
  by_cases hk : k.val ≤ t.val
  · rw [if_pos hk, if_pos hk, rawOf, ek, head_mapOf, ← scale_in]
    exact congrArg _ (bias_abs (A3 (ix1 h)) t k hk)
  · rw [if_neg hk, if_neg hk]
    exact ofBits_ninf

/-- The reference's values. -/
theorem ref_value (b : Fin 4) (h : Fin 4) (k : Fin 2048) (d : Fin 256) : val_main_v2 (F := Ideal) A2 (ix4 b k h d) = valueOf A2 b h k.val d := by
  pointwise [val_main_v2]
  unfold valueOf
  rw [row_eq k.isLt]
  congr 1
  congr 1
  · exact Fin.ext (by show b.val * 2048 + k.val = 2048 * b.val + k.val; omega)
  · exact Fin.ext (by show h.val * 256 + d.val = 256 * h.val + d.val; omega)

/-- A sum over the indices of a vector of 128. -/
theorem sum_vec (f : Fin 128 → EReal) : ∑ x : S128.Idx, f (x 0) = ∑ d : Fin 128, f d :=
  Fintype.sum_equiv ⟨fun x => x 0, fun d => ix1 d, fun x => funext fun a => by match a with | ⟨0, _⟩ => rfl, fun _ => rfl⟩ _ _ fun _ => rfl

/-- The reference's lambda. -/
theorem ref_lambda (i : S_.Idx) : val_main_v34 (F := Ideal) A4 i = lamOf fun a d => A4 (ix2 a d) := by
  pointwise [val_main_v34, val_main_v33, val_main_v32, val_main_v25, val_main_cst_2, val_main_v31_apply, val_main_v24_apply, val_main_v30, val_main_v29, val_main_v28, val_main_v27, val_main_v26, val_main_v23, val_main_v22, val_main_v21, val_main_v20, val_main_v19, val_main_cst_0, val_main_cst_1]
  rw [sum_vec fun d => A4 (ix2 0 d) * A4 (ix2 1 d), sum_vec fun d => A4 (ix2 2 d) * A4 (ix2 3 d)]
  rfl

/-- The reference's maximum. -/
theorem ref_max (b : Fin 4) (h : Fin 4) (j : Fin 2) (t : Fin 2048) :
    val_main_v44 (F := Ideal) A0 A1 A3 (ix4 b h j t) = Finset.univ.fold max ⊥ fun k : Fin 2048 => scoreOf A0 A1 A3 b (mapOf h j) t k.val := by
  have red : S4x4x2x2048x2048.Reduces [4] S4x4x2x2048 := by decide
  have e : val_main_v42 (F := Ideal) A0 A1 A3 (ix4 b h j t)
      = Finset.univ.fold max ⊥ fun k : Fin 2048 => scoreOf A0 A1 A3 b (mapOf h j) t k.val := by
    unfold val_main_v42
    rw [Host.reduce_eq_fold_single FloatOps.maximumf _ _ _ red]
    have el : (val_main_v41 (F := Ideal) A0 A1 A3 ∘ red.lift (ix4 b h j t)) = fun k : Fin 2048 => scoreOf A0 A1 A3 b (mapOf h j) t k.val := funext fun (k : Fin 2048) => by
      refine Eq.trans ?_ (ref_score A0 A1 A3 b h j t k)
      refine congrArg (val_main_v41 (F := Ideal) A0 A1 A3) (funext fun a => Fin.ext ?_)
      match a with
      | ⟨0, _⟩ => rfl
      | ⟨1, _⟩ => rfl
      | ⟨2, _⟩ => rfl
      | ⟨3, _⟩ => rfl
      | ⟨4, _⟩ => rfl
    rw [el]
    show Finset.fold max (Ideal.ofBits .f32 0xFF800000#32) _ _ = _
    rw [ofBits_ninf]
    rfl
  have e44 : val_main_v44 (F := Ideal) A0 A1 A3 (ix4 b h j t) = max (⊥ : EReal) (val_main_v42 (F := Ideal) A0 A1 A3 (ix4 b h j t)) := by
    rw [val_main_v44_apply, val_main_v43_apply]
    show max (Ideal.ofBits .f32 0xFF800000#32) _ = _
    rw [ofBits_ninf]
  rw [e44, e, max_eq_right bot_le]

/-- The reference's exponentials. -/
theorem ref_exp (b : Fin 4) (h : Fin 4) (j : Fin 2) (t k : Fin 2048) {μ : EReal} (hμ : val_main_v44 (F := Ideal) A0 A1 A3 (ix4 b h j t) = μ) :
    val_main_v48 (F := Ideal) A0 A1 A3 (ix5 b h j t k) = Ideal.exp (scoreOf A0 A1 A3 b (mapOf h j) t k.val - μ) := by
  rw [← ref_score A0 A1 A3, ← hμ]
  pointwise [val_main_v48, val_main_v47, val_main_v46, val_main_v45]

/-- The reference's weights. -/
theorem ref_weight (b : Fin 4) (h : Fin 4) (j : Fin 2) (t k : Fin 2048) {μ : EReal} (hμ : val_main_v44 (F := Ideal) A0 A1 A3 (ix4 b h j t) = μ) :
    val_main_v52 (F := Ideal) A0 A1 A3 (ix5 b h j t k)
      = Ideal.div (Ideal.exp (scoreOf A0 A1 A3 b (mapOf h j) t k.val - μ)) (∑ l : Fin 2048, Ideal.exp (scoreOf A0 A1 A3 b (mapOf h j) t l.val - μ)) := by
  have e : (fun l : Fin 2048 => Ideal.exp (scoreOf A0 A1 A3 b (mapOf h j) t l.val - μ)) = fun l => val_main_v48 (F := Ideal) A0 A1 A3 (ix5 b h j t l) :=
    funext fun l => (ref_exp A0 A1 A3 b h j t l hμ).symm
  rw [e, ← ref_exp A0 A1 A3 b h j t k hμ]
  pointwise [val_main_v52, val_main_v51, val_main_v50, val_main_v49_apply, val_main_cst_7]
  refine congrArg _ (Finset.sum_congr rfl fun l _ => congrArg _ (funext fun a => ?_))
  match a with
  | ⟨0, _⟩ | ⟨1, _⟩ | ⟨2, _⟩ | ⟨3, _⟩ | ⟨4, _⟩ => rfl

/-- The axis of one map taken out leaves the entries. -/
theorem cast_map (y : FVec Ideal S4x4x1x2048x2048 .f32) (b : Fin 4) (h : Fin 4) (t k : Fin 2048) :
    shapeCast S4x4x2048x2048 y shapeCasts_S4x4x1x2048x2048_S4x4x2048x2048 (ix4 b h t k) = y (ix5 b h 0 t k) :=
  shapeCast_apply y shapeCasts_S4x4x1x2048x2048_S4x4x2048x2048 (ix4 b h t k) (ix5 b h 0 t k) (by
    rw [Shape.rowMajor_val_five, Shape.rowMajor_val_four]
    show ((((b.val * 4 + h.val) * 1 + 0) * 2048 + t.val) * 2048 + k.val) = ((b.val * 4 + h.val) * 2048 + t.val) * 2048 + k.val
    omega)

/-- The reference's first map's weights … -/
theorem ref_first (b : Fin 4) (h : Fin 4) (t k : Fin 2048) :
    val_main_v54 (F := Ideal) A0 A1 A3 (ix4 b h t k) = val_main_v52 (F := Ideal) A0 A1 A3 (ix5 b h 0 t k) := by
  have e : idx_main_v53 (ix5 b h 0 t k) = ix5 b h 0 t k := funext fun a => by
    match a with
    | ⟨0, _⟩ | ⟨1, _⟩ | ⟨2, _⟩ | ⟨3, _⟩ | ⟨4, _⟩ => rfl
  unfold val_main_v54
  rw [cast_map, val_main_v53_apply, e]

/-- … and its second's. -/
theorem ref_second (b : Fin 4) (h : Fin 4) (t k : Fin 2048) :
    val_main_v56 (F := Ideal) A0 A1 A3 (ix4 b h t k) = val_main_v52 (F := Ideal) A0 A1 A3 (ix5 b h 1 t k) := by
  have e : idx_main_v55 (ix5 b h 0 t k) = ix5 b h 1 t k := funext fun a => by
    match a with
    | ⟨0, _⟩ | ⟨1, _⟩ | ⟨2, _⟩ | ⟨3, _⟩ | ⟨4, _⟩ => rfl
  unfold val_main_v56
  rw [cast_map, val_main_v55_apply, e]

/-- The reference's difference of weights. -/
theorem ref_diff (b : Fin 4) (h : Fin 4) (t k : Fin 2048) :
    val_main_v59 (F := Ideal) A0 A1 A3 A4 (ix4 b h t k)
      = val_main_v52 (F := Ideal) A0 A1 A3 (ix5 b h 0 t k) - (lamOf fun a d => A4 (ix2 a d)) * val_main_v52 (F := Ideal) A0 A1 A3 (ix5 b h 1 t k) := by
  rw [val_main_v59_apply, val_main_v58_apply, val_main_v57_apply, ref_lambda, ref_first, ref_second]
  rfl

/-- The reference's weighted sums of the values. -/
theorem ref_mean (b : Fin 4) (h : Fin 4) (t : Fin 2048) (d : Fin 256) :
    val_main_v61 (F := Ideal) A0 A1 A2 A3 A4 (ix4 b t h d)
      = ∑ k : Fin 2048, (weight (scoreOf A0 A1 A3 b (fst h) t) k - (lamOf fun a d => A4 (ix2 a d)) * weight (scoreOf A0 A1 A3 b (snd h) t) k)
          * valueOf A2 b h k.val d := by
  have e61 : val_main_v61 (F := Ideal) A0 A1 A2 A3 A4 (ix4 b t h d) = val_main_v60 (F := Ideal) A0 A1 A2 A3 A4 (ix4 b h d t) := by
    pointwise [val_main_v61]
  rw [← mapOf_zero, ← mapOf_one, e61, val_main_v60_apply]
  refine Finset.sum_congr rfl fun k _ => ?_
  have el : lidx_main_v60 (ix4 b h d t) k = ix4 b k h d := by
    funext a
    match a with
    | ⟨0, _⟩ | ⟨1, _⟩ | ⟨2, _⟩ | ⟨3, _⟩ => rfl
  have er : ridx_main_v60 (ix4 b h d t) k = ix4 b h t k := by
    funext a
    match a with
    | ⟨0, _⟩ | ⟨1, _⟩ | ⟨2, _⟩ | ⟨3, _⟩ => rfl
  rw [el, er, ref_value, ref_diff, ref_weight A0 A1 A3 b h 0 t k (ref_max A0 A1 A3 b h 0 t), ref_weight A0 A1 A3 b h 1 t k (ref_max A0 A1 A3 b h 1 t), mul_comm]
  unfold weight
  with_reducible rfl

/-- The reference's norm. -/
theorem ref_norm (b : Fin 4) (h : Fin 4) (t : Fin 2048) (d : Fin 256) :
    val_main_v76 (F := Ideal) A0 A1 A2 A3 A4 A5 (ix4 b t h d)
      = normOf (fun d => val_main_v61 (F := Ideal) A0 A1 A2 A3 A4 (ix4 b t h d)) (fun d => A5 (ix2 h d)) d := by
  unfold normOf
  pointwise [val_main_v76, val_main_v75, val_main_v74, val_main_v73, val_main_v72, val_main_v71, val_main_v70, val_main_v69, val_main_v68, val_main_v67,
    val_main_v66, val_main_v65, val_main_v64, val_main_v63_apply, val_main_v62, val_main_cst_8, val_main_cst_9, val_main_cst_10, val_main_cst_11]
  have e : ∀ x : Fin 256, idx_main_v63 (ix3 b t h) x = ix4 b t h x := fun x => funext fun a => by
    match a with
    | ⟨0, _⟩ | ⟨1, _⟩ | ⟨2, _⟩ | ⟨3, _⟩ => rfl
  simp only [e]

/-- The reference's result, its columns split into heads. -/
theorem ref_layout (b : Fin 4) (h : Fin 4) (t : Fin 2048) (d : Fin 256) :
    val_main_v77 (F := Ideal) A0 A1 A2 A3 A4 A5 (ix2 (pos b t) (vlane h d)) = val_main_v76 (F := Ideal) A0 A1 A2 A3 A4 A5 (ix4 b t h d) := by
  have := t.isLt; have := d.isLt
  pointwise [val_main_v77]
  congr 1
  congr 1
  · exact Fin.ext (by show (2048 * b.val + t.val) / 2048 = b.val; omega)
  · exact Fin.ext (by show (2048 * b.val + t.val) % 2048 = t.val; omega)
  · exact Fin.ext (by show (256 * h.val + d.val) / 256 = h.val; omega)
  · exact Fin.ext (by show (256 * h.val + d.val) % 256 = d.val; omega)

include h2 h4 in
/-- The reference's norm is the kernel's. -/
theorem ref_attn (b : Fin 4) (h : Fin 4) (t : Fin 2048) (d : Fin 256) :
    val_main_v76 (F := Ideal) A0 A1 A2 A3 A4 A5 (ix4 b t h d) = attn A0 A1 A2 A3 A4 A5 b h t d := by
  rw [ref_norm, attn, show (fun d => val_main_v61 (F := Ideal) A0 A1 A2 A3 A4 (ix4 b t h d)) = _ from funext fun d => ref_mean A0 A1 A2 A3 A4 b h t d]
  exact mix_norm (s1 := scoreOf A0 A1 A3 b (fst h) t) (s2 := scoreOf A0 A1 A3 b (snd h) t) (v := valueOf A2 b h) (fun κ d => h2 _)
    (lamOf_real (f := fun a d => A4 (ix2 a d)) fun a d => h4 _) (fun d => A5 (ix2 h d)) d

include h2 h4 in
/-- The reference's result is the attention. -/
theorem ref_eq : val_main_v77 (F := Ideal) A0 A1 A2 A3 A4 A5 = attnArr A0 A1 A2 A3 A4 A5 := by
  funext j
  have e0 : (j 0).val < 8192 := (j 0).isLt
  have e1 : (j 1).val < 1024 := (j 1).isLt
  have hj : j = ix2 (pos ⟨(j 0).val / 2048, by omega⟩ ⟨(j 0).val % 2048, Nat.mod_lt _ (by decide)⟩)
      (vlane ⟨(j 1).val / 256, by omega⟩ ⟨(j 1).val % 256, Nat.mod_lt _ (by decide)⟩) := by
    funext a
    match a with
    | ⟨0, _⟩ => exact Fin.ext (Nat.div_add_mod (j 0).val 2048).symm
    | ⟨1, _⟩ => exact Fin.ext (Nat.div_add_mod (j 1).val 256).symm
  rw [hj, ref_layout, ref_attn A0 A1 A2 A3 A4 A5 h2 h4, attnArr_at]

end Cert.Proof.Diff

end
-- ==== Proof.DiffPre.lean ====
/-
  The precondition says that the values and the vectors of lambda are real numbers.
-/
module

public import proofs.«01_k».proof.Pre_finite_values
public import proofs.«01_k».proof.Proof.FoxPre

@[expose] public section

noncomputable section

namespace Cert.Proof.Diff

open Idealize.ShloMosaic Idealize.SL.Sem Cert.Pre_finite_values

/-- The side conditions the precondition's program states. -/
theorem pre_facts : Cert.Pre_finite_values.Facts where
  bcast_S_S8192x1024 := by decide
  reducesTo_S8192x1024_S_d0_1 := by decide
  h_S_ := by decide
  bcast_S_S4x128 := by decide
  reducesTo_S4x128_S_d0_1 := by decide

/-- There is one index of a scalar. -/
instance : Subsingleton S_.Idx := ⟨fun _ _ => funext fun a => a.elim0⟩

/-- The values and the vectors of lambda are real numbers, from the precondition. -/
theorem real_of_pre [Cert.Pre_finite_values.Facts] {A0 A1 A2 : FVec Ideal S8192x1024 .f32} {A3 : FVec Ideal S4 .f32} {A4 : FVec Ideal S4x128 .f32}
    {A5 : FVec Ideal S4x256 .f32} (h : Cert.Pre_finite_values.fn (F := Ideal) A0 A1 A2 A3 A4 A5 = fun _ => 1#1) :
    (∀ j, ∃ x : ℝ, A2 j = x) ∧ ∀ j, ∃ x : ℝ, A4 j = x := by
  have e := congrFun h (fun a => a.elim0)
  unfold fn at e
  obtain ⟨e2, e4⟩ := IntOp.andi_eq_one.mp e
  exact ⟨fun j => Fox.real_of_abs (Host.reduce_andi_all _ _ _ _ _ e2 j), fun j => Fox.real_of_abs (Host.reduce_andi_all _ _ _ _ _ e4 j)⟩

end Cert.Proof.Diff

end
-- ==== Proof.CrossArray.lean ====
/-
  The memory attention of the prompt: every entry of its array, from the whole arrays of queries, keys and values.
-/
module

public import proofs.«01_k».proof.Proof.Gen.CrossIdeal.Frame
public import proofs.«01_k».proof.Proof.Gen.CrossIdeal.Value
public import proofs.«01_k».proof.Proof.Rows
public import proofs.«01_k».proof.Proof.FoxArray

@[expose] public section

set_option maxRecDepth 16384

noncomputable section

namespace Cert.Proof.Cross

open Idealize.ShloMosaic Idealize.ShloMosaic.TcCoe Idealize.SL.Sem
open Cert.CrossIdeal Cert.CrossIdeal.Gen
open Cert.Proof.Fox (pos ofBits_ninf)
open scoped BigOperators

/-- Column `d` of head `h` among the 2048. -/
def lane (h : Fin 4) (d : Fin 512) : Fin 2048 := ⟨512 * h.val + d.val, by have := h.isLt; have := d.isLt; omega⟩

/-- The score of a query and a key. -/
def scoreOf (q k : Fin 512 → EReal) : EReal := (∑ d, q d * k d) * Ideal.ofBits .f32 0x3D3504F3#32

/-- The exponential of a score less the greatest. -/
def expOf (s : Fin 256 → EReal) (κ : Fin 256) : EReal := Ideal.exp (s κ - Finset.univ.fold max ⊥ s)

/-- The values weighted by the softmax of the scores. -/
def meanOf (s v : Fin 256 → EReal) : EReal := ∑ κ, Ideal.div (expOf s κ) (∑ j, expOf s j) * v κ

section Entry

variable (A0 : S8192x2048.Idx → EReal) (A1 A2 : S4x256x2048.Idx → EReal)

/-- The scores of query `t` of sequence `b` in head `h`. -/
def rowOf (b h : Fin 4) (t : Fin 2048) (κ : Fin 256) : EReal :=
  scoreOf (fun d => A0 (ix2 (pos b t) (lane h d))) fun d => A1 (ix3 b κ (lane h d))

/-- The attention's result: of sequence `b`, at query `t`, in column `d` of head `h`. -/
def attn (b h : Fin 4) (t : Fin 2048) (d : Fin 512) : EReal := meanOf (rowOf A0 A1 b h t) fun κ => A2 (ix3 b κ (lane h d))

/-- The same as an array: row and column split into sequence, query, head and column. -/
def attnArr (j : S8192x2048.Idx) : EReal :=
  attn A0 A1 A2 ⟨(j 0).val / 2048, by have : (j 0).val < 8192 := (j 0).isLt; omega⟩
    ⟨(j 1).val / 512, by have : (j 1).val < 2048 := (j 1).isLt; omega⟩
    ⟨(j 0).val % 2048, Nat.mod_lt _ (by decide)⟩ ⟨(j 1).val % 512, Nat.mod_lt _ (by decide)⟩

/-- The array at a row and a column given by their parts. -/
theorem attnArr_at (b h : Fin 4) (t : Fin 2048) (d : Fin 512) : attnArr A0 A1 A2 (ix2 (pos b t) (lane h d)) = attn A0 A1 A2 b h t d := by
  have := t.isLt; have := d.isLt
  unfold attnArr
  congr 1
  · exact Fin.ext (by show (2048 * b.val + t.val) / 2048 = b.val; omega)
  · exact Fin.ext (by show (512 * h.val + d.val) / 512 = h.val; omega)
  · exact Fin.ext (by show (2048 * b.val + t.val) % 2048 = t.val; omega)
  · exact Fin.ext (by show (512 * h.val + d.val) % 512 = d.val; omega)

end Entry

section Body

/-- The scores of a block. -/
def scores (q : Vec Ideal S2048x512 .f32) (k : Vec Ideal S1x256x512 .f32) : FVec Ideal S2048x256 .f32 :=
  mulf (matmul dot_S2048x512_S256x512_S2048x256_1_1_0_0_n_n none (truncf .bf16 q bitsLt_bf16_f32)
    (truncf .bf16 (shapeCast S256x512 k shapeCasts_S1x256x512_S256x512) bitsLt_bf16_f32) (constant S2048x256 .f32 0x00000000#32))
    (broadcast S2048x256 (Scalar.ofBits .f32 0x3D3504F3#32))

/-- Their exponentials. -/
def exps (s : FVec Ideal S2048x256 .f32) : FVec Ideal S2048x256 .f32 :=
  exp (subf s (broadcastTo S2048x256 (shapeCast S2048x1 (multiReduction .maximumf [1] S2048 s 0xFF800000#32 reduces_S2048x256_S2048 (.inl rfl) rfl)
    shapeCasts_S2048_S2048x1) broadcasts_S2048x1_S2048x256))

/-- The weights times the values. -/
def mixed (e : FVec Ideal S2048x256 .f32) (v : Vec Ideal S1x256x512 .f32) : FVec Ideal S2048x512 .f32 :=
  matmul dot_S2048x256_S256x512_S2048x512_1_0_0_1_n_n none
    (truncf .bf16 (divf e (broadcastTo S2048x256 (shapeCast S2048x1 (multiReduction .add [1] S2048 e 0x00000000#32 reduces_S2048x256_S2048 (.inl rfl) rfl)
      shapeCasts_S2048_S2048x1) broadcasts_S2048x1_S2048x256)) bitsLt_bf16_f32)
    (truncf .bf16 (shapeCast S256x512 v shapeCasts_S1x256x512_S256x512) bitsLt_bf16_f32) (constant S2048x512 .f32 0x00000000#32)

/-- What is stored is these three in turn. -/
theorem pay_eq (q : Vec Ideal S2048x512 .f32) (k v : Vec Ideal S1x256x512 .f32) : k0_pay1 q k v = mixed (exps (scores q k)) v := rfl

/-- A score at a row and a key. -/
theorem scores_at (q : Vec Ideal S2048x512 .f32) (k : Vec Ideal S1x256x512 .f32) (r : Fin 2048) (κ : Fin 256) :
    scores q k (ix2 r κ) = scoreOf (fun d => q (ix2 r d)) fun d => k (ix3 0 κ d) := by
  unfold scoreOf
  pointwise [scores]

/-- An exponential at a row and a key. -/
theorem exps_at (s : FVec Ideal S2048x256 .f32) (r : Fin 2048) (κ : Fin 256) : exps s (ix2 r κ) = expOf (fun κ => s (ix2 r κ)) κ := by
  unfold expOf
  pointwise [exps]
  rw [ofBits_ninf]

/-- The result at a row and a column. -/
theorem mixed_at (e : FVec Ideal S2048x256 .f32) (v : Vec Ideal S1x256x512 .f32) (r : Fin 2048) (d : Fin 512) :
    mixed e v (ix2 r d) = ∑ κ : Fin 256, Ideal.div (e (ix2 r κ)) (∑ j : Fin 256, e (ix2 r j)) * v (ix3 0 κ d) := by
  pointwise [mixed]

/-- No offset on any of three axes. -/
theorem zero3 : (![0, 0, 0] : Fin 3 → ℕ) = fun _ => 0 := by decide

/-- What a block of the result holds. -/
theorem out3_at (q : Vec Ideal S2048x512 .f32) (k v : Vec Ideal S1x256x512 .f32) (r : Fin 2048) (d : Fin 512) :
    out0_3 q k v (ix2 r d) = meanOf (fun κ => scoreOf (fun d => q (ix2 r d)) fun d => k (ix3 0 κ d)) fun κ => v (ix3 0 κ d) := by
  unfold out0_3
  rw [View.canon_unit_zero zero2, View.ld_unit_zero zero2, View.ld_unit_zero zero3, View.ld_unit_zero zero3, pay_eq, mixed_at]
  simp only [exps_at, scores_at]
  rfl

end Body

variable (m : (ℓ : Loc nD τ sig) → Buf (Elt Ideal) ℓ) (c : Dev nD)

/-- Where the windows' blocks lie. -/
theorem idx : ∀ t : Fin grid0.N,
    win0_0.index t = ![(grid0.coords t 0).val, (grid0.coords t 2).val] ∧ win0_1.index t = ![(grid0.coords t 0).val, 0, (grid0.coords t 2).val]
    ∧ win0_2.index t = ![(grid0.coords t 0).val, 0, (grid0.coords t 2).val] ∧ win0_3.index t = ![(grid0.coords t 0).val, (grid0.coords t 2).val] := by
  decide +kernel

variable (t : Fin cfg0.N)

/-- The sequence of a grid point … -/
abbrev seqOf : Fin 4 := (grid0.coords t 0)

/-- … and its head. -/
abbrev headOf : Fin 4 := (grid0.coords t 2)

/-- The block of queries. -/
theorem blk0 (r : Fin 2048) (d : Fin 512) : iblk m c 0 t (ix2 r d) = m ((c : Thread nD τ).loc main_arg0) (ix2 (pos (seqOf t) r) (lane (headOf t) d)) := by
  obtain ⟨e0, e1, e2, e3⟩ := idx t
  blk_ext! [iblk, V, e0]
  · show _ = 2048 * (grid0.coords t 0).val + r.val; omega
  · show _ = 512 * (grid0.coords t 2).val + d.val; omega

/-- The block of keys. -/
theorem blk1 (κ : Fin 256) (d : Fin 512) : iblk m c 1 t (ix3 0 κ d) = m ((c : Thread nD τ).loc main_arg1) (ix3 (seqOf t) κ (lane (headOf t) d)) := by
  obtain ⟨e0, e1, e2, e3⟩ := idx t
  blk_ext! [iblk, V, e1]
  · rfl
  · show _ = 512 * (grid0.coords t 2).val + d.val; omega

/-- The block of values. -/
theorem blk2 (κ : Fin 256) (d : Fin 512) : iblk m c 2 t (ix3 0 κ d) = m ((c : Thread nD τ).loc main_arg2) (ix3 (seqOf t) κ (lane (headOf t) d)) := by
  obtain ⟨e0, e1, e2, e3⟩ := idx t
  blk_ext! [iblk, V, e2]
  · rfl
  · show _ = 512 * (grid0.coords t 2).val + d.val; omega

/-- Where an entry of a grid point's result lies in the array. -/
theorem emb_eq (r : Fin 2048) (d : Fin 512) : ((cfg0.win 3).blk t).view.emb (ix2 r d) = ix2 (pos (seqOf t) r) (lane (headOf t) d) := by
  obtain ⟨e0, e1, e2, e3⟩ := idx t
  blk_ext! [e3]
  · show _ = 2048 * (grid0.coords t 0).val + r.val; omega
  · show _ = 512 * (grid0.coords t 2).val + d.val; omega

/-- A grid point's block of the result is the array's. -/
theorem out_eq (r : Fin 2048) (d : Fin 512) : out0_3 (iblk m c 0 t) (iblk m c 1 t) (iblk m c 2 t) (ix2 r d)
    = attn (m ((c : Thread nD τ).loc main_arg0)) (m ((c : Thread nD τ).loc main_arg1)) (m ((c : Thread nD τ).loc main_arg2)) (seqOf t) (headOf t) r d := by
  refine (out3_at _ _ _ r d).trans ?_
  unfold attn rowOf
  exact congr (congrArg meanOf (funext fun κ => congr (congrArg scoreOf (funext fun d => blk0 m c t r d)) (funext fun d => blk1 m c t κ d)))
    (funext fun κ => blk2 m c t κ d)

/-- The result's array. -/
theorem arr3 : (dats m 0 c).arrAt 3 cfg0.N
    = attnArr (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, d, rfl⟩ := split y
  rw [emb_eq, attnArr_at]
  exact out_eq m c t r d

end Cert.Proof.Cross

end
-- ==== Proof.CrossRef.lean ====
/-
  The memory attention's reference, entry by entry: the same array.
-/
module

public import proofs.«01_k».proof.Proof.Gen.RefCrossIdeal.Run
public import proofs.«01_k».proof.Proof.Gen.RefCrossIdeal.Read
public import proofs.«01_k».proof.Proof.CrossArray

@[expose] public section

set_option maxRecDepth 16384

noncomputable section

namespace Cert.Proof.Cross

open Idealize.ShloMosaic Idealize.ShloMosaic.TcCoe Idealize.SL.Sem
open Cert.RefCrossIdeal Cert.RefCrossIdeal.Gen Cert.RefCrossIdeal.Read
open Cert.Proof.Fox (pos ofBits_ninf)
open scoped BigOperators

variable (A0 : (⟨S8192x2048, .f32⟩ : BufTy).Contents (Elt Ideal)) (A1 A2 : (⟨S4x256x2048, .f32⟩ : BufTy).Contents (Elt Ideal))

/-- The queries by sequence, token, head and column. -/
theorem ref_query (b : Fin 4) (t : Fin 2048) (h : Fin 4) (d : Fin 512) :
    val_main_v0 (F := Ideal) A0 (ix4 b t h d) = A0 (ix2 (pos b t) (lane h d)) := by
  have := b.isLt; have := t.isLt; have := h.isLt; have := d.isLt
  exact shapeCast_apply A0 shapeCasts_S8192x2048_S4x2048x4x512 (ix4 b t h d) (ix2 (pos b t) (lane h d)) (by
    rw [Shape.rowMajor_val_two, Shape.rowMajor_val_four]
    show (2048 * b.val + t.val) * 2048 + (512 * h.val + d.val) = ((b.val * 2048 + t.val) * 4 + h.val) * 512 + d.val
    omega)

/-- The memory's rows by sequence, row, head and column. -/
theorem ref_rows (A : FVec Ideal S4x256x2048 .f32) (b : Fin 4) (κ : Fin 256) (h : Fin 4) (d : Fin 512) :
    shapeCast S4x256x4x512 A shapeCasts_S4x256x2048_S4x256x4x512 (ix4 b κ h d) = A (ix3 b κ (lane h d)) := by
  have := b.isLt; have := κ.isLt; have := h.isLt; have := d.isLt
  exact shapeCast_apply A shapeCasts_S4x256x2048_S4x256x4x512 (ix4 b κ h d) (ix3 b κ (lane h d)) (by
    rw [Shape.rowMajor_val_three, Shape.rowMajor_val_four]
    show (b.val * 256 + κ.val) * 2048 + (512 * h.val + d.val) = ((b.val * 256 + κ.val) * 4 + h.val) * 512 + d.val
    omega)

/-- The reference's scores. -/
theorem ref_score (b h : Fin 4) (t : Fin 2048) (κ : Fin 256) : val_main_v5 (F := Ideal) A0 A1 (ix4 b h t κ) = rowOf A0 A1 b h t κ := by
  rw [val_main_v5_apply, val_main_v4_apply, val_main_cst_apply, val_main_v3_apply]
  unfold rowOf scoreOf
  refine congrArg (fun x : EReal => x * Ideal.ofBits .f32 0x3D3504F3#32) (Finset.sum_congr rfl fun d _ => ?_)
  have el : lidx_main_v3 (ix4 b h t κ) d = ix4 b t h d := funext fun a => by
    match a with
    | ⟨0, _⟩ | ⟨1, _⟩ | ⟨2, _⟩ | ⟨3, _⟩ => rfl
  have er : ridx_main_v3 (ix4 b h t κ) d = ix4 b κ h d := funext fun a => by
    match a with
    | ⟨0, _⟩ | ⟨1, _⟩ | ⟨2, _⟩ | ⟨3, _⟩ => rfl
  rw [el, er, ref_query]
  exact congrArg _ (ref_rows A1 b κ h d)

/-- The reference's greatest score. -/
theorem ref_max (b h : Fin 4) (t : Fin 2048) :
    val_main_v8 (F := Ideal) A0 A1 (ix3 b h t) = Finset.univ.fold max ⊥ (rowOf A0 A1 b h t) := by
  have red : S4x4x2048x256.Reduces [3] S4x4x2048 := by decide
  have e : val_main_v6 (F := Ideal) A0 A1 (ix3 b h t) = Finset.univ.fold max ⊥ (rowOf A0 A1 b h t) := by
    unfold val_main_v6
    rw [Host.reduce_eq_fold_single FloatOps.maximumf _ _ _ red]
    have el : (val_main_v5 (F := Ideal) A0 A1 ∘ red.lift (ix3 b h t)) = rowOf A0 A1 b h t := funext fun (κ : Fin 256) => by
      refine Eq.trans ?_ (ref_score A0 A1 b h t κ)
      refine congrArg (val_main_v5 (F := Ideal) A0 A1) (funext fun a => Fin.ext ?_)
      match a with
      | ⟨0, _⟩ | ⟨1, _⟩ | ⟨2, _⟩ | ⟨3, _⟩ => rfl
    rw [el]
    show Finset.fold max (Ideal.ofBits .f32 0xFF800000#32) _ _ = _
    rw [ofBits_ninf]
    rfl
  rw [val_main_v8_apply, val_main_v7_apply, e]
  show max (Ideal.ofBits .f32 0xFF800000#32) _ = _
  rw [ofBits_ninf, max_eq_right bot_le]

/-- The reference's exponentials. -/
theorem ref_exp (b h : Fin 4) (t : Fin 2048) (κ : Fin 256) : val_main_v12 (F := Ideal) A0 A1 (ix4 b h t κ) = expOf (rowOf A0 A1 b h t) κ := by
  unfold expOf
  rw [← ref_max, ← ref_score]
  pointwise [val_main_v12, val_main_v11, val_main_v10, val_main_v9]

/-- The reference's weights. -/
theorem ref_weight (b h : Fin 4) (t : Fin 2048) (κ : Fin 256) :
    val_main_v16 (F := Ideal) A0 A1 (ix4 b h t κ) = Ideal.div (expOf (rowOf A0 A1 b h t) κ) (∑ j, expOf (rowOf A0 A1 b h t) j) := by
  rw [← funext (ref_exp A0 A1 b h t)]
  pointwise [val_main_v16, val_main_v15, val_main_v14, val_main_v13_apply, val_main_cst_2]
  refine congrArg _ (Finset.sum_congr rfl fun j _ => congrArg _ (funext fun a => ?_))
  match a with
  | ⟨0, _⟩ | ⟨1, _⟩ | ⟨2, _⟩ | ⟨3, _⟩ => rfl

/-- The reference's result, before its axes are put back. -/
theorem ref_mean (b h : Fin 4) (t : Fin 2048) (d : Fin 512) : val_main_v17 (F := Ideal) A0 A1 A2 (ix4 b h d t) = attn A0 A1 A2 b h t d := by
  rw [val_main_v17_apply]
  unfold attn meanOf
  refine Finset.sum_congr rfl fun κ _ => ?_
  have el : lidx_main_v17 (ix4 b h d t) κ = ix4 b κ h d := funext fun a => by
    match a with
    | ⟨0, _⟩ | ⟨1, _⟩ | ⟨2, _⟩ | ⟨3, _⟩ => rfl
  have er : ridx_main_v17 (ix4 b h d t) κ = ix4 b h t κ := funext fun a => by
    match a with
    | ⟨0, _⟩ | ⟨1, _⟩ | ⟨2, _⟩ | ⟨3, _⟩ => rfl
  rw [el, er, ref_weight, mul_comm]
  exact congrArg _ (ref_rows A2 b κ h d)

/-- The reference's result at a row and a column. -/
theorem ref_out (b h : Fin 4) (t : Fin 2048) (d : Fin 512) :
    val_main_v19 (F := Ideal) A0 A1 A2 (ix2 (pos b t) (lane h d)) = attn A0 A1 A2 b h t d := by
  have := b.isLt; have := t.isLt; have := h.isLt; have := d.isLt
  have e : val_main_v19 (F := Ideal) A0 A1 A2 (ix2 (pos b t) (lane h d)) = val_main_v18 (F := Ideal) A0 A1 A2 (ix4 b t h d) :=
    shapeCast_apply (val_main_v18 (F := Ideal) A0 A1 A2) shapeCasts_S4x2048x4x512_S8192x2048 (ix2 (pos b t) (lane h d)) (ix4 b t h d) (by
      rw [Shape.rowMajor_val_two, Shape.rowMajor_val_four]
      show ((b.val * 2048 + t.val) * 4 + h.val) * 512 + d.val = (2048 * b.val + t.val) * 2048 + (512 * h.val + d.val)
      omega)
  have ei : idx_main_v18 (ix4 b t h d) = ix4 b h d t := funext fun a => by
    match a with
    | ⟨0, _⟩ | ⟨1, _⟩ | ⟨2, _⟩ | ⟨3, _⟩ => rfl
  rw [e, val_main_v18_apply, ei, ref_mean]

/-- The reference's result is the attention. -/
theorem ref_eq : val_main_v19 (F := Ideal) A0 A1 A2 = attnArr A0 A1 A2 := by
  funext j
  have e0 : (j 0).val < 8192 := (j 0).isLt
  have e1 : (j 1).val < 2048 := (j 1).isLt
  have hj : j = ix2 (pos ⟨(j 0).val / 2048, by omega⟩ ⟨(j 0).val % 2048, Nat.mod_lt _ (by decide)⟩)
      (lane ⟨(j 1).val / 512, by omega⟩ ⟨(j 1).val % 512, Nat.mod_lt _ (by decide)⟩) := by
    funext a
    match a with
    | ⟨0, _⟩ => exact Fin.ext (Nat.div_add_mod (j 0).val 2048).symm
    | ⟨1, _⟩ => exact Fin.ext (Nat.div_add_mod (j 1).val 512).symm
  rw [hj, ref_out, attnArr_at]

end Cert.Proof.Cross

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import proofs.«01_k».proof.Proof.Gen.Proj.Frame
public import proofs.«01_k».proof.Proof.Gen.ProjIdeal.Frame
public import proofs.«01_k».proof.Proof.Gen.RefProjIdeal.Run
public import proofs.«01_k».proof.Proof.Gen.RefProjIdeal.Read
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Sample.Frame
public import proofs.«01_k».proof.Proof.Gen.SampleIdeal.Frame
public import proofs.«01_k».proof.Proof.Gen.RefSampleIdeal.Run
public import proofs.«01_k».proof.Proof.Gen.RefSampleIdeal.Read
public import proofs.«01_k».proof.Proof.Gen.Mem.Frame
public import proofs.«01_k».proof.Proof.Gen.MemIdeal.Frame
public import proofs.«01_k».proof.Proof.Gen.MemIdeal.Value
public import proofs.«01_k».proof.Proof.Gen.RefMemIdeal.Run
public import proofs.«01_k».proof.Proof.Gen.RefMemIdeal.Read
public import proofs.«01_k».proof.Proof.Gen.Query.Frame
public import proofs.«01_k».proof.Proof.Gen.QueryIdeal.Frame
public import proofs.«01_k».proof.Proof.Gen.QueryIdeal.Value
public import proofs.«01_k».proof.Proof.Gen.RefQueryIdeal.Run
public import proofs.«01_k».proof.Proof.Gen.RefQueryIdeal.Read
public import proofs.«01_k».proof.Proof.Gen.Merge.Frame
public import proofs.«01_k».proof.Proof.Gen.MergeIdeal.Frame
public import proofs.«01_k».proof.Proof.Gen.MergeIdeal.Value
public import proofs.«01_k».proof.Proof.Gen.RefMergeIdeal.Run
public import proofs.«01_k».proof.Proof.Gen.RefMergeIdeal.Read
public import proofs.«01_k».proof.Proof.Gen.MemOut.Frame
public import proofs.«01_k».proof.Proof.Gen.MemOutIdeal.Frame
public import proofs.«01_k».proof.Proof.Gen.MemOutIdeal.Value
public import proofs.«01_k».proof.Proof.Gen.RefMemOutIdeal.Run
public import proofs.«01_k».proof.Proof.Gen.RefMemOutIdeal.Read
public import proofs.«01_k».proof.Proof.Gen.Diff.Frame
public import proofs.«01_k».proof.Proof.Gen.DiffIdeal.Frame
public import proofs.«01_k».proof.Proof.Gen.DiffIdeal.Value
public import proofs.«01_k».proof.Proof.Gen.RefDiffIdeal.Run
public import proofs.«01_k».proof.Proof.Gen.RefDiffIdeal.Read
public import proofs.«01_k».proof.Proof.Gen.Cross.Frame
public import proofs.«01_k».proof.Proof.Gen.CrossIdeal.Frame
public import proofs.«01_k».proof.Proof.Gen.CrossIdeal.Value
public import proofs.«01_k».proof.Proof.Gen.RefCrossIdeal.Run
public import proofs.«01_k».proof.Proof.Gen.RefCrossIdeal.Read
public import proofs.«01_k».proof.Proof.FoxRef
public import proofs.«01_k».proof.Proof.FoxPre
public import proofs.«01_k».proof.Proof.ProjRun
public import proofs.«01_k».proof.Proof.ProjRef
public import proofs.«01_k».proof.Proof.SampleRun
public import proofs.«01_k».proof.Proof.SampleRef
public import proofs.«01_k».proof.Proof.MemArray
public import proofs.«01_k».proof.Proof.MemRef
public import proofs.«01_k».proof.Proof.QueryArray
public import proofs.«01_k».proof.Proof.QueryRef
public import proofs.«01_k».proof.Proof.MergeArray
public import proofs.«01_k».proof.Proof.MergeRef
public import proofs.«01_k».proof.Proof.MemOutArray
public import proofs.«01_k».proof.Proof.MemOutRef
public import proofs.«01_k».proof.Proof.DiffRef
public import proofs.«01_k».proof.Proof.DiffPre
public import proofs.«01_k».proof.Proof.CrossRef

@[expose] public section

noncomputable section

namespace Cert.Proof

open Idealize.ShloMosaic Idealize.ShloMosaic.TcCoe Idealize.SL.Sem

local instance : Cert.Pre_finite_scores.Facts := Fox.pre_facts

local instance : Cert.Pre_finite_values.Facts := Diff.pre_facts

/-- The reference runs, keeps its arguments and leaves every counter at zero. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The idealized kernel and the reference end with equal results wherever the queries, the keys and the log-forget terms are real numbers. -/
theorem fox_algebraic : Cert.algebraic_KernelIdeal_ReferenceIdeal_pre_finite_scores := by
  intro m g m' g' hpre hargs
  have hr := fun c => Fox.real_of_pre (hpre c)
  refine ⟨fun c => Fox.attnArr (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (Cert.KernelIdeal.Value.run_blocks (F := Ideal) m g)
    exact Fox.arr_eq m c fun b h t κ => Fox.rawOf_real _ _ _ (hr c).1 (hr c).2.1 (hr c).2.2 b h t κ
  · refine (θ_run Cert.ReferenceIdeal.defs _ _).mono (fun r h c => ⟨(h c).1.trans ?_, (h c).2⟩) (Cert.ReferenceIdeal.Value.run (F := Ideal) m' g')
    obtain ⟨e0, e1, e2, e3⟩ := hargs c
    rw [Cert.ReferenceIdeal.Read.val_main_v35_eq, e0, e1, e2, e3]
    exact Fox.ref_eq _ _ _ _ (hr c).1 (hr c).2.1 (hr c).2.2

/-- The input projection's reference runs, keeps its arguments and leaves every counter at zero. -/
theorem frame_refProj : Cert.quiescent_RefProjIdeal := by
  intro m ρ _
  exact (θ_run Cert.RefProjIdeal.defs _ _).mono (fun r h => ⟨fun c => (h c).2.2.2.2.2.2.2, sem_eq_zero_of_no_sems (by decide) r.2⟩)
    (Cert.RefProjIdeal.Value.run (F := Ideal) m ρ)

/-- The input projection and its reference end with equal results. -/
theorem proj_algebraic : Cert.algebraic_ProjIdeal_RefProjIdeal := by
  intro m g m' g' _ hargs
  refine ⟨_, _, _, _, _, _, _, Proj.run m g, (θ_run Cert.RefProjIdeal.defs _ _).mono (fun r h c => ?_) (Proj.ref_run m' g')⟩
  obtain ⟨e0, e1, e2, e3⟩ := hargs c
  have k := h c
  refine ⟨?_, ?_, ?_, ?_, ?_, ?_, ?_, k.2.2.2.2.2.2.2⟩
  · rw [k.1, e0, e1, e2]
  · rw [k.2.1, e0, e1, e2]
  · rw [k.2.2.1, e0, e1, e2]
  · rw [k.2.2.2.1, e0, e1, e2]
  · rw [k.2.2.2.2.1, e0, e1, e2]
  · rw [k.2.2.2.2.2.1, e0, e1, e2]
  · rw [k.2.2.2.2.2.2.1, e0, e1, e2, e3]

/-- The sample's input projection's reference runs, keeps its arguments and leaves every counter at zero. -/
theorem frame_refSample : Cert.quiescent_RefSampleIdeal := by
  intro m ρ _
  exact (θ_run Cert.RefSampleIdeal.defs _ _).mono (fun r h => ⟨fun c => (h c).2.2.2.2.2.2.2, sem_eq_zero_of_no_sems (by decide) r.2⟩)
    (Cert.RefSampleIdeal.Value.run (F := Ideal) m ρ)

/-- The input projection of the sample and its reference end with equal results. -/
theorem sample_algebraic : Cert.algebraic_SampleIdeal_RefSampleIdeal := by
  intro m g m' g' _ hargs
  refine ⟨_, _, _, _, _, _, _, Sample.run m g, (θ_run Cert.RefSampleIdeal.defs _ _).mono (fun r h c => ?_) (Sample.ref_run m' g')⟩
  obtain ⟨e0, e1, e2, e3⟩ := hargs c
  have k := h c
  refine ⟨?_, ?_, ?_, ?_, ?_, ?_, ?_, k.2.2.2.2.2.2.2⟩
  · rw [k.1, e0, e1, e2]
  · rw [k.2.1, e0, e1, e2]
  · rw [k.2.2.1, e0, e1, e2]
  · rw [k.2.2.2.1, e0, e1, e2]
  · rw [k.2.2.2.2.1, e0, e1, e2]
  · rw [k.2.2.2.2.2.1, e0, e1, e2]
  · rw [k.2.2.2.2.2.2.1, e0, e1, e2, e3]

/-- The memory's reference runs, keeps its arguments and leaves every counter at zero. -/
theorem frame_refMem : Cert.quiescent_RefMemIdeal := by
  intro m ρ _
  exact (θ_run Cert.RefMemIdeal.defs _ _).mono (fun r h => ⟨fun c => (h c).2, sem_eq_zero_of_no_sems (by decide) r.2⟩)
    (Cert.RefMemIdeal.Value.run (F := Ideal) m ρ)

/-- The query product's reference runs, keeps its arguments and leaves every counter at zero. -/
theorem frame_refQuery : Cert.quiescent_RefQueryIdeal := by
  intro m ρ _
  exact (θ_run Cert.RefQueryIdeal.defs _ _).mono (fun r h => ⟨fun c => (h c).2, sem_eq_zero_of_no_sems (by decide) r.2⟩)
    (Cert.RefQueryIdeal.Value.run (F := Ideal) m ρ)

/-- The merge of the two attentions's reference runs, keeps its arguments and leaves every counter at zero. -/
theorem frame_refMerge : Cert.quiescent_RefMergeIdeal := by
  intro m ρ _
  exact (θ_run Cert.RefMergeIdeal.defs _ _).mono (fun r h => ⟨fun c => (h c).2.2, sem_eq_zero_of_no_sems (by decide) r.2⟩)
    (Cert.RefMergeIdeal.Value.run (F := Ideal) m ρ)

/-- The output projection of the memory attention's reference runs, keeps its arguments and leaves every counter at zero. -/
theorem frame_refMemOut : Cert.quiescent_RefMemOutIdeal := by
  intro m ρ _
  exact (θ_run Cert.RefMemOutIdeal.defs _ _).mono (fun r h => ⟨fun c => (h c).2.2, sem_eq_zero_of_no_sems (by decide) r.2⟩)
    (Cert.RefMemOutIdeal.Value.run (F := Ideal) m ρ)

/-- The keys and values of the memory and its reference end with equal results. -/
theorem mem_algebraic : Cert.algebraic_MemIdeal_RefMemIdeal := by
  intro m g m' g' _ hargs
  refine ⟨_, (θ_run Cert.MemIdeal.defs _ _).mono (fun r h c => ⟨(h c).1.trans (Mem.arr2 m c), (h c).2⟩) (Cert.MemIdeal.Value.run_blocks (F := Ideal) m g),
    (θ_run Cert.RefMemIdeal.defs _ _).mono (fun r h c => ?_) (Mem.ref_run m' g')⟩
  obtain ⟨e0, e1⟩ := hargs c
  refine ⟨?_, (h c).2⟩
  rw [(h c).1, e0, e1]

/-- The query product and its reference end with equal results. -/
theorem query_algebraic : Cert.algebraic_QueryIdeal_RefQueryIdeal := by
  intro m g m' g' _ hargs
  refine ⟨_, (θ_run Cert.QueryIdeal.defs _ _).mono (fun r h c => ⟨(h c).1.trans (Query.arr2 m c), (h c).2⟩) (Cert.QueryIdeal.Value.run_blocks (F := Ideal) m g),
    (θ_run Cert.RefQueryIdeal.defs _ _).mono (fun r h c => ?_) (Query.ref_run m' g')⟩
  obtain ⟨e0, e1⟩ := hargs c
  refine ⟨?_, (h c).2⟩
  rw [(h c).1, e0, e1]

/-- The merge of the two attentions and its reference end with equal results. -/
theorem merge_algebraic : Cert.algebraic_MergeIdeal_RefMergeIdeal := by
  intro m g m' g' _ hargs
  refine ⟨_, _, (θ_run Cert.MergeIdeal.defs _ _).mono (fun r h c => ⟨(h c).1.trans (Merge.arr6 m c), (h c).2.1.trans (Merge.arr7 m c), (h c).2.2⟩)
      (Cert.MergeIdeal.Value.run_blocks (F := Ideal) m g),
    (θ_run Cert.RefMergeIdeal.defs _ _).mono (fun r h c => ?_) (Merge.ref_run m' g')⟩
  obtain ⟨e0, e1, e2, e3, e4⟩ := hargs c
  refine ⟨?_, ?_, (h c).2.2⟩
  · rw [(h c).1, e0, e1, e2, e3]
  · rw [(h c).2.1, e0, e1, e2, e3, e4]

/-- The output projection of the memory attention and its reference end with equal results. -/
theorem memOut_algebraic : Cert.algebraic_MemOutIdeal_RefMemOutIdeal := by
  intro m g m' g' _ hargs
  refine ⟨_, _, (θ_run Cert.MemOutIdeal.defs _ _).mono (fun r h c => ⟨(h c).1.trans (MemOut.arr4 m c), (h c).2.1.trans (MemOut.arr5 m c), (h c).2.2⟩)
      (Cert.MemOutIdeal.Value.run_blocks (F := Ideal) m g),
    (θ_run Cert.RefMemOutIdeal.defs _ _).mono (fun r h c => ?_) (MemOut.ref_run m' g')⟩
  obtain ⟨e0, e1, e2, e3⟩ := hargs c
  refine ⟨?_, ?_, (h c).2.2⟩
  · rw [(h c).1, e0, e1, e2]
  · rw [(h c).2.1, e0, e1, e2, e3]

/-- The differential attention's reference runs, keeps its arguments and leaves every counter at zero. -/
theorem frame_refDiff : Cert.quiescent_RefDiffIdeal := by
  intro m ρ _
  exact (θ_run Cert.RefDiffIdeal.defs _ _).mono (fun r h => ⟨fun c => (h c).2, sem_eq_zero_of_no_sems (by decide) r.2⟩)
    (Cert.RefDiffIdeal.Value.run (F := Ideal) m ρ)

/-- The idealized differential attention and its reference end with equal results wherever the queries, the keys, the values, the slopes and the vectors of lambda are real numbers. -/
theorem diff_algebraic : Cert.algebraic_DiffIdeal_RefDiffIdeal_pre_finite_values := by
  intro m g m' g' hpre hargs
  have hr := fun c => Diff.real_of_pre (hpre c)
  refine ⟨fun c => Diff.attnArr (m ((c.tc : Thread Cert.DiffIdeal.nD Cert.DiffIdeal.τ).loc Cert.DiffIdeal.main_arg0))
    (m ((c.tc : Thread Cert.DiffIdeal.nD Cert.DiffIdeal.τ).loc Cert.DiffIdeal.main_arg1))
    (m ((c.tc : Thread Cert.DiffIdeal.nD Cert.DiffIdeal.τ).loc Cert.DiffIdeal.main_arg2))
    (m ((c.tc : Thread Cert.DiffIdeal.nD Cert.DiffIdeal.τ).loc Cert.DiffIdeal.main_arg3))
    (m ((c.tc : Thread Cert.DiffIdeal.nD Cert.DiffIdeal.τ).loc Cert.DiffIdeal.main_arg4))
    (m ((c.tc : Thread Cert.DiffIdeal.nD Cert.DiffIdeal.τ).loc Cert.DiffIdeal.main_arg5)), ?_, ?_⟩
  · refine (θ_run Cert.DiffIdeal.defs _ _).mono (fun r h c => ⟨(h c).1.trans ?_, (h c).2⟩) (Cert.DiffIdeal.Value.run_blocks (F := Ideal) m g)
    exact Diff.arr_eq m c
  · refine (θ_run Cert.RefDiffIdeal.defs _ _).mono (fun r h c => ⟨(h c).1.trans ?_, (h c).2⟩) (Cert.RefDiffIdeal.Value.run (F := Ideal) m' g')
    obtain ⟨e0, e1, e2, e3, e4, e5⟩ := hargs c
    rw [Cert.RefDiffIdeal.Read.val_main_v77_eq, e0, e1, e2, e3, e4, e5]
    exact Diff.ref_eq _ _ _ _ _ _ (hr c).1 (hr c).2

/-- The memory attention's reference runs, keeps its arguments and leaves every counter at zero. -/
theorem frame_refCross : Cert.quiescent_RefCrossIdeal := by
  intro m ρ _
  exact (θ_run Cert.RefCrossIdeal.defs _ _).mono (fun r h => ⟨fun c => (h c).2, sem_eq_zero_of_no_sems (by decide) r.2⟩)
    (Cert.RefCrossIdeal.Value.run (F := Ideal) m ρ)

/-- The memory attention and its reference end with equal results. -/
theorem cross_algebraic : Cert.algebraic_CrossIdeal_RefCrossIdeal := by
  intro m g m' g' _ hargs
  refine ⟨_, (θ_run Cert.CrossIdeal.defs _ _).mono (fun r h c => ⟨(h c).1.trans (Cross.arr3 m c), (h c).2⟩) (Cert.CrossIdeal.Value.run_blocks (F := Ideal) m g),
    (θ_run Cert.RefCrossIdeal.defs _ _).mono (fun r h c => ⟨(h c).1.trans ?_, (h c).2⟩) (Cert.RefCrossIdeal.Value.run (F := Ideal) m' g')⟩
  obtain ⟨e0, e1, e2⟩ := hargs c
  rw [Cert.RefCrossIdeal.Read.val_main_v19_eq, e0, e1, e2]
  exact Cross.ref_eq _ _ _

/-- Every claim of the certificate. -/
theorem claim : Cert.Claim := ⟨Cert.Kernel.Gen.facts, Cert.KernelIdeal.Gen.facts, Cert.ReferenceIdeal.Gen.facts,
  Cert.Proj.Gen.facts, Cert.ProjIdeal.Gen.facts, Cert.RefProjIdeal.Gen.facts,
  Cert.Sample.Gen.facts, Cert.SampleIdeal.Gen.facts, Cert.RefSampleIdeal.Gen.facts,
  Cert.Mem.Gen.facts, Cert.MemIdeal.Gen.facts, Cert.RefMemIdeal.Gen.facts,
  Cert.Query.Gen.facts, Cert.QueryIdeal.Gen.facts, Cert.RefQueryIdeal.Gen.facts,
  Cert.Merge.Gen.facts, Cert.MergeIdeal.Gen.facts, Cert.RefMergeIdeal.Gen.facts,
  Cert.MemOut.Gen.facts, Cert.MemOutIdeal.Gen.facts, Cert.RefMemOutIdeal.Gen.facts,
  Cert.Diff.Gen.facts, Cert.DiffIdeal.Gen.facts, Cert.RefDiffIdeal.Gen.facts,
  Cert.Cross.Gen.facts, Cert.CrossIdeal.Gen.facts, Cert.RefCrossIdeal.Gen.facts,
  Fox.pre_facts, Diff.pre_facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Proj.Gen.frame m ρ, fun m ρ _ => Cert.ProjIdeal.Gen.frame m ρ, frame_refProj,
  fun m ρ _ => Cert.Sample.Gen.frame m ρ, fun m ρ _ => Cert.SampleIdeal.Gen.frame m ρ, frame_refSample,
  fun m ρ _ => Cert.Mem.Gen.frame m ρ, fun m ρ _ => Cert.MemIdeal.Gen.frame m ρ, frame_refMem,
  fun m ρ _ => Cert.Query.Gen.frame m ρ, fun m ρ _ => Cert.QueryIdeal.Gen.frame m ρ, frame_refQuery,
  fun m ρ _ => Cert.Merge.Gen.frame m ρ, fun m ρ _ => Cert.MergeIdeal.Gen.frame m ρ, frame_refMerge,
  fun m ρ _ => Cert.MemOut.Gen.frame m ρ, fun m ρ _ => Cert.MemOutIdeal.Gen.frame m ρ, frame_refMemOut,
  fun m ρ _ => Cert.Diff.Gen.frame m ρ, fun m ρ _ => Cert.DiffIdeal.Gen.frame m ρ, fun m ρ _ => Cert.DiffIdeal.Gen.frame m ρ,
  frame_refDiff, fun m ρ _ => frame_refDiff m ρ trivial,
  fun m ρ _ => Cert.Cross.Gen.frame m ρ, fun m ρ _ => Cert.CrossIdeal.Gen.frame m ρ, frame_refCross,
  trivial, fox_algebraic, trivial, proj_algebraic, trivial, sample_algebraic, trivial, mem_algebraic, trivial, query_algebraic, trivial, merge_algebraic, trivial, memOut_algebraic,
  trivial, diff_algebraic, trivial, cross_algebraic⟩

end Cert.Proof

end
